-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))).1 = (fun _ => 1#1)
    ∧ (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))).2.1 = (fun _ => 1#1)
    ∧ (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))).2.2.1 = (fun _ => 1#1)
    ∧ (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))).2.2.2 = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_latent [hPre_finite_latent : Cert.Pre_finite_latent.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3))).1 = (fun _ => 1#1)
    ∧ (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3))).2.1 = (fun _ => 1#1)
    ∧ (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3))).2.2.1 = (fun _ => 1#1)
    ∧ (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3))).2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_forward [hPre_finite_forward : Cert.Pre_finite_forward.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).1 = (fun _ => 1#1)
    ∧ (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).2.1 = (fun _ => 1#1)
    ∧ (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).2.2 = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_forward [hPre_finite_forward : Cert.Pre_finite_forward.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_forward.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).1 = (fun _ => 1#1)
    ∧ (Cert.Pre_finite_forward.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).2.1 = (fun _ => 1#1)
    ∧ (Cert.Pre_finite_forward.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).2.2 = (fun _ => 1#1)

def Pre_LatentForward (m : (ℓ : Loc Cert.LatentForward.nD Cert.LatentForward.τ Cert.LatentForward.sig) → Buf (Elt Bits) ℓ) : Prop :=
  True

def Pre_LatentForwardIdeal (m : (ℓ : Loc Cert.LatentForwardIdeal.nD Cert.LatentForwardIdeal.τ Cert.LatentForwardIdeal.sig) → Buf (Elt Ideal) ℓ) : Prop :=
  True

def Pre_LatentForwardIdeal_finite_latent_forward [hPre_finite_latent_forward : Cert.Pre_finite_latent_forward.Facts] (m : (ℓ : Loc Cert.LatentForwardIdeal.nD Cert.LatentForwardIdeal.τ Cert.LatentForwardIdeal.sig) → Buf (Elt Ideal) ℓ) : Prop :=
  ∀ c : Dev Cert.LatentForwardIdeal.nD,
    (Cert.Pre_finite_latent_forward.fn (F := Ideal) (m ((c.tc : Thread Cert.LatentForwardIdeal.nD Cert.LatentForwardIdeal.τ).loc Cert.LatentForwardIdeal.main_arg0)) (m ((c.tc : Thread Cert.LatentForwardIdeal.nD Cert.LatentForwardIdeal.τ).loc Cert.LatentForwardIdeal.main_arg1)) (m ((c.tc : Thread Cert.LatentForwardIdeal.nD Cert.LatentForwardIdeal.τ).loc Cert.LatentForwardIdeal.main_arg2))).1 = (fun _ => 1#1)
    ∧ (Cert.Pre_finite_latent_forward.fn (F := Ideal) (m ((c.tc : Thread Cert.LatentForwardIdeal.nD Cert.LatentForwardIdeal.τ).loc Cert.LatentForwardIdeal.main_arg0)) (m ((c.tc : Thread Cert.LatentForwardIdeal.nD Cert.LatentForwardIdeal.τ).loc Cert.LatentForwardIdeal.main_arg1)) (m ((c.tc : Thread Cert.LatentForwardIdeal.nD Cert.LatentForwardIdeal.τ).loc Cert.LatentForwardIdeal.main_arg2))).2.1 = (fun _ => 1#1)
    ∧ (Cert.Pre_finite_latent_forward.fn (F := Ideal) (m ((c.tc : Thread Cert.LatentForwardIdeal.nD Cert.LatentForwardIdeal.τ).loc Cert.LatentForwardIdeal.main_arg0)) (m ((c.tc : Thread Cert.LatentForwardIdeal.nD Cert.LatentForwardIdeal.τ).loc Cert.LatentForwardIdeal.main_arg1)) (m ((c.tc : Thread Cert.LatentForwardIdeal.nD Cert.LatentForwardIdeal.τ).loc Cert.LatentForwardIdeal.main_arg2))).2.2 = (fun _ => 1#1)

def Pre_LatentForwardReferenceIdeal (m : (ℓ : Loc Cert.LatentForwardReferenceIdeal.nD Cert.LatentForwardReferenceIdeal.τ Cert.LatentForwardReferenceIdeal.sig) → Buf (Elt Ideal) ℓ) : Prop :=
  True

def Pre_LatentForwardReferenceIdeal_finite_latent_forward [hPre_finite_latent_forward : Cert.Pre_finite_latent_forward.Facts] (m : (ℓ : Loc Cert.LatentForwardReferenceIdeal.nD Cert.LatentForwardReferenceIdeal.τ Cert.LatentForwardReferenceIdeal.sig) → Buf (Elt Ideal) ℓ) : Prop :=
  ∀ c : Dev Cert.LatentForwardReferenceIdeal.nD,
    (Cert.Pre_finite_latent_forward.fn (F := Ideal) (m ((c.tc : Thread Cert.LatentForwardReferenceIdeal.nD Cert.LatentForwardReferenceIdeal.τ).loc Cert.LatentForwardReferenceIdeal.main_arg0)) (m ((c.tc : Thread Cert.LatentForwardReferenceIdeal.nD Cert.LatentForwardReferenceIdeal.τ).loc Cert.LatentForwardReferenceIdeal.main_arg1)) (m ((c.tc : Thread Cert.LatentForwardReferenceIdeal.nD Cert.LatentForwardReferenceIdeal.τ).loc Cert.LatentForwardReferenceIdeal.main_arg2))).1 = (fun _ => 1#1)
    ∧ (Cert.Pre_finite_latent_forward.fn (F := Ideal) (m ((c.tc : Thread Cert.LatentForwardReferenceIdeal.nD Cert.LatentForwardReferenceIdeal.τ).loc Cert.LatentForwardReferenceIdeal.main_arg0)) (m ((c.tc : Thread Cert.LatentForwardReferenceIdeal.nD Cert.LatentForwardReferenceIdeal.τ).loc Cert.LatentForwardReferenceIdeal.main_arg1)) (m ((c.tc : Thread Cert.LatentForwardReferenceIdeal.nD Cert.LatentForwardReferenceIdeal.τ).loc Cert.LatentForwardReferenceIdeal.main_arg2))).2.1 = (fun _ => 1#1)
    ∧ (Cert.Pre_finite_latent_forward.fn (F := Ideal) (m ((c.tc : Thread Cert.LatentForwardReferenceIdeal.nD Cert.LatentForwardReferenceIdeal.τ).loc Cert.LatentForwardReferenceIdeal.main_arg0)) (m ((c.tc : Thread Cert.LatentForwardReferenceIdeal.nD Cert.LatentForwardReferenceIdeal.τ).loc Cert.LatentForwardReferenceIdeal.main_arg1)) (m ((c.tc : Thread Cert.LatentForwardReferenceIdeal.nD Cert.LatentForwardReferenceIdeal.τ).loc Cert.LatentForwardReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3))
      ∧ r.2.sem = fun _ => 0)

def quiescent_LatentReferenceIdeal_pre_finite_latent [hLatentReferenceIdeal : Cert.LatentReferenceIdeal.Facts] [hPre_finite_latent : Cert.Pre_finite_latent.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_latent m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_forward [hForwardIdeal : Cert.ForwardIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_forward m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_forward [hForwardReferenceIdeal : Cert.ForwardReferenceIdeal.Facts] [hPre_finite_forward : Cert.Pre_finite_forward.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_forward m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_LatentForward [hLatentForward : Cert.LatentForward.Facts] : Prop :=
  ∀ (m : (ℓ : Loc Cert.LatentForward.nD Cert.LatentForward.τ Cert.LatentForward.sig) → Buf (Elt Bits) ℓ) (g : Dev Cert.LatentForward.nD → PrngReg), Pre_LatentForward m →
    θ_run (Cert.LatentForward.defs (F := Bits)) (onTc (τ := Cert.LatentForward.τ) (Cert.LatentForward.main (F := Bits))) ⟨m, fun _ => 0, g⟩ (fun r => (∀ c : Dev Cert.LatentForward.nD,
      r.2.mem ((c.tc : Thread Cert.LatentForward.nD Cert.LatentForward.τ).loc Cert.LatentForward.main_arg0) = m ((c.tc : Thread Cert.LatentForward.nD Cert.LatentForward.τ).loc Cert.LatentForward.main_arg0)
      ∧ r.2.mem ((c.tc : Thread Cert.LatentForward.nD Cert.LatentForward.τ).loc Cert.LatentForward.main_arg1) = m ((c.tc : Thread Cert.LatentForward.nD Cert.LatentForward.τ).loc Cert.LatentForward.main_arg1)
      ∧ r.2.mem ((c.tc : Thread Cert.LatentForward.nD Cert.LatentForward.τ).loc Cert.LatentForward.main_arg2) = m ((c.tc : Thread Cert.LatentForward.nD Cert.LatentForward.τ).loc Cert.LatentForward.main_arg2))
      ∧ r.2.sem = fun _ => 0)

def quiescent_LatentForwardIdeal [hLatentForwardIdeal : Cert.LatentForwardIdeal.Facts] : Prop :=
  ∀ (m : (ℓ : Loc Cert.LatentForwardIdeal.nD Cert.LatentForwardIdeal.τ Cert.LatentForwardIdeal.sig) → Buf (Elt Ideal) ℓ) (g : Dev Cert.LatentForwardIdeal.nD → PrngReg), Pre_LatentForwardIdeal m →
    θ_run (Cert.LatentForwardIdeal.defs (F := Ideal)) (onTc (τ := Cert.LatentForwardIdeal.τ) (Cert.LatentForwardIdeal.main (F := Ideal))) ⟨m, fun _ => 0, g⟩ (fun r => (∀ c : Dev Cert.LatentForwardIdeal.nD,
      r.2.mem ((c.tc : Thread Cert.LatentForwardIdeal.nD Cert.LatentForwardIdeal.τ).loc Cert.LatentForwardIdeal.main_arg0) = m ((c.tc : Thread Cert.LatentForwardIdeal.nD Cert.LatentForwardIdeal.τ).loc Cert.LatentForwardIdeal.main_arg0)
      ∧ r.2.mem ((c.tc : Thread Cert.LatentForwardIdeal.nD Cert.LatentForwardIdeal.τ).loc Cert.LatentForwardIdeal.main_arg1) = m ((c.tc : Thread Cert.LatentForwardIdeal.nD Cert.LatentForwardIdeal.τ).loc Cert.LatentForwardIdeal.main_arg1)
      ∧ r.2.mem ((c.tc : Thread Cert.LatentForwardIdeal.nD Cert.LatentForwardIdeal.τ).loc Cert.LatentForwardIdeal.main_arg2) = m ((c.tc : Thread Cert.LatentForwardIdeal.nD Cert.LatentForwardIdeal.τ).loc Cert.LatentForwardIdeal.main_arg2))
      ∧ r.2.sem = fun _ => 0)

def quiescent_LatentForwardIdeal_pre_finite_latent_forward [hLatentForwardIdeal : Cert.LatentForwardIdeal.Facts] [hPre_finite_latent_forward : Cert.Pre_finite_latent_forward.Facts] : Prop :=
  ∀ (m : (ℓ : Loc Cert.LatentForwardIdeal.nD Cert.LatentForwardIdeal.τ Cert.LatentForwardIdeal.sig) → Buf (Elt Ideal) ℓ) (g : Dev Cert.LatentForwardIdeal.nD → PrngReg), Pre_LatentForwardIdeal_finite_latent_forward m →
    θ_run (Cert.LatentForwardIdeal.defs (F := Ideal)) (onTc (τ := Cert.LatentForwardIdeal.τ) (Cert.LatentForwardIdeal.main (F := Ideal))) ⟨m, fun _ => 0, g⟩ (fun r => (∀ c : Dev Cert.LatentForwardIdeal.nD,
      r.2.mem ((c.tc : Thread Cert.LatentForwardIdeal.nD Cert.LatentForwardIdeal.τ).loc Cert.LatentForwardIdeal.main_arg0) = m ((c.tc : Thread Cert.LatentForwardIdeal.nD Cert.LatentForwardIdeal.τ).loc Cert.LatentForwardIdeal.main_arg0)
      ∧ r.2.mem ((c.tc : Thread Cert.LatentForwardIdeal.nD Cert.LatentForwardIdeal.τ).loc Cert.LatentForwardIdeal.main_arg1) = m ((c.tc : Thread Cert.LatentForwardIdeal.nD Cert.LatentForwardIdeal.τ).loc Cert.LatentForwardIdeal.main_arg1)
      ∧ r.2.mem ((c.tc : Thread Cert.LatentForwardIdeal.nD Cert.LatentForwardIdeal.τ).loc Cert.LatentForwardIdeal.main_arg2) = m ((c.tc : Thread Cert.LatentForwardIdeal.nD Cert.LatentForwardIdeal.τ).loc Cert.LatentForwardIdeal.main_arg2))
      ∧ r.2.sem = fun _ => 0)

def quiescent_LatentForwardReferenceIdeal [hLatentForwardReferenceIdeal : Cert.LatentForwardReferenceIdeal.Facts] : Prop :=
  ∀ (m : (ℓ : Loc Cert.LatentForwardReferenceIdeal.nD Cert.LatentForwardReferenceIdeal.τ Cert.LatentForwardReferenceIdeal.sig) → Buf (Elt Ideal) ℓ) (g : Dev Cert.LatentForwardReferenceIdeal.nD → PrngReg), Pre_LatentForwardReferenceIdeal m →
    θ_run (Cert.LatentForwardReferenceIdeal.defs (F := Ideal)) (onTc (τ := Cert.LatentForwardReferenceIdeal.τ) (Cert.LatentForwardReferenceIdeal.main (F := Ideal))) ⟨m, fun _ => 0, g⟩ (fun r => (∀ c : Dev Cert.LatentForwardReferenceIdeal.nD,
      r.2.mem ((c.tc : Thread Cert.LatentForwardReferenceIdeal.nD Cert.LatentForwardReferenceIdeal.τ).loc Cert.LatentForwardReferenceIdeal.main_arg0) = m ((c.tc : Thread Cert.LatentForwardReferenceIdeal.nD Cert.LatentForwardReferenceIdeal.τ).loc Cert.LatentForwardReferenceIdeal.main_arg0)
      ∧ r.2.mem ((c.tc : Thread Cert.LatentForwardReferenceIdeal.nD Cert.LatentForwardReferenceIdeal.τ).loc Cert.LatentForwardReferenceIdeal.main_arg1) = m ((c.tc : Thread Cert.LatentForwardReferenceIdeal.nD Cert.LatentForwardReferenceIdeal.τ).loc Cert.LatentForwardReferenceIdeal.main_arg1)
      ∧ r.2.mem ((c.tc : Thread Cert.LatentForwardReferenceIdeal.nD Cert.LatentForwardReferenceIdeal.τ).loc Cert.LatentForwardReferenceIdeal.main_arg2) = m ((c.tc : Thread Cert.LatentForwardReferenceIdeal.nD Cert.LatentForwardReferenceIdeal.τ).loc Cert.LatentForwardReferenceIdeal.main_arg2))
      ∧ r.2.sem = fun _ => 0)

def quiescent_LatentForwardReferenceIdeal_pre_finite_latent_forward [hLatentForwardReferenceIdeal : Cert.LatentForwardReferenceIdeal.Facts] [hPre_finite_latent_forward : Cert.Pre_finite_latent_forward.Facts] : Prop :=
  ∀ (m : (ℓ : Loc Cert.LatentForwardReferenceIdeal.nD Cert.LatentForwardReferenceIdeal.τ Cert.LatentForwardReferenceIdeal.sig) → Buf (Elt Ideal) ℓ) (g : Dev Cert.LatentForwardReferenceIdeal.nD → PrngReg), Pre_LatentForwardReferenceIdeal_finite_latent_forward m →
    θ_run (Cert.LatentForwardReferenceIdeal.defs (F := Ideal)) (onTc (τ := Cert.LatentForwardReferenceIdeal.τ) (Cert.LatentForwardReferenceIdeal.main (F := Ideal))) ⟨m, fun _ => 0, g⟩ (fun r => (∀ c : Dev Cert.LatentForwardReferenceIdeal.nD,
      r.2.mem ((c.tc : Thread Cert.LatentForwardReferenceIdeal.nD Cert.LatentForwardReferenceIdeal.τ).loc Cert.LatentForwardReferenceIdeal.main_arg0) = m ((c.tc : Thread Cert.LatentForwardReferenceIdeal.nD Cert.LatentForwardReferenceIdeal.τ).loc Cert.LatentForwardReferenceIdeal.main_arg0)
      ∧ r.2.mem ((c.tc : Thread Cert.LatentForwardReferenceIdeal.nD Cert.LatentForwardReferenceIdeal.τ).loc Cert.LatentForwardReferenceIdeal.main_arg1) = m ((c.tc : Thread Cert.LatentForwardReferenceIdeal.nD Cert.LatentForwardReferenceIdeal.τ).loc Cert.LatentForwardReferenceIdeal.main_arg1)
      ∧ r.2.mem ((c.tc : Thread Cert.LatentForwardReferenceIdeal.nD Cert.LatentForwardReferenceIdeal.τ).loc Cert.LatentForwardReferenceIdeal.main_arg2) = m ((c.tc : Thread Cert.LatentForwardReferenceIdeal.nD Cert.LatentForwardReferenceIdeal.τ).loc Cert.LatentForwardReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Latent_LatentIdeal : Prop :=
  True

def algebraic_LatentIdeal_LatentReferenceIdeal_pre_finite_latent [hLatentIdeal : Cert.LatentIdeal.Facts] [hLatentReferenceIdeal : Cert.LatentReferenceIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite_latent m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v41)) (v1 : (c : Dev Cert.LatentIdeal.nD) → Buf (Elt Ideal) ((c.tc : Thread Cert.LatentIdeal.nD Cert.LatentIdeal.τ).loc Cert.LatentIdeal.main_v44)) (v2 : (c : Dev Cert.LatentIdeal.nD) → Buf (Elt Ideal) ((c.tc : Thread Cert.LatentIdeal.nD Cert.LatentIdeal.τ).loc Cert.LatentIdeal.main_v39_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v41) = v0 c
          ∧ r.2.mem ((c.tc : Thread Cert.LatentIdeal.nD Cert.LatentIdeal.τ).loc Cert.LatentIdeal.main_v44) = v1 c
          ∧ r.2.mem ((c.tc : Thread Cert.LatentIdeal.nD Cert.LatentIdeal.τ).loc Cert.LatentIdeal.main_v39_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v71) = v0 c
          ∧ r.2.mem ((c.tc : Thread Cert.LatentReferenceIdeal.nD Cert.LatentReferenceIdeal.τ).loc Cert.LatentReferenceIdeal.main_v73) = v1 c
          ∧ r.2.mem ((c.tc : Thread Cert.LatentReferenceIdeal.nD Cert.LatentReferenceIdeal.τ).loc Cert.LatentReferenceIdeal.main_v75) = v2 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3))

def preserves_Forward_ForwardIdeal : Prop :=
  True

def algebraic_ForwardIdeal_ForwardReferenceIdeal_pre_finite_forward [hForwardIdeal : Cert.ForwardIdeal.Facts] [hForwardReferenceIdeal : Cert.ForwardReferenceIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_forward m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v7_0)) (v1 : (c : Dev Cert.ForwardIdeal.nD) → Buf (Elt Ideal) ((c.tc : Thread Cert.ForwardIdeal.nD Cert.ForwardIdeal.τ).loc Cert.ForwardIdeal.main_v7_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v7_0) = v0 c
          ∧ r.2.mem ((c.tc : Thread Cert.ForwardIdeal.nD Cert.ForwardIdeal.τ).loc Cert.ForwardIdeal.main_v7_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v37) = v0 c
          ∧ r.2.mem ((c.tc : Thread Cert.ForwardReferenceIdeal.nD Cert.ForwardReferenceIdeal.τ).loc Cert.ForwardReferenceIdeal.main_v39) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_LatentForward_LatentForwardIdeal : Prop :=
  True

def algebraic_LatentForwardIdeal_LatentForwardReferenceIdeal_pre_finite_latent_forward [hLatentForwardIdeal : Cert.LatentForwardIdeal.Facts] [hLatentForwardReferenceIdeal : Cert.LatentForwardReferenceIdeal.Facts] [hPre_finite_latent_forward : Cert.Pre_finite_latent_forward.Facts] : Prop :=
  ∀ (m : (ℓ : Loc Cert.LatentForwardIdeal.nD Cert.LatentForwardIdeal.τ Cert.LatentForwardIdeal.sig) → Buf (Elt Ideal) ℓ) (g : Dev Cert.LatentForwardIdeal.nD → PrngReg)
    (m' : (ℓ : Loc Cert.LatentForwardReferenceIdeal.nD Cert.LatentForwardReferenceIdeal.τ Cert.LatentForwardReferenceIdeal.sig) → Buf (Elt Ideal) ℓ) (g' : Dev Cert.LatentForwardReferenceIdeal.nD → PrngReg), Pre_LatentForwardIdeal_finite_latent_forward m →
    (∀ c : Dev Cert.LatentForwardIdeal.nD,
      m' ((c.tc : Thread Cert.LatentForwardReferenceIdeal.nD Cert.LatentForwardReferenceIdeal.τ).loc Cert.LatentForwardReferenceIdeal.main_arg0) = m ((c.tc : Thread Cert.LatentForwardIdeal.nD Cert.LatentForwardIdeal.τ).loc Cert.LatentForwardIdeal.main_arg0)
      ∧ m' ((c.tc : Thread Cert.LatentForwardReferenceIdeal.nD Cert.LatentForwardReferenceIdeal.τ).loc Cert.LatentForwardReferenceIdeal.main_arg1) = m ((c.tc : Thread Cert.LatentForwardIdeal.nD Cert.LatentForwardIdeal.τ).loc Cert.LatentForwardIdeal.main_arg1)
      ∧ m' ((c.tc : Thread Cert.LatentForwardReferenceIdeal.nD Cert.LatentForwardReferenceIdeal.τ).loc Cert.LatentForwardReferenceIdeal.main_arg2) = m ((c.tc : Thread Cert.LatentForwardIdeal.nD Cert.LatentForwardIdeal.τ).loc Cert.LatentForwardIdeal.main_arg2)) →
    ∃ (v0 : (c : Dev Cert.LatentForwardIdeal.nD) → Buf (Elt Ideal) ((c.tc : Thread Cert.LatentForwardIdeal.nD Cert.LatentForwardIdeal.τ).loc Cert.LatentForwardIdeal.main_v7_0)) (v1 : (c : Dev Cert.LatentForwardIdeal.nD) → Buf (Elt Ideal) ((c.tc : Thread Cert.LatentForwardIdeal.nD Cert.LatentForwardIdeal.τ).loc Cert.LatentForwardIdeal.main_v7_1)),
      θ_run (Cert.LatentForwardIdeal.defs (F := Ideal)) (onTc (τ := Cert.LatentForwardIdeal.τ) (Cert.LatentForwardIdeal.main (F := Ideal))) ⟨m, fun _ => 0, g⟩ (fun r => ∀ c : Dev Cert.LatentForwardIdeal.nD,
          r.2.mem ((c.tc : Thread Cert.LatentForwardIdeal.nD Cert.LatentForwardIdeal.τ).loc Cert.LatentForwardIdeal.main_v7_0) = v0 c
          ∧ r.2.mem ((c.tc : Thread Cert.LatentForwardIdeal.nD Cert.LatentForwardIdeal.τ).loc Cert.LatentForwardIdeal.main_v7_1) = v1 c
          ∧ r.2.mem ((c.tc : Thread Cert.LatentForwardIdeal.nD Cert.LatentForwardIdeal.τ).loc Cert.LatentForwardIdeal.main_arg0) = m ((c.tc : Thread Cert.LatentForwardIdeal.nD Cert.LatentForwardIdeal.τ).loc Cert.LatentForwardIdeal.main_arg0)
          ∧ r.2.mem ((c.tc : Thread Cert.LatentForwardIdeal.nD Cert.LatentForwardIdeal.τ).loc Cert.LatentForwardIdeal.main_arg1) = m ((c.tc : Thread Cert.LatentForwardIdeal.nD Cert.LatentForwardIdeal.τ).loc Cert.LatentForwardIdeal.main_arg1)
          ∧ r.2.mem ((c.tc : Thread Cert.LatentForwardIdeal.nD Cert.LatentForwardIdeal.τ).loc Cert.LatentForwardIdeal.main_arg2) = m ((c.tc : Thread Cert.LatentForwardIdeal.nD Cert.LatentForwardIdeal.τ).loc Cert.LatentForwardIdeal.main_arg2))
      ∧ θ_run (Cert.LatentForwardReferenceIdeal.defs (F := Ideal)) (onTc (τ := Cert.LatentForwardReferenceIdeal.τ) (Cert.LatentForwardReferenceIdeal.main (F := Ideal))) ⟨m', fun _ => 0, g'⟩ (fun r => ∀ c : Dev Cert.LatentForwardReferenceIdeal.nD,
          r.2.mem ((c.tc : Thread Cert.LatentForwardReferenceIdeal.nD Cert.LatentForwardReferenceIdeal.τ).loc Cert.LatentForwardReferenceIdeal.main_v37) = v0 c
          ∧ r.2.mem ((c.tc : Thread Cert.LatentForwardReferenceIdeal.nD Cert.LatentForwardReferenceIdeal.τ).loc Cert.LatentForwardReferenceIdeal.main_v39) = v1 c
          ∧ r.2.mem ((c.tc : Thread Cert.LatentForwardReferenceIdeal.nD Cert.LatentForwardReferenceIdeal.τ).loc Cert.LatentForwardReferenceIdeal.main_arg0) = m' ((c.tc : Thread Cert.LatentForwardReferenceIdeal.nD Cert.LatentForwardReferenceIdeal.τ).loc Cert.LatentForwardReferenceIdeal.main_arg0)
          ∧ r.2.mem ((c.tc : Thread Cert.LatentForwardReferenceIdeal.nD Cert.LatentForwardReferenceIdeal.τ).loc Cert.LatentForwardReferenceIdeal.main_arg1) = m' ((c.tc : Thread Cert.LatentForwardReferenceIdeal.nD Cert.LatentForwardReferenceIdeal.τ).loc Cert.LatentForwardReferenceIdeal.main_arg1)
          ∧ r.2.mem ((c.tc : Thread Cert.LatentForwardReferenceIdeal.nD Cert.LatentForwardReferenceIdeal.τ).loc Cert.LatentForwardReferenceIdeal.main_arg2) = m' ((c.tc : Thread Cert.LatentForwardReferenceIdeal.nD Cert.LatentForwardReferenceIdeal.τ).loc Cert.LatentForwardReferenceIdeal.main_arg2))

def Claim : Prop :=
  ∃ (hKernel : Cert.Kernel.Facts) (hKernelIdeal : Cert.KernelIdeal.Facts) (hReferenceIdeal : Cert.ReferenceIdeal.Facts) (hLatent : Cert.Latent.Facts) (hLatentIdeal : Cert.LatentIdeal.Facts) (hLatentReferenceIdeal : Cert.LatentReferenceIdeal.Facts) (hForward : Cert.Forward.Facts) (hForwardIdeal : Cert.ForwardIdeal.Facts) (hForwardReferenceIdeal : Cert.ForwardReferenceIdeal.Facts) (hLatentForward : Cert.LatentForward.Facts) (hLatentForwardIdeal : Cert.LatentForwardIdeal.Facts) (hLatentForwardReferenceIdeal : Cert.LatentForwardReferenceIdeal.Facts) (hPre_finite : Cert.Pre_finite.Facts) (hPre_finite_latent : Cert.Pre_finite_latent.Facts) (hPre_finite_forward : Cert.Pre_finite_forward.Facts) (hPre_finite_latent_forward : Cert.Pre_finite_latent_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentReferenceIdeal (hLatentReferenceIdeal := hLatentReferenceIdeal)
    ∧ quiescent_LatentReferenceIdeal_pre_finite_latent (hLatentReferenceIdeal := hLatentReferenceIdeal) (hPre_finite_latent := hPre_finite_latent)
    ∧ quiescent_Forward (hForward := hForward)
    ∧ quiescent_ForwardIdeal (hForwardIdeal := hForwardIdeal)
    ∧ quiescent_ForwardIdeal_pre_finite_forward (hForwardIdeal := hForwardIdeal) (hPre_finite_forward := hPre_finite_forward)
    ∧ quiescent_ForwardReferenceIdeal (hForwardReferenceIdeal := hForwardReferenceIdeal)
    ∧ quiescent_ForwardReferenceIdeal_pre_finite_forward (hForwardReferenceIdeal := hForwardReferenceIdeal) (hPre_finite_forward := hPre_finite_forward)
    ∧ quiescent_LatentForward (hLatentForward := hLatentForward)
    ∧ quiescent_LatentForwardIdeal (hLatentForwardIdeal := hLatentForwardIdeal)
    ∧ quiescent_LatentForwardIdeal_pre_finite_latent_forward (hLatentForwardIdeal := hLatentForwardIdeal) (hPre_finite_latent_forward := hPre_finite_latent_forward)
    ∧ quiescent_LatentForwardReferenceIdeal (hLatentForwardReferenceIdeal := hLatentForwardReferenceIdeal)
    ∧ quiescent_LatentForwardReferenceIdeal_pre_finite_latent_forward (hLatentForwardReferenceIdeal := hLatentForwardReferenceIdeal) (hPre_finite_latent_forward := hPre_finite_latent_forward)
    ∧ preserves_Kernel_KernelIdeal
    ∧ algebraic_KernelIdeal_ReferenceIdeal_pre_finite (hKernelIdeal := hKernelIdeal) (hReferenceIdeal := hReferenceIdeal) (hPre_finite := hPre_finite)
    ∧ preserves_Latent_LatentIdeal
    ∧ algebraic_LatentIdeal_LatentReferenceIdeal_pre_finite_latent (hLatentIdeal := hLatentIdeal) (hLatentReferenceIdeal := hLatentReferenceIdeal) (hPre_finite_latent := hPre_finite_latent)
    ∧ preserves_Forward_ForwardIdeal
    ∧ algebraic_ForwardIdeal_ForwardReferenceIdeal_pre_finite_forward (hForwardIdeal := hForwardIdeal) (hForwardReferenceIdeal := hForwardReferenceIdeal) (hPre_finite_forward := hPre_finite_forward)
    ∧ preserves_LatentForward_LatentForwardIdeal
    ∧ algebraic_LatentForwardIdeal_LatentForwardReferenceIdeal_pre_finite_latent_forward (hLatentForwardIdeal := hLatentForwardIdeal) (hLatentForwardReferenceIdeal := hLatentForwardReferenceIdeal) (hPre_finite_latent_forward := hPre_finite_latent_forward)
-- ==== Pre_finite.lean ====
abbrev S8192x1024 : Shape := ⟨2, ![8192, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S8192x256 .f32) (main_arg2 : FVec F S8192x256 .f32) (main_arg3 : FVec F S8192x1024 .f32) : IVec S8192x1024 1 × IVec S8192x256 1 × IVec S8192x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_forward.lean ====
abbrev S8192x1024 : Shape := ⟨2, ![8192, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S8192x256 .f32) (main_arg2 : FVec F S8192x256 .f32) : IVec S8192x1024 1 × IVec S8192x256 1 × IVec S8192x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  (main_v2, main_v5, main_v8)
-- ==== Pre_finite_latent.lean ====
abbrev S8192x1024 : Shape := ⟨2, ![8192, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .f32) (main_arg1 : FVec F S8192x1024 .f32) (main_arg2 : FVec F S8192x512 .f32) (main_arg3 : FVec F S8192x512 .f32) : IVec S8192x1024 1 × IVec S8192x1024 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite_latent_forward.lean ====
abbrev S8192x1024 : Shape := ⟨2, ![8192, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .f32) (main_arg1 : FVec F S8192x1024 .f32) (main_arg2 : FVec F S8192x512 .f32) : IVec S8192x1024 1 × IVec S8192x1024 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Kernel.lean ====
abbrev S8192x1024 : Shape := ⟨2, ![8192, 1024]⟩
abbrev S8192x256 : Shape := ⟨2, ![8192, 256]⟩
abbrev S_ : Shape := ⟨0, ![]⟩
abbrev S8192x16x64 : Shape := ⟨3, ![8192, 16, 64]⟩
abbrev S16x8192x64 : Shape := ⟨3, ![16, 8192, 64]⟩
abbrev S4x4x8192x64 : Shape := ⟨4, ![4, 4, 8192, 64]⟩
abbrev S8192x4x64 : Shape := ⟨3, ![8192, 4, 64]⟩
abbrev S4x8192x64 : Shape := ⟨3, ![4, 8192, 64]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S2x8x8192 : Shape := ⟨3, ![2, 8, 8192]⟩
abbrev S2x8192x8 : Shape := ⟨3, ![2, 8192, 8]⟩
abbrev S2x16x128x512 : Shape := ⟨4, ![2, 16, 128, 512]⟩
abbrev S256x512 : Shape := ⟨2, ![256, 512]⟩
abbrev S8192x128 : Shape := ⟨2, ![8192, 128]⟩
abbrev S1x256x8 : Shape := ⟨3, ![1, 256, 8]⟩
abbrev S1x16x128x512 : Shape := ⟨4, ![1, 16, 128, 512]⟩
abbrev S8192x64 : Shape := ⟨2, ![8192, 64]⟩
abbrev S1024x64 : Shape := ⟨2, ![1024, 64]⟩
abbrev S512x256 : Shape := ⟨2, ![512, 256]⟩
abbrev S256x64 : Shape := ⟨2, ![256, 64]⟩
abbrev S1024 : Shape := ⟨1, ![1024]⟩
abbrev S1024x1 : Shape := ⟨2, ![1024, 1]⟩
abbrev S64x256 : Shape := ⟨2, ![64, 256]⟩
abbrev S64x1024 : Shape := ⟨2, ![64, 1024]⟩
abbrev S1024x128 : Shape := ⟨2, ![1024, 128]⟩
abbrev S1x256x1 : Shape := ⟨3, ![1, 256, 1]⟩
abbrev S256x1 : Shape := ⟨2, ![256, 1]⟩
abbrev S512x64 : Shape := ⟨2, ![512, 64]⟩
abbrev S512x128 : Shape := ⟨2, ![512, 128]⟩
abbrev S1024x512 : Shape := ⟨2, ![1024, 512]⟩
abbrev S1x1x64x512 : Shape := ⟨4, ![1, 1, 64, 512]⟩
abbrev S64x512 : Shape := ⟨2, ![64, 512]⟩

abbrev nBuf : Space → Nat
  | .hbm => 59
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x256, .bf16⟩
  | .hbm, ⟨12, _⟩ => ⟨S8192x256, .bf16⟩
  | .hbm, ⟨13, _⟩ => ⟨S8192x16x64, .f32⟩
  | .hbm, ⟨14, _⟩ => ⟨S16x8192x64, .f32⟩
  | .hbm, ⟨15, _⟩ => ⟨S4x4x8192x64, .f32⟩
  | .hbm, ⟨16, _⟩ => ⟨S8192x4x64, .f32⟩
  | .hbm, ⟨17, _⟩ => ⟨S4x8192x64, .f32⟩
  | .hbm, ⟨18, _⟩ => ⟨S8192x4x64, .f32⟩
  | .hbm, ⟨19, _⟩ => ⟨S4x8192x64, .f32⟩
  | .hbm, ⟨20, _⟩ => ⟨S4x4x8192x8192, .f32⟩
  | .hbm, ⟨21, _⟩ => ⟨S_, .f32⟩
  | .hbm, ⟨22, _⟩ => ⟨S4x4x8192x8192, .f32⟩
  | .hbm, ⟨23, _⟩ => ⟨S4x4x8192x8192, .f32⟩
  | .hbm, ⟨24, _⟩ => ⟨S_, .f32⟩
  | .hbm, ⟨25, _⟩ => ⟨S4x4x8192, .f32⟩
  | .hbm, ⟨26, _⟩ => ⟨S4x4x8192x1, .f32⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S_, .f32⟩
  | .hbm, ⟨31, _⟩ => ⟨S4x4x8192, .f32⟩
  | .hbm, ⟨32, _⟩ => ⟨S4x4x8192x1, .f32⟩
  | .hbm, ⟨33, _⟩ => ⟨S4x4x8192x8192, .f32⟩
  | .hbm, ⟨34, _⟩ => ⟨S4x4x8192x8192, .f32⟩
  | .hbm, ⟨35, _⟩ => ⟨S4x4x8192x64, .f32⟩
  | .hbm, ⟨36, _⟩ => ⟨S4x4x8192x1, .f32⟩
  | .hbm, ⟨37, _⟩ => ⟨S4x4x8192x1, .f32⟩
  | .hbm, ⟨38, _⟩ => ⟨S_, .f32⟩
  | .hbm, ⟨39, _⟩ => ⟨S_, .f32⟩
  | .hbm, ⟨40, _⟩ => ⟨S4x4x8192x1, .f32⟩
  | .hbm, ⟨41, _⟩ => ⟨S4x4x8192x1, .f32⟩
  | .hbm, ⟨42, _⟩ => ⟨S16x8192x64, .f32⟩
  | .hbm, ⟨43, _⟩ => ⟨S8192x16x64, .f32⟩
  | .hbm, ⟨44, _⟩ => ⟨S8192x1024, .f32⟩
  | .hbm, ⟨45, _⟩ => ⟨S2x8x8192, .f32⟩
  | .hbm, ⟨46, _⟩ => ⟨S2x8192x8, .f32⟩
  | .hbm, ⟨47, _⟩ => ⟨S8192x1024, .bf16⟩
  | .hbm, ⟨48, _⟩ => ⟨S8192x1024, .bf16⟩
  | .hbm, ⟨49, _⟩ => ⟨S8192x1024, .f32⟩
  | .hbm, ⟨50, _⟩ => ⟨S2x16x128x512, .f32⟩
  | .hbm, ⟨51, _⟩ => ⟨S2x16x128x512, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S_, .f32⟩
  | .hbm, ⟨57, _⟩ => ⟨S2x16x128x512, .f32⟩
  | .hbm, ⟨58, _⟩ => ⟨S2x16x128x512, .f32⟩
  | .local _ .vmem, ⟨0, _⟩ => ⟨S256x512, .bf16⟩
  | .local _ .vmem, ⟨1, _⟩ => ⟨S256x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1x256x8, .f32⟩
  | .local _ .vmem, ⟨11, _⟩ => ⟨S1x256x8, .f32⟩
  | .local _ .vmem, ⟨12, _⟩ => ⟨S256x512, .f32⟩
  | .local _ .vmem, ⟨13, _⟩ => ⟨S256x512, .f32⟩
  | .local _ .vmem, ⟨14, _⟩ => ⟨S1x16x128x512, .f32⟩
  | .local _ .vmem, ⟨15, _⟩ => ⟨S1x16x128x512, .f32⟩
  | .local _ .vmem, ⟨16, _⟩ => ⟨S1x16x128x512, .f32⟩
  | .local _ .vmem, ⟨17, _⟩ => ⟨S1x16x128x512, .f32⟩
  | .local _ .vmem, ⟨18, _⟩ => ⟨S8192x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39_0 : Ref sig .tc := ⟨.hbm, 49, rfl⟩
abbrev main_v39_1 : Ref sig .tc := ⟨.hbm, 50, rfl⟩
abbrev main_v39_2 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_76 : BitVec 32 := 0#32
  let c2_i32 : BitVec 32 := 2#32
  let v161 : BitVec 32 := Scalar.addi c0_i32_76 c2_i32
  let c1_i32_77 : BitVec 32 := 1#32
  ⟨c0_i32_76, v161, c1_i32_77⟩
def k0_mult1 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32 : BitVec 32 := 8#32
  let v179 : BitVec 32 := Scalar.muli arg12 c8_i32
  let c0_i32_95 : BitVec 32 := 0#32
  let v180 : BitVec 32 := Scalar.addi v179 c0_i32_95
  let c512_i32 : BitVec 32 := 512#32
  let v181 : BitVec 32 := Scalar.muli v180 c512_i32
  v181
def k0_off1 (k0_t1 : Fin k0_t1_loop.trips) (c0_i32_95 : BitVec 32) : Fin 2 → Nat :=
  let c0_i32_76 : BitVec 32 := 0#32
  let c1_i32_77 : BitVec 32 := 1#32
  let arg12 : BitVec 32 := Scf.iv c0_i32_76 c1_i32_77 k0_t1
  let c8_i32 : BitVec 32 := 8#32
  let v179 : BitVec 32 := Scalar.muli arg12 c8_i32
  let v180 : BitVec 32 := Scalar.addi v179 c0_i32_95
  let c512_i32 : BitVec 32 := 512#32
  let v181 : BitVec 32 := Scalar.muli v180 c512_i32
  let v182 : BitVec 32 := v181
  let v183 : Index := Scalar.indexCast v182
  let c0_96 : Index := 0#32
  ![v183.toNat, 0]
def k0_off2 (k0_t1 : Fin k0_t1_loop.trips) (c0_i32_95 : BitVec 32) : Fin 2 → Nat :=
  let c0_i32_76 : BitVec 32 := 0#32
  let c1_i32_77 : BitVec 32 := 1#32
  let arg12 : BitVec 32 := Scf.iv c0_i32_76 c1_i32_77 k0_t1
  let c8_i32 : BitVec 32 := 8#32
  let v179 : BitVec 32 := Scalar.muli arg12 c8_i32
  let v180 : BitVec 32 := Scalar.addi v179 c0_i32_95
  let c512_i32 : BitVec 32 := 512#32
  let v181 : BitVec 32 := Scalar.muli v180 c512_i32
  let v182 : BitVec 32 := v181
  let v186 : Index := Scalar.indexCast v182
  let c64_97 : Index := 64#32
  ![v186.toNat, 64]
def k0_off3 (k0_t1 : Fin k0_t1_loop.trips) (c0_i32_95 : BitVec 32) : Fin 2 → Nat :=
  let c0_i32_76 : BitVec 32 := 0#32
  let c1_i32_77 : BitVec 32 := 1#32
  let arg12 : BitVec 32 := Scf.iv c0_i32_76 c1_i32_77 k0_t1
  let c8_i32 : BitVec 32 := 8#32
  let v179 : BitVec 32 := Scalar.muli arg12 c8_i32
  let v180 : BitVec 32 := Scalar.addi v179 c0_i32_95
  let c512_i32 : BitVec 32 := 512#32
  let v181 : BitVec 32 := Scalar.muli v180 c512_i32
  let v182 : BitVec 32 := v181
  let v189 : Index := Scalar.indexCast v182
  let c0_98 : Index := 0#32
  ![v189.toNat, 0]
def k0_off4 (k0_t1 : Fin k0_t1_loop.trips) (c0_i32_95 : BitVec 32) : Fin 2 → Nat :=
  let c0_i32_76 : BitVec 32 := 0#32
  let c1_i32_77 : BitVec 32 := 1#32
  let arg12 : BitVec 32 := Scf.iv c0_i32_76 c1_i32_77 k0_t1
  let c8_i32 : BitVec 32 := 8#32
  let v179 : BitVec 32 := Scalar.muli arg12 c8_i32
  let v180 : BitVec 32 := Scalar.addi v179 c0_i32_95
  let c512_i32 : BitVec 32 := 512#32
  let v181 : BitVec 32 := Scalar.muli v180 c512_i32
  let v182 : BitVec 32 := v181
  let v191 : Index := Scalar.indexCast v182
  let c128_99 : Index := 128#32
  ![v191.toNat, 128]
def k0_off5 (k0_t1 : Fin k0_t1_loop.trips) (c0_i32_95 : BitVec 32) : Fin 4 → Nat :=
  let c0_104 : Index := 0#32
  let c0_i32_76 : BitVec 32 := 0#32
  let c1_i32_77 : BitVec 32 := 1#32
  let arg12 : BitVec 32 := Scf.iv c0_i32_76 c1_i32_77 k0_t1
  let c8_i32 : BitVec 32 := 8#32
  let v179 : BitVec 32 := Scalar.muli arg12 c8_i32
  let v180 : BitVec 32 := Scalar.addi v179 c0_i32_95
  let v209 : Index := Scalar.indexCast v180
  let c0_105 : Index := 0#32
  let c0_106 : Index := 0#32
  ![0, v209.toNat, 0, 0]
def k0_off6 (k0_t1 : Fin k0_t1_loop.trips) (c0_i32_95 : BitVec 32) : Fin 4 → Nat :=
  let c0_111 : Index := 0#32
  let c0_i32_76 : BitVec 32 := 0#32
  let c1_i32_77 : BitVec 32 := 1#32
  let arg12 : BitVec 32 := Scf.iv c0_i32_76 c1_i32_77 k0_t1
  let c8_i32 : BitVec 32 := 8#32
  let v179 : BitVec 32 := Scalar.muli arg12 c8_i32
  let v180 : BitVec 32 := Scalar.addi v179 c0_i32_95
  let v218 : Index := Scalar.indexCast v180
  let c64_112 : Index := 64#32
  let c0_113 : Index := 0#32
  ![0, v218.toNat, 64, 0]
def k0_mult2 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32_134 : BitVec 32 := 8#32
  let v249 : BitVec 32 := Scalar.muli arg12 c8_i32_134
  let c1_i32_135 : BitVec 32 := 1#32
  let v250 : BitVec 32 := Scalar.addi v249 c1_i32_135
  let c512_i32_136 : BitVec 32 := 512#32
  let v251 : BitVec 32 := Scalar.muli v250 c512_i32_136
  v251
def k0_mult3 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32_175 : BitVec 32 := 8#32
  let v319 : BitVec 32 := Scalar.muli arg12 c8_i32_175
  let c2_i32_176 : BitVec 32 := 2#32
  let v320 : BitVec 32 := Scalar.addi v319 c2_i32_176
  let c512_i32_177 : BitVec 32 := 512#32
  let v321 : BitVec 32 := Scalar.muli v320 c512_i32_177
  v321
def k0_mult4 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32_216 : BitVec 32 := 8#32
  let v389 : BitVec 32 := Scalar.muli arg12 c8_i32_216
  let c3_i32 : BitVec 32 := 3#32
  let v390 : BitVec 32 := Scalar.addi v389 c3_i32
  let c512_i32_217 : BitVec 32 := 512#32
  let v391 : BitVec 32 := Scalar.muli v390 c512_i32_217
  v391
def k0_mult5 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32_256 : BitVec 32 := 8#32
  let v459 : BitVec 32 := Scalar.muli arg12 c8_i32_256
  let c4_i32 : BitVec 32 := 4#32
  let v460 : BitVec 32 := Scalar.addi v459 c4_i32
  let c512_i32_257 : BitVec 32 := 512#32
  let v461 : BitVec 32 := Scalar.muli v460 c512_i32_257
  v461
def k0_mult6 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32_296 : BitVec 32 := 8#32
  let v529 : BitVec 32 := Scalar.muli arg12 c8_i32_296
  let c5_i32 : BitVec 32 := 5#32
  let v530 : BitVec 32 := Scalar.addi v529 c5_i32
  let c512_i32_297 : BitVec 32 := 512#32
  let v531 : BitVec 32 := Scalar.muli v530 c512_i32_297
  v531
def k0_mult7 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32_336 : BitVec 32 := 8#32
  let v599 : BitVec 32 := Scalar.muli arg12 c8_i32_336
  let c6_i32 : BitVec 32 := 6#32
  let v600 : BitVec 32 := Scalar.addi v599 c6_i32
  let c512_i32_337 : BitVec 32 := 512#32
  let v601 : BitVec 32 := Scalar.muli v600 c512_i32_337
  v601
def k0_mult8 (k0_t1 : Fin k0_t1_loop.trips) : BitVec 32 :=
  let c0_i32_76 : BitVec 32 := 0#32
  let c1_i32_77 : BitVec 32 := 1#32
  let arg12 : BitVec 32 := Scf.iv c0_i32_76 c1_i32_77 k0_t1
  let c8_i32_376 : BitVec 32 := 8#32
  let v669 : BitVec 32 := Scalar.muli arg12 c8_i32_376
  let c7_i32 : BitVec 32 := 7#32
  let v670 : BitVec 32 := Scalar.addi v669 c7_i32
  let c512_i32_377 : BitVec 32 := 512#32
  let v671 : BitVec 32 := Scalar.muli v670 c512_i32_377
  v671
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1024 : Shape := ⟨2, ![8192, 1024]⟩
abbrev S8192x256 : Shape := ⟨2, ![8192, 256]⟩
abbrev S8192x16x64 : Shape := ⟨3, ![8192, 16, 64]⟩
abbrev S16x8192x64 : Shape := ⟨3, ![16, 8192, 64]⟩
abbrev S4x4x8192x64 : Shape := ⟨4, ![4, 4, 8192, 64]⟩
abbrev S8192x4x64 : Shape := ⟨3, ![8192, 4, 64]⟩
abbrev S4x8192x64 : Shape := ⟨3, ![4, 8192, 64]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x64x8192 : Shape := ⟨3, ![4, 64, 8192]⟩
abbrev S16x512x2x128 : Shape := ⟨4, ![16, 512, 2, 128]⟩
abbrev S2x16x128x512 : Shape := ⟨4, ![2, 16, 128, 512]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x16x64, .f32⟩
  | .hbm, ⟨5, _⟩ => ⟨S16x8192x64, .f32⟩
  | .hbm, ⟨6, _⟩ => ⟨S4x4x8192x64, .f32⟩
  | .hbm, ⟨7, _⟩ => ⟨S8192x4x64, .f32⟩
  | .hbm, ⟨8, _⟩ => ⟨S4x8192x64, .f32⟩
  | .hbm, ⟨9, _⟩ => ⟨S8192x4x64, .f32⟩
  | .hbm, ⟨10, _⟩ => ⟨S4x8192x64, .f32⟩
  | .hbm, ⟨11, _⟩ => ⟨S4x4x8192x8192, .f32⟩
  | .hbm, ⟨12, _⟩ => ⟨S_, .f32⟩
  | .hbm, ⟨13, _⟩ => ⟨S4x4x8192x8192, .f32⟩
  | .hbm, ⟨14, _⟩ => ⟨S4x4x8192x8192, .f32⟩
  | .hbm, ⟨15, _⟩ => ⟨S_, .f32⟩
  | .hbm, ⟨16, _⟩ => ⟨S4x4x8192, .f32⟩
  | .hbm, ⟨17, _⟩ => ⟨S4x4x8192x1, .f32⟩
  | .hbm, ⟨18, _⟩ => ⟨S4x4x8192x8192, .f32⟩
  | .hbm, ⟨19, _⟩ => ⟨S4x4x8192x8192, .i1⟩
  | .hbm, ⟨20, _⟩ => ⟨S4x4x8192x8192, .f32⟩
  | .hbm, ⟨21, _⟩ => ⟨S_, .f32⟩
  | .hbm, ⟨22, _⟩ => ⟨S4x4x8192, .f32⟩
  | .hbm, ⟨23, _⟩ => ⟨S_, .f32⟩
  | .hbm, ⟨24, _⟩ => ⟨S4x4x8192, .f32⟩
  | .hbm, ⟨25, _⟩ => ⟨S4x4x8192, .f32⟩
  | .hbm, ⟨26, _⟩ => ⟨S_, .f32⟩
  | .hbm, ⟨27, _⟩ => ⟨S4x4x8192, .f32⟩
  | .hbm, ⟨28, _⟩ => ⟨S4x4x8192, .i1⟩
  | .hbm, ⟨29, _⟩ => ⟨S_, .f32⟩
  | .hbm, ⟨30, _⟩ => ⟨S4x4x8192, .f32⟩
  | .hbm, ⟨31, _⟩ => ⟨S4x4x8192, .i1⟩
  | .hbm, ⟨32, _⟩ => ⟨S_, .f32⟩
  | .hbm, ⟨33, _⟩ => ⟨S4x4x8192, .f32⟩
  | .hbm, ⟨34, _⟩ => ⟨S_, .f32⟩
  | .hbm, ⟨35, _⟩ => ⟨S4x4x8192, .f32⟩
  | .hbm, ⟨36, _⟩ => ⟨S_, .f32⟩
  | .hbm, ⟨37, _⟩ => ⟨S4x4x8192, .f32⟩
  | .hbm, ⟨38, _⟩ => ⟨S4x4x8192, .f32⟩
  | .hbm, ⟨39, _⟩ => ⟨S4x4x8192, .f32⟩
  | .hbm, ⟨40, _⟩ => ⟨S4x4x8192x1, .f32⟩
  | .hbm, ⟨41, _⟩ => ⟨S4x4x8192x8192, .f32⟩
  | .hbm, ⟨42, _⟩ => ⟨S4x4x8192x8192, .f32⟩
  | .hbm, ⟨43, _⟩ => ⟨S4x4x8192x8192, .f32⟩
  | .hbm, ⟨44, _⟩ => ⟨S_, .f32⟩
  | .hbm, ⟨45, _⟩ => ⟨S4x4x8192, .f32⟩
  | .hbm, ⟨46, _⟩ => ⟨S4x4x8192x1, .f32⟩
  | .hbm, ⟨47, _⟩ => ⟨S4x4x8192x8192, .f32⟩
  | .hbm, ⟨48, _⟩ => ⟨S4x4x8192x8192, .f32⟩
  | .hbm, ⟨49, _⟩ => ⟨S4x4x8192x1, .f32⟩
  | .hbm, ⟨50, _⟩ => ⟨S_, .f32⟩
  | .hbm, ⟨51, _⟩ => ⟨S4x4x8192x1, .f32⟩
  | .hbm, ⟨52, _⟩ => ⟨S4x4x8192x1, .f32⟩
  | .hbm, ⟨53, _⟩ => ⟨S4x4x8192x64, .f32⟩
  | .hbm, ⟨54, _⟩ => ⟨S16x8192x64, .f32⟩
  | .hbm, ⟨55, _⟩ => ⟨S8192x16x64, .f32⟩
  | .hbm, ⟨56, _⟩ => ⟨S8192x1024, .f32⟩
  | .hbm, ⟨57, _⟩ => ⟨S8192x16x64, .f32⟩
  | .hbm, ⟨58, _⟩ => ⟨S16x8192x64, .f32⟩
  | .hbm, ⟨59, _⟩ => ⟨S4x4x8192x64, .f32⟩
  | .hbm, ⟨60, _⟩ => ⟨S4x64x8192, .f32⟩
  | .hbm, ⟨61, _⟩ => ⟨S4x8192x64, .f32⟩
  | .hbm, ⟨62, _⟩ => ⟨S4x4x8192x8192, .f32⟩
  | .hbm, ⟨63, _⟩ => ⟨S4x4x8192x8192, .f32⟩
  | .hbm, ⟨64, _⟩ => ⟨S4x4x8192x8192, .f32⟩
  | .hbm, ⟨65, _⟩ => ⟨S4x4x8192x8192, .f32⟩
  | .hbm, ⟨66, _⟩ => ⟨S_, .f32⟩
  | .hbm, ⟨67, _⟩ => ⟨S4x4x8192, .f32⟩
  | .hbm, ⟨68, _⟩ => ⟨S4x4x8192x1, .f32⟩
  | .hbm, ⟨69, _⟩ => ⟨S4x4x8192x1, .f32⟩
  | .hbm, ⟨70, _⟩ => ⟨S4x4x8192x8192, .f32⟩
  | .hbm, ⟨71, _⟩ => ⟨S4x4x8192x8192, .f32⟩
  | .hbm, ⟨72, _⟩ => ⟨S_, .f32⟩
  | .hbm, ⟨73, _⟩ => ⟨S4x4x8192, .f32⟩
  | .hbm, ⟨74, _⟩ => ⟨S4x4x8192x8192, .f32⟩
  | .hbm, ⟨75, _⟩ => ⟨S4x4x8192x8192, .f32⟩
  | .hbm, ⟨76, _⟩ => ⟨S4x4x8192x8192, .f32⟩
  | .hbm, ⟨77, _⟩ => ⟨S_, .f32⟩
  | .hbm, ⟨78, _⟩ => ⟨S4x4x8192x8192, .f32⟩
  | .hbm, ⟨79, _⟩ => ⟨S4x4x8192x8192, .f32⟩
  | .hbm, ⟨80, _⟩ => ⟨S4x8192x64, .f32⟩
  | .hbm, ⟨81, _⟩ => ⟨S4x4x8192x64, .f32⟩
  | .hbm, ⟨82, _⟩ => ⟨S8192x4x64, .f32⟩
  | .hbm, ⟨83, _⟩ => ⟨S8192x256, .f32⟩
  | .hbm, ⟨84, _⟩ => ⟨S8192x4x64, .f32⟩
  | .hbm, ⟨85, _⟩ => ⟨S8192x256, .f32⟩
  | .hbm, ⟨86, _⟩ => ⟨S16x8192x64, .f32⟩
  | .hbm, ⟨87, _⟩ => ⟨S8192x16x64, .f32⟩
  | .hbm, ⟨88, _⟩ => ⟨S8192x1024, .f32⟩
  | .hbm, ⟨89, _⟩ => ⟨S16x512x2x128, .f32⟩
  | .hbm, ⟨90, _⟩ => ⟨S2x16x128x512, .f32⟩
  | .hbm, ⟨91, _⟩ => ⟨S16x512x2x128, .f32⟩
  | .hbm, ⟨92, _⟩ => ⟨S2x16x128x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Latent.lean ====
abbrev S8192x1024 : Shape := ⟨2, ![8192, 1024]⟩
abbrev S8192x512 : Shape := ⟨2, ![8192, 512]⟩
abbrev S_ : Shape := ⟨0, ![]⟩
abbrev S8192x8x128 : Shape := ⟨3, ![8192, 8, 128]⟩
abbrev S8x8192x128 : Shape := ⟨3, ![8, 8192, 128]⟩
abbrev S8x1x8192x128 : Shape := ⟨4, ![8, 1, 8192, 128]⟩
abbrev S8192x8x64 : Shape := ⟨3, ![8192, 8, 64]⟩
abbrev S8x8192x64 : Shape := ⟨3, ![8, 8192, 64]⟩
abbrev S8x1x8192x8192 : Shape := ⟨4, ![8, 1, 8192, 8192]⟩
abbrev S8x1x8192 : Shape := ⟨3, ![8, 1, 8192]⟩
abbrev S8x1x8192x1 : Shape := ⟨4, ![8, 1, 8192, 1]⟩
abbrev S8x1x8192x64 : Shape := ⟨4, ![8, 1, 8192, 64]⟩
abbrev S4x2x8192 : Shape := ⟨3, ![4, 2, 8192]⟩
abbrev S4x8192x2 : Shape := ⟨3, ![4, 8192, 2]⟩
abbrev S4x16x256x512 : Shape := ⟨4, ![4, 16, 256, 512]⟩
abbrev S4x16x128x512 : Shape := ⟨4, ![4, 16, 128, 512]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S1x512x2 : Shape := ⟨3, ![1, 512, 2]⟩
abbrev S1x16x256x512 : Shape := ⟨4, ![1, 16, 256, 512]⟩
abbrev S1x16x128x512 : Shape := ⟨4, ![1, 16, 128, 512]⟩
abbrev S8192x64 : Shape := ⟨2, ![8192, 64]⟩
abbrev S512x64 : Shape := ⟨2, ![512, 64]⟩
abbrev S256x512 : Shape := ⟨2, ![256, 512]⟩
abbrev S128x512 : Shape := ⟨2, ![128, 512]⟩
abbrev S512 : Shape := ⟨1, ![512]⟩
abbrev S512x1 : Shape := ⟨2, ![512, 1]⟩
abbrev S64x512 : Shape := ⟨2, ![64, 512]⟩
abbrev S1x512x1 : Shape := ⟨3, ![1, 512, 1]⟩
abbrev S512x512 : Shape := ⟨2, ![512, 512]⟩
abbrev S1x1x64x512 : Shape := ⟨4, ![1, 1, 64, 512]⟩
abbrev S1x1x128x512 : Shape := ⟨4, ![1, 1, 128, 512]⟩

abbrev nBuf : Space → Nat
  | .hbm => 59
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x512, .bf16⟩
  | .hbm, ⟨13, _⟩ => ⟨S8192x8x128, .f32⟩
  | .hbm, ⟨14, _⟩ => ⟨S8x8192x128, .f32⟩
  | .hbm, ⟨15, _⟩ => ⟨S8x1x8192x128, .f32⟩
  | .hbm, ⟨16, _⟩ => ⟨S8192x8x128, .f32⟩
  | .hbm, ⟨17, _⟩ => ⟨S8x8192x128, .f32⟩
  | .hbm, ⟨18, _⟩ => ⟨S8192x8x64, .f32⟩
  | .hbm, ⟨19, _⟩ => ⟨S8x8192x64, .f32⟩
  | .hbm, ⟨20, _⟩ => ⟨S8x1x8192x8192, .f32⟩
  | .hbm, ⟨21, _⟩ => ⟨S_, .f32⟩
  | .hbm, ⟨22, _⟩ => ⟨S8x1x8192x8192, .f32⟩
  | .hbm, ⟨23, _⟩ => ⟨S8x1x8192x8192, .f32⟩
  | .hbm, ⟨24, _⟩ => ⟨S_, .f32⟩
  | .hbm, ⟨25, _⟩ => ⟨S8x1x8192, .f32⟩
  | .hbm, ⟨26, _⟩ => ⟨S8x1x8192x1, .f32⟩
  | .hbm, ⟨27, _⟩ => ⟨S8x1x8192x8192, .f32⟩
  | .hbm, ⟨28, _⟩ => ⟨S8x1x8192x8192, .f32⟩
  | .hbm, ⟨29, _⟩ => ⟨S8x1x8192x8192, .f32⟩
  | .hbm, ⟨30, _⟩ => ⟨S_, .f32⟩
  | .hbm, ⟨31, _⟩ => ⟨S8x1x8192, .f32⟩
  | .hbm, ⟨32, _⟩ => ⟨S8x1x8192x1, .f32⟩
  | .hbm, ⟨33, _⟩ => ⟨S8x1x8192x8192, .f32⟩
  | .hbm, ⟨34, _⟩ => ⟨S8x1x8192x8192, .f32⟩
  | .hbm, ⟨35, _⟩ => ⟨S8x1x8192x64, .f32⟩
  | .hbm, ⟨36, _⟩ => ⟨S8x1x8192x1, .f32⟩
  | .hbm, ⟨37, _⟩ => ⟨S8x1x8192x1, .f32⟩
  | .hbm, ⟨38, _⟩ => ⟨S_, .f32⟩
  | .hbm, ⟨39, _⟩ => ⟨S_, .f32⟩
  | .hbm, ⟨40, _⟩ => ⟨S8x1x8192x1, .f32⟩
  | .hbm, ⟨41, _⟩ => ⟨S8x1x8192x1, .f32⟩
  | .hbm, ⟨42, _⟩ => ⟨S8x8192x64, .f32⟩
  | .hbm, ⟨43, _⟩ => ⟨S8192x8x64, .f32⟩
  | .hbm, ⟨44, _⟩ => ⟨S8192x512, .f32⟩
  | .hbm, ⟨45, _⟩ => ⟨S4x2x8192, .f32⟩
  | .hbm, ⟨46, _⟩ => ⟨S4x8192x2, .f32⟩
  | .hbm, ⟨47, _⟩ => ⟨S8192x512, .bf16⟩
  | .hbm, ⟨48, _⟩ => ⟨S8192x512, .bf16⟩
  | .hbm, ⟨49, _⟩ => ⟨S8192x1024, .f32⟩
  | .hbm, ⟨50, _⟩ => ⟨S4x16x256x512, .f32⟩
  | .hbm, ⟨51, _⟩ => ⟨S4x16x128x512, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S_, .f32⟩
  | .hbm, ⟨57, _⟩ => ⟨S4x16x256x512, .f32⟩
  | .hbm, ⟨58, _⟩ => ⟨S4x16x256x512, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S1x512x2, .f32⟩
  | .local _ .vmem, ⟨11, _⟩ => ⟨S1x512x2, .f32⟩
  | .local _ .vmem, ⟨12, _⟩ => ⟨S512x256, .f32⟩
  | .local _ .vmem, ⟨13, _⟩ => ⟨S512x256, .f32⟩
  | .local _ .vmem, ⟨14, _⟩ => ⟨S1x16x256x512, .f32⟩
  | .local _ .vmem, ⟨15, _⟩ => ⟨S1x16x256x512, .f32⟩
  | .local _ .vmem, ⟨16, _⟩ => ⟨S1x16x128x512, .f32⟩
  | .local _ .vmem, ⟨17, _⟩ => ⟨S1x16x128x512, .f32⟩
  | .local _ .vmem, ⟨18, _⟩ => ⟨S8192x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39_0 : Ref sig .tc := ⟨.hbm, 49, rfl⟩
abbrev main_v39_1 : Ref sig .tc := ⟨.hbm, 50, rfl⟩
abbrev main_v39_2 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_33 : BitVec 32 := 0#32
  let c2_i32 : BitVec 32 := 2#32
  let v89 : BitVec 32 := Scalar.addi c0_i32_33 c2_i32
  let c1_i32_34 : BitVec 32 := 1#32
  ⟨c0_i32_33, v89, c1_i32_34⟩
def k0_mult1 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32 : BitVec 32 := 8#32
  let v93 : BitVec 32 := Scalar.muli arg12 c8_i32
  let c0_i32_40 : BitVec 32 := 0#32
  let v94 : BitVec 32 := Scalar.addi v93 c0_i32_40
  let c512_i32 : BitVec 32 := 512#32
  let v95 : BitVec 32 := Scalar.muli v94 c512_i32
  v95
def k0_off1 (k0_t1 : Fin k0_t1_loop.trips) (c0_i32_40 : BitVec 32) : Fin 2 → Nat :=
  let c0_i32_33 : BitVec 32 := 0#32
  let c1_i32_34 : BitVec 32 := 1#32
  let arg12 : BitVec 32 := Scf.iv c0_i32_33 c1_i32_34 k0_t1
  let c8_i32 : BitVec 32 := 8#32
  let v93 : BitVec 32 := Scalar.muli arg12 c8_i32
  let v94 : BitVec 32 := Scalar.addi v93 c0_i32_40
  let c512_i32 : BitVec 32 := 512#32
  let v95 : BitVec 32 := Scalar.muli v94 c512_i32
  let v96 : BitVec 32 := v95
  let v97 : Index := Scalar.indexCast v96
  let c0_41 : Index := 0#32
  ![v97.toNat, 0]
def k0_off2 (k0_t1 : Fin k0_t1_loop.trips) (c0_i32_40 : BitVec 32) : Fin 2 → Nat :=
  let c0_i32_33 : BitVec 32 := 0#32
  let c1_i32_34 : BitVec 32 := 1#32
  let arg12 : BitVec 32 := Scf.iv c0_i32_33 c1_i32_34 k0_t1
  let c8_i32 : BitVec 32 := 8#32
  let v93 : BitVec 32 := Scalar.muli arg12 c8_i32
  let v94 : BitVec 32 := Scalar.addi v93 c0_i32_40
  let c512_i32 : BitVec 32 := 512#32
  let v95 : BitVec 32 := Scalar.muli v94 c512_i32
  let v96 : BitVec 32 := v95
  let v100 : Index := Scalar.indexCast v96
  let c128_42 : Index := 128#32
  ![v100.toNat, 128]
def k0_off3 (k0_t1 : Fin k0_t1_loop.trips) (c0_i32_40 : BitVec 32) : Fin 4 → Nat :=
  let c0_49 : Index := 0#32
  let c0_i32_33 : BitVec 32 := 0#32
  let c1_i32_34 : BitVec 32 := 1#32
  let arg12 : BitVec 32 := Scf.iv c0_i32_33 c1_i32_34 k0_t1
  let c8_i32 : BitVec 32 := 8#32
  let v93 : BitVec 32 := Scalar.muli arg12 c8_i32
  let v94 : BitVec 32 := Scalar.addi v93 c0_i32_40
  let v123 : Index := Scalar.indexCast v94
  let c0_50 : Index := 0#32
  let c0_51 : Index := 0#32
  ![0, v123.toNat, 0, 0]
def k0_off4 (k0_t1 : Fin k0_t1_loop.trips) (c0_i32_40 : BitVec 32) : Fin 4 → Nat :=
  let c0_56 : Index := 0#32
  let c0_i32_33 : BitVec 32 := 0#32
  let c1_i32_34 : BitVec 32 := 1#32
  let arg12 : BitVec 32 := Scf.iv c0_i32_33 c1_i32_34 k0_t1
  let c8_i32 : BitVec 32 := 8#32
  let v93 : BitVec 32 := Scalar.muli arg12 c8_i32
  let v94 : BitVec 32 := Scalar.addi v93 c0_i32_40
  let v132 : Index := Scalar.indexCast v94
  let c64_57 : Index := 64#32
  let c0_58 : Index := 0#32
  ![0, v132.toNat, 64, 0]
def k0_off5 (k0_t1 : Fin k0_t1_loop.trips) (c0_i32_40 : BitVec 32) : Fin 4 → Nat :=
  let c0_63 : Index := 0#32
  let c0_i32_33 : BitVec 32 := 0#32
  let c1_i32_34 : BitVec 32 := 1#32
  let arg12 : BitVec 32 := Scf.iv c0_i32_33 c1_i32_34 k0_t1
  let c8_i32 : BitVec 32 := 8#32
  let v93 : BitVec 32 := Scalar.muli arg12 c8_i32
  let v94 : BitVec 32 := Scalar.addi v93 c0_i32_40
  let v141 : Index := Scalar.indexCast v94
  let c0_64 : Index := 0#32
  let c0_65 : Index := 0#32
  ![0, v141.toNat, 0, 0]
def k0_off6 (k0_t1 : Fin k0_t1_loop.trips) (c0_i32_40 : BitVec 32) : Fin 4 → Nat :=
  let c0_70 : Index := 0#32
  let c0_i32_33 : BitVec 32 := 0#32
  let c1_i32_34 : BitVec 32 := 1#32
  let arg12 : BitVec 32 := Scf.iv c0_i32_33 c1_i32_34 k0_t1
  let c8_i32 : BitVec 32 := 8#32
  let v93 : BitVec 32 := Scalar.muli arg12 c8_i32
  let v94 : BitVec 32 := Scalar.addi v93 c0_i32_40
  let v150 : Index := Scalar.indexCast v94
  let c128_71 : Index := 128#32
  let c0_72 : Index := 0#32
  ![0, v150.toNat, 128, 0]
def k0_mult2 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32_79 : BitVec 32 := 8#32
  let v163 : BitVec 32 := Scalar.muli arg12 c8_i32_79
  let c1_i32_80 : BitVec 32 := 1#32
  let v164 : BitVec 32 := Scalar.addi v163 c1_i32_80
  let c512_i32_81 : BitVec 32 := 512#32
  let v165 : BitVec 32 := Scalar.muli v164 c512_i32_81
  v165
def k0_mult3 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32_120 : BitVec 32 := 8#32
  let v233 : BitVec 32 := Scalar.muli arg12 c8_i32_120
  let c2_i32_121 : BitVec 32 := 2#32
  let v234 : BitVec 32 := Scalar.addi v233 c2_i32_121
  let c512_i32_122 : BitVec 32 := 512#32
  let v235 : BitVec 32 := Scalar.muli v234 c512_i32_122
  v235
def k0_mult4 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32_161 : BitVec 32 := 8#32
  let v303 : BitVec 32 := Scalar.muli arg12 c8_i32_161
  let c3_i32 : BitVec 32 := 3#32
  let v304 : BitVec 32 := Scalar.addi v303 c3_i32
  let c512_i32_162 : BitVec 32 := 512#32
  let v305 : BitVec 32 := Scalar.muli v304 c512_i32_162
  v305
def k0_mult5 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32_201 : BitVec 32 := 8#32
  let v373 : BitVec 32 := Scalar.muli arg12 c8_i32_201
  let c4_i32 : BitVec 32 := 4#32
  let v374 : BitVec 32 := Scalar.addi v373 c4_i32
  let c512_i32_202 : BitVec 32 := 512#32
  let v375 : BitVec 32 := Scalar.muli v374 c512_i32_202
  v375
def k0_mult6 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32_241 : BitVec 32 := 8#32
  let v443 : BitVec 32 := Scalar.muli arg12 c8_i32_241
  let c5_i32 : BitVec 32 := 5#32
  let v444 : BitVec 32 := Scalar.addi v443 c5_i32
  let c512_i32_242 : BitVec 32 := 512#32
  let v445 : BitVec 32 := Scalar.muli v444 c512_i32_242
  v445
def k0_mult7 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32_281 : BitVec 32 := 8#32
  let v513 : BitVec 32 := Scalar.muli arg12 c8_i32_281
  let c6_i32 : BitVec 32 := 6#32
  let v514 : BitVec 32 := Scalar.addi v513 c6_i32
  let c512_i32_282 : BitVec 32 := 512#32
  let v515 : BitVec 32 := Scalar.muli v514 c512_i32_282
  v515
def k0_mult8 (k0_t1 : Fin k0_t1_loop.trips) : BitVec 32 :=
  let c0_i32_33 : BitVec 32 := 0#32
  let c1_i32_34 : BitVec 32 := 1#32
  let arg12 : BitVec 32 := Scf.iv c0_i32_33 c1_i32_34 k0_t1
  let c8_i32_321 : BitVec 32 := 8#32
  let v583 : BitVec 32 := Scalar.muli arg12 c8_i32_321
  let c7_i32 : BitVec 32 := 7#32
  let v584 : BitVec 32 := Scalar.addi v583 c7_i32
  let c512_i32_322 : BitVec 32 := 512#32
  let v585 : BitVec 32 := Scalar.muli v584 c512_i32_322
  v585
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== LatentReferenceIdeal.lean ====
abbrev S8192x1024 : Shape := ⟨2, ![8192, 1024]⟩
abbrev S8192x512 : Shape := ⟨2, ![8192, 512]⟩
abbrev S8192x8x128 : Shape := ⟨3, ![8192, 8, 128]⟩
abbrev S8x8192x128 : Shape := ⟨3, ![8, 8192, 128]⟩
abbrev S8x1x8192x128 : Shape := ⟨4, ![8, 1, 8192, 128]⟩
abbrev S8192x8x64 : Shape := ⟨3, ![8192, 8, 64]⟩
abbrev S8x8192x64 : Shape := ⟨3, ![8, 8192, 64]⟩
abbrev S8x1x8192x8192 : Shape := ⟨4, ![8, 1, 8192, 8192]⟩
abbrev S_ : Shape := ⟨0, ![]⟩
abbrev S8x1x8192 : Shape := ⟨3, ![8, 1, 8192]⟩
abbrev S8x1x8192x1 : Shape := ⟨4, ![8, 1, 8192, 1]⟩
abbrev S8x1x8192x64 : Shape := ⟨4, ![8, 1, 8192, 64]⟩
abbrev S8x64x8192 : Shape := ⟨3, ![8, 64, 8192]⟩
abbrev S8x8192 : Shape := ⟨2, ![8, 8192]⟩
abbrev S16x512x4x256 : Shape := ⟨4, ![16, 512, 4, 256]⟩
abbrev S4x16x256x512 : Shape := ⟨4, ![4, 16, 256, 512]⟩
abbrev S16x512x4x128 : Shape := ⟨4, ![16, 512, 4, 128]⟩
abbrev S4x16x128x512 : Shape := ⟨4, ![4, 16, 128, 512]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x8x128, .f32⟩
  | .hbm, ⟨5, _⟩ => ⟨S8x8192x128, .f32⟩
  | .hbm, ⟨6, _⟩ => ⟨S8x1x8192x128, .f32⟩
  | .hbm, ⟨7, _⟩ => ⟨S8192x8x128, .f32⟩
  | .hbm, ⟨8, _⟩ => ⟨S8x8192x128, .f32⟩
  | .hbm, ⟨9, _⟩ => ⟨S8192x8x64, .f32⟩
  | .hbm, ⟨10, _⟩ => ⟨S8x8192x64, .f32⟩
  | .hbm, ⟨11, _⟩ => ⟨S8x1x8192x8192, .f32⟩
  | .hbm, ⟨12, _⟩ => ⟨S_, .f32⟩
  | .hbm, ⟨13, _⟩ => ⟨S8x1x8192x8192, .f32⟩
  | .hbm, ⟨14, _⟩ => ⟨S8x1x8192x8192, .f32⟩
  | .hbm, ⟨15, _⟩ => ⟨S_, .f32⟩
  | .hbm, ⟨16, _⟩ => ⟨S8x1x8192, .f32⟩
  | .hbm, ⟨17, _⟩ => ⟨S8x1x8192x1, .f32⟩
  | .hbm, ⟨18, _⟩ => ⟨S8x1x8192x8192, .f32⟩
  | .hbm, ⟨19, _⟩ => ⟨S8x1x8192x8192, .i1⟩
  | .hbm, ⟨20, _⟩ => ⟨S8x1x8192x8192, .f32⟩
  | .hbm, ⟨21, _⟩ => ⟨S_, .f32⟩
  | .hbm, ⟨22, _⟩ => ⟨S8x1x8192, .f32⟩
  | .hbm, ⟨23, _⟩ => ⟨S_, .f32⟩
  | .hbm, ⟨24, _⟩ => ⟨S8x1x8192, .f32⟩
  | .hbm, ⟨25, _⟩ => ⟨S8x1x8192, .f32⟩
  | .hbm, ⟨26, _⟩ => ⟨S_, .f32⟩
  | .hbm, ⟨27, _⟩ => ⟨S8x1x8192, .f32⟩
  | .hbm, ⟨28, _⟩ => ⟨S8x1x8192, .i1⟩
  | .hbm, ⟨29, _⟩ => ⟨S_, .f32⟩
  | .hbm, ⟨30, _⟩ => ⟨S8x1x8192, .f32⟩
  | .hbm, ⟨31, _⟩ => ⟨S8x1x8192, .i1⟩
  | .hbm, ⟨32, _⟩ => ⟨S_, .f32⟩
  | .hbm, ⟨33, _⟩ => ⟨S8x1x8192, .f32⟩
  | .hbm, ⟨34, _⟩ => ⟨S_, .f32⟩
  | .hbm, ⟨35, _⟩ => ⟨S8x1x8192, .f32⟩
  | .hbm, ⟨36, _⟩ => ⟨S_, .f32⟩
  | .hbm, ⟨37, _⟩ => ⟨S8x1x8192, .f32⟩
  | .hbm, ⟨38, _⟩ => ⟨S8x1x8192, .f32⟩
  | .hbm, ⟨39, _⟩ => ⟨S8x1x8192, .f32⟩
  | .hbm, ⟨40, _⟩ => ⟨S8x1x8192x1, .f32⟩
  | .hbm, ⟨41, _⟩ => ⟨S8x1x8192x8192, .f32⟩
  | .hbm, ⟨42, _⟩ => ⟨S8x1x8192x8192, .f32⟩
  | .hbm, ⟨43, _⟩ => ⟨S8x1x8192x8192, .f32⟩
  | .hbm, ⟨44, _⟩ => ⟨S_, .f32⟩
  | .hbm, ⟨45, _⟩ => ⟨S8x1x8192, .f32⟩
  | .hbm, ⟨46, _⟩ => ⟨S8x1x8192x1, .f32⟩
  | .hbm, ⟨47, _⟩ => ⟨S8x1x8192x8192, .f32⟩
  | .hbm, ⟨48, _⟩ => ⟨S8x1x8192x8192, .f32⟩
  | .hbm, ⟨49, _⟩ => ⟨S8x1x8192x1, .f32⟩
  | .hbm, ⟨50, _⟩ => ⟨S_, .f32⟩
  | .hbm, ⟨51, _⟩ => ⟨S8x1x8192x1, .f32⟩
  | .hbm, ⟨52, _⟩ => ⟨S8x1x8192x1, .f32⟩
  | .hbm, ⟨53, _⟩ => ⟨S8x1x8192x64, .f32⟩
  | .hbm, ⟨54, _⟩ => ⟨S8x8192x64, .f32⟩
  | .hbm, ⟨55, _⟩ => ⟨S8192x8x64, .f32⟩
  | .hbm, ⟨56, _⟩ => ⟨S8192x512, .f32⟩
  | .hbm, ⟨57, _⟩ => ⟨S8192x8x64, .f32⟩
  | .hbm, ⟨58, _⟩ => ⟨S8x8192x64, .f32⟩
  | .hbm, ⟨59, _⟩ => ⟨S8x1x8192x64, .f32⟩
  | .hbm, ⟨60, _⟩ => ⟨S8x64x8192, .f32⟩
  | .hbm, ⟨61, _⟩ => ⟨S8x8192x64, .f32⟩
  | .hbm, ⟨62, _⟩ => ⟨S8x1x8192x8192, .f32⟩
  | .hbm, ⟨63, _⟩ => ⟨S8x1x8192x8192, .f32⟩
  | .hbm, ⟨64, _⟩ => ⟨S8x1x8192x8192, .f32⟩
  | .hbm, ⟨65, _⟩ => ⟨S8x1x8192x8192, .f32⟩
  | .hbm, ⟨66, _⟩ => ⟨S_, .f32⟩
  | .hbm, ⟨67, _⟩ => ⟨S8x1x8192, .f32⟩
  | .hbm, ⟨68, _⟩ => ⟨S8x1x8192x1, .f32⟩
  | .hbm, ⟨69, _⟩ => ⟨S8x1x8192x1, .f32⟩
  | .hbm, ⟨70, _⟩ => ⟨S8x1x8192x8192, .f32⟩
  | .hbm, ⟨71, _⟩ => ⟨S8x1x8192x8192, .f32⟩
  | .hbm, ⟨72, _⟩ => ⟨S_, .f32⟩
  | .hbm, ⟨73, _⟩ => ⟨S8x8192, .f32⟩
  | .hbm, ⟨74, _⟩ => ⟨S8x1x8192, .f32⟩
  | .hbm, ⟨75, _⟩ => ⟨S8x1x8192x8192, .f32⟩
  | .hbm, ⟨76, _⟩ => ⟨S8x1x8192x8192, .f32⟩
  | .hbm, ⟨77, _⟩ => ⟨S8x1x8192x8192, .f32⟩
  | .hbm, ⟨78, _⟩ => ⟨S_, .f32⟩
  | .hbm, ⟨79, _⟩ => ⟨S8x1x8192x8192, .f32⟩
  | .hbm, ⟨80, _⟩ => ⟨S8x1x8192x8192, .f32⟩
  | .hbm, ⟨81, _⟩ => ⟨S8x8192x128, .f32⟩
  | .hbm, ⟨82, _⟩ => ⟨S8x1x8192x128, .f32⟩
  | .hbm, ⟨83, _⟩ => ⟨S8192x8x64, .f32⟩
  | .hbm, ⟨84, _⟩ => ⟨S8192x512, .f32⟩
  | .hbm, ⟨85, _⟩ => ⟨S8192x8x128, .f32⟩
  | .hbm, ⟨86, _⟩ => ⟨S8192x1024, .f32⟩
  | .hbm, ⟨87, _⟩ => ⟨S8x8192x128, .f32⟩
  | .hbm, ⟨88, _⟩ => ⟨S8192x8x128, .f32⟩
  | .hbm, ⟨89, _⟩ => ⟨S8192x1024, .f32⟩
  | .hbm, ⟨90, _⟩ => ⟨S16x512x4x256, .f32⟩
  | .hbm, ⟨91, _⟩ => ⟨S4x16x256x512, .f32⟩
  | .hbm, ⟨92, _⟩ => ⟨S16x512x4x128, .f32⟩
  | .hbm, ⟨93, _⟩ => ⟨S4x16x128x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Forward.lean ====
abbrev S8192x1024 : Shape := ⟨2, ![8192, 1024]⟩
abbrev S8192x256 : Shape := ⟨2, ![8192, 256]⟩
abbrev S_ : Shape := ⟨0, ![]⟩
abbrev S2x8192x8 : Shape := ⟨3, ![2, 8192, 8]⟩
abbrev S256x512 : Shape := ⟨2, ![256, 512]⟩
abbrev S8192x128 : Shape := ⟨2, ![8192, 128]⟩
abbrev S1x256x8 : Shape := ⟨3, ![1, 256, 8]⟩
abbrev S8192x64 : Shape := ⟨2, ![8192, 64]⟩
abbrev S256x64 : Shape := ⟨2, ![256, 64]⟩
abbrev S1024x64 : Shape := ⟨2, ![1024, 64]⟩
abbrev S1024x1 : Shape := ⟨2, ![1024, 1]⟩
abbrev S1024x128 : Shape := ⟨2, ![1024, 128]⟩
abbrev S512x64 : Shape := ⟨2, ![512, 64]⟩
abbrev S1024x512 : Shape := ⟨2, ![1024, 512]⟩
abbrev S1024 : Shape := ⟨1, ![1024]⟩
abbrev S512x128 : Shape := ⟨2, ![512, 128]⟩
abbrev S256x1 : Shape := ⟨2, ![256, 1]⟩
abbrev S1x256x1 : Shape := ⟨3, ![1, 256, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x256, .bf16⟩
  | .hbm, ⟨11, _⟩ => ⟨S8192x256, .bf16⟩
  | .hbm, ⟨12, _⟩ => ⟨S8192x1024, .bf16⟩
  | .hbm, ⟨13, _⟩ => ⟨S2x8192x8, .f32⟩
  | .local _ .vmem, ⟨0, _⟩ => ⟨S256x512, .bf16⟩
  | .local _ .vmem, ⟨1, _⟩ => ⟨S256x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x512, .bf16⟩
  | .local _ .vmem, ⟨7, _⟩ => ⟨S256x512, .bf16⟩
  | .local _ .vmem, ⟨8, _⟩ => ⟨S1x256x8, .f32⟩
  | .local _ .vmem, ⟨9, _⟩ => ⟨S1x256x8, .f32⟩
  | .local _ .vmem, ⟨10, _⟩ => ⟨S8192x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_12 : BitVec 32 := 0#32
  let c4_i32 : BitVec 32 := 4#32
  let v25 : BitVec 32 := Scalar.addi c0_i32_12 c4_i32
  let c1_i32 : BitVec 32 := 1#32
  ⟨c0_i32_12, v25, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_49 : BitVec 32 := 4#32
  let v101 : BitVec 32 := Scalar.muli arg8 c4_i32_49
  let c0_i32_50 : BitVec 32 := 0#32
  let v102 : BitVec 32 := Scalar.addi v101 c0_i32_50
  let c512_i32 : BitVec 32 := 512#32
  let v103 : BitVec 32 := Scalar.muli v102 c512_i32
  v103
def k0_mult2 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_51 : BitVec 32 := 4#32
  let v105 : BitVec 32 := Scalar.muli arg8 c4_i32_51
  let c1_i32_52 : BitVec 32 := 1#32
  let v106 : BitVec 32 := Scalar.addi v105 c1_i32_52
  let c512_i32_53 : BitVec 32 := 512#32
  let v107 : BitVec 32 := Scalar.muli v106 c512_i32_53
  v107
def k0_mult3 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_54 : BitVec 32 := 4#32
  let v109 : BitVec 32 := Scalar.muli arg8 c4_i32_54
  let c2_i32 : BitVec 32 := 2#32
  let v110 : BitVec 32 := Scalar.addi v109 c2_i32
  let c512_i32_55 : BitVec 32 := 512#32
  let v111 : BitVec 32 := Scalar.muli v110 c512_i32_55
  v111
def k0_mult4 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_56 : BitVec 32 := 4#32
  let v113 : BitVec 32 := Scalar.muli arg8 c4_i32_56
  let c3_i32 : BitVec 32 := 3#32
  let v114 : BitVec 32 := Scalar.addi v113 c3_i32
  let c512_i32_57 : BitVec 32 := 512#32
  let v115 : BitVec 32 := Scalar.muli v114 c512_i32_57
  v115
def k0_off1 (k0_t1 : Fin k0_t1_loop.trips) (c0_i32_50 : BitVec 32) : Fin 2 → Nat :=
  let c0_i32_12 : BitVec 32 := 0#32
  let c1_i32 : BitVec 32 := 1#32
  let arg8 : BitVec 32 := Scf.iv c0_i32_12 c1_i32 k0_t1
  let c4_i32_49 : BitVec 32 := 4#32
  let v101 : BitVec 32 := Scalar.muli arg8 c4_i32_49
  let v102 : BitVec 32 := Scalar.addi v101 c0_i32_50
  let c512_i32 : BitVec 32 := 512#32
  let v103 : BitVec 32 := Scalar.muli v102 c512_i32
  let v104 : BitVec 32 := v103
  let v117 : Index := Scalar.indexCast v104
  let c0_58 : Index := 0#32
  ![v117.toNat, 0]
def k0_off2 (k0_t1 : Fin k0_t1_loop.trips) (c0_i32_50 : BitVec 32) : Fin 2 → Nat :=
  let c0_i32_12 : BitVec 32 := 0#32
  let c1_i32 : BitVec 32 := 1#32
  let arg8 : BitVec 32 := Scf.iv c0_i32_12 c1_i32 k0_t1
  let c4_i32_49 : BitVec 32 := 4#32
  let v101 : BitVec 32 := Scalar.muli arg8 c4_i32_49
  let v102 : BitVec 32 := Scalar.addi v101 c0_i32_50
  let c512_i32 : BitVec 32 := 512#32
  let v103 : BitVec 32 := Scalar.muli v102 c512_i32
  let v104 : BitVec 32 := v103
  let v121 : Index := Scalar.indexCast v104
  let c64_60 : Index := 64#32
  ![v121.toNat, 64]
def k0_off3 (k0_t1 : Fin k0_t1_loop.trips) (c0_i32_50 : BitVec 32) : Fin 2 → Nat :=
  let c0_i32_12 : BitVec 32 := 0#32
  let c1_i32 : BitVec 32 := 1#32
  let arg8 : BitVec 32 := Scf.iv c0_i32_12 c1_i32 k0_t1
  let c4_i32_49 : BitVec 32 := 4#32
  let v101 : BitVec 32 := Scalar.muli arg8 c4_i32_49
  let v102 : BitVec 32 := Scalar.addi v101 c0_i32_50
  let c512_i32 : BitVec 32 := 512#32
  let v103 : BitVec 32 := Scalar.muli v102 c512_i32
  let v104 : BitVec 32 := v103
  let v163 : Index := Scalar.indexCast v104
  let c0_76 : Index := 0#32
  ![v163.toNat, 0]
def k0_off4 (k0_t1 : Fin k0_t1_loop.trips) (c0_i32_50 : BitVec 32) : Fin 2 → Nat :=
  let c0_i32_12 : BitVec 32 := 0#32
  let c1_i32 : BitVec 32 := 1#32
  let arg8 : BitVec 32 := Scf.iv c0_i32_12 c1_i32 k0_t1
  let c4_i32_49 : BitVec 32 := 4#32
  let v101 : BitVec 32 := Scalar.muli arg8 c4_i32_49
  let v102 : BitVec 32 := Scalar.addi v101 c0_i32_50
  let c512_i32 : BitVec 32 := 512#32
  let v103 : BitVec 32 := Scalar.muli v102 c512_i32
  let v104 : BitVec 32 := v103
  let v166 : Index := Scalar.indexCast v104
  let c128_78 : Index := 128#32
  ![v166.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardReferenceIdeal.lean ====
abbrev S8192x1024 : Shape := ⟨2, ![8192, 1024]⟩
abbrev S8192x256 : Shape := ⟨2, ![8192, 256]⟩
abbrev S8192x16x64 : Shape := ⟨3, ![8192, 16, 64]⟩
abbrev S16x8192x64 : Shape := ⟨3, ![16, 8192, 64]⟩
abbrev S4x4x8192x64 : Shape := ⟨4, ![4, 4, 8192, 64]⟩
abbrev S8192x4x64 : Shape := ⟨3, ![8192, 4, 64]⟩
abbrev S4x8192x64 : Shape := ⟨3, ![4, 8192, 64]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S2x8x8192 : Shape := ⟨3, ![2, 8, 8192]⟩
abbrev S2x8192x8 : Shape := ⟨3, ![2, 8192, 8]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x16x64, .f32⟩
  | .hbm, ⟨4, _⟩ => ⟨S16x8192x64, .f32⟩
  | .hbm, ⟨5, _⟩ => ⟨S4x4x8192x64, .f32⟩
  | .hbm, ⟨6, _⟩ => ⟨S8192x4x64, .f32⟩
  | .hbm, ⟨7, _⟩ => ⟨S4x8192x64, .f32⟩
  | .hbm, ⟨8, _⟩ => ⟨S8192x4x64, .f32⟩
  | .hbm, ⟨9, _⟩ => ⟨S4x8192x64, .f32⟩
  | .hbm, ⟨10, _⟩ => ⟨S4x4x8192x8192, .f32⟩
  | .hbm, ⟨11, _⟩ => ⟨S_, .f32⟩
  | .hbm, ⟨12, _⟩ => ⟨S4x4x8192x8192, .f32⟩
  | .hbm, ⟨13, _⟩ => ⟨S4x4x8192x8192, .f32⟩
  | .hbm, ⟨14, _⟩ => ⟨S_, .f32⟩
  | .hbm, ⟨15, _⟩ => ⟨S4x4x8192, .f32⟩
  | .hbm, ⟨16, _⟩ => ⟨S_, .f32⟩
  | .hbm, ⟨17, _⟩ => ⟨S4x4x8192, .f32⟩
  | .hbm, ⟨18, _⟩ => ⟨S4x4x8192, .f32⟩
  | .hbm, ⟨19, _⟩ => ⟨S4x4x8192x1, .f32⟩
  | .hbm, ⟨20, _⟩ => ⟨S4x4x8192x8192, .f32⟩
  | .hbm, ⟨21, _⟩ => ⟨S4x4x8192x8192, .f32⟩
  | .hbm, ⟨22, _⟩ => ⟨S4x4x8192x8192, .f32⟩
  | .hbm, ⟨23, _⟩ => ⟨S_, .f32⟩
  | .hbm, ⟨24, _⟩ => ⟨S4x4x8192, .f32⟩
  | .hbm, ⟨25, _⟩ => ⟨S4x4x8192x1, .f32⟩
  | .hbm, ⟨26, _⟩ => ⟨S4x4x8192x8192, .f32⟩
  | .hbm, ⟨27, _⟩ => ⟨S4x4x8192x8192, .f32⟩
  | .hbm, ⟨28, _⟩ => ⟨S4x4x8192x64, .f32⟩
  | .hbm, ⟨29, _⟩ => ⟨S_, .f32⟩
  | .hbm, ⟨30, _⟩ => ⟨S4x4x8192, .f32⟩
  | .hbm, ⟨31, _⟩ => ⟨S4x4x8192x1, .f32⟩
  | .hbm, ⟨32, _⟩ => ⟨S4x4x8192x8192, .f32⟩
  | .hbm, ⟨33, _⟩ => ⟨S4x4x8192x8192, .f32⟩
  | .hbm, ⟨34, _⟩ => ⟨S4x4x8192x8192, .f32⟩
  | .hbm, ⟨35, _⟩ => ⟨S_, .f32⟩
  | .hbm, ⟨36, _⟩ => ⟨S4x4x8192, .f32⟩
  | .hbm, ⟨37, _⟩ => ⟨S4x4x8192x1, .f32⟩
  | .hbm, ⟨38, _⟩ => ⟨S4x4x8192x1, .f32⟩
  | .hbm, ⟨39, _⟩ => ⟨S4x4x8192x1, .f32⟩
  | .hbm, ⟨40, _⟩ => ⟨S_, .f32⟩
  | .hbm, ⟨41, _⟩ => ⟨S_, .f32⟩
  | .hbm, ⟨42, _⟩ => ⟨S4x4x8192x1, .f32⟩
  | .hbm, ⟨43, _⟩ => ⟨S4x4x8192x1, .f32⟩
  | .hbm, ⟨44, _⟩ => ⟨S16x8192x64, .f32⟩
  | .hbm, ⟨45, _⟩ => ⟨S8192x16x64, .f32⟩
  | .hbm, ⟨46, _⟩ => ⟨S8192x1024, .f32⟩
  | .hbm, ⟨47, _⟩ => ⟨S8192x1024, .bf16⟩
  | .hbm, ⟨48, _⟩ => ⟨S2x8x8192, .f32⟩
  | .hbm, ⟨49, _⟩ => ⟨S2x8192x8, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== LatentForward.lean ====
abbrev S8192x1024 : Shape := ⟨2, ![8192, 1024]⟩
abbrev S8192x512 : Shape := ⟨2, ![8192, 512]⟩
abbrev S_ : Shape := ⟨0, ![]⟩
abbrev S4x8192x2 : Shape := ⟨3, ![4, 8192, 2]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S1x1024x2 : Shape := ⟨3, ![1, 1024, 2]⟩
abbrev S8192x64 : Shape := ⟨2, ![8192, 64]⟩
abbrev S1024x1 : Shape := ⟨2, ![1024, 1]⟩
abbrev S512x128 : Shape := ⟨2, ![512, 128]⟩
abbrev S1024x512 : Shape := ⟨2, ![1024, 512]⟩
abbrev S1024 : Shape := ⟨1, ![1024]⟩
abbrev S1024x64 : Shape := ⟨2, ![1024, 64]⟩
abbrev S1x1024x1 : Shape := ⟨3, ![1, 1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x512, .bf16⟩
  | .hbm, ⟨12, _⟩ => ⟨S8192x512, .bf16⟩
  | .hbm, ⟨13, _⟩ => ⟨S4x8192x2, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x2, .f32⟩
  | .local _ .vmem, ⟨9, _⟩ => ⟨S1x1024x2, .f32⟩
  | .local _ .vmem, ⟨10, _⟩ => ⟨S8192x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_6 : BitVec 32 := 0#32
  let c4_i32 : BitVec 32 := 4#32
  let v11 : BitVec 32 := Scalar.addi c0_i32_6 c4_i32
  let c1_i32 : BitVec 32 := 1#32
  ⟨c0_i32_6, v11, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c4_i32_18 : BitVec 32 := 4#32
  let v41 : BitVec 32 := Scalar.muli arg8 c4_i32_18
  let c0_i32_19 : BitVec 32 := 0#32
  let v42 : BitVec 32 := Scalar.addi v41 c0_i32_19
  let c512_i32 : BitVec 32 := 512#32
  let v43 : BitVec 32 := Scalar.muli v42 c512_i32
  v43
def k0_mult2 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c4_i32_20 : BitVec 32 := 4#32
  let v45 : BitVec 32 := Scalar.muli arg8 c4_i32_20
  let c1_i32_21 : BitVec 32 := 1#32
  let v46 : BitVec 32 := Scalar.addi v45 c1_i32_21
  let c512_i32_22 : BitVec 32 := 512#32
  let v47 : BitVec 32 := Scalar.muli v46 c512_i32_22
  v47
def k0_mult3 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c4_i32_23 : BitVec 32 := 4#32
  let v49 : BitVec 32 := Scalar.muli arg8 c4_i32_23
  let c2_i32 : BitVec 32 := 2#32
  let v50 : BitVec 32 := Scalar.addi v49 c2_i32
  let c512_i32_24 : BitVec 32 := 512#32
  let v51 : BitVec 32 := Scalar.muli v50 c512_i32_24
  v51
def k0_mult4 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c4_i32_25 : BitVec 32 := 4#32
  let v53 : BitVec 32 := Scalar.muli arg8 c4_i32_25
  let c3_i32 : BitVec 32 := 3#32
  let v54 : BitVec 32 := Scalar.addi v53 c3_i32
  let c512_i32_26 : BitVec 32 := 512#32
  let v55 : BitVec 32 := Scalar.muli v54 c512_i32_26
  v55
def k0_off1 (k0_t1 : Fin k0_t1_loop.trips) (c0_i32_19 : BitVec 32) : Fin 2 → Nat :=
  let c0_i32_6 : BitVec 32 := 0#32
  let c1_i32 : BitVec 32 := 1#32
  let arg8 : BitVec 32 := Scf.iv c0_i32_6 c1_i32 k0_t1
  let c4_i32_18 : BitVec 32 := 4#32
  let v41 : BitVec 32 := Scalar.muli arg8 c4_i32_18
  let v42 : BitVec 32 := Scalar.addi v41 c0_i32_19
  let c512_i32 : BitVec 32 := 512#32
  let v43 : BitVec 32 := Scalar.muli v42 c512_i32
  let v44 : BitVec 32 := v43
  let v57 : Index := Scalar.indexCast v44
  let c0_27 : Index := 0#32
  ![v57.toNat, 0]
def k0_off2 (k0_t1 : Fin k0_t1_loop.trips) (c0_i32_19 : BitVec 32) : Fin 2 → Nat :=
  let c0_i32_6 : BitVec 32 := 0#32
  let c1_i32 : BitVec 32 := 1#32
  let arg8 : BitVec 32 := Scf.iv c0_i32_6 c1_i32 k0_t1
  let c4_i32_18 : BitVec 32 := 4#32
  let v41 : BitVec 32 := Scalar.muli arg8 c4_i32_18
  let v42 : BitVec 32 := Scalar.addi v41 c0_i32_19
  let c512_i32 : BitVec 32 := 512#32
  let v43 : BitVec 32 := Scalar.muli v42 c512_i32
  let v44 : BitVec 32 := v43
  let v61 : Index := Scalar.indexCast v44
  let c128_29 : Index := 128#32
  ![v61.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LatentForwardReferenceIdeal.lean ====
abbrev S8192x1024 : Shape := ⟨2, ![8192, 1024]⟩
abbrev S8192x512 : Shape := ⟨2, ![8192, 512]⟩
abbrev S8192x8x128 : Shape := ⟨3, ![8192, 8, 128]⟩
abbrev S8x8192x128 : Shape := ⟨3, ![8, 8192, 128]⟩
abbrev S8x1x8192x128 : Shape := ⟨4, ![8, 1, 8192, 128]⟩
abbrev S8192x8x64 : Shape := ⟨3, ![8192, 8, 64]⟩
abbrev S8x8192x64 : Shape := ⟨3, ![8, 8192, 64]⟩
abbrev S8x1x8192x8192 : Shape := ⟨4, ![8, 1, 8192, 8192]⟩
abbrev S_ : Shape := ⟨0, ![]⟩
abbrev S8x1x8192 : Shape := ⟨3, ![8, 1, 8192]⟩
abbrev S8x1x8192x1 : Shape := ⟨4, ![8, 1, 8192, 1]⟩
abbrev S8x1x8192x64 : Shape := ⟨4, ![8, 1, 8192, 64]⟩
abbrev S4x2x8192 : Shape := ⟨3, ![4, 2, 8192]⟩
abbrev S4x8192x2 : Shape := ⟨3, ![4, 8192, 2]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x8x128, .f32⟩
  | .hbm, ⟨4, _⟩ => ⟨S8x8192x128, .f32⟩
  | .hbm, ⟨5, _⟩ => ⟨S8x1x8192x128, .f32⟩
  | .hbm, ⟨6, _⟩ => ⟨S8192x8x128, .f32⟩
  | .hbm, ⟨7, _⟩ => ⟨S8x8192x128, .f32⟩
  | .hbm, ⟨8, _⟩ => ⟨S8192x8x64, .f32⟩
  | .hbm, ⟨9, _⟩ => ⟨S8x8192x64, .f32⟩
  | .hbm, ⟨10, _⟩ => ⟨S8x1x8192x8192, .f32⟩
  | .hbm, ⟨11, _⟩ => ⟨S_, .f32⟩
  | .hbm, ⟨12, _⟩ => ⟨S8x1x8192x8192, .f32⟩
  | .hbm, ⟨13, _⟩ => ⟨S8x1x8192x8192, .f32⟩
  | .hbm, ⟨14, _⟩ => ⟨S_, .f32⟩
  | .hbm, ⟨15, _⟩ => ⟨S8x1x8192, .f32⟩
  | .hbm, ⟨16, _⟩ => ⟨S_, .f32⟩
  | .hbm, ⟨17, _⟩ => ⟨S8x1x8192, .f32⟩
  | .hbm, ⟨18, _⟩ => ⟨S8x1x8192, .f32⟩
  | .hbm, ⟨19, _⟩ => ⟨S8x1x8192x1, .f32⟩
  | .hbm, ⟨20, _⟩ => ⟨S8x1x8192x8192, .f32⟩
  | .hbm, ⟨21, _⟩ => ⟨S8x1x8192x8192, .f32⟩
  | .hbm, ⟨22, _⟩ => ⟨S8x1x8192x8192, .f32⟩
  | .hbm, ⟨23, _⟩ => ⟨S_, .f32⟩
  | .hbm, ⟨24, _⟩ => ⟨S8x1x8192, .f32⟩
  | .hbm, ⟨25, _⟩ => ⟨S8x1x8192x1, .f32⟩
  | .hbm, ⟨26, _⟩ => ⟨S8x1x8192x8192, .f32⟩
  | .hbm, ⟨27, _⟩ => ⟨S8x1x8192x8192, .f32⟩
  | .hbm, ⟨28, _⟩ => ⟨S8x1x8192x64, .f32⟩
  | .hbm, ⟨29, _⟩ => ⟨S_, .f32⟩
  | .hbm, ⟨30, _⟩ => ⟨S8x1x8192, .f32⟩
  | .hbm, ⟨31, _⟩ => ⟨S8x1x8192x1, .f32⟩
  | .hbm, ⟨32, _⟩ => ⟨S8x1x8192x8192, .f32⟩
  | .hbm, ⟨33, _⟩ => ⟨S8x1x8192x8192, .f32⟩
  | .hbm, ⟨34, _⟩ => ⟨S8x1x8192x8192, .f32⟩
  | .hbm, ⟨35, _⟩ => ⟨S_, .f32⟩
  | .hbm, ⟨36, _⟩ => ⟨S8x1x8192, .f32⟩
  | .hbm, ⟨37, _⟩ => ⟨S8x1x8192x1, .f32⟩
  | .hbm, ⟨38, _⟩ => ⟨S8x1x8192x1, .f32⟩
  | .hbm, ⟨39, _⟩ => ⟨S8x1x8192x1, .f32⟩
  | .hbm, ⟨40, _⟩ => ⟨S_, .f32⟩
  | .hbm, ⟨41, _⟩ => ⟨S_, .f32⟩
  | .hbm, ⟨42, _⟩ => ⟨S8x1x8192x1, .f32⟩
  | .hbm, ⟨43, _⟩ => ⟨S8x1x8192x1, .f32⟩
  | .hbm, ⟨44, _⟩ => ⟨S8x8192x64, .f32⟩
  | .hbm, ⟨45, _⟩ => ⟨S8192x8x64, .f32⟩
  | .hbm, ⟨46, _⟩ => ⟨S8192x512, .f32⟩
  | .hbm, ⟨47, _⟩ => ⟨S8192x512, .bf16⟩
  | .hbm, ⟨48, _⟩ => ⟨S4x2x8192, .f32⟩
  | .hbm, ⟨49, _⟩ => ⟨S4x8192x2, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Proof.Trip.lean ====
module
public import proofs.«01_k».proof.Proof.Gen.KernelIdeal.Loops
public import Idealize.ShloMosaic.Lib.WritesUnit
/-! One trip of the kernel's loop over blocks of 512 keys, as a function.

A trip takes eight blocks of keys. For each block and each of the two heads it forms the probabilities
`2 ^ (q kᵀ − lse)`, their gradient, and adds three products: into the value gradient, into the key gradient and into
the query gradient. Here these steps are named, once for a block and a head, and the trip's result and its two lists
of stores are shown to be eight such steps. -/
@[expose] public section
set_option maxRecDepth 16384
noncomputable section
namespace Cert.Attn
open Cert.KernelIdeal Cert.KernelIdeal.Gen
open Idealize.ShloMosaic Idealize.ShloMosaic.TcCoe Idealize.ShloMosaic.Tactic
variable {F : FTy → Type} [FloatOps F]

/-- The probabilities of 1024 queries against a block of 512 keys. -/
def probs (q : FVec F S1024x64 .bf16) (l : FVec F S1024x1 .f32) (kj : Vec F S512x64 .bf16) : FVec F S1024x512 .f32 :=
  exp2 (subf (matmul dot_S1024x64_S512x64_S1024x512_1_1_0_0_n_n none q
      (shapeCast S512x64 kj shapeCasts_S512x64_S512x64) (constant S1024x512 .f32 0x00000000#32))
    (broadcastTo S1024x512 l broadcasts_S1024x1_S1024x512))

/-- The probabilities as the products take them. -/
def probsB (q : FVec F S1024x64 .bf16) (l : FVec F S1024x1 .f32) (kj : Vec F S512x64 .bf16) : FVec F S1024x512 .bf16 :=
  truncf .bf16 (probs q l kj) bitsLt_bf16_f32

/-- The gradient of the scores: the probabilities times the widened product of the output's gradient and the values. -/
def dscores (q : FVec F S1024x64 .bf16) (l : FVec F S1024x1 .f32) (d : FVec F S1024x128 .bf16)
    (kj : Vec F S512x64 .bf16) (va : Vec F S512x128 .bf16) : FVec F S1024x512 .bf16 :=
  truncf .bf16 (mulf (probs q l kj)
    (matmul dot_S1024x128_S512x128_S1024x512_1_1_0_0_n_n none d va (constant S1024x512 .f32 0x00000000#32))) bitsLt_bf16_f32

/-- What a step stores into a key or value gradient: what was there plus the product of `a` and `b`. -/
def addTo (a : FVec F S64x1024 .bf16) (b : FVec F S1024x512 .bf16) (old : Vec F S1x1x64x512 .f32) : FVec F S1x1x64x512 .f32 :=
  shapeCast S1x1x64x512 (addf (shapeCast S64x512 old shapeCasts_S1x1x64x512_S64x512)
    (matmul dot_S64x1024_S1024x512_S64x512_1_0_0_1_n_n none a b (constant S64x512 .f32 0x00000000#32))) shapeCasts_S64x512_S1x1x64x512

/-- The query gradient after a step. -/
def addQ (acc : FVec F S1024x64 .f32) (b : FVec F S1024x512 .bf16) (kj : Vec F S512x64 .bf16) : FVec F S1024x64 .f32 :=
  addf acc (matmul dot_S1024x512_S512x64_S1024x64_1_0_0_1_n_n none b (shapeCast S512x64 kj shapeCasts_S512x64_S512x64)
    (constant S1024x64 .f32 0x00000000#32))

/-- The keys of block `8 k + u`, head 0. -/
abbrev key0 (arg3 : Memref sig .tc .vmem S8192x128 .bf16) (X : BufTy.Contents (Elt F) arg3.view.ty)
    (k : Fin k0_t1_loop.trips) (u : Fin 8) : Vec F S512x64 .bf16 :=
  View.readAt (Elt F) arg3.view (Rect.unit (s := S8192x128) (k0_off1 k (BitVec.ofNat 32 u.val)) S512x64.size (k0_off1_inb k u)).toLoadRect X

/-- The keys of block `8 k + u`, head 1. -/
abbrev key1 (arg3 : Memref sig .tc .vmem S8192x128 .bf16) (X : BufTy.Contents (Elt F) arg3.view.ty)
    (k : Fin k0_t1_loop.trips) (u : Fin 8) : Vec F S512x64 .bf16 :=
  View.readAt (Elt F) arg3.view (Rect.unit (s := S8192x128) (k0_off2 k (BitVec.ofNat 32 u.val)) S512x64.size (k0_off2_inb k u)).toLoadRect X

/-- The widened values of block `8 k + u`, head 0. -/
abbrev val0 (arg11 : Memref sig .tc .vmem S8192x256 .bf16) (X : BufTy.Contents (Elt F) arg11.view.ty)
    (k : Fin k0_t1_loop.trips) (u : Fin 8) : Vec F S512x128 .bf16 :=
  View.readAt (Elt F) arg11.view (Rect.unit (s := S8192x256) (k0_off3 k (BitVec.ofNat 32 u.val)) S512x128.size (k0_off3_inb k u)).toLoadRect X

/-- The widened values of block `8 k + u`, head 1. -/
abbrev val1 (arg11 : Memref sig .tc .vmem S8192x256 .bf16) (X : BufTy.Contents (Elt F) arg11.view.ty)
    (k : Fin k0_t1_loop.trips) (u : Fin 8) : Vec F S512x128 .bf16 :=
  View.readAt (Elt F) arg11.view (Rect.unit (s := S8192x256) (k0_off4 k (BitVec.ofNat 32 u.val)) S512x128.size (k0_off4_inb k u)).toLoadRect X

/-- The place of head 0 of block `8 k + u` in a key or value gradient. -/
abbrev rect0 (k : Fin k0_t1_loop.trips) (u : Fin 8) : Rect S1x16x128x512 :=
  Rect.unit (s := S1x16x128x512) (k0_off5 k (BitVec.ofNat 32 u.val)) S1x1x64x512.size (k0_off5_inb k u)

/-- The place of head 1 of block `8 k + u`. -/
abbrev rect1 (k : Fin k0_t1_loop.trips) (u : Fin 8) : Rect S1x16x128x512 :=
  Rect.unit (s := S1x16x128x512) (k0_off6 k (BitVec.ofNat 32 u.val)) S1x1x64x512.size (k0_off6_inb k u)

/-- The two stores of block `8 k + u`: each adds a product to what the trip found there. -/
abbrev stores (M : Memref sig .tc .vmem S1x16x128x512 .f32) (f : BufTy.Contents (Elt F) M.view.ty)
    (k : Fin k0_t1_loop.trips) (a0 a1 : FVec F S64x1024 .bf16) (b0 b1 : FVec F S1024x512 .bf16) (u : Fin 8)
    (L : List (View.Piece (Elt F) S1x16x128x512 .f32)) : List (View.Piece (Elt F) S1x16x128x512 .f32) :=
  ⟨rect1 k u, addTo a1 b1 (View.readAt (Elt F) M.view (rect1 k u).toLoadRect f)⟩ ::
    ⟨rect0 k u, addTo a0 b0 (View.readAt (Elt F) M.view (rect0 k u).toLoadRect f)⟩ :: L

/-- The sixteen stores of a trip, from the first block's to the last's; the last comes first in the list. -/
abbrev eight (st : Fin 8 → List (View.Piece (Elt F) S1x16x128x512 .f32) → List (View.Piece (Elt F) S1x16x128x512 .f32)) :
    List (View.Piece (Elt F) S1x16x128x512 .f32) :=
  st 7 (st 6 (st 5 (st 4 (st 3 (st 2 (st 1 (st 0 [])))))))

/-- The query gradient of a head after the trip's eight blocks. -/
abbrev eightQ (st : Fin 8 → FVec F S1024x64 .f32 → FVec F S1024x64 .f32) (a : FVec F S1024x64 .f32) : FVec F S1024x64 .f32 :=
  st 7 (st 6 (st 5 (st 4 (st 3 (st 2 (st 1 (st 0 a)))))))

section
variable  (𝒱 : Variants) (c : Dev nD) (bd : Option 𝒱.V) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x256x8 .f32) (harg7 : arg7.IsWhole) (arg8 : Memref sig .tc .vmem S256x512 .f32) (harg8 : arg8.IsWhole) (arg9 : Memref sig .tc .vmem S1x16x128x512 .f32) (harg9 : arg9.IsWhole) (arg10 : Memref sig .tc .vmem S1x16x128x512 .f32) (harg10 : arg10.IsWhole) (arg11 : Memref sig .tc .vmem S8192x256 .bf16) (harg11 : arg11.IsWhole) (v51 : FVec F S1024x64 .bf16) (v56 : FVec F S64x1024 .bf16) (v61 : FVec F S64x1024 .bf16) (v78 : FVec F S1024x128 .bf16) (v87 : FVec F S1024x1 .f32) (v122 : FVec F S1024x64 .bf16) (v127 : FVec F S64x1024 .bf16) (v132 : FVec F S64x1024 .bf16) (v149 : FVec F S1024x128 .bf16) (v151 : FVec F S256x1 .f32) (v152 : Vec F S1x256x1 .f32) (v154 : Vec F S1x256x1 .f32) (v156 : Vec F S1x256x1 .f32) (X_arg3 : BufTy.Contents (Elt F) arg3.view.ty) (X_arg11 : BufTy.Contents (Elt F) arg11.view.ty) (k : Fin k0_t1_loop.trips) (acc : FVec F S1024x64 .f32 × FVec F S1024x64 .f32) (f9 : BufTy.Contents (Elt F) arg9.view.ty) (f10 : BufTy.Contents (Elt F) arg10.view.ty)

/-- The trip's stores into the key gradient. -/
theorem trip_dk :
    (trip_k0_t1 (F := F) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 k).2.1 acc f9 f10
      = eight fun u => stores arg9 f9 k v56 v127 (dscores v51 v87 v78 (key0 arg3 X_arg3 k u) (val0 arg11 X_arg11 k u)) (dscores v122 (k0_pay136 v151 v152 v154 v156) v149 (key1 arg3 X_arg3 k u) (val1 arg11 X_arg11 k u)) u := by
  unfold trip_k0_t1
  rfl

/-- The trip's stores into the value gradient. -/
theorem trip_dv :
    (trip_k0_t1 (F := F) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 k).2.2.1 acc f9 f10
      = eight fun u => stores arg10 f10 k v61 v132 (probsB v51 v87 (key0 arg3 X_arg3 k u)) (probsB v122 (k0_pay136 v151 v152 v154 v156) (key1 arg3 X_arg3 k u)) u := by
  unfold trip_k0_t1
  rfl

/-- The query gradients the trip hands on. -/
theorem trip_dq :
    (trip_k0_t1 (F := F) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 k).1 acc f9 f10
      = (eightQ (fun u a => addQ a (dscores v51 v87 v78 (key0 arg3 X_arg3 k u) (val0 arg11 X_arg11 k u)) (key0 arg3 X_arg3 k u)) acc.1,
         eightQ (fun u a => addQ a (dscores v122 (k0_pay136 v151 v152 v154 v156) v149 (key1 arg3 X_arg3 k u) (val1 arg11 X_arg11 k u)) (key1 arg3 X_arg3 k u)) acc.2) := by
  unfold trip_k0_t1
  rfl
end

end Cert.Attn
end
-- ==== Proof.TripValue.lean ====
module
public import proofs.«01_k».proof.Proof.Trip
public import Idealize.ShloMosaic.Lib.Pointwise
public import Idealize.ShloMosaic.Lib.Pipeline.ValueKit.Tiles
/-! One trip's steps, read at an index over the extended reals.

A probability is `2 ^ (Σ q k − lse)`, a score's gradient that probability times `Σ d v`; a step adds to each entry of its
block one sum over the 1024 stacked rows. -/
@[expose] public section
set_option maxRecDepth 16384
noncomputable section
namespace Cert.Attn
open Cert.KernelIdeal Cert.KernelIdeal.Gen
open Idealize.ShloMosaic Idealize.ShloMosaic.TcCoe Idealize.ShloMosaic.Tactic

theorem off1 : ∀ (k : Fin k0_t1_loop.trips) (u : Fin 8),
    k0_off1 k (BitVec.ofNat 32 u.val) = ![512 * (8 * k.val + u.val), 0] := by decide +kernel
theorem off2 : ∀ (k : Fin k0_t1_loop.trips) (u : Fin 8),
    k0_off2 k (BitVec.ofNat 32 u.val) = ![512 * (8 * k.val + u.val), 64] := by decide +kernel
theorem off3 : ∀ (k : Fin k0_t1_loop.trips) (u : Fin 8),
    k0_off3 k (BitVec.ofNat 32 u.val) = ![512 * (8 * k.val + u.val), 0] := by decide +kernel
theorem off4 : ∀ (k : Fin k0_t1_loop.trips) (u : Fin 8),
    k0_off4 k (BitVec.ofNat 32 u.val) = ![512 * (8 * k.val + u.val), 128] := by decide +kernel
theorem off5 : ∀ (k : Fin k0_t1_loop.trips) (u : Fin 8),
    k0_off5 k (BitVec.ofNat 32 u.val) = ![0, 8 * k.val + u.val, 0, 0] := by decide +kernel
theorem off6 : ∀ (k : Fin k0_t1_loop.trips) (u : Fin 8),
    k0_off6 k (BitVec.ofNat 32 u.val) = ![0, 8 * k.val + u.val, 64, 0] := by decide +kernel

theorem trips_two (k : Fin k0_t1_loop.trips) : k.val < 2 := k.isLt

/-- Row `j` of block `b`, as a row of all the keys. -/
abbrev row (b : Fin 16) (j : Fin 512) : Fin 8192 := ⟨512 * b.val + j.val, by omega⟩

/-- The block a trip's step works on. -/
abbrev blk (k : Fin k0_t1_loop.trips) (u : Fin 8) : Fin 16 :=
  ⟨8 * k.val + u.val, by have := trips_two k; omega⟩

theorem key0_at (arg3 : Memref sig .tc .vmem S8192x128 .bf16) (X : BufTy.Contents (Elt Ideal) arg3.view.ty)
    (k : Fin k0_t1_loop.trips) (u : Fin 8) (j : Fin 512) (d : Fin 64) :
    key0 arg3 X k u (ix2 j d) = arg3.view.read (Elt Ideal) X (ix2 (row (blk k u) j) (⟨d.val, by omega⟩ : Fin 128)) := by
  rw [key0, View.readAt_eq_ld, View.ld_apply]
  congr 1
  funext a
  fin_cases a <;> apply Fin.ext <;> simp [off1]

theorem key1_at (arg3 : Memref sig .tc .vmem S8192x128 .bf16) (X : BufTy.Contents (Elt Ideal) arg3.view.ty)
    (k : Fin k0_t1_loop.trips) (u : Fin 8) (j : Fin 512) (d : Fin 64) :
    key1 arg3 X k u (ix2 j d) = arg3.view.read (Elt Ideal) X (ix2 (row (blk k u) j) (⟨64 + d.val, by omega⟩ : Fin 128)) := by
  rw [key1, View.readAt_eq_ld, View.ld_apply]
  congr 1
  funext a
  fin_cases a <;> apply Fin.ext <;> simp [off2]

theorem val0_at (arg11 : Memref sig .tc .vmem S8192x256 .bf16) (X : BufTy.Contents (Elt Ideal) arg11.view.ty)
    (k : Fin k0_t1_loop.trips) (u : Fin 8) (j : Fin 512) (d : Fin 128) :
    val0 arg11 X k u (ix2 j d) = arg11.view.read (Elt Ideal) X (ix2 (row (blk k u) j) (⟨d.val, by omega⟩ : Fin 256)) := by
  rw [val0, View.readAt_eq_ld, View.ld_apply]
  congr 1
  funext a
  fin_cases a <;> apply Fin.ext <;> simp [off3]

theorem val1_at (arg11 : Memref sig .tc .vmem S8192x256 .bf16) (X : BufTy.Contents (Elt Ideal) arg11.view.ty)
    (k : Fin k0_t1_loop.trips) (u : Fin 8) (j : Fin 512) (d : Fin 128) :
    val1 arg11 X k u (ix2 j d) = arg11.view.read (Elt Ideal) X (ix2 (row (blk k u) j) (⟨128 + d.val, by omega⟩ : Fin 256)) := by
  rw [val1, View.readAt_eq_ld, View.ld_apply]
  congr 1
  funext a
  fin_cases a <;> apply Fin.ext <;> simp [off4]

theorem probs_at (q : FVec Ideal S1024x64 .bf16) (l : FVec Ideal S1024x1 .f32) (kj : Vec Ideal S512x64 .bf16)
    (n : Fin 1024) (j : Fin 512) :
    probs q l kj (ix2 n j) = Ideal.exp2 ((∑ d : Fin 64, q (ix2 n d) * kj (ix2 j d)) - l (ix2 n 0)) := by
  pointwise [probs]
  rfl

theorem probsB_at (q : FVec Ideal S1024x64 .bf16) (l : FVec Ideal S1024x1 .f32) (kj : Vec Ideal S512x64 .bf16)
    (n : Fin 1024) (j : Fin 512) : probsB q l kj (ix2 n j) = probs q l kj (ix2 n j) := by
  pointwise [probsB]

theorem dscores_at (q : FVec Ideal S1024x64 .bf16) (l : FVec Ideal S1024x1 .f32) (d : FVec Ideal S1024x128 .bf16)
    (kj : Vec Ideal S512x64 .bf16) (va : Vec Ideal S512x128 .bf16) (n : Fin 1024) (j : Fin 512) :
    dscores q l d kj va (ix2 n j) = probs q l kj (ix2 n j) * ∑ e : Fin 128, d (ix2 n e) * va (ix2 j e) := by
  pointwise [dscores]

theorem addTo_at (a : FVec Ideal S64x1024 .bf16) (b : FVec Ideal S1024x512 .bf16) (old : Vec Ideal S1x1x64x512 .f32)
    (d : Fin 64) (j : Fin 512) :
    addTo a b old (ix4 0 0 d j) = old (ix4 0 0 d j) + ∑ n : Fin 1024, a (ix2 d n) * b (ix2 n j) := by
  pointwise [addTo]

theorem addQ_at (a : FVec Ideal S1024x64 .f32) (b : FVec Ideal S1024x512 .bf16) (kj : Vec Ideal S512x64 .bf16)
    (n : Fin 1024) (d : Fin 64) :
    addQ a b kj (ix2 n d) = a (ix2 n d) + ∑ j : Fin 512, b (ix2 n j) * kj (ix2 j d) := by
  pointwise [addQ]

/-- The column inside its head. -/
abbrev lo (c : Fin 128) : Fin 64 := ⟨c.val % 64, by omega⟩

/-- What one step adds in column `c` (head 0 below 64, head 1 from 64 on). -/
def added (a0 a1 : FVec Ideal S64x1024 .bf16) (b0 b1 : FVec Ideal S1024x512 .bf16) (c : Fin 128) (j : Fin 512) : EReal :=
  if c.val < 64 then ∑ n : Fin 1024, a0 (ix2 (lo c) n) * b0 (ix2 n j) else ∑ n : Fin 1024, a1 (ix2 (lo c) n) * b1 (ix2 n j)

theorem read_rect0 (M : Memref sig .tc .vmem S1x16x128x512 .f32) (f : BufTy.Contents (Elt Ideal) M.view.ty)
    (k : Fin k0_t1_loop.trips) (u : Fin 8) (d : Fin 64) (j : Fin 512) :
    View.readAt (Elt Ideal) M.view (rect0 k u).toLoadRect f (ix4 0 0 d j)
      = M.view.read (Elt Ideal) f (ix4 0 (blk k u) (⟨d.val, by omega⟩ : Fin 128) j) := by
  rw [View.readAt_eq_ld, View.ld_apply]
  congr 1
  funext a
  fin_cases a <;> apply Fin.ext <;> simp [off5]

theorem read_rect1 (M : Memref sig .tc .vmem S1x16x128x512 .f32) (f : BufTy.Contents (Elt Ideal) M.view.ty)
    (k : Fin k0_t1_loop.trips) (u : Fin 8) (d : Fin 64) (j : Fin 512) :
    View.readAt (Elt Ideal) M.view (rect1 k u).toLoadRect f (ix4 0 0 d j)
      = M.view.read (Elt Ideal) f (ix4 0 (blk k u) (⟨64 + d.val, by omega⟩ : Fin 128) j) := by
  rw [View.readAt_eq_ld, View.ld_apply]
  congr 1
  funext a
  fin_cases a <;> apply Fin.ext <;> simp [off6]

/-- A step's two stores, read back: its own block holds what was there plus the product, every other block is untouched. -/
theorem read_stores (M : Memref sig .tc .vmem S1x16x128x512 .f32) (f g : BufTy.Contents (Elt Ideal) M.view.ty)
    (k : Fin k0_t1_loop.trips) (a0 a1 : FVec Ideal S64x1024 .bf16) (b0 b1 : FVec Ideal S1024x512 .bf16) (u : Fin 8)
    (L : List (View.Piece (Elt Ideal) S1x16x128x512 .f32)) (b : Fin 16) (c : Fin 128) (j : Fin 512) :
    M.view.read (Elt Ideal) (M.view.writes (Elt Ideal) g (stores M f k a0 a1 b0 b1 u L)) (ix4 0 b c j)
      = if b = blk k u then M.view.read (Elt Ideal) f (ix4 0 b c j) + added a0 a1 b0 b1 c j
        else M.view.read (Elt Ideal) (M.view.writes (Elt Ideal) g L) (ix4 0 b c j) := by
  by_cases hb : b = blk k u
  · subst hb
    rw [if_pos rfl, added]
    by_cases hc : c.val < 64
    · rw [if_pos hc, View.read_writes_cons_unit_of_not_mem M.view g _ _ _ _ (off6 k u) 2 (Or.inl hc),
        View.read_writes_cons_unit_of_mem (size := S1x1x64x512.size) M.view g (k0_off5_inb k u) _ _ _
          (show S1x1x64x512.Idx from ix4 0 0 (lo c) j) (off5 k u), addTo_at, read_rect0]
      · congr 3
        apply Fin.ext
        show c.val % 64 = c.val
        omega
      · intro a
        fin_cases a <;> simp
        omega
    · rw [if_neg hc, View.read_writes_cons_unit_of_mem (size := S1x1x64x512.size) M.view g (k0_off6_inb k u) _ _ _
          (show S1x1x64x512.Idx from ix4 0 0 (lo c) j) (off6 k u), addTo_at, read_rect1]
      · congr 3
        apply Fin.ext
        show 64 + c.val % 64 = c.val
        omega
      · intro a
        fin_cases a <;> simp
        omega
  · have hb' : b.val < 8 * k.val + u.val ∨ 8 * k.val + u.val + 1 ≤ b.val := by
      have : b.val ≠ 8 * k.val + u.val := fun h => hb (Fin.ext h)
      omega
    rw [if_neg hb, View.read_writes_cons_unit_of_not_mem M.view g _ _ _ _ (off6 k u) 1 hb',
      View.read_writes_cons_unit_of_not_mem M.view g _ _ _ _ (off5 k u) 1 hb']

/-- A trip's sixteen stores, read back. -/
theorem read_eight (M : Memref sig .tc .vmem S1x16x128x512 .f32) (f g : BufTy.Contents (Elt Ideal) M.view.ty)
    (k : Fin k0_t1_loop.trips) (a0 a1 : FVec Ideal S64x1024 .bf16) (b0 b1 : Fin 8 → FVec Ideal S1024x512 .bf16)
    (b : Fin 16) (c : Fin 128) (j : Fin 512) :
    M.view.read (Elt Ideal) (M.view.writes (Elt Ideal) g (eight fun u => stores M f k a0 a1 (b0 u) (b1 u) u)) (ix4 0 b c j)
      = if b.val / 8 = k.val then M.view.read (Elt Ideal) f (ix4 0 b c j)
            + added a0 a1 (b0 ⟨b.val % 8, by omega⟩) (b1 ⟨b.val % 8, by omega⟩) c j
        else M.view.read (Elt Ideal) g (ix4 0 b c j) := by
  have hne : ∀ u : Fin 8, b.val / 8 ≠ k.val → b ≠ blk k u := fun u h e => h (by
    have : b.val = 8 * k.val + u.val := congrArg Fin.val e
    omega)
  by_cases hk : b.val / 8 = k.val
  · rw [if_pos hk]
    obtain ⟨u, hu⟩ : ∃ u : Fin 8, b.val % 8 = u.val := ⟨⟨b.val % 8, by omega⟩, rfl⟩
    have hb : b = blk k u := Fin.ext (by show b.val = 8 * k.val + u.val; omega)
    have hu' : (⟨b.val % 8, by omega⟩ : Fin 8) = u := Fin.ext hu
    have hiff : ∀ w : Fin 8, b = blk k w ↔ u = w := fun w => by
      rw [hb]
      constructor
      · intro h
        have : 8 * k.val + u.val = 8 * k.val + w.val := congrArg Fin.val h
        exact Fin.ext (by omega)
      · intro h; rw [h]
    rw [hu']
    simp only [read_stores, hiff]
    clear hiff hu' hb hu
    fin_cases u <;> simp
  · rw [if_neg hk]
    simp only [eight, read_stores, if_neg (hne _ hk), View.writes_nil]

end Cert.Attn
end
-- ==== Proof.LoopValue.lean ====
module
public import proofs.«01_k».proof.Proof.TripValue
/-! The loop's two trips together, over the extended reals.

The loop adds to each entry of the key and value gradients one sum over the 1024 stacked rows, and to each entry of the
query gradients one sum over all 8192 keys. -/
@[expose] public section
set_option maxRecDepth 16384
noncomputable section
namespace Cert.Attn
open Cert.KernelIdeal Cert.KernelIdeal.Gen
open Idealize.ShloMosaic Idealize.ShloMosaic.TcCoe Idealize.ShloMosaic.Tactic

/-- A probability: two to the power of a row's product with a key, less the row's logarithm. -/
def pr (q : FVec Ideal S1024x64 .bf16) (l : FVec Ideal S1024x1 .f32) (K : Fin 8192 → Fin 64 → EReal) (n : Fin 1024)
    (j : Fin 8192) : EReal :=
  Ideal.exp2 ((∑ d : Fin 64, q (ix2 n d) * K j d) - l (ix2 n 0))

/-- The gradient of a score. -/
def dsc (q : FVec Ideal S1024x64 .bf16) (l : FVec Ideal S1024x1 .f32) (d : FVec Ideal S1024x128 .bf16)
    (K : Fin 8192 → Fin 64 → EReal) (VA : Fin 8192 → Fin 128 → EReal) (n : Fin 1024) (j : Fin 8192) : EReal :=
  pr q l K n j * ∑ e : Fin 128, d (ix2 n e) * VA j e

/-- Head 0's keys of a block of two heads. -/
abbrev kh0 (X : Vec Ideal S8192x128 .bf16) (j : Fin 8192) (d : Fin 64) : EReal := X (ix2 j (⟨d.val, by omega⟩ : Fin 128))
/-- Head 1's keys. -/
abbrev kh1 (X : Vec Ideal S8192x128 .bf16) (j : Fin 8192) (d : Fin 64) : EReal := X (ix2 j (⟨64 + d.val, by omega⟩ : Fin 128))
/-- Head 0's widened values. -/
abbrev vh0 (X : Vec Ideal S8192x256 .bf16) (j : Fin 8192) (e : Fin 128) : EReal := X (ix2 j (⟨e.val, by omega⟩ : Fin 256))
/-- Head 1's widened values. -/
abbrev vh1 (X : Vec Ideal S8192x256 .bf16) (j : Fin 8192) (e : Fin 128) : EReal := X (ix2 j (⟨128 + e.val, by omega⟩ : Fin 256))

theorem probs_key0 (q : FVec Ideal S1024x64 .bf16) (l : FVec Ideal S1024x1 .f32)
    (arg3 : Memref sig .tc .vmem S8192x128 .bf16) (X : BufTy.Contents (Elt Ideal) arg3.view.ty)
    (k : Fin k0_t1_loop.trips) (u : Fin 8) (n : Fin 1024) (j : Fin 512) :
    probs q l (key0 arg3 X k u) (ix2 n j) = pr q l (kh0 (arg3.view.read (Elt Ideal) X)) n (row (blk k u) j) := by
  simp only [probs_at, key0_at, pr]

theorem probs_key1 (q : FVec Ideal S1024x64 .bf16) (l : FVec Ideal S1024x1 .f32)
    (arg3 : Memref sig .tc .vmem S8192x128 .bf16) (X : BufTy.Contents (Elt Ideal) arg3.view.ty)
    (k : Fin k0_t1_loop.trips) (u : Fin 8) (n : Fin 1024) (j : Fin 512) :
    probs q l (key1 arg3 X k u) (ix2 n j) = pr q l (kh1 (arg3.view.read (Elt Ideal) X)) n (row (blk k u) j) := by
  simp only [probs_at, key1_at, pr]

theorem dscores_key0 (q : FVec Ideal S1024x64 .bf16) (l : FVec Ideal S1024x1 .f32) (d : FVec Ideal S1024x128 .bf16)
    (arg3 : Memref sig .tc .vmem S8192x128 .bf16) (X : BufTy.Contents (Elt Ideal) arg3.view.ty)
    (arg11 : Memref sig .tc .vmem S8192x256 .bf16) (Y : BufTy.Contents (Elt Ideal) arg11.view.ty)
    (k : Fin k0_t1_loop.trips) (u : Fin 8) (n : Fin 1024) (j : Fin 512) :
    dscores q l d (key0 arg3 X k u) (val0 arg11 Y k u) (ix2 n j)
      = dsc q l d (kh0 (arg3.view.read (Elt Ideal) X)) (vh0 (arg11.view.read (Elt Ideal) Y)) n (row (blk k u) j) := by
  simp only [dscores_at, probs_key0, val0_at, dsc]

theorem dscores_key1 (q : FVec Ideal S1024x64 .bf16) (l : FVec Ideal S1024x1 .f32) (d : FVec Ideal S1024x128 .bf16)
    (arg3 : Memref sig .tc .vmem S8192x128 .bf16) (X : BufTy.Contents (Elt Ideal) arg3.view.ty)
    (arg11 : Memref sig .tc .vmem S8192x256 .bf16) (Y : BufTy.Contents (Elt Ideal) arg11.view.ty)
    (k : Fin k0_t1_loop.trips) (u : Fin 8) (n : Fin 1024) (j : Fin 512) :
    dscores q l d (key1 arg3 X k u) (val1 arg11 Y k u) (ix2 n j)
      = dsc q l d (kh1 (arg3.view.read (Elt Ideal) X)) (vh1 (arg11.view.read (Elt Ideal) Y)) n (row (blk k u) j) := by
  simp only [dscores_at, probs_key1, val1_at, dsc]

/-- The block a row of the key gradient belongs to, as a trip and a step. -/
abbrev tripOf (b : Fin 16) : Fin k0_t1_loop.trips := ⟨b.val / 8, show b.val / 8 < 2 by omega⟩
/-- The step of a block inside its trip. -/
abbrev stepOf (b : Fin 16) : Fin 8 := ⟨b.val % 8, by omega⟩

theorem blk_of (b : Fin 16) : blk (tripOf b) (stepOf b) = b :=
  Fin.ext (by show 8 * (b.val / 8) + b.val % 8 = b.val; omega)

/-- Two trips' stores, read back: every block gets its product exactly once. -/
theorem read_two (M : Memref sig .tc .vmem S1x16x128x512 .f32) (g : BufTy.Contents (Elt Ideal) M.view.ty)
    (a0 a1 : FVec Ideal S64x1024 .bf16) (b0 b1 : Fin k0_t1_loop.trips → Fin 8 → FVec Ideal S1024x512 .bf16)
    (k0 k1 : Fin k0_t1_loop.trips) (h0 : k0.val = 0) (h1 : k1.val = 1) (L0 : List (View.Piece (Elt Ideal) S1x16x128x512 .f32))
    (hL0 : L0 = eight fun u => stores M g k0 a0 a1 (b0 k0 u) (b1 k0 u) u)
    (b : Fin 16) (c : Fin 128) (j : Fin 512) :
    M.view.read (Elt Ideal) (M.view.writes (Elt Ideal) (M.view.writes (Elt Ideal) g L0)
        (eight fun u => stores M (M.view.writes (Elt Ideal) g L0) k1 a0 a1 (b0 k1 u) (b1 k1 u) u)) (ix4 0 b c j)
      = M.view.read (Elt Ideal) g (ix4 0 b c j) + added a0 a1 (b0 (tripOf b) (stepOf b)) (b1 (tripOf b) (stepOf b)) c j := by
  rw [read_eight, hL0, read_eight, h0, h1]
  by_cases hb : b.val / 8 = 1
  · have : k1 = tripOf b := Fin.ext (by rw [h1]; exact hb.symm)
    rw [if_pos hb, if_neg (by omega), this]
  · have hb0 : b.val / 8 = 0 := by omega
    have : k0 = tripOf b := Fin.ext (by rw [h0]; exact hb0.symm)
    rw [if_neg hb, if_pos hb0, this]

/-- A sum over all keys, block by block. -/
theorem sum_rows (f : Fin 8192 → EReal) : ∑ j, f j = ∑ b : Fin 16, ∑ j : Fin 512, f (row b j) := by
  rw [← Fintype.sum_prod_type', ← (finProdFinEquiv (m := 16) (n := 512)).sum_comp]
  refine Fintype.sum_congr _ _ fun x => ?_
  congr 1
  apply Fin.ext
  show x.2.val + 512 * x.1.val = 512 * x.1.val + x.2.val
  omega

/-- A trip's eight additions to a query gradient, in one sum. -/
theorem eightQ_at (B : Fin 8 → FVec Ideal S1024x512 .bf16) (K : Fin 8 → Vec Ideal S512x64 .bf16)
    (a : FVec Ideal S1024x64 .f32) (n : Fin 1024) (d : Fin 64) :
    eightQ (fun u a => addQ a (B u) (K u)) a (ix2 n d)
      = a (ix2 n d) + ∑ u : Fin 8, ∑ j : Fin 512, B u (ix2 n j) * K u (ix2 j d) := by
  simp only [eightQ, addQ_at]
  rw [Fin.sum_univ_eight]
  simp only [add_assoc]

/-- A sum over all keys, trip by trip. -/
theorem sum_trips (f : Fin 8192 → EReal) (k0 k1 : Fin k0_t1_loop.trips) (h0 : k0.val = 0) (h1 : k1.val = 1) :
    ∑ j, f j = (∑ u : Fin 8, ∑ j : Fin 512, f (row (blk k0 u) j)) + ∑ u : Fin 8, ∑ j : Fin 512, f (row (blk k1 u) j) := by
  rw [sum_rows, show (∑ b : Fin 16, ∑ j : Fin 512, f (row b j)) = _ from
    Fin.sum_univ_add (a := 8) (b := 8) (fun b : Fin 16 => ∑ j : Fin 512, f (row b j))]
  congr 1 <;> refine Fintype.sum_congr _ _ fun u => Fintype.sum_congr _ _ fun j => congrArg f (Fin.ext ?_)
  · show 512 * u.val + j.val = 512 * (8 * k0.val + u.val) + j.val
    rw [h0]; omega
  · show 512 * (8 + u.val) + j.val = 512 * (8 * k1.val + u.val) + j.val
    rw [h1]

section
variable (𝒱 : Variants) (c : Dev nD) (bd : Option 𝒱.V) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x256x8 .f32) (harg7 : arg7.IsWhole) (arg8 : Memref sig .tc .vmem S256x512 .f32) (harg8 : arg8.IsWhole) (arg9 : Memref sig .tc .vmem S1x16x128x512 .f32) (harg9 : arg9.IsWhole) (arg10 : Memref sig .tc .vmem S1x16x128x512 .f32) (harg10 : arg10.IsWhole) (arg11 : Memref sig .tc .vmem S8192x256 .bf16) (harg11 : arg11.IsWhole) (v51 : FVec Ideal S1024x64 .bf16) (v56 : FVec Ideal S64x1024 .bf16) (v61 : FVec Ideal S64x1024 .bf16) (v78 : FVec Ideal S1024x128 .bf16) (v87 : FVec Ideal S1024x1 .f32) (v122 : FVec Ideal S1024x64 .bf16) (v127 : FVec Ideal S64x1024 .bf16) (v132 : FVec Ideal S64x1024 .bf16) (v149 : FVec Ideal S1024x128 .bf16) (v151 : FVec Ideal S256x1 .f32) (v152 : Vec Ideal S1x256x1 .f32) (v154 : Vec Ideal S1x256x1 .f32) (v156 : Vec Ideal S1x256x1 .f32) (X_arg3 : BufTy.Contents (Elt Ideal) arg3.view.ty) (X_arg11 : BufTy.Contents (Elt Ideal) arg11.view.ty)
  (G9 : BufTy.Contents (Elt Ideal) arg9.view.ty) (G10 : BufTy.Contents (Elt Ideal) arg10.view.ty)
  (init : FVec Ideal S1024x64 .f32 × FVec Ideal S1024x64 .f32)

/-- The key gradient after the loop. -/
theorem loop_dk (b : Fin 16) (x : Fin 128) (j : Fin 512) :
    arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 2).2.1) (ix4 0 b x j)
      = arg9.view.read (Elt Ideal) G9 (ix4 0 b x j)
        + if x.val < 64 then ∑ n : Fin 1024, v56 (ix2 (lo x) n)
              * dsc v51 v87 v78 (kh0 (arg3.view.read (Elt Ideal) X_arg3)) (vh0 (arg11.view.read (Elt Ideal) X_arg11)) n (row b j)
          else ∑ n : Fin 1024, v127 (ix2 (lo x) n)
              * dsc v122 (k0_pay136 v151 v152 v154 v156) v149 (kh1 (arg3.view.read (Elt Ideal) X_arg3)) (vh1 (arg11.view.read (Elt Ideal) X_arg11)) n (row b j) := by
  have e1 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 0) = (init, [], []) := by rw [st_k0_t1]
  simp only [Nat.zero_add, Nat.reduceAdd] at e1 e0
  rw [ez] at e0
  rw [e1]
  simp only [View.writes_append, tripL_k0_t1, trip_dk]
  rw [e0]
  simp only [View.writes_append, tripL_k0_t1, trip_dk, View.writes_nil, List.append_nil]
  refine (read_two arg9 G9 v56 v127 (fun k u => (dscores v51 v87 v78 (key0 arg3 X_arg3 k u) (val0 arg11 X_arg11 k u))) (fun k u => (dscores v122 (k0_pay136 v151 v152 v154 v156) v149 (key1 arg3 X_arg3 k u) (val1 arg11 X_arg11 k u))) ⟨0, _⟩ ⟨1, _⟩ rfl rfl _ rfl b x j).trans ?_
  simp only [added, dscores_key0, dscores_key1, blk_of]

/-- The value gradient after the loop. -/
theorem loop_dv (b : Fin 16) (x : Fin 128) (j : Fin 512) :
    arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 2).2.2) (ix4 0 b x j)
      = arg10.view.read (Elt Ideal) G10 (ix4 0 b x j)
        + if x.val < 64 then ∑ n : Fin 1024, v61 (ix2 (lo x) n)
              * pr v51 v87 (kh0 (arg3.view.read (Elt Ideal) X_arg3)) n (row b j)
          else ∑ n : Fin 1024, v132 (ix2 (lo x) n)
              * pr v122 (k0_pay136 v151 v152 v154 v156) (kh1 (arg3.view.read (Elt Ideal) X_arg3)) n (row b j) := by
  have e1 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 0) = (init, [], []) := by rw [st_k0_t1]
  simp only [Nat.zero_add, Nat.reduceAdd] at e1 e0
  rw [ez] at e0
  rw [e1]
  simp only [View.writes_append, tripL_k0_t1, trip_dv]
  rw [e0]
  simp only [View.writes_append, tripL_k0_t1, trip_dv, View.writes_nil, List.append_nil]
  refine (read_two arg10 G10 v61 v132 (fun k u => (probsB v51 v87 (key0 arg3 X_arg3 k u))) (fun k u => (probsB v122 (k0_pay136 v151 v152 v154 v156) (key1 arg3 X_arg3 k u))) ⟨0, _⟩ ⟨1, _⟩ rfl rfl _ rfl b x j).trans ?_
  simp only [added, probsB_at, probs_key0, probs_key1, blk_of]

/-- The query gradient of head set 0 after the loop. -/
theorem loop_dq0 (n : Fin 1024) (d : Fin 64) :
    (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 2).1.1 (ix2 n d) = init.1 (ix2 n d)
      + ∑ j : Fin 8192, dsc v51 v87 v78 (kh0 (arg3.view.read (Elt Ideal) X_arg3)) (vh0 (arg11.view.read (Elt Ideal) X_arg11)) n j
          * kh0 (arg3.view.read (Elt Ideal) X_arg3) j d := by
  have e1 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 0) = (init, [], []) := by rw [st_k0_t1]
  simp only [Nat.zero_add, Nat.reduceAdd] at e1 e0
  rw [ez] at e0
  rw [e1]
  simp only [tripR_k0_t1, trip_dq]
  rw [e0]
  simp only [tripR_k0_t1, trip_dq]
  refine (eightQ_at _ _ _ n d).trans ((congrArg (· + _) (eightQ_at _ _ _ n d)).trans ?_)
  rw [add_assoc, sum_trips _ (⟨0, show 0 < 2 by omega⟩ : Fin k0_t1_loop.trips) ⟨1, show 1 < 2 by omega⟩ rfl rfl]
  simp only [dscores_key0, key0_at]

/-- The query gradient of head set 1 after the loop. -/
theorem loop_dq1 (n : Fin 1024) (d : Fin 64) :
    (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 2).1.2 (ix2 n d) = init.2 (ix2 n d)
      + ∑ j : Fin 8192, dsc v122 (k0_pay136 v151 v152 v154 v156) v149 (kh1 (arg3.view.read (Elt Ideal) X_arg3)) (vh1 (arg11.view.read (Elt Ideal) X_arg11)) n j
          * kh1 (arg3.view.read (Elt Ideal) X_arg3) j d := by
  have e1 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v51 v56 v61 v78 v87 v122 v127 v132 v149 v151 v152 v154 v156 X_arg3 X_arg11 G9 G10 init 0) = (init, [], []) := by rw [st_k0_t1]
  simp only [Nat.zero_add, Nat.reduceAdd] at e1 e0
  rw [ez] at e0
  rw [e1]
  simp only [tripR_k0_t1, trip_dq]
  rw [e0]
  simp only [tripR_k0_t1, trip_dq]
  refine (eightQ_at _ _ _ n d).trans ((congrArg (· + _) (eightQ_at _ _ _ n d)).trans ?_)
  rw [add_assoc, sum_trips _ (⟨0, show 0 < 2 by omega⟩ : Fin k0_t1_loop.trips) ⟨1, show 1 < 2 by omega⟩ rfl rfl]
  simp only [dscores_key1, key1_at]
end

end Cert.Attn
end
-- ==== Proof.PointVectors.lean ====
module
public import proofs.«01_k».proof.Proof.LoopValue
public import proofs.«01_k».proof.Proof.Gen.KernelIdeal.Frame.RunA
public import proofs.«01_k».proof.Proof.Gen.KernelIdeal.Frame.RunB
/-! The vectors a grid point prepares before its loop, read at an index.

A block holds 256 rows of eight heads. The kernel stacks the rows of four heads under one another, so that stacked row
`n` is row `n mod 256` of head `n / 256` of its set of four. The output's gradient is widened by two columns with minus
the row's `Σ do · o`, in a leading and a remaining part. -/
@[expose] public section
set_option maxRecDepth 16384
noncomputable section
namespace Cert.Attn
open Cert.KernelIdeal Cert.KernelIdeal.Gen
open Idealize.ShloMosaic Idealize.ShloMosaic.TcCoe Idealize.ShloMosaic.Tactic

/-- The row of the block that stacked row `n` comes from. -/
abbrev ri (n : Fin 1024) : Fin 256 := ⟨n.val % 256, by omega⟩
/-- The head, among a block's eight, that stacked row `n` of a head set belongs to. -/
abbrev hd (hh : Fin 2) (n : Fin 1024) : Fin 8 := ⟨4 * hh.val + n.val / 256, by omega⟩
/-- Column `d` of head `h`. -/
abbrev col (h : Fin 8) (d : Fin 64) : Fin 512 := ⟨64 * h.val + d.val, by omega⟩

/-- A row's `Σ do · o`. -/
def rowDot (p o : Vec Ideal S256x512 .bf16) (hh : Fin 2) (n : Fin 1024) : EReal :=
  ∑ d : Fin 64, p (ix2 (ri n) (col (hd hh n) d)) * o (ix2 (ri n) (col (hd hh n) d))

/-- The widened gradient of the output. -/
def widened (p o : Vec Ideal S256x512 .bf16) (hh : Fin 2) (n : Fin 1024) (e : Fin 128) : EReal :=
  if h : e.val < 64 then p (ix2 (ri n) (col (hd hh n) ⟨e.val, h⟩))
  else if e.val = 64 then 0 - rowDot p o hh n
  else if e.val = 65 then 0 - (rowDot p o hh n - rowDot p o hh n)
  else 0

/-- Four heads of head set 0 under one another. -/
theorem four0 (x : Vec Ideal S256x512 .bf16) (n : Fin 1024) (d : Fin 64) :
    (if h : n.val < 256 then x (ix2 (⟨n.val, h⟩ : Fin 256) (⟨d.val, by omega⟩ : Fin 512))
      else if h : n.val - 256 < 256 then x (ix2 (⟨n.val - 256, h⟩ : Fin 256) (⟨64 + d.val, by omega⟩ : Fin 512))
        else if h : n.val - 256 - 256 < 256 then x (ix2 (⟨n.val - 256 - 256, h⟩ : Fin 256) (⟨128 + d.val, by omega⟩ : Fin 512))
          else x (ix2 (⟨n.val - 256 - 256 - 256, by omega⟩ : Fin 256) (⟨192 + d.val, by omega⟩ : Fin 512)))
      = x (ix2 (ri n) (col (hd 0 n) d)) := by
  split_ifs <;> congr 2 <;> apply Fin.ext <;> simp <;> omega

/-- Four heads of head set 1 under one another. -/
theorem four1 (x : Vec Ideal S256x512 .bf16) (n : Fin 1024) (d : Fin 64) :
    (if h : n.val < 256 then x (ix2 (⟨n.val, h⟩ : Fin 256) (⟨256 + d.val, by omega⟩ : Fin 512))
      else if h : n.val - 256 < 256 then x (ix2 (⟨n.val - 256, h⟩ : Fin 256) (⟨320 + d.val, by omega⟩ : Fin 512))
        else if h : n.val - 256 - 256 < 256 then x (ix2 (⟨n.val - 256 - 256, h⟩ : Fin 256) (⟨384 + d.val, by omega⟩ : Fin 512))
          else x (ix2 (⟨n.val - 256 - 256 - 256, by omega⟩ : Fin 256) (⟨448 + d.val, by omega⟩ : Fin 512)))
      = x (ix2 (ri n) (col (hd 1 n) d)) := by
  split_ifs <;> congr 2 <;> apply Fin.ext <;> simp <;> omega

/-- The choice between the two extra columns and zero. -/
theorem pick_lane (a b z : EReal) : ∀ e : Fin 64,
    Scalar.select (IntOp.cmpi CmpIPredicate.eq (BitVec.ofNat 32 e.val) 0#32) a
        (Scalar.select (IntOp.cmpi CmpIPredicate.eq (BitVec.ofNat 32 e.val) 1#32) b z)
      = if e.val = 0 then a else if e.val = 1 then b else z := by
  intro e
  fin_cases e <;> rfl

/-- The extra columns, counted from 64. -/
theorem shift_lane (e : Fin 128) (h : ¬ e.val < 64) (a b : EReal) :
    (if e.val - 64 = 0 then a else if e.val - 64 = 1 then b else 0) = if e.val = 64 then a else if e.val = 65 then b else 0 := by
  split_ifs <;> first | rfl | (exfalso; omega)

section
variable (c : Dev nD) (arg2 : Memref sig .tc .vmem S256x512 .bf16) (harg2 : arg2.IsWhole)
  (arg4 : Memref sig .tc .vmem S8192x128 .bf16) (harg4 : arg4.IsWhole)
  (arg5 : Memref sig .tc .vmem S256x512 .bf16) (harg5 : arg5.IsWhole)
  (arg6 : Memref sig .tc .vmem S256x512 .bf16) (harg6 : arg6.IsWhole) (arg7 : Memref sig .tc .vmem S1x256x8 .f32) (harg7 : arg7.IsWhole)
  (x0 x3 x4 : Vec Ideal S256x512 .bf16) (x5 : Vec Ideal S1x256x8 .f32)

/-- The stacked queries of head set 0. -/
theorem queries0 (n : Fin 1024) (d : Fin 64) :
    kernelRun0_A.sl.r_7 c arg2 harg2 x0 (ix2 n d) = x0 (ix2 (ri n) (col (hd 0 n) d)) := by
  unfold kernelRun0_A.sl.r_7
  unfold_payloads
  simp only [View.readAt_eq_ld, harg2.read_unread]
  pointwise []
  try simp only [harg2.read_unread]
  split_ifs <;> congr 2 <;> apply Fin.ext <;> simp <;> omega

/-- The stacked queries of head set 1. -/
theorem queries1 (n : Fin 1024) (d : Fin 64) :
    kernelRun0_A.sl.r_15 c arg2 harg2 x0 (ix2 n d) = x0 (ix2 (ri n) (col (hd 1 n) d)) := by
  unfold kernelRun0_A.sl.r_15
  unfold_payloads
  simp only [View.readAt_eq_ld, harg2.read_unread]
  pointwise []
  try simp only [harg2.read_unread]
  split_ifs <;> congr 2 <;> apply Fin.ext <;> simp <;> omega

/-- The stacked queries of head set 0, transposed. -/
theorem queriesT0 (n : Fin 1024) (d : Fin 64) :
    kernelRun0_A.sl.r_8 c arg2 harg2 x0 (ix2 d n) = x0 (ix2 (ri n) (col (hd 0 n) d)) := by
  unfold kernelRun0_A.sl.r_8 kernelRun0_A.sl.r
  unfold_payloads
  simp only [View.readAt_eq_ld, harg2.read_unread]
  pointwise []
  try simp only [harg2.read_unread]
  split_ifs <;> congr 2 <;> apply Fin.ext <;> simp <;> omega

/-- The stacked queries of head set 1, transposed. -/
theorem queriesT1 (n : Fin 1024) (d : Fin 64) :
    kernelRun0_A.sl.r_16 c arg2 harg2 x0 (ix2 d n) = x0 (ix2 (ri n) (col (hd 1 n) d)) := by
  unfold kernelRun0_A.sl.r_16 kernelRun0_A.sl.r
  unfold_payloads
  simp only [View.readAt_eq_ld, harg2.read_unread]
  pointwise []
  try simp only [harg2.read_unread]
  split_ifs <;> congr 2 <;> apply Fin.ext <;> simp <;> omega

/-- The output's gradient of head set 0, stacked and transposed. -/
theorem outsT0 (n : Fin 1024) (d : Fin 64) :
    kernelRun0_A.sl.r_9 c arg6 harg6 x4 (ix2 d n) = x4 (ix2 (ri n) (col (hd 0 n) d)) := by
  unfold kernelRun0_A.sl.r_9 kernelRun0_A.sl.r_1
  unfold_payloads
  simp only [View.readAt_eq_ld, harg6.read_unread]
  pointwise []
  try simp only [harg6.read_unread]
  split_ifs <;> congr 2 <;> apply Fin.ext <;> simp <;> omega

/-- The output's gradient of head set 1, stacked and transposed. -/
theorem outsT1 (n : Fin 1024) (d : Fin 64) :
    kernelRun0_A.sl.r_17 c arg6 harg6 x4 (ix2 d n) = x4 (ix2 (ri n) (col (hd 1 n) d)) := by
  unfold kernelRun0_A.sl.r_17 kernelRun0_A.sl.r_1
  unfold_payloads
  simp only [View.readAt_eq_ld, harg6.read_unread]
  pointwise []
  try simp only [harg6.read_unread]
  split_ifs <;> congr 2 <;> apply Fin.ext <;> simp <;> omega

/-- The logarithms of head set 0, stacked. -/
theorem logs0 (n : Fin 1024) : kernelRun0_A.sl.r_12 c arg7 harg7 x5 (ix2 n 0) = x5 (ix3 0 (ri n) (hd 0 n)) := by
  unfold kernelRun0_A.sl.r_12
  unfold_payloads
  simp only [View.readAt_eq_ld, harg7.read_unread]
  pointwise []
  split_ifs <;> congr 2 <;> apply Fin.ext <;> simp <;> omega

/-- The logarithms of head set 1, stacked. -/
theorem logs1 (n : Fin 1024) :
    k0_pay136 (kernelRun0_A.sl.r_19 c arg7 harg7 x5)
        (View.readAt (Elt Ideal) arg7.view (Rect.unit (s := S1x256x8) ![0, 0, 5] S1x256x1.size inb_S1x256x8_S1x256x1_0_0_5).toLoadRect (harg7.unread x5))
        (View.readAt (Elt Ideal) arg7.view (Rect.unit (s := S1x256x8) ![0, 0, 6] S1x256x1.size inb_S1x256x8_S1x256x1_0_0_6).toLoadRect (harg7.unread x5))
        (View.readAt (Elt Ideal) arg7.view (Rect.unit (s := S1x256x8) ![0, 0, 7] S1x256x1.size inb_S1x256x8_S1x256x1_0_0_7).toLoadRect (harg7.unread x5))
        (ix2 n 0)
      = x5 (ix3 0 (ri n) (hd 1 n)) := by
  unfold kernelRun0_A.sl.r_19
  unfold_payloads
  simp only [View.readAt_eq_ld, harg7.read_unread]
  pointwise []
  split_ifs <;> congr 2 <;> apply Fin.ext <;> simp <;> omega

/-- The stacked gradient of the output. -/
theorem outs0 (n : Fin 1024) (d : Fin 64) :
    kernelRun0_A.sl.r_2 c arg6 harg6 x4 (ix2 n d) = x4 (ix2 (ri n) (col (hd 0 n) d)) := by
  unfold kernelRun0_A.sl.r_2
  unfold_payloads
  simp only [View.readAt_eq_ld, harg6.read_unread]
  pointwise []
  try simp only [harg6.read_unread]
  split_ifs <;> congr 2 <;> apply Fin.ext <;> simp <;> omega

/-- The stacked gradient of the output. -/
theorem outs0f (n : Fin 1024) (d : Fin 64) :
    kernelRun0_A.sl.r_3 c arg6 harg6 x4 (ix2 n d) = x4 (ix2 (ri n) (col (hd 0 n) d)) := by
  unfold kernelRun0_A.sl.r_3
  unfold_payloads
  simp only [View.readAt_eq_ld, harg6.read_unread]
  pointwise []
  try simp only [harg6.read_unread]
  split_ifs <;> congr 2 <;> apply Fin.ext <;> simp <;> omega

/-- The stacked gradient of the output. -/
theorem outs1 (n : Fin 1024) (d : Fin 64) :
    kernelRun0_A.sl.r_13 c arg6 harg6 x4 (ix2 n d) = x4 (ix2 (ri n) (col (hd 1 n) d)) := by
  unfold kernelRun0_A.sl.r_13
  unfold_payloads
  simp only [View.readAt_eq_ld, harg6.read_unread]
  pointwise []
  try simp only [harg6.read_unread]
  split_ifs <;> congr 2 <;> apply Fin.ext <;> simp <;> omega

/-- A head of the saved output. -/
theorem saved_r_4 (i : Fin 256) (d : Fin 64) :
    kernelRun0_A.sl.r_4 c arg5 harg5 x3 (ix2 i d) = x3 (ix2 i (⟨d.val, by omega⟩ : Fin 512)) := by
  unfold kernelRun0_A.sl.r_4
  unfold_payloads
  simp only [View.readAt_eq_ld, harg5.read_unread]
  pointwise []

/-- A head of the saved output. -/
theorem saved_r_5 (i : Fin 256) (d : Fin 64) :
    kernelRun0_A.sl.r_5 c arg5 harg5 x3 (ix2 i d) = x3 (ix2 i (⟨64 + d.val, by omega⟩ : Fin 512)) := by
  unfold kernelRun0_A.sl.r_5
  unfold_payloads
  simp only [View.readAt_eq_ld, harg5.read_unread]
  pointwise []

/-- A head of the saved output. -/
theorem saved_r_6 (i : Fin 256) (d : Fin 64) :
    kernelRun0_A.sl.r_6 c arg5 harg5 x3 (ix2 i d) = x3 (ix2 i (⟨128 + d.val, by omega⟩ : Fin 512)) := by
  unfold kernelRun0_A.sl.r_6
  unfold_payloads
  simp only [View.readAt_eq_ld, harg5.read_unread]
  pointwise []

/-- The products of the output's gradient and the saved output, head set 1. -/
theorem products1 (n : Fin 1024) (d : Fin 64) :
    kernelRun0_A.sl.r_14 c arg5 harg5 arg6 harg6 x3 x4 (ix2 n d)
      = x4 (ix2 (ri n) (col (hd 1 n) d)) * x3 (ix2 (ri n) (col (hd 1 n) d)) := by
  unfold kernelRun0_A.sl.r_14
  unfold_payloads
  simp only [View.readAt_eq_ld, harg5.read_unread, harg6.read_unread]
  pointwise []
  simp only [harg5.read_unread, harg6.read_unread]
  exact congrArg₂ (· * ·) (four1 x4 n d) (four1 x3 n d)

/-- The lane number. -/
theorem lane_at (n : Fin 1024) (d : Fin 64) : kernelRun0_A.sl.v6 (ix2 n d) = BitVec.ofNat 32 d.val := by
  unfold kernelRun0_A.sl.v6
  pointwise []

/-- The two extra columns of head set 0. -/
theorem extra0 (n : Fin 1024) (d : Fin 64) :
    kernelRun0_A.sl.r_10 c arg5 harg5 arg6 harg6 x3 x4 (ix2 n d)
      = if d.val = 0 then 0 - rowDot x4 x3 0 n else if d.val = 1 then 0 - (rowDot x4 x3 0 n - rowDot x4 x3 0 n) else 0 := by
  unfold kernelRun0_A.sl.r_10 k0_pay126
  simp only [View.readAt_eq_ld, harg5.read_unread]
  pointwise []
  simp only [saved_r_4, saved_r_5, saved_r_6, outs0f, lane_at, pick_lane, harg5.read_unread, rowDot]
  have e : ∀ f : Fin 64 → EReal, (∀ x, f x = x3 (ix2 (ri n) (col (hd 0 n) x))) →
      (if d.val = 0 then 0 - ∑ x, x4 (ix2 (ri n) (col (hd 0 n) x)) * f x
        else if d.val = 1 then 0 - ((∑ x, x4 (ix2 (ri n) (col (hd 0 n) x)) * f x) - ∑ x, x4 (ix2 (ri n) (col (hd 0 n) x)) * f x)
          else 0)
      = if d.val = 0 then 0 - rowDot x4 x3 0 n else if d.val = 1 then 0 - (rowDot x4 x3 0 n - rowDot x4 x3 0 n) else 0 := by
    intro f hf
    simp only [hf, rowDot]
  exact e _ fun x => four0 x3 n x

/-- The widened gradient of head set 0. -/
theorem widened0 (n : Fin 1024) (e : Fin 128) :
    kernelRun0_A.sl.r_11 (F := Ideal) c arg5 harg5 arg6 harg6 x3 x4 (ix2 n e) = widened x4 x3 0 n e := by
  unfold kernelRun0_A.sl.r_11 k0_pay127
  pointwise []
  simp only [outs0, extra0, widened]
  by_cases h : e.val < 64
  · rw [dif_pos h, dif_pos h]
  · rw [dif_neg h, dif_neg h]
    exact shift_lane e h _ _

/-- The widened gradient of head set 1. -/
theorem widened1 (n : Fin 1024) (e : Fin 128) :
    kernelRun0_A.sl.r_18 (F := Ideal) c arg5 harg5 arg6 harg6 x3 x4 (ix2 n e) = widened x4 x3 1 n e := by
  unfold kernelRun0_A.sl.r_18 k0_pay134
  pointwise []
  simp only [outs1, products1, lane_at, pick_lane, widened, rowDot]
  by_cases h : e.val < 64
  · rw [dif_pos h, dif_pos h]
  · rw [dif_neg h, dif_neg h]
    exact (pick_lane _ _ _ (⟨e.val - 64, by omega⟩ : Fin 64)).trans (shift_lane e h _ _)
end

end Cert.Attn
end
-- ==== Proof.Point.lean ====
module
public import proofs.«01_k».proof.Proof.PointVectors
public import proofs.«01_k».proof.Proof.Gen.KernelIdeal.Frame
/-! What one grid point leaves in the three gradients, in terms of its blocks.

A grid point takes 256 rows of eight query heads and two key heads with all their keys. It adds its rows' products to the
key and value gradients and leaves its rows' query gradient. -/
@[expose] public section
set_option maxRecDepth 16384
noncomputable section
namespace Cert.Attn
open Cert.KernelIdeal Cert.KernelIdeal.Gen
open Idealize.ShloMosaic Idealize.ShloMosaic.TcCoe Idealize.ShloMosaic.Tactic

/-- Column `d` of key head `hh` of a block of two. -/
abbrev kc (hh : Fin 2) (d : Fin 64) : Fin 128 := ⟨64 * hh.val + d.val, by omega⟩
/-- The key head a column belongs to. -/
abbrev hx (x : Fin 128) : Fin 2 := ⟨x.val / 64, by omega⟩

/-- The values widened by ones, head by head. -/
def vones (v : Vec Ideal S8192x128 .bf16) (hh : Fin 2) (j : Fin 8192) (e : Fin 128) : EReal :=
  if h : e.val < 64 then v (ix2 j (kc hh ⟨e.val, h⟩)) else 1

/-- A grid point's probability. -/
def pE (x0 : Vec Ideal S256x512 .bf16) (x1 : Vec Ideal S8192x128 .bf16) (x5 : Vec Ideal S1x256x8 .f32) (hh : Fin 2)
    (n : Fin 1024) (j : Fin 8192) : EReal :=
  Ideal.exp2 ((∑ d : Fin 64, x0 (ix2 (ri n) (col (hd hh n) d)) * x1 (ix2 j (kc hh d))) - x5 (ix3 0 (ri n) (hd hh n)))

/-- A grid point's score gradient. -/
def dE (x0 : Vec Ideal S256x512 .bf16) (x1 x2 : Vec Ideal S8192x128 .bf16) (x3 x4 : Vec Ideal S256x512 .bf16)
    (x5 : Vec Ideal S1x256x8 .f32) (hh : Fin 2) (n : Fin 1024) (j : Fin 8192) : EReal :=
  pE x0 x1 x5 hh n j * ∑ e : Fin 128, widened x4 x3 hh n e * vones x2 hh j e

/-- What a grid point adds to the key gradient. -/
def gK (x0 : Vec Ideal S256x512 .bf16) (x1 x2 : Vec Ideal S8192x128 .bf16) (x3 x4 : Vec Ideal S256x512 .bf16)
    (x5 : Vec Ideal S1x256x8 .f32) (b : Fin 16) (x : Fin 128) (j : Fin 512) : EReal :=
  ∑ n : Fin 1024, x0 (ix2 (ri n) (col (hd (hx x) n) (lo x))) * dE x0 x1 x2 x3 x4 x5 (hx x) n (row b j)

/-- What a grid point adds to the value gradient. -/
def gV (x0 : Vec Ideal S256x512 .bf16) (x1 : Vec Ideal S8192x128 .bf16) (x4 : Vec Ideal S256x512 .bf16)
    (x5 : Vec Ideal S1x256x8 .f32) (b : Fin 16) (x : Fin 128) (j : Fin 512) : EReal :=
  ∑ n : Fin 1024, x4 (ix2 (ri n) (col (hd (hx x) n) (lo x))) * pE x0 x1 x5 (hx x) n (row b j)

/-- A grid point's query gradient, stacked. -/
def gQ (x0 : Vec Ideal S256x512 .bf16) (x1 x2 : Vec Ideal S8192x128 .bf16) (x3 x4 : Vec Ideal S256x512 .bf16)
    (x5 : Vec Ideal S1x256x8 .f32) (hh : Fin 2) (n : Fin 1024) (d : Fin 64) : EReal :=
  ∑ j : Fin 8192, dE x0 x1 x2 x3 x4 x5 hh n j * x1 (ix2 j (kc hh d))

theorem kc_zero (d : Fin 64) (h : d.val < 128) : (⟨d.val, h⟩ : Fin 128) = kc 0 d := Fin.ext (by simp)
theorem kc_one (d : Fin 64) (h : 64 + d.val < 128) : (⟨64 + d.val, h⟩ : Fin 128) = kc 1 d := Fin.ext (by simp)

section
variable  (c : Dev nD) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x256x8 .f32) (harg7 : arg7.IsWhole) (arg8 : Memref sig .tc .vmem S256x512 .f32) (harg8 : arg8.IsWhole) (arg9 : Memref sig .tc .vmem S1x16x128x512 .f32) (harg9 : arg9.IsWhole) (arg10 : Memref sig .tc .vmem S1x16x128x512 .f32) (harg10 : arg10.IsWhole) (arg11 : Memref sig .tc .vmem S8192x256 .bf16) (harg11 : arg11.IsWhole) (x0 : Vec Ideal S256x512 .bf16) (x1 : Vec Ideal S8192x128 .bf16) (x2 : Vec Ideal S8192x128 .bf16) (x3 : Vec Ideal S256x512 .bf16) (x4 : Vec Ideal S256x512 .bf16) (x5 : Vec Ideal S1x256x8 .f32)
  (X11 : BufTy.Contents (Elt Ideal) arg11.view.ty)
  (h0 : ∀ (j : Fin 8192) (e : Fin 128), vh0 (arg11.view.read (Elt Ideal) X11) j e = vones x2 0 j e)
  (h1 : ∀ (j : Fin 8192) (e : Fin 128), vh1 (arg11.view.read (Elt Ideal) X11) j e = vones x2 1 j e)
  (G9 : BufTy.Contents (Elt Ideal) arg9.view.ty) (G10 : BufTy.Contents (Elt Ideal) arg10.view.ty)
  (init : FVec Ideal S1024x64 .f32 × FVec Ideal S1024x64 .f32)

/-- The loop of a grid point. -/
abbrev pointLoop := st_k0_t1 (F := Ideal) Variants.none c none i arg2 harg2 arg3 harg3 arg4 harg4 arg5 harg5 arg6 harg6 arg7 harg7 arg8 harg8 arg9 harg9 arg10 harg10 arg11 harg11 (kernelRun0_A.sl.r_7 c arg2 harg2 x0) (kernelRun0_A.sl.r_8 c arg2 harg2 x0) (kernelRun0_A.sl.r_9 c arg6 harg6 x4) (kernelRun0_A.sl.r_11 c arg5 harg5 arg6 harg6 x3 x4) (kernelRun0_A.sl.r_12 c arg7 harg7 x5) (kernelRun0_A.sl.r_15 c arg2 harg2 x0) (kernelRun0_A.sl.r_16 c arg2 harg2 x0) (kernelRun0_A.sl.r_17 c arg6 harg6 x4) (kernelRun0_A.sl.r_18 c arg5 harg5 arg6 harg6 x3 x4) (kernelRun0_A.sl.r_19 c arg7 harg7 x5) (View.readAt (Elt Ideal) arg7.view (Rect.unit (s := S1x256x8) ![0, 0, 5] S1x256x1.size inb_S1x256x8_S1x256x1_0_0_5).toLoadRect (harg7.unread x5)) (View.readAt (Elt Ideal) arg7.view (Rect.unit (s := S1x256x8) ![0, 0, 6] S1x256x1.size inb_S1x256x8_S1x256x1_0_0_6).toLoadRect (harg7.unread x5)) (View.readAt (Elt Ideal) arg7.view (Rect.unit (s := S1x256x8) ![0, 0, 7] S1x256x1.size inb_S1x256x8_S1x256x1_0_0_7).toLoadRect (harg7.unread x5)) (harg3.unread x1) X11 G9 G10 init 2

theorem prob0 (n : Fin 1024) (j : Fin 8192) :
    pr (kernelRun0_A.sl.r_7 c arg2 harg2 x0) (kernelRun0_A.sl.r_12 c arg7 harg7 x5) (kh0 x1) n j = pE x0 x1 x5 0 n j := by
  simp only [pr, pE, queries0, logs0, kh0, kc_zero]

theorem prob1 (n : Fin 1024) (j : Fin 8192) :
    pr (kernelRun0_A.sl.r_15 c arg2 harg2 x0) (k0_pay136 (kernelRun0_A.sl.r_19 c arg7 harg7 x5) (View.readAt (Elt Ideal) arg7.view (Rect.unit (s := S1x256x8) ![0, 0, 5] S1x256x1.size inb_S1x256x8_S1x256x1_0_0_5).toLoadRect (harg7.unread x5)) (View.readAt (Elt Ideal) arg7.view (Rect.unit (s := S1x256x8) ![0, 0, 6] S1x256x1.size inb_S1x256x8_S1x256x1_0_0_6).toLoadRect (harg7.unread x5)) (View.readAt (Elt Ideal) arg7.view (Rect.unit (s := S1x256x8) ![0, 0, 7] S1x256x1.size inb_S1x256x8_S1x256x1_0_0_7).toLoadRect (harg7.unread x5))) (kh1 x1) n j
      = pE x0 x1 x5 1 n j := by
  simp only [pr, pE, queries1, kh1, kc_one]
  rw [logs1]

include h0 in
theorem score0 (n : Fin 1024) (j : Fin 8192) :
    dsc (kernelRun0_A.sl.r_7 c arg2 harg2 x0) (kernelRun0_A.sl.r_12 c arg7 harg7 x5)
        (kernelRun0_A.sl.r_11 c arg5 harg5 arg6 harg6 x3 x4) (kh0 x1) (vh0 (arg11.view.read (Elt Ideal) X11)) n j
      = dE x0 x1 x2 x3 x4 x5 0 n j := by
  simp only [dsc, dE, prob0, widened0, h0]

include h1 in
theorem score1 (n : Fin 1024) (j : Fin 8192) :
    dsc (kernelRun0_A.sl.r_15 c arg2 harg2 x0) (k0_pay136 (kernelRun0_A.sl.r_19 c arg7 harg7 x5) (View.readAt (Elt Ideal) arg7.view (Rect.unit (s := S1x256x8) ![0, 0, 5] S1x256x1.size inb_S1x256x8_S1x256x1_0_0_5).toLoadRect (harg7.unread x5)) (View.readAt (Elt Ideal) arg7.view (Rect.unit (s := S1x256x8) ![0, 0, 6] S1x256x1.size inb_S1x256x8_S1x256x1_0_0_6).toLoadRect (harg7.unread x5)) (View.readAt (Elt Ideal) arg7.view (Rect.unit (s := S1x256x8) ![0, 0, 7] S1x256x1.size inb_S1x256x8_S1x256x1_0_0_7).toLoadRect (harg7.unread x5)))
        (kernelRun0_A.sl.r_18 c arg5 harg5 arg6 harg6 x3 x4) (kh1 x1) (vh1 (arg11.view.read (Elt Ideal) X11)) n j
      = dE x0 x1 x2 x3 x4 x5 1 n j := by
  simp only [dsc, dE, widened1, h1]
  rw [prob1]

include h0 h1 in
/-- What the loop adds to the key gradient. -/
theorem point_dk (b : Fin 16) (x : Fin 128) (j : Fin 512) :
    arg9.view.read (Elt Ideal) (arg9.view.writes (Elt Ideal) G9 (pointLoop c i arg2 harg2 arg3 harg3 arg4 harg4 arg5 harg5 arg6 harg6 arg7 harg7 arg8 harg8 arg9 harg9 arg10 harg10 arg11 harg11 x0 x1 x3 x4 x5 X11 G9 G10 init).2.1) (ix4 0 b x j)
      = arg9.view.read (Elt Ideal) G9 (ix4 0 b x j) + gK x0 x1 x2 x3 x4 x5 b x j := by
  refine (loop_dk ..).trans (congrArg (_ + ·) ?_)
  rw [gK]
  by_cases h : x.val < 64
  · have e : hx x = 0 := Fin.ext (by simp; omega)
    rw [if_pos h, e]
    refine Fintype.sum_congr _ _ fun n => ?_
    rw [queriesT0, harg3.read_unread, score0 (h0 := h0)]
  · have e : hx x = 1 := Fin.ext (by simp; omega)
    rw [if_neg h, e]
    refine Fintype.sum_congr _ _ fun n => ?_
    rw [queriesT1, harg3.read_unread, score1 (h1 := h1)]

/-- What the loop adds to the value gradient. -/
theorem point_dv (b : Fin 16) (x : Fin 128) (j : Fin 512) :
    arg10.view.read (Elt Ideal) (arg10.view.writes (Elt Ideal) G10 (pointLoop c i arg2 harg2 arg3 harg3 arg4 harg4 arg5 harg5 arg6 harg6 arg7 harg7 arg8 harg8 arg9 harg9 arg10 harg10 arg11 harg11 x0 x1 x3 x4 x5 X11 G9 G10 init).2.2) (ix4 0 b x j)
      = arg10.view.read (Elt Ideal) G10 (ix4 0 b x j) + gV x0 x1 x4 x5 b x j := by
  refine (loop_dv ..).trans (congrArg (_ + ·) ?_)
  rw [gV]
  by_cases h : x.val < 64
  · have e : hx x = 0 := Fin.ext (by simp; omega)
    rw [if_pos h, e]
    refine Fintype.sum_congr _ _ fun n => ?_
    rw [outsT0, harg3.read_unread, prob0]
  · have e : hx x = 1 := Fin.ext (by simp; omega)
    rw [if_neg h, e]
    refine Fintype.sum_congr _ _ fun n => ?_
    rw [outsT1, harg3.read_unread, prob1]

include h0 in
/-- The query gradient of head set 0 after the loop. -/
theorem point_dq0 (n : Fin 1024) (d : Fin 64) :
    (pointLoop c i arg2 harg2 arg3 harg3 arg4 harg4 arg5 harg5 arg6 harg6 arg7 harg7 arg8 harg8 arg9 harg9 arg10 harg10 arg11 harg11 x0 x1 x3 x4 x5 X11 G9 G10 init).1.1 (ix2 n d) = init.1 (ix2 n d) + gQ x0 x1 x2 x3 x4 x5 0 n d := by
  refine (loop_dq0 ..).trans (congrArg (_ + ·) ?_)
  rw [gQ]
  refine Fintype.sum_congr _ _ fun j => ?_
  rw [harg3.read_unread, score0 (h0 := h0)]
  simp only [kh0, kc_zero]

include h1 in
/-- The query gradient of head set 1 after the loop. -/
theorem point_dq1 (n : Fin 1024) (d : Fin 64) :
    (pointLoop c i arg2 harg2 arg3 harg3 arg4 harg4 arg5 harg5 arg6 harg6 arg7 harg7 arg8 harg8 arg9 harg9 arg10 harg10 arg11 harg11 x0 x1 x3 x4 x5 X11 G9 G10 init).1.2 (ix2 n d) = init.2 (ix2 n d) + gQ x0 x1 x2 x3 x4 x5 1 n d := by
  refine (loop_dq1 ..).trans (congrArg (_ + ·) ?_)
  rw [gQ]
  refine Fintype.sum_congr _ _ fun j => ?_
  rw [harg3.read_unread, score1 (h1 := h1)]
  simp only [kh1, kc_one]
end

end Cert.Attn
end
-- ==== Proof.PointOut.lean ====
module
public import proofs.«01_k».proof.Proof.Point
/-! The blocks a grid point writes, entry by entry.

The first point of a group starts the key and value gradients at zero and fills the scratch with the values and ones; the
others take both from the point before. -/
@[expose] public section
set_option maxRecDepth 16384
noncomputable section
namespace Cert.Attn
open Cert.KernelIdeal Cert.KernelIdeal.Gen
open Idealize.ShloMosaic Idealize.ShloMosaic.TcCoe Idealize.ShloMosaic.Tactic

/-- Eight heads written side by side, read back. -/
theorem read_heads (V : View sig .tc .vmem S256x512 .f32) (f : BufTy.Contents (Elt Ideal) V.ty)
    (w0 w1 w2 w3 w4 w5 w6 w7 : FVec Ideal S256x64 .f32) (i : Fin 256) (h : Fin 8) (d : Fin 64) :
    V.read (Elt Ideal) (V.writes (Elt Ideal) f
      [⟨Rect.unit (s := S256x512) ![0, 448] S256x64.size inb_S256x512_S256x64_0_448, w7⟩,
       ⟨Rect.unit (s := S256x512) ![0, 384] S256x64.size inb_S256x512_S256x64_0_384, w6⟩,
       ⟨Rect.unit (s := S256x512) ![0, 320] S256x64.size inb_S256x512_S256x64_0_320, w5⟩,
       ⟨Rect.unit (s := S256x512) ![0, 256] S256x64.size inb_S256x512_S256x64_0_256, w4⟩,
       ⟨Rect.unit (s := S256x512) ![0, 192] S256x64.size inb_S256x512_S256x64_0_192, w3⟩,
       ⟨Rect.unit (s := S256x512) ![0, 128] S256x64.size inb_S256x512_S256x64_0_128, w2⟩,
       ⟨Rect.unit (s := S256x512) ![0, 64] S256x64.size inb_S256x512_S256x64_0_64, w1⟩,
       ⟨Rect.unit (s := S256x512) ![0, 0] S256x64.size inb_S256x512_S256x64_0_0, w0⟩]) (ix2 i (col h d))
      = (![w0, w1, w2, w3, w4, w5, w6, w7] h) (ix2 i d) := by
  fin_cases h
  all_goals
    (repeat rw [View.read_writes_cons_unit_of_not_mem V f _ _ _ _ rfl 1 (by first | (simp; done) | (simp; omega))])
    exact View.read_writes_cons_unit_of_mem (size := S256x64.size) V f _ _ _ _ (show S256x64.Idx from ix2 i d) rfl
      (by intro a; fin_cases a <;> simp)

/-- The scratch after it is filled. -/
theorem read_scratch (c : Dev nD) (arg4 : Memref sig .tc .vmem S8192x128 .bf16) (harg4 : arg4.IsWhole)
    (V : View sig .tc .vmem S8192x256 .bf16) (f : BufTy.Contents (Elt Ideal) V.ty) (x2 : Vec Ideal S8192x128 .bf16)
    (hh : Fin 2) (j : Fin 8192) (e : Fin 128) :
    V.read (Elt Ideal) (V.writes (Elt Ideal) f (kernelRun0_A.sl.HS0_4 c arg4 harg4 x2)) (ix2 j (⟨128 * hh.val + e.val, by omega⟩ : Fin 256))
      = vones x2 hh j e := by
  have one : ∀ (j : Fin 8192) (d : Fin 64), (k0_pay113 (F := Ideal)) (ix2 j d) = 1 := by
    intro j d
    unfold_payloads
    pointwise []
  have one' : ∀ (j : Fin 8192) (d : Fin 64), (k0_pay115 (F := Ideal)) (ix2 j d) = 1 := by
    intro j d
    unfold_payloads
    pointwise []
  have v0 : ∀ (j : Fin 8192) (d : Fin 64), k0_pay112 (View.readAt (Elt Ideal) arg4.view (Rect.unit (s := S8192x128) ![0, 0] S8192x64.size inb_S8192x128_S8192x64_0_0).toLoadRect (harg4.unread x2)) (ix2 j d) = x2 (ix2 j (kc 0 d)) := by
    intro j d
    unfold_payloads
    simp only [View.readAt_eq_ld, harg4.read_unread]
    pointwise []
    try simp only [kc_zero]
  have v1 : ∀ (j : Fin 8192) (d : Fin 64), k0_pay114 (View.readAt (Elt Ideal) arg4.view (Rect.unit (s := S8192x128) ![0, 64] S8192x64.size inb_S8192x128_S8192x64_0_64).toLoadRect (harg4.unread x2)) (ix2 j d) = x2 (ix2 j (kc 1 d)) := by
    intro j d
    unfold_payloads
    simp only [View.readAt_eq_ld, harg4.read_unread]
    pointwise []
    try simp only [kc_one]
  unfold kernelRun0_A.sl.HS0_4 vones
  by_cases he : e.val < 64
  · rw [dif_pos he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v0 j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v1 j _)
  · rw [dif_neg he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one' j _)

section
variable  (c : Dev nD) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x256x8 .f32) (harg7 : arg7.IsWhole) (arg8 : Memref sig .tc .vmem S256x512 .f32) (harg8 : arg8.IsWhole) (arg9 : Memref sig .tc .vmem S1x16x128x512 .f32) (harg9 : arg9.IsWhole) (arg10 : Memref sig .tc .vmem S1x16x128x512 .f32) (harg10 : arg10.IsWhole) (arg11 : Memref sig .tc .vmem S8192x256 .bf16) (harg11 : arg11.IsWhole) (x0 : Vec Ideal S256x512 .bf16) (x1 : Vec Ideal S8192x128 .bf16) (x2 : Vec Ideal S8192x128 .bf16) (x3 : Vec Ideal S256x512 .bf16) (x4 : Vec Ideal S256x512 .bf16) (x5 : Vec Ideal S1x256x8 .f32)

theorem runB_dk (hc0 : ¬cond0_0 i) (hc1 : ¬cond0_1 i) (xo7 xo8 : Vec Ideal S1x16x128x512 .f32) (xs0 : Vec Ideal S8192x256 .bf16) : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo7 xo8 xs0).2.1 = (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).2.1 := by
  unfold kernelRun0_B
  rfl

theorem runB_dv (hc0 : ¬cond0_0 i) (hc1 : ¬cond0_1 i) (xo7 xo8 : Vec Ideal S1x16x128x512 .f32) (xs0 : Vec Ideal S8192x256 .bf16) : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo7 xo8 xs0).2.2.1 = (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).2.2 := by
  unfold kernelRun0_B
  rfl

theorem runA_dk (hc0 : cond0_0 i) (hc1 : cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.1 = (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).2.1 ++ kernelRun0_A.sl.H7_1 := by
  unfold kernelRun0_A
  rfl

theorem runA_dv (hc0 : cond0_0 i) (hc1 : cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.2.1 = (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).2.2 ++ kernelRun0_A.sl.H8_1 := by
  unfold kernelRun0_A
  rfl

theorem runA_va (hc0 : cond0_0 i) (hc1 : cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.2.2.1 = kernelRun0_A.sl.HS0_4 c arg4 harg4 x2 := by
  unfold kernelRun0_A
  rfl
end

end Cert.Attn
end
-- ==== Proof.PointBlocks.lean ====
module
public import proofs.«01_k».proof.Proof.PointOut
/-! What a grid point's run leaves in each output block, entry by entry. -/
@[expose] public section
set_option maxRecDepth 16384
noncomputable section
namespace Cert.Attn
open Cert.KernelIdeal Cert.KernelIdeal.Gen
open Idealize.ShloMosaic Idealize.ShloMosaic.TcCoe Idealize.ShloMosaic.Tactic

/-- The stacked row of row `i` of head `h`. -/
abbrev sr (h : Fin 8) (i : Fin 256) : Fin 1024 := ⟨256 * (h.val % 4) + i.val, by omega⟩
/-- The key head of a block's query head. -/
abbrev kh (h : Fin 8) : Fin 2 := ⟨h.val / 4, by omega⟩

/-- The query gradient's eight pieces, cut from the two stacks. -/
theorem heads_pay (a b : FVec Ideal S1024x64 .f32) (i : Fin 256) (h : Fin 8) (d : Fin 64) :
    (![k0_pay142 a, k0_pay143 a, k0_pay144 a, k0_pay145 a, k0_pay146 b, k0_pay147 b, k0_pay148 b, k0_pay1 b] h) (ix2 i d)
      = (if h.val < 4 then a else b) (ix2 (sr h i) d) := by
  fin_cases h
  · show k0_pay142 a (ix2 i d) = a _
    unfold k0_pay142; pointwise []; congr 2; apply Fin.ext; simp
  · show k0_pay143 a (ix2 i d) = a _
    unfold k0_pay143; pointwise []; rfl
  · show k0_pay144 a (ix2 i d) = a _
    unfold k0_pay144; pointwise []; rfl
  · show k0_pay145 a (ix2 i d) = a _
    unfold k0_pay145; pointwise []; rfl
  · show k0_pay146 b (ix2 i d) = b _
    unfold k0_pay146; pointwise []; congr 2; apply Fin.ext; simp
  · show k0_pay147 b (ix2 i d) = b _
    unfold k0_pay147; pointwise []; rfl
  · show k0_pay148 b (ix2 i d) = b _
    unfold k0_pay148; pointwise []; rfl
  · show k0_pay1 b (ix2 i d) = b _
    unfold k0_pay1; pointwise []; rfl

/-- The gradients start at zero. -/
theorem zero7 (M : Memref sig .tc .vmem S1x16x128x512 .f32) (f : BufTy.Contents (Elt Ideal) M.view.ty) (b : Fin 16) (x : Fin 128) (j : Fin 512) :
    M.view.read (Elt Ideal) (M.view.writes (Elt Ideal) f (kernelRun0_A.sl.H7_1 (F := Ideal))) (ix4 0 b x j) = 0 := by
  refine (View.read_writes_cons_unit_of_mem (size := S1x16x128x512.size) M.view f _ _ _ _ (show S1x16x128x512.Idx from ix4 0 b x j) rfl
    (by intro a; fin_cases a <;> simp)).trans ?_
  unfold k0_pay109
  pointwise []

theorem zero8 (M : Memref sig .tc .vmem S1x16x128x512 .f32) (f : BufTy.Contents (Elt Ideal) M.view.ty) (b : Fin 16) (x : Fin 128) (j : Fin 512) :
    M.view.read (Elt Ideal) (M.view.writes (Elt Ideal) f (kernelRun0_A.sl.H8_1 (F := Ideal))) (ix4 0 b x j) = 0 := by
  refine (View.read_writes_cons_unit_of_mem (size := S1x16x128x512.size) M.view f _ _ _ _ (show S1x16x128x512.Idx from ix4 0 b x j) rfl
    (by intro a; fin_cases a <;> simp)).trans ?_
  unfold_payloads
  pointwise []

theorem zeroQ0 (n : Fin 1024) (d : Fin 64) : (k0_pay137 (F := Ideal)) (ix2 n d) = 0 := by
  unfold k0_pay137
  pointwise []

theorem zeroQ1 (n : Fin 1024) (d : Fin 64) : (k0_pay138 (F := Ideal)) (ix2 n d) = 0 := by
  unfold_payloads
  pointwise []

section
variable  (c : Dev nD) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x256x8 .f32) (harg7 : arg7.IsWhole) (arg8 : Memref sig .tc .vmem S256x512 .f32) (harg8 : arg8.IsWhole) (arg9 : Memref sig .tc .vmem S1x16x128x512 .f32) (harg9 : arg9.IsWhole) (arg10 : Memref sig .tc .vmem S1x16x128x512 .f32) (harg10 : arg10.IsWhole) (arg11 : Memref sig .tc .vmem S8192x256 .bf16) (harg11 : arg11.IsWhole) (x0 : Vec Ideal S256x512 .bf16) (x1 : Vec Ideal S8192x128 .bf16) (x2 : Vec Ideal S8192x128 .bf16) (x3 : Vec Ideal S256x512 .bf16) (x4 : Vec Ideal S256x512 .bf16) (x5 : Vec Ideal S1x256x8 .f32)

theorem runB_dq (hc0 : ¬cond0_0 i) (hc1 : ¬cond0_1 i) (xo7 xo8 : Vec Ideal S1x16x128x512 .f32) (xs0 : Vec Ideal S8192x256 .bf16) :
    (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo7 xo8 xs0).1 = [⟨Rect.unit (s := S256x512) ![0, 448] S256x64.size inb_S256x512_S256x64_0_448, k0_pay1 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.2⟩,
       ⟨Rect.unit (s := S256x512) ![0, 384] S256x64.size inb_S256x512_S256x64_0_384, k0_pay148 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.2⟩,
       ⟨Rect.unit (s := S256x512) ![0, 320] S256x64.size inb_S256x512_S256x64_0_320, k0_pay147 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.2⟩,
       ⟨Rect.unit (s := S256x512) ![0, 256] S256x64.size inb_S256x512_S256x64_0_256, k0_pay146 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.2⟩,
       ⟨Rect.unit (s := S256x512) ![0, 192] S256x64.size inb_S256x512_S256x64_0_192, k0_pay145 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.1⟩,
       ⟨Rect.unit (s := S256x512) ![0, 128] S256x64.size inb_S256x512_S256x64_0_128, k0_pay144 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.1⟩,
       ⟨Rect.unit (s := S256x512) ![0, 64] S256x64.size inb_S256x512_S256x64_0_64, k0_pay143 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.1⟩,
       ⟨Rect.unit (s := S256x512) ![0, 0] S256x64.size inb_S256x512_S256x64_0_0, k0_pay142 (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay137 (F := Ideal), k0_pay138 (F := Ideal))).1.1⟩] := by
  unfold kernelRun0_B
  rfl

theorem runA_dq (hc0 : cond0_0 i) (hc1 : cond0_1 i) :
    (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).1 = [⟨Rect.unit (s := S256x512) ![0, 448] S256x64.size inb_S256x512_S256x64_0_448, k0_pay1 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.2⟩,
       ⟨Rect.unit (s := S256x512) ![0, 384] S256x64.size inb_S256x512_S256x64_0_384, k0_pay148 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.2⟩,
       ⟨Rect.unit (s := S256x512) ![0, 320] S256x64.size inb_S256x512_S256x64_0_320, k0_pay147 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.2⟩,
       ⟨Rect.unit (s := S256x512) ![0, 256] S256x64.size inb_S256x512_S256x64_0_256, k0_pay146 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.2⟩,
       ⟨Rect.unit (s := S256x512) ![0, 192] S256x64.size inb_S256x512_S256x64_0_192, k0_pay145 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.1⟩,
       ⟨Rect.unit (s := S256x512) ![0, 128] S256x64.size inb_S256x512_S256x64_0_128, k0_pay144 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.1⟩,
       ⟨Rect.unit (s := S256x512) ![0, 64] S256x64.size inb_S256x512_S256x64_0_64, k0_pay143 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.1⟩,
       ⟨Rect.unit (s := S256x512) ![0, 0] S256x64.size inb_S256x512_S256x64_0_0, k0_pay142 (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay137 (F := Ideal), k0_pay138 (F := Ideal))).1.1⟩] := by
  unfold kernelRun0_A
  rfl

/-- A later point adds to the key gradient. -/
theorem outB_7 (hc0 : ¬cond0_0 i) (hc1 : ¬cond0_1 i) (xo7 xo8 : Vec Ideal S1x16x128x512 .f32) (xs0 : Vec Ideal S8192x256 .bf16)
    (hs : ∀ (hh : Fin 2) (j : Fin 8192) (e : Fin 128), xs0 (ix2 j (⟨128 * hh.val + e.val, by omega⟩ : Fin 256)) = vones x2 hh j e)
    (b : Fin 16) (x : Fin 128) (j : Fin 512) :
    out0_B_7 c i arg2 harg2 arg3 harg3 arg4 harg4 arg5 harg5 arg6 harg6 arg7 harg7 arg8 harg8 arg9 harg9 arg10 harg10 arg11 harg11 hc0 hc1 x0 x1 x2 x3 x4 x5 xo7 xo8 xs0 (ix4 0 b x j)
      = xo7 (ix4 0 b x j) + gK x0 x1 x2 x3 x4 x5 b x j := by
  unfold out0_B_7
  rw [runB_dk]
  refine (point_dk (x2 := x2) (h0 := ?_) (h1 := ?_) ..).trans ?_
  · intro j e
    rw [harg11.read_unread, ← hs 0 j e]
    exact congrArg (fun z => xs0 (ix2 j z)) (Fin.ext (by simp))
  · intro j e
    rw [harg11.read_unread, ← hs 1 j e]
    rfl
  · rw [harg9.read_unread]

/-- A later point adds to the value gradient. -/
theorem outB_8 (hc0 : ¬cond0_0 i) (hc1 : ¬cond0_1 i) (xo7 xo8 : Vec Ideal S1x16x128x512 .f32) (xs0 : Vec Ideal S8192x256 .bf16) (b : Fin 16) (x : Fin 128) (j : Fin 512) :
    out0_B_8 c i arg2 harg2 arg3 harg3 arg4 harg4 arg5 harg5 arg6 harg6 arg7 harg7 arg8 harg8 arg9 harg9 arg10 harg10 arg11 harg11 hc0 hc1 x0 x1 x2 x3 x4 x5 xo7 xo8 xs0 (ix4 0 b x j)
      = xo8 (ix4 0 b x j) + gV x0 x1 x4 x5 b x j := by
  unfold out0_B_8
  rw [runB_dv]
  refine (point_dv ..).trans ?_
  rw [harg10.read_unread]

/-- A later point's query gradient. -/
theorem outB_6 (hc0 : ¬cond0_0 i) (hc1 : ¬cond0_1 i) (xo7 xo8 : Vec Ideal S1x16x128x512 .f32) (xs0 : Vec Ideal S8192x256 .bf16)
    (hs : ∀ (hh : Fin 2) (j : Fin 8192) (e : Fin 128), xs0 (ix2 j (⟨128 * hh.val + e.val, by omega⟩ : Fin 256)) = vones x2 hh j e)
    (r : Fin 256) (h : Fin 8) (d : Fin 64) :
    out0_B_6 c i arg2 harg2 arg3 harg3 arg4 harg4 arg5 harg5 arg6 harg6 arg7 harg7 arg8 harg8 arg9 harg9 arg10 harg10 arg11 harg11 hc0 hc1 x0 x1 x2 x3 x4 x5 xo7 xo8 xs0 (ix2 r (col h d))
      = gQ x0 x1 x2 x3 x4 x5 (kh h) (sr h r) d := by
  unfold out0_B_6
  rw [runB_dq, read_heads, heads_pay]
  by_cases hh : h.val < 4
  · have e : kh h = 0 := Fin.ext (by simp; omega)
    rw [if_pos hh, e]
    refine (point_dq0 (x2 := x2) (h0 := ?_) ..).trans ?_
    · intro j e
      rw [harg11.read_unread, ← hs 0 j e]
      exact congrArg (fun z => xs0 (ix2 j z)) (Fin.ext (by simp))
    · exact (congrArg (· + _) (zeroQ0 (sr h r) d)).trans (zero_add _)
  · have e : kh h = 1 := Fin.ext (by simp; omega)
    rw [if_neg hh, e]
    refine (point_dq1 (x2 := x2) (h1 := ?_) ..).trans ?_
    · intro j e
      rw [harg11.read_unread, ← hs 1 j e]
      rfl
    · exact (congrArg (· + _) (zeroQ1 (sr h r) d)).trans (zero_add _)

/-- The first point of a group leaves its own products in the key gradient. -/
theorem outA_7 (hc0 : cond0_0 i) (hc1 : cond0_1 i) (b : Fin 16) (x : Fin 128) (j : Fin 512) :
    out0_A_7 c i arg2 harg2 arg3 harg3 arg4 harg4 arg5 harg5 arg6 harg6 arg7 harg7 arg8 harg8 arg9 harg9 arg10 harg10 arg11 harg11 hc0 hc1 x0 x1 x2 x3 x4 x5 (ix4 0 b x j) = gK x0 x1 x2 x3 x4 x5 b x j := by
  unfold out0_A_7
  rw [(View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5)).trans
    (View.read_writes_eq_canon arg9.view arg9.view.junk _ (cover0_A_7 c i arg2 harg2 arg3 harg3 arg4 harg4 arg5 harg5 arg6 harg6 arg7 harg7 arg8 harg8 arg9 harg9 arg10 harg10 arg11 harg11 hc0 hc1 x0 x1 x2 x3 x4 x5)).symm, runA_dk,
    View.writes_append]
  refine (point_dk (x2 := x2) (h0 := ?_) (h1 := ?_) ..).trans ?_
  · intro j e
    refine Eq.trans ?_ (read_scratch c arg4 harg4 arg11.view arg11.view.junk x2 0 j e)
    exact congrArg (fun z => arg11.view.read (Elt Ideal) _ (ix2 j z)) (Fin.ext (by simp))
  · intro j e
    exact read_scratch c arg4 harg4 arg11.view arg11.view.junk x2 1 j e
  · rw [zero7, zero_add]

/-- The first point of a group leaves its own products in the value gradient. -/
theorem outA_8 (hc0 : cond0_0 i) (hc1 : cond0_1 i) (b : Fin 16) (x : Fin 128) (j : Fin 512) :
    out0_A_8 c i arg2 harg2 arg3 harg3 arg4 harg4 arg5 harg5 arg6 harg6 arg7 harg7 arg8 harg8 arg9 harg9 arg10 harg10 arg11 harg11 hc0 hc1 x0 x1 x2 x3 x4 x5 (ix4 0 b x j) = gV x0 x1 x4 x5 b x j := by
  unfold out0_A_8
  rw [(View.read_writes_eq_canon _ _ _ (cover0_A_8 c i arg2 harg2 arg3 harg3 arg4 harg4 arg5 harg5 arg6 harg6 arg7 harg7 arg8 harg8 arg9 harg9 arg10 harg10 arg11 harg11 hc0 hc1 x0 x1 x2 x3 x4 x5)).trans
    (View.read_writes_eq_canon arg10.view arg10.view.junk _ (cover0_A_8 c i arg2 harg2 arg3 harg3 arg4 harg4 arg5 harg5 arg6 harg6 arg7 harg7 arg8 harg8 arg9 harg9 arg10 harg10 arg11 harg11 hc0 hc1 x0 x1 x2 x3 x4 x5)).symm, runA_dv,
    View.writes_append]
  refine (point_dv ..).trans ?_
  rw [zero8, zero_add]

/-- The first point's query gradient. -/
theorem outA_6 (hc0 : cond0_0 i) (hc1 : cond0_1 i) (r : Fin 256) (h : Fin 8) (d : Fin 64) :
    out0_A_6 c i arg2 harg2 arg3 harg3 arg4 harg4 arg5 harg5 arg6 harg6 arg7 harg7 arg8 harg8 arg9 harg9 arg10 harg10 arg11 harg11 hc0 hc1 x0 x1 x2 x3 x4 x5 (ix2 r (col h d))
      = gQ x0 x1 x2 x3 x4 x5 (kh h) (sr h r) d := by
  unfold out0_A_6
  rw [runA_dq, read_heads, heads_pay]
  by_cases hh : h.val < 4
  · have e : kh h = 0 := Fin.ext (by simp; omega)
    rw [if_pos hh, e]
    refine (point_dq0 (x2 := x2) (h0 := ?_) ..).trans ?_
    · intro j e
      refine Eq.trans ?_ (read_scratch c arg4 harg4 arg11.view arg11.view.junk x2 0 j e)
      exact congrArg (fun z => arg11.view.read (Elt Ideal) _ (ix2 j z)) (Fin.ext (by simp))
    · exact (congrArg (· + _) (zeroQ0 (sr h r) d)).trans (zero_add _)
  · have e : kh h = 1 := Fin.ext (by simp; omega)
    rw [if_neg hh, e]
    refine (point_dq1 (x2 := x2) (h1 := ?_) ..).trans ?_
    · intro j e
      exact read_scratch c arg4 harg4 arg11.view arg11.view.junk x2 1 j e
    · exact (congrArg (· + _) (zeroQ1 (sr h r) d)).trans (zero_add _)

/-- The scratch after a group's first point. -/
theorem soutA (hc0 : cond0_0 i) (hc1 : cond0_1 i) (hh : Fin 2) (j : Fin 8192) (e : Fin 128) :
    sout0_A_0 c i arg2 harg2 arg3 harg3 arg4 harg4 arg5 harg5 arg6 harg6 arg7 harg7 arg8 harg8 arg9 harg9 arg10 harg10 arg11 harg11 hc0 hc1 x0 x1 x2 x3 x4 x5 (ix2 j (⟨128 * hh.val + e.val, by omega⟩ : Fin 256)) = vones x2 hh j e := by
  unfold sout0_A_0
  rw [runA_va]
  exact read_scratch c arg4 harg4 _ _ x2 hh j e
end

end Cert.Attn
end
-- ==== Proof.Blocks.lean ====
module
public import proofs.«01_k».proof.Proof.PointBlocks
public import Idealize.ShloMosaic.Lib.Pipeline.ValueKit
/-! The blocks of the arrays at each grid point.

Point `t` works on group `t / 32` of eight query heads (two key heads) and on query rows `256 (t % 32)` onwards. -/
@[expose] public section
set_option maxRecDepth 16384
noncomputable section
namespace Cert.Attn
open Cert.KernelIdeal Cert.KernelIdeal.Gen
open Idealize.ShloMosaic Idealize.ShloMosaic.TcCoe Idealize.ShloMosaic.Tactic

theorem points : cfg0.N = 64 := by decide +kernel

/-- The group of a point and its block of query rows. -/
def gOf (t : Fin cfg0.N) : Fin 2 := ⟨t.val / 32, by have := t.isLt; have := points; omega⟩
def iOf (t : Fin cfg0.N) : Fin 32 := ⟨t.val % 32, Nat.mod_lt _ (by decide)⟩

/-- The point of a group and a block of rows. -/
def pt (g : Fin 2) (i : Fin 32) : Fin cfg0.N := ⟨32 * g.val + i.val, by have := points; omega⟩

theorem gOf_pt (g : Fin 2) (i : Fin 32) : gOf (pt g i) = g := Fin.ext (by simp only [gOf, pt]; omega)
theorem iOf_pt (g : Fin 2) (i : Fin 32) : iOf (pt g i) = i := Fin.ext (by simp only [iOf, pt]; omega)

/-- Query row `i'` of block `i`. -/
abbrev qrow (i : Fin 32) (i' : Fin 256) : Fin 8192 := ⟨256 * i.val + i'.val, by omega⟩
/-- Column `x` of a group's 512 query columns, and of its 128 key columns. -/
abbrev qcol (g : Fin 2) (x : Fin 512) : Fin 1024 := ⟨512 * g.val + x.val, by omega⟩
abbrev kcol (g : Fin 2) (x : Fin 128) : Fin 256 := ⟨128 * g.val + x.val, by omega⟩

theorem index0 : ∀ t : Fin cfg0.N, win0_0.index t = ![t.val % 32, t.val / 32] := (by decide +kernel : ∀ t : Fin grid0.N, _)
theorem index1 : ∀ t : Fin cfg0.N, win0_1.index t = ![0, t.val / 32] := (by decide +kernel : ∀ t : Fin grid0.N, _)
theorem index2 : ∀ t : Fin cfg0.N, win0_2.index t = ![0, t.val / 32] := (by decide +kernel : ∀ t : Fin grid0.N, _)
theorem index3 : ∀ t : Fin cfg0.N, win0_3.index t = ![t.val % 32, t.val / 32] := (by decide +kernel : ∀ t : Fin grid0.N, _)
theorem index4 : ∀ t : Fin cfg0.N, win0_4.index t = ![t.val % 32, t.val / 32] := (by decide +kernel : ∀ t : Fin grid0.N, _)
theorem index5 : ∀ t : Fin cfg0.N, win0_5.index t = ![t.val / 32, t.val % 32, 0] := (by decide +kernel : ∀ t : Fin grid0.N, _)
theorem index6 : ∀ t : Fin cfg0.N, win0_6.index t = ![t.val % 32, t.val / 32] := (by decide +kernel : ∀ t : Fin grid0.N, _)
theorem index7 : ∀ t : Fin cfg0.N, win0_7.index t = ![t.val / 32, 0, 0, 0] := (by decide +kernel : ∀ t : Fin grid0.N, _)
theorem index8 : ∀ t : Fin cfg0.N, win0_8.index t = ![t.val / 32, 0, 0, 0] := (by decide +kernel : ∀ t : Fin grid0.N, _)

section
variable (m : (ℓ : Loc nD τ sig) → Buf (Elt Ideal) ℓ) (c : Dev nD) (t : Fin cfg0.N)

theorem block_0 (f : Vec Ideal S8192x1024 .bf16) (i : Fin 256) (x : Fin 512) :
    (((cfg0.win 0).blk t).view.read (Elt Ideal) f : Vec Ideal S256x512 .bf16) (ix2 i x) = f (ix2 (qrow (iOf t) i) (qcol (gOf t) x)) := by
  show f (((cfg0.win 0).blk t).view.emb (ix2 i x)) = _
  refine congrArg _ (funext fun a => Fin.ext ?_)
  have e := index0 t
  fin_cases a
  · show win0_0.index t (0 : Fin 2) * 256 + 1 * i.val = 256 * (t.val % 32) + i.val
    rw [e]; simp; omega
  · show win0_0.index t (1 : Fin 2) * 512 + 1 * x.val = 512 * (t.val / 32) + x.val
    rw [e]; simp; omega

theorem iblk_0 (i : Fin 256) (x : Fin 512) :
    (iblk m c 0 t : Vec Ideal S256x512 .bf16) (ix2 i x)
      = (V m c (Pipeline.arrRef spec0 0) : Vec Ideal S8192x1024 .bf16) (ix2 (qrow (iOf t) i) (qcol (gOf t) x)) :=
  block_0 t _ i x

theorem block_1 (f : Vec Ideal S8192x256 .bf16) (j : Fin 8192) (x : Fin 128) :
    (((cfg0.win 1).blk t).view.read (Elt Ideal) f : Vec Ideal S8192x128 .bf16) (ix2 j x) = f (ix2 j (kcol (gOf t) x)) := by
  show f (((cfg0.win 1).blk t).view.emb (ix2 j x)) = _
  refine congrArg _ (funext fun a => Fin.ext ?_)
  have e := index1 t
  fin_cases a
  · show win0_1.index t (0 : Fin 2) * 8192 + 1 * j.val = j.val
    rw [e]; simp
  · show win0_1.index t (1 : Fin 2) * 128 + 1 * x.val = 128 * (t.val / 32) + x.val
    rw [e]; simp; omega

theorem iblk_1 (j : Fin 8192) (x : Fin 128) :
    (iblk m c 1 t : Vec Ideal S8192x128 .bf16) (ix2 j x)
      = (V m c (Pipeline.arrRef spec0 1) : Vec Ideal S8192x256 .bf16) (ix2 j (kcol (gOf t) x)) :=
  block_1 t _ j x

theorem block_2 (f : Vec Ideal S8192x256 .bf16) (j : Fin 8192) (x : Fin 128) :
    (((cfg0.win 2).blk t).view.read (Elt Ideal) f : Vec Ideal S8192x128 .bf16) (ix2 j x) = f (ix2 j (kcol (gOf t) x)) := by
  show f (((cfg0.win 2).blk t).view.emb (ix2 j x)) = _
  refine congrArg _ (funext fun a => Fin.ext ?_)
  have e := index2 t
  fin_cases a
  · show win0_2.index t (0 : Fin 2) * 8192 + 1 * j.val = j.val
    rw [e]; simp
  · show win0_2.index t (1 : Fin 2) * 128 + 1 * x.val = 128 * (t.val / 32) + x.val
    rw [e]; simp; omega

theorem iblk_2 (j : Fin 8192) (x : Fin 128) :
    (iblk m c 2 t : Vec Ideal S8192x128 .bf16) (ix2 j x)
      = (V m c (Pipeline.arrRef spec0 2) : Vec Ideal S8192x256 .bf16) (ix2 j (kcol (gOf t) x)) :=
  block_2 t _ j x

theorem block_3 (f : Vec Ideal S8192x1024 .bf16) (i : Fin 256) (x : Fin 512) :
    (((cfg0.win 3).blk t).view.read (Elt Ideal) f : Vec Ideal S256x512 .bf16) (ix2 i x) = f (ix2 (qrow (iOf t) i) (qcol (gOf t) x)) := by
  show f (((cfg0.win 3).blk t).view.emb (ix2 i x)) = _
  refine congrArg _ (funext fun a => Fin.ext ?_)
  have e := index3 t
  fin_cases a
  · show win0_3.index t (0 : Fin 2) * 256 + 1 * i.val = 256 * (t.val % 32) + i.val
    rw [e]; simp; omega
  · show win0_3.index t (1 : Fin 2) * 512 + 1 * x.val = 512 * (t.val / 32) + x.val
    rw [e]; simp; omega

theorem iblk_3 (i : Fin 256) (x : Fin 512) :
    (iblk m c 3 t : Vec Ideal S256x512 .bf16) (ix2 i x)
      = (V m c (Pipeline.arrRef spec0 3) : Vec Ideal S8192x1024 .bf16) (ix2 (qrow (iOf t) i) (qcol (gOf t) x)) :=
  block_3 t _ i x

theorem block_4 (f : Vec Ideal S8192x1024 .bf16) (i : Fin 256) (x : Fin 512) :
    (((cfg0.win 4).blk t).view.read (Elt Ideal) f : Vec Ideal S256x512 .bf16) (ix2 i x) = f (ix2 (qrow (iOf t) i) (qcol (gOf t) x)) := by
  show f (((cfg0.win 4).blk t).view.emb (ix2 i x)) = _
  refine congrArg _ (funext fun a => Fin.ext ?_)
  have e := index4 t
  fin_cases a
  · show win0_4.index t (0 : Fin 2) * 256 + 1 * i.val = 256 * (t.val % 32) + i.val
    rw [e]; simp; omega
  · show win0_4.index t (1 : Fin 2) * 512 + 1 * x.val = 512 * (t.val / 32) + x.val
    rw [e]; simp; omega

theorem iblk_4 (i : Fin 256) (x : Fin 512) :
    (iblk m c 4 t : Vec Ideal S256x512 .bf16) (ix2 i x)
      = (V m c (Pipeline.arrRef spec0 4) : Vec Ideal S8192x1024 .bf16) (ix2 (qrow (iOf t) i) (qcol (gOf t) x)) :=
  block_4 t _ i x

theorem block_5 (f : Vec Ideal S2x8192x8 .f32) (i : Fin 256) (h : Fin 8) :
    (((cfg0.win 5).blk t).view.read (Elt Ideal) f : Vec Ideal S1x256x8 .f32) (ix3 0 i h) = f (ix3 (gOf t) (qrow (iOf t) i) h) := by
  show f (((cfg0.win 5).blk t).view.emb (ix3 0 i h)) = _
  refine congrArg _ (funext fun a => Fin.ext ?_)
  have e := index5 t
  fin_cases a
  · show win0_5.index t (0 : Fin 3) * 1 + 1 * 0 = t.val / 32
    rw [e]; simp
  · show win0_5.index t (1 : Fin 3) * 256 + 1 * i.val = 256 * (t.val % 32) + i.val
    rw [e]; simp; omega
  · show win0_5.index t (2 : Fin 3) * 8 + 1 * h.val = h.val
    rw [e]; simp

theorem iblk_5 (i : Fin 256) (h : Fin 8) :
    (iblk m c 5 t : Vec Ideal S1x256x8 .f32) (ix3 0 i h)
      = (V m c (Pipeline.arrRef spec0 5) : Vec Ideal S2x8192x8 .f32) (ix3 (gOf t) (qrow (iOf t) i) h) :=
  block_5 t _ i h

/-- What the scratch holds while a group is worked on: its values, widened by ones. -/
def held (g hh : Fin 2) (j : Fin 8192) (e : Fin 128) : EReal :=
  if h : e.val < 64 then (V m c (Pipeline.arrRef spec0 2) : Vec Ideal S8192x256 .bf16) (ix2 j (kcol g (kc hh ⟨e.val, h⟩))) else 1

theorem vones_block (hh : Fin 2) (j : Fin 8192) (e : Fin 128) :
    vones (iblk m c 2 t) hh j e = held m c (gOf t) hh j e := by
  unfold vones held
  split
  · exact iblk_2 m c t _ _
  · rfl

theorem vones_pt (g : Fin 2) (i : Fin 32) (hh : Fin 2) (j : Fin 8192) (e : Fin 128) :
    vones (iblk m c 2 (pt g i)) hh j e = held m c g hh j e := by
  rw [vones_block, gOf_pt]

/-- What a point adds to the key gradient and to the value gradient. -/
abbrev addK (b : Fin 16) (x : Fin 128) (j : Fin 512) : EReal :=
  gK (iblk m c 0 t) (iblk m c 1 t) (iblk m c 2 t) (iblk m c 3 t) (iblk m c 4 t) (iblk m c 5 t) b x j
abbrev addV (b : Fin 16) (x : Fin 128) (j : Fin 512) : EReal :=
  gV (iblk m c 0 t) (iblk m c 1 t) (iblk m c 4 t) (iblk m c 5 t) b x j

/-- The buffers after a point: the scratch holds the group's widened values, the two gradients the sums over the group's
points so far. -/
def After (g : Fin 2) (i : ℕ) (hi : i < 32) : Prop :=
  (∀ (hh : Fin 2) (j : Fin 8192) (e : Fin 128),
    (outsAt0 m c (pt g ⟨i, hi⟩).val (pt g ⟨i, hi⟩).isLt).2.2.2 (ix2 j (⟨128 * hh.val + e.val, by omega⟩ : Fin 256)) = held m c g hh j e)
  ∧ (∀ (b : Fin 16) (x : Fin 128) (j : Fin 512),
    (outsAt0 m c (pt g ⟨i, hi⟩).val (pt g ⟨i, hi⟩).isLt).2.1 (ix4 0 b x j)
      = ∑ n : Fin (i + 1), addK m c (pt g ⟨n.val, by omega⟩) b x j)
  ∧ (∀ (b : Fin 16) (x : Fin 128) (j : Fin 512),
    (outsAt0 m c (pt g ⟨i, hi⟩).val (pt g ⟨i, hi⟩).isLt).2.2.1 (ix4 0 b x j)
      = ∑ n : Fin (i + 1), addV m c (pt g ⟨n.val, by omega⟩) b x j)

theorem after_first (g : Fin 2) : After m c g 0 (by decide) := by
  have h0 : (pt g ⟨0, by decide⟩).val % 32 = 0 := by show (32 * g.val + 0) % 32 = 0; omega
  have E := outsAt0_A m c (pt g ⟨0, by decide⟩) h0 h0
  refine ⟨fun hh j e => ?_, fun b x j => ?_, fun b x j => ?_⟩
  · refine (congrArg (fun z => z.2.2.2 (ix2 j (⟨128 * hh.val + e.val, by omega⟩ : Fin 256))) E).trans ?_
    dsimp only
    rw [soutA]
    exact vones_pt m c g _ hh j e
  · refine (congrArg (fun z => z.2.1 (ix4 0 b x j)) E).trans ?_
    dsimp only
    rw [outA_7]
    exact (Fin.sum_univ_one (fun n : Fin 1 => addK m c (pt g ⟨n.val, by omega⟩) b x j)).symm
  · refine (congrArg (fun z => z.2.2.1 (ix4 0 b x j)) E).trans ?_
    dsimp only
    rw [outA_8]
    exact (Fin.sum_univ_one (fun n : Fin 1 => addV m c (pt g ⟨n.val, by omega⟩) b x j)).symm

theorem after_next (g : Fin 2) (i : ℕ) (hi : i + 1 < 32) (ih : After m c g i (by omega)) : After m c g (i + 1) hi := by
  obtain ⟨hs, h7, h8⟩ := ih
  have h0 : ¬(pt g ⟨i + 1, hi⟩).val % 32 = 0 := by show ¬(32 * g.val + (i + 1)) % 32 = 0; omega
  have E := outsAt0_B m c (pt g ⟨i + 1, hi⟩) h0 h0
  have hs' : ∀ (hh : Fin 2) (j : Fin 8192) (e : Fin 128),
      (outsAt0 m c ((pt g ⟨i + 1, hi⟩).val - 1) (Nat.lt_of_le_of_lt (Nat.sub_le _ _) (pt g ⟨i + 1, hi⟩).isLt)).2.2.2
          (ix2 j (⟨128 * hh.val + e.val, by omega⟩ : Fin 256))
        = vones (iblk m c 2 (pt g ⟨i + 1, hi⟩)) hh j e := fun hh j e => (hs hh j e).trans (vones_pt m c g _ hh j e).symm
  refine ⟨fun hh j e => ?_, fun b x j => ?_, fun b x j => ?_⟩
  · exact (congrArg (fun z => z.2.2.2 (ix2 j (⟨128 * hh.val + e.val, by omega⟩ : Fin 256))) E).trans (hs hh j e)
  · refine (congrArg (fun z => z.2.1 (ix4 0 b x j)) E).trans ?_
    dsimp only
    rw [outB_7 (hs := hs')]
    rw [Fin.sum_univ_castSucc]
    exact congrArg (· + _) (h7 b x j)
  · refine (congrArg (fun z => z.2.2.1 (ix4 0 b x j)) E).trans ?_
    dsimp only
    rw [outB_8]
    rw [Fin.sum_univ_castSucc]
    exact congrArg (· + _) (h8 b x j)

theorem after_all (g : Fin 2) : ∀ (i : ℕ) (hi : i < 32), After m c g i hi
  | 0, _ => after_first m c g
  | i + 1, hi => after_next m c g i hi (after_all g i (by omega))

/-- A point's query gradient. -/
theorem query_at (g : Fin 2) (i : Fin 32) (r : Fin 256) (h : Fin 8) (d : Fin 64) :
    (outsAt0 m c (pt g i).val (pt g i).isLt).1 (ix2 r (col h d))
      = gQ (iblk m c 0 (pt g i)) (iblk m c 1 (pt g i)) (iblk m c 2 (pt g i)) (iblk m c 3 (pt g i)) (iblk m c 4 (pt g i))
          (iblk m c 5 (pt g i)) (kh h) (sr h r) d := by
  obtain ⟨i, hi⟩ := i
  cases i with
  | zero =>
    have h0 : (pt g ⟨0, hi⟩).val % 32 = 0 := by show (32 * g.val + 0) % 32 = 0; omega
    refine (congrArg (fun z => z.1 (ix2 r (col h d))) (outsAt0_A m c (pt g ⟨0, hi⟩) h0 h0)).trans ?_
    dsimp only
    rw [outA_6]
  | succ i =>
    have h0 : ¬(pt g ⟨i + 1, hi⟩).val % 32 = 0 := by show ¬(32 * g.val + (i + 1)) % 32 = 0; omega
    refine (congrArg (fun z => z.1 (ix2 r (col h d))) (outsAt0_B m c (pt g ⟨i + 1, hi⟩) h0 h0)).trans ?_
    dsimp only
    rw [outB_6]
    intro hh j e
    exact ((after_all m c g i (by omega)).1 hh j e).trans (vones_pt m c g _ hh j e).symm

end
end Cert.Attn
-- ==== Proof.Arrays.lean ====
module
public import proofs.«01_k».proof.Proof.Blocks
/-! The arrays that the call leaves, entry by entry, in terms of the arrays that it is given. -/
@[expose] public section
set_option maxRecDepth 16384
noncomputable section
namespace Cert.Attn
open Cert.KernelIdeal Cert.KernelIdeal.Gen
open Idealize.ShloMosaic Idealize.ShloMosaic.TcCoe Idealize.ShloMosaic.Tactic

/-- Column `d` of query head `h`, and of key head `g`. -/
abbrev cq (h : Fin 16) (d : Fin 64) : Fin 1024 := ⟨64 * h.val + d.val, by omega⟩
abbrev ck (g : Fin 4) (d : Fin 64) : Fin 256 := ⟨64 * g.val + d.val, by omega⟩
/-- The key head of a query head. -/
abbrev kOf (h : Fin 16) : Fin 4 := ⟨h.val / 4, by omega⟩
/-- The head of a query column, and its place in the head. -/
abbrev hOf (x : Fin 1024) : Fin 16 := ⟨x.val / 64, by omega⟩
abbrev dOf (x : Fin 1024) : Fin 64 := ⟨x.val % 64, by omega⟩
/-- Query head `r` of the four that share the key head of tile column `x` of group `g`. -/
abbrev tHead (g : Fin 2) (x : Fin 128) (r : Fin 4) : Fin 16 := ⟨8 * g.val + 4 * (x.val / 64) + r.val, by omega⟩

section
variable (Q : Vec Ideal S8192x1024 .bf16) (K W : Vec Ideal S8192x256 .bf16) (O P : Vec Ideal S8192x1024 .bf16)
  (L : Vec Ideal S2x8192x8 .f32)

/-- A probability. -/
def aP (h : Fin 16) (s j : Fin 8192) : EReal :=
  Ideal.exp2 ((∑ d : Fin 64, Q (ix2 s (cq h d)) * K (ix2 j (ck (kOf h) d)))
    - L (ix3 (⟨h.val / 8, by omega⟩ : Fin 2) s (⟨h.val % 8, by omega⟩ : Fin 8)))

/-- A row's product of the output and its gradient. -/
def aDot (h : Fin 16) (s : Fin 8192) : EReal := ∑ d : Fin 64, P (ix2 s (cq h d)) * O (ix2 s (cq h d))

/-- The widened gradient of the output and the widened values. -/
def aGrad (h : Fin 16) (s : Fin 8192) (e : Fin 128) : EReal :=
  if he : e.val < 64 then P (ix2 s (cq h ⟨e.val, he⟩))
  else if e.val = 64 then 0 - aDot O P h s
  else if e.val = 65 then 0 - (aDot O P h s - aDot O P h s)
  else 0
def aVal (g : Fin 4) (j : Fin 8192) (e : Fin 128) : EReal :=
  if he : e.val < 64 then W (ix2 j (ck g ⟨e.val, he⟩)) else 1

/-- A score's gradient. -/
def aD (h : Fin 16) (s j : Fin 8192) : EReal := aP Q K L h s j * ∑ e : Fin 128, aGrad O P h s e * aVal W (kOf h) j e

/-- The three gradients. -/
def aQ (s : Fin 8192) (x : Fin 1024) : EReal := ∑ j : Fin 8192, aD Q K W O P L (hOf x) s j * K (ix2 j (ck (kOf (hOf x)) (dOf x)))
def aK (g : Fin 2) (b : Fin 16) (x : Fin 128) (j : Fin 512) : EReal :=
  ∑ r : Fin 4, ∑ s : Fin 8192, Q (ix2 s (cq (tHead g x r) (lo x))) * aD Q K W O P L (tHead g x r) s (row b j)
def aV (g : Fin 2) (b : Fin 16) (x : Fin 128) (j : Fin 512) : EReal :=
  ∑ r : Fin 4, ∑ s : Fin 8192, P (ix2 s (cq (tHead g x r) (lo x))) * aP Q K L (tHead g x r) s (row b j)
end

/-- The head of stacked row `n` of key head `hh` of group `g`. -/
abbrev sHead (g hh : Fin 2) (n : Fin 1024) : Fin 16 := ⟨8 * g.val + (4 * hh.val + n.val / 256), by omega⟩

/-- A sum over the points of a group and the stacked rows of a point is a sum over the four heads and all queries. -/
theorem sum_queries (f : Fin 4 → Fin 8192 → EReal) :
    ∑ i : Fin 32, ∑ n : Fin 1024, f (⟨n.val / 256, by omega⟩ : Fin 4) (qrow i (ri n)) = ∑ r : Fin 4, ∑ s : Fin 8192, f r s := by
  have hn : ∀ i : Fin 32, ∑ n : Fin 1024, f (⟨n.val / 256, by omega⟩ : Fin 4) (qrow i (ri n))
      = ∑ r : Fin 4, ∑ a : Fin 256, f r (qrow i a) := fun i => by
    rw [← Fintype.sum_prod_type', ← (finProdFinEquiv (m := 4) (n := 256)).sum_comp]
    refine Fintype.sum_congr _ _ fun x => ?_
    have e1 : (finProdFinEquiv x).val = x.2.val + 256 * x.1.val := rfl
    congr 1
    · apply Fin.ext
      show (finProdFinEquiv x).val / 256 = x.1.val
      rw [e1]; omega
    · apply Fin.ext
      show 256 * i.val + (finProdFinEquiv x).val % 256 = 256 * i.val + x.2.val
      rw [e1]; omega
  rw [Fintype.sum_congr _ _ hn, Finset.sum_comm]
  refine Fintype.sum_congr _ _ fun r => ?_
  rw [← Fintype.sum_prod_type', ← (finProdFinEquiv (m := 32) (n := 256)).sum_comp]
  refine Fintype.sum_congr _ _ fun x => ?_
  congr 1
  apply Fin.ext
  show 256 * x.1.val + x.2.val = x.2.val + 256 * x.1.val
  omega

section
variable (m : (ℓ : Loc nD τ sig) → Buf (Elt Ideal) ℓ) (c : Dev nD)

/-- The six arrays the call is given. -/
abbrev inQ : Vec Ideal S8192x1024 .bf16 := V m c (Pipeline.arrRef spec0 0)
abbrev inK : Vec Ideal S8192x256 .bf16 := V m c (Pipeline.arrRef spec0 1)
abbrev inV : Vec Ideal S8192x256 .bf16 := V m c (Pipeline.arrRef spec0 2)
abbrev inO : Vec Ideal S8192x1024 .bf16 := V m c (Pipeline.arrRef spec0 3)
abbrev inP : Vec Ideal S8192x1024 .bf16 := V m c (Pipeline.arrRef spec0 4)
abbrev inL : Vec Ideal S2x8192x8 .f32 := V m c (Pipeline.arrRef spec0 5)

theorem q_pt (g : Fin 2) (i : Fin 32) (hh : Fin 2) (n : Fin 1024) (d : Fin 64) :
    (iblk m c 0 (pt g i) : Vec Ideal S256x512 .bf16) (ix2 (ri n) (col (hd hh n) d))
      = inQ m c (ix2 (qrow i (ri n)) (cq (sHead g hh n) d)) := by
  rw [iblk_0, gOf_pt, iOf_pt]
  exact congrArg (fun z => inQ m c (ix2 (qrow i (ri n)) z)) (Fin.ext (by simp; omega))

theorem o_pt (g : Fin 2) (i : Fin 32) (hh : Fin 2) (n : Fin 1024) (d : Fin 64) :
    (iblk m c 3 (pt g i) : Vec Ideal S256x512 .bf16) (ix2 (ri n) (col (hd hh n) d))
      = inO m c (ix2 (qrow i (ri n)) (cq (sHead g hh n) d)) := by
  rw [iblk_3, gOf_pt, iOf_pt]
  exact congrArg (fun z => inO m c (ix2 (qrow i (ri n)) z)) (Fin.ext (by simp; omega))

theorem p_pt (g : Fin 2) (i : Fin 32) (hh : Fin 2) (n : Fin 1024) (d : Fin 64) :
    (iblk m c 4 (pt g i) : Vec Ideal S256x512 .bf16) (ix2 (ri n) (col (hd hh n) d))
      = inP m c (ix2 (qrow i (ri n)) (cq (sHead g hh n) d)) := by
  rw [iblk_4, gOf_pt, iOf_pt]
  exact congrArg (fun z => inP m c (ix2 (qrow i (ri n)) z)) (Fin.ext (by simp; omega))

theorem k_pt (g : Fin 2) (i : Fin 32) (hh : Fin 2) (n : Fin 1024) (j : Fin 8192) (d : Fin 64) :
    (iblk m c 1 (pt g i) : Vec Ideal S8192x128 .bf16) (ix2 j (kc hh d)) = inK m c (ix2 j (ck (kOf (sHead g hh n)) d)) := by
  rw [iblk_1, gOf_pt]
  exact congrArg (fun z => inK m c (ix2 j z)) (Fin.ext (by simp; omega))

theorem l_pt (g : Fin 2) (i : Fin 32) (hh : Fin 2) (n : Fin 1024) :
    (iblk m c 5 (pt g i) : Vec Ideal S1x256x8 .f32) (ix3 0 (ri n) (hd hh n))
      = inL m c (ix3 (⟨(sHead g hh n).val / 8, by omega⟩ : Fin 2) (qrow i (ri n)) (⟨(sHead g hh n).val % 8, by omega⟩ : Fin 8)) := by
  rw [iblk_5, gOf_pt, iOf_pt]
  exact congrArg₂ (fun y z => inL m c (ix3 y (qrow i (ri n)) z)) (Fin.ext (by simp; omega)) (Fin.ext (by simp; omega))

theorem held_eq (g hh : Fin 2) (n : Fin 1024) (j : Fin 8192) (e : Fin 128) :
    held m c g hh j e = aVal (inV m c) (kOf (sHead g hh n)) j e := by
  unfold held aVal
  split
  · exact congrArg (fun z => inV m c (ix2 j z)) (Fin.ext (by simp; omega))
  · rfl

theorem pE_pt (g : Fin 2) (i : Fin 32) (hh : Fin 2) (n : Fin 1024) (j : Fin 8192) :
    pE (iblk m c 0 (pt g i)) (iblk m c 1 (pt g i)) (iblk m c 5 (pt g i)) hh n j
      = aP (inQ m c) (inK m c) (inL m c) (sHead g hh n) (qrow i (ri n)) j := by
  unfold pE aP
  rw [l_pt m c g i hh n]
  simp only [q_pt m c g i hh n, k_pt m c g i hh n]

theorem grad_pt (g : Fin 2) (i : Fin 32) (hh : Fin 2) (n : Fin 1024) (e : Fin 128) :
    widened (iblk m c 4 (pt g i)) (iblk m c 3 (pt g i)) hh n e
      = aGrad (inO m c) (inP m c) (sHead g hh n) (qrow i (ri n)) e := by
  have hdot : rowDot (iblk m c 4 (pt g i)) (iblk m c 3 (pt g i)) hh n
      = aDot (inO m c) (inP m c) (sHead g hh n) (qrow i (ri n)) := by
    unfold rowDot aDot
    exact Fintype.sum_congr _ _ fun d => congrArg₂ (· * ·) (p_pt m c g i hh n d) (o_pt m c g i hh n d)
  unfold widened aGrad
  rw [hdot]
  split
  · exact p_pt m c g i hh n _
  · rfl

theorem dE_pt (g : Fin 2) (i : Fin 32) (hh : Fin 2) (n : Fin 1024) (j : Fin 8192) :
    dE (iblk m c 0 (pt g i)) (iblk m c 1 (pt g i)) (iblk m c 2 (pt g i)) (iblk m c 3 (pt g i)) (iblk m c 4 (pt g i))
        (iblk m c 5 (pt g i)) hh n j
      = aD (inQ m c) (inK m c) (inV m c) (inO m c) (inP m c) (inL m c) (sHead g hh n) (qrow i (ri n)) j := by
  unfold dE aD
  rw [pE_pt]
  refine congrArg (_ * ·) (Fintype.sum_congr _ _ fun e => ?_)
  rw [grad_pt, vones_pt, held_eq m c g hh n]

end
end Cert.Attn
-- ==== Proof.Final.lean ====
module
public import proofs.«01_k».proof.Proof.Arrays
/-! The three arrays after the call. -/
@[expose] public section
set_option maxRecDepth 16384
noncomputable section
namespace Cert.Attn
open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The key gradient's tiles after a group's last point. -/
theorem keys_last (g : Fin 2) (b : Fin 16) (x : Fin 128) (j : Fin 512) :
    (outsAt0 m c (pt g 31).val (pt g 31).isLt).2.1 (ix4 0 b x j)
      = aK (inQ m c) (inK m c) (inV m c) (inO m c) (inP m c) (inL m c) g b x j := by
  refine ((after_all m c g 31 (by decide)).2.1 b x j).trans ?_
  unfold aK
  rw [← sum_queries fun r s => inQ m c (ix2 s (cq (tHead g x r) (lo x)))
    * aD (inQ m c) (inK m c) (inV m c) (inO m c) (inP m c) (inL m c) (tHead g x r) s (row b j)]
  refine Fintype.sum_congr _ _ fun i => Fintype.sum_congr _ _ fun n => ?_
  rw [q_pt, dE_pt]
  have e : sHead g (hx x) n = tHead g x ⟨n.val / 256, by omega⟩ := Fin.ext (by simp; omega)
  rw [e]

/-- The value gradient's tiles after a group's last point. -/
theorem values_last (g : Fin 2) (b : Fin 16) (x : Fin 128) (j : Fin 512) :
    (outsAt0 m c (pt g 31).val (pt g 31).isLt).2.2.1 (ix4 0 b x j)
      = aV (inQ m c) (inK m c) (inP m c) (inL m c) g b x j := by
  refine ((after_all m c g 31 (by decide)).2.2 b x j).trans ?_
  unfold aV
  rw [← sum_queries fun r s => inP m c (ix2 s (cq (tHead g x r) (lo x)))
    * aP (inQ m c) (inK m c) (inL m c) (tHead g x r) s (row b j)]
  refine Fintype.sum_congr _ _ fun i => Fintype.sum_congr _ _ fun n => ?_
  rw [p_pt, pE_pt]
  have e : sHead g (hx x) n = tHead g x ⟨n.val / 256, by omega⟩ := Fin.ext (by simp; omega)
  rw [e]

/-- The query gradient's block after each point. -/
theorem queries_pt (g : Fin 2) (i : Fin 32) (r : Fin 256) (x : Fin 512) :
    (outsAt0 m c (pt g i).val (pt g i).isLt).1 (ix2 r x)
      = aQ (inQ m c) (inK m c) (inV m c) (inO m c) (inP m c) (inL m c) (qrow i r) (qcol g x) := by
  have ex : x = col (⟨x.val / 64, by omega⟩ : Fin 8) (⟨x.val % 64, by omega⟩ : Fin 64) := Fin.ext (by simp; omega)
  rw [ex, query_at, ← ex]
  unfold gQ aQ
  refine Fintype.sum_congr _ _ fun j => ?_
  rw [dE_pt, k_pt m c g i _ (sr (⟨x.val / 64, by omega⟩ : Fin 8) r)]
  have e1 : sHead g (kh (⟨x.val / 64, by omega⟩ : Fin 8)) (sr (⟨x.val / 64, by omega⟩ : Fin 8) r) = hOf (qcol g x) :=
    Fin.ext (by simp; omega)
  have e2 : ri (sr (⟨x.val / 64, by omega⟩ : Fin 8) r) = r := Fin.ext (by simp)
  have e3 : (⟨x.val % 64, by omega⟩ : Fin 64) = dOf (qcol g x) := Fin.ext (by simp; omega)
  rw [e1, e2, e3]

theorem pt_of (t : Fin cfg0.N) : t = pt (gOf t) (iOf t) :=
  Fin.ext (by show t.val = 32 * (t.val / 32) + t.val % 32; omega)

/-- What the three output arrays hold, as functions of the index. -/
abbrev tilesK : Vec Ideal S2x16x128x512 .f32 := fun y =>
  aK (inQ m c) (inK m c) (inV m c) (inO m c) (inP m c) (inL m c) (y 0) (y 1) (y 2) (y 3)
abbrev tilesV : Vec Ideal S2x16x128x512 .f32 := fun y =>
  aV (inQ m c) (inK m c) (inP m c) (inL m c) (y 0) (y 1) (y 2) (y 3)
abbrev gradQ : Vec Ideal S8192x1024 .f32 := fun y =>
  aQ (inQ m c) (inK m c) (inV m c) (inO m c) (inP m c) (inL m c) (y 0) (y 1)

theorem tile_7 (f : Vec Ideal S2x16x128x512 .f32) (t : Fin cfg0.N) (b : Fin 16) (x : Fin 128) (j : Fin 512) :
    (((cfg0.win 7).blk t).view.read (Elt Ideal) f : Vec Ideal S1x16x128x512 .f32) (ix4 0 b x j) = f (ix4 (gOf t) b x j) := by
  show f (((cfg0.win 7).blk t).view.emb (ix4 0 b x j)) = _
  refine congrArg _ (funext fun a => Fin.ext ?_)
  have e := index7 t
  fin_cases a
  · show win0_7.index t (0 : Fin 4) * 1 + 1 * 0 = t.val / 32
    rw [e]; simp
  · show win0_7.index t (1 : Fin 4) * 16 + 1 * b.val = b.val
    rw [e]; simp
  · show win0_7.index t (2 : Fin 4) * 128 + 1 * x.val = x.val
    rw [e]; simp
  · show win0_7.index t (3 : Fin 4) * 512 + 1 * j.val = j.val
    rw [e]; simp

theorem tile_8 (f : Vec Ideal S2x16x128x512 .f32) (t : Fin cfg0.N) (b : Fin 16) (x : Fin 128) (j : Fin 512) :
    (((cfg0.win 8).blk t).view.read (Elt Ideal) f : Vec Ideal S1x16x128x512 .f32) (ix4 0 b x j) = f (ix4 (gOf t) b x j) := by
  show f (((cfg0.win 8).blk t).view.emb (ix4 0 b x j)) = _
  refine congrArg _ (funext fun a => Fin.ext ?_)
  have e := index8 t
  fin_cases a
  · show win0_8.index t (0 : Fin 4) * 1 + 1 * 0 = t.val / 32
    rw [e]; simp
  · show win0_8.index t (1 : Fin 4) * 16 + 1 * b.val = b.val
    rw [e]; simp
  · show win0_8.index t (2 : Fin 4) * 128 + 1 * x.val = x.val
    rw [e]; simp
  · show win0_8.index t (3 : Fin 4) * 512 + 1 * j.val = j.val
    rw [e]; simp

theorem tile_6 (f : Vec Ideal S8192x1024 .f32) (t : Fin cfg0.N) (r : Fin 256) (x : Fin 512) :
    (((cfg0.win 6).blk t).view.read (Elt Ideal) f : Vec Ideal S256x512 .f32) (ix2 r x) = f (ix2 (qrow (iOf t) r) (qcol (gOf t) x)) := by
  show f (((cfg0.win 6).blk t).view.emb (ix2 r x)) = _
  refine congrArg _ (funext fun a => Fin.ext ?_)
  have e := index6 t
  fin_cases a
  · show win0_6.index t (0 : Fin 2) * 256 + 1 * r.val = 256 * (t.val % 32) + r.val
    rw [e]; simp; omega
  · show win0_6.index t (1 : Fin 2) * 512 + 1 * x.val = 512 * (t.val / 32) + x.val
    rw [e]; simp; omega

theorem last_pt (t : Fin cfg0.N) (h : t.val % 32 = 31) : t = pt (gOf t) 31 :=
  Fin.ext (by show t.val = 32 * (t.val / 32) + 31; omega)

/-- What a group's last point writes back. -/
theorem back_7 (t : Fin cfg0.N) (ht : (cfg0.win 7).flush t = true) :
    (dats m 0 c).flushed 7 t = ((cfg0.win 7).blk t).view.read (Elt Ideal) (tilesK m c) := by
  have h := (flush0_7 t).mp ht
  funext y
  obtain ⟨b, x, j, rfl⟩ : ∃ b x j, y = (ix4 0 b x j : S1x16x128x512.Idx) :=
    ⟨y 1, y 2, y 3, (eq_ix4 y).trans (congrArg (fun z => ix4 z (y 1) (y 2) (y 3)) (Subsingleton.elim (α := Fin 1) _ _))⟩
  rw [tile_7]
  show (dats m 0 c).after 7 t (ix4 0 b x j) = _
  rw [after0_7]
  have e := last_pt t h
  generalize gOf t = g at e
  subst e
  exact keys_last m c g b x j

theorem back_8 (t : Fin cfg0.N) (ht : (cfg0.win 8).flush t = true) :
    (dats m 0 c).flushed 8 t = ((cfg0.win 8).blk t).view.read (Elt Ideal) (tilesV m c) := by
  have h := (flush0_8 t).mp ht
  funext y
  obtain ⟨b, x, j, rfl⟩ : ∃ b x j, y = (ix4 0 b x j : S1x16x128x512.Idx) :=
    ⟨y 1, y 2, y 3, (eq_ix4 y).trans (congrArg (fun z => ix4 z (y 1) (y 2) (y 3)) (Subsingleton.elim (α := Fin 1) _ _))⟩
  rw [tile_8]
  show (dats m 0 c).after 8 t (ix4 0 b x j) = _
  rw [after0_8]
  have e := last_pt t h
  generalize gOf t = g at e
  subst e
  exact values_last m c g b x j

theorem back_6 (t : Fin cfg0.N) :
    (dats m 0 c).flushed 6 t = ((cfg0.win 6).blk t).view.read (Elt Ideal) (gradQ m c) := by
  funext y
  obtain ⟨r, x, rfl⟩ : ∃ r x, y = (ix2 r x : S256x512.Idx) := ⟨y 0, y 1, eq_ix2 y⟩
  rw [tile_6]
  show (dats m 0 c).after 6 t (ix2 r x) = _
  rw [after0_6]
  have e := pt_of t
  generalize gOf t = g at e
  generalize iOf t = i at e
  subst e
  exact queries_pt m c g i r x

theorem final_7 : (dats m 0 c).arrAt 7 cfg0.N = tilesK m c :=
  (dats m 0 c).arrAt_eq_of_cover 7 (tilesK m c) (fun t ht => back_7 m c t ht)
    (Pipeline.Window.Covers.cover win0_7 (by decide +kernel) (arr_whole0 7))
theorem final_8 : (dats m 0 c).arrAt 8 cfg0.N = tilesV m c :=
  (dats m 0 c).arrAt_eq_of_cover 8 (tilesV m c) (fun t ht => back_8 m c t ht)
    (Pipeline.Window.Covers.cover win0_8 (by decide +kernel) (arr_whole0 8))
theorem final_6 : (dats m 0 c).arrAt 6 cfg0.N = gradQ m c :=
  (dats m 0 c).arrAt_eq_of_cover 6 (gradQ m c) (fun t _ => back_6 m c t)
    (Pipeline.Window.Covers.cover win0_6 (by decide +kernel) (arr_whole0 6))

end Cert.Attn
-- ==== Proof.Host.lean ====
module
public import proofs.«01_k».proof.Proof.Final
import Idealize.ShloMosaic.Lib.Pointwise
/-! The host's lines before the call: the scores, their softmax, the output and the logarithms, entry by entry. -/
@[expose] public section
set_option maxRecDepth 16384
noncomputable section
namespace Cert.Attn
open Cert.KernelIdeal Cert.KernelIdeal.Gen
open Idealize.ShloMosaic Idealize.ShloMosaic.TcCoe Idealize.ShloMosaic.Tactic Idealize.ShloMosaic.StableHlo

section
variable (q : Vec Ideal S8192x1024 .f32) (k v : Vec Ideal S8192x256 .f32)

/-- The queries and the keys by heads. -/
def hQ : FVec Ideal S4x4x8192x64 .f32 :=
  shapeCast S4x4x8192x64 (transpose S16x8192x64 [1, 0, 2]
    (shapeCast S8192x16x64 q shapeCasts_S8192x1024_S8192x16x64 : FVec Ideal S8192x16x64 .f32) transposes_S8192x16x64_S16x8192x64_1_0_2)
    shapeCasts_S16x8192x64_S4x4x8192x64
def hK : FVec Ideal S4x8192x64 .f32 :=
  transpose S4x8192x64 [1, 0, 2] (shapeCast S8192x4x64 k shapeCasts_S8192x256_S8192x4x64 : FVec Ideal S8192x4x64 .f32)
    transposes_S8192x4x64_S4x8192x64_1_0_2
/-- The scaled scores. -/
def hS : FVec Ideal S4x4x8192x8192 .f32 :=
  mulf (Host.dotGeneral dot_S4x4x8192x64_S4x8192x64_S4x4x8192x8192_3_2_12_1_0_0 none (hQ q) (hK k))
    (broadcastInDim S4x4x8192x8192 ![] bcast_S_S4x4x8192x8192 (constant S_ .f32 0x3E000000#32))
/-- Each row's greatest score, the exponentials, and their sum. -/
def hM : FVec Ideal S4x4x8192x1 .f32 :=
  broadcastInDim S4x4x8192x1 ![0, 1, 2] bcast_S4x4x8192_S4x4x8192x1_0_1_2
    (Host.reduce FloatOps.maximumf (hS q k) (constant S_ .f32 0xFF800000#32) reducesTo_S4x4x8192x8192_S4x4x8192_d3 h_S_)
def hE : FVec Ideal S4x4x8192x8192 .f32 :=
  Host.exp (subf (hS q k) (broadcastInDim S4x4x8192x8192 ![0, 1, 2, 3] bcast_S4x4x8192x1_S4x4x8192x8192_0_1_2_3 (hM q k)))
def hL : FVec Ideal S4x4x8192x1 .f32 :=
  broadcastInDim S4x4x8192x1 ![0, 1, 2] bcast_S4x4x8192_S4x4x8192x1_0_1_2
    (Host.reduceAdd (hE q k) (constant S_ .f32 0x00000000#32) reducesTo_S4x4x8192x8192_S4x4x8192_d3 h_S_)
/-- The output. -/
def hO : FVec Ideal S4x4x8192x64 .f32 :=
  Host.dotGeneral dot_S4x4x8192x8192_S4x8192x64_S4x4x8192x64_3_1_12_2_0_0 none
    (Host.divf (hE q k) (broadcastInDim S4x4x8192x8192 ![0, 1, 2, 3] bcast_S4x4x8192x1_S4x4x8192x8192_0_1_2_3 (hL q k))) (hK v)
/-- The logarithm to base 2 of each row's denominator. -/
def hLse : FVec Ideal S4x4x8192x1 .f32 :=
  Host.divf (addf (hM q k) (Host.log (hL q k)))
    (broadcastInDim S4x4x8192x1 ![] bcast_S_S4x4x8192x1 (Host.log (constant S_ .f32 0x40000000#32)))

/-- The stages, entry by entry. -/
theorem hS_at (g r : Fin 4) (s j : Fin 8192) :
    hS q k (ix4 g r s j) = (∑ d : Fin 64, q (ix2 s (⟨(g.val * 4 + r.val) * 64 + d.val, by omega⟩ : Fin 1024))
      * k (ix2 j (⟨g.val * 64 + d.val, by omega⟩ : Fin 256))) * Ideal.ofBits .f32 0x3E000000#32 := by
  unfold hS hQ hK
  pointwise []

theorem max_at (S : FVec Ideal S4x4x8192x8192 .f32) (g r : Fin 4) (s : Fin 8192) :
    (broadcastInDim S4x4x8192x1 ![0, 1, 2] bcast_S4x4x8192_S4x4x8192x1_0_1_2
      (Host.reduce FloatOps.maximumf S (constant S_ .f32 0xFF800000#32) reducesTo_S4x4x8192x8192_S4x4x8192_d3 h_S_)
        : FVec Ideal S4x4x8192x1 .f32) (ix4 g r s 0)
      = Finset.fold max (Ideal.ofBits .f32 0xFF800000#32) (fun j => S (ix4 g r s j)) Finset.univ := by
  pointwise []

theorem hM_at (g r : Fin 4) (s : Fin 8192) :
    hM q k (ix4 g r s 0) = Finset.fold max (Ideal.ofBits .f32 0xFF800000#32) (fun j => hS q k (ix4 g r s j)) Finset.univ :=
  max_at _ g r s

theorem exp_at (S : FVec Ideal S4x4x8192x8192 .f32) (M : FVec Ideal S4x4x8192x1 .f32) (g r : Fin 4) (s j : Fin 8192) :
    Host.exp (subf S (broadcastInDim S4x4x8192x8192 ![0, 1, 2, 3] bcast_S4x4x8192x1_S4x4x8192x8192_0_1_2_3 M)) (ix4 g r s j)
      = Ideal.exp (S (ix4 g r s j) - M (ix4 g r s 0)) := by
  pointwise []

theorem hE_at (g r : Fin 4) (s j : Fin 8192) :
    hE q k (ix4 g r s j) = Ideal.exp (hS q k (ix4 g r s j) - hM q k (ix4 g r s 0)) :=
  exp_at _ _ g r s j

theorem sum_at (S : FVec Ideal S4x4x8192x8192 .f32) (g r : Fin 4) (s : Fin 8192) :
    (broadcastInDim S4x4x8192x1 ![0, 1, 2] bcast_S4x4x8192_S4x4x8192x1_0_1_2
      (Host.reduceAdd S (constant S_ .f32 0x00000000#32) reducesTo_S4x4x8192x8192_S4x4x8192_d3 h_S_)
        : FVec Ideal S4x4x8192x1 .f32) (ix4 g r s 0) = ∑ j : Fin 8192, S (ix4 g r s j) := by
  pointwise []

theorem hL_at (g r : Fin 4) (s : Fin 8192) : hL q k (ix4 g r s 0) = ∑ j : Fin 8192, hE q k (ix4 g r s j) :=
  sum_at _ g r s

theorem out_at (E : FVec Ideal S4x4x8192x8192 .f32) (L : FVec Ideal S4x4x8192x1 .f32) (g r : Fin 4) (s : Fin 8192) (d : Fin 64) :
    Host.dotGeneral dot_S4x4x8192x8192_S4x8192x64_S4x4x8192x64_3_1_12_2_0_0 none
      (Host.divf E (broadcastInDim S4x4x8192x8192 ![0, 1, 2, 3] bcast_S4x4x8192x1_S4x4x8192x8192_0_1_2_3 L)) (hK v) (ix4 g r s d)
      = ∑ j : Fin 8192, Ideal.div (E (ix4 g r s j)) (L (ix4 g r s 0)) * v (ix2 j (⟨g.val * 64 + d.val, by omega⟩ : Fin 256)) := by
  unfold hK
  pointwise []

theorem hO_at (g r : Fin 4) (s : Fin 8192) (d : Fin 64) :
    hO q k v (ix4 g r s d) = ∑ j : Fin 8192, Ideal.div (hE q k (ix4 g r s j)) (hL q k (ix4 g r s 0))
      * v (ix2 j (⟨g.val * 64 + d.val, by omega⟩ : Fin 256)) :=
  out_at _ _ _ g r s d

theorem lse_at (M L : FVec Ideal S4x4x8192x1 .f32) (g r : Fin 4) (s : Fin 8192) :
    Host.divf (addf M (Host.log L)) (broadcastInDim S4x4x8192x1 ![] bcast_S_S4x4x8192x1 (Host.log (constant S_ .f32 0x40000000#32))) (ix4 g r s 0)
      = Ideal.div (M (ix4 g r s 0) + Ideal.log (L (ix4 g r s 0))) (Ideal.log (Ideal.ofBits .f32 0x40000000#32)) := by
  pointwise []

theorem hLse_at (g r : Fin 4) (s : Fin 8192) :
    hLse q k (ix4 g r s 0)
      = Ideal.div (hM q k (ix4 g r s 0) + Ideal.log (hL q k (ix4 g r s 0))) (Ideal.log (Ideal.ofBits .f32 0x40000000#32)) :=
  lse_at _ _ g r s

/-- The layouts that the call takes the output and the logarithms in. -/
theorem flat_at (o : FVec Ideal S4x4x8192x64 .f32) (s : Fin 8192) (x : Fin 1024) :
    truncf .bf16 (shapeCast S8192x1024 (transpose S8192x16x64 [1, 0, 2]
      (shapeCast S16x8192x64 o shapeCasts_S4x4x8192x64_S16x8192x64 : FVec Ideal S16x8192x64 .f32) transposes_S16x8192x64_S8192x16x64_1_0_2)
      shapeCasts_S8192x16x64_S8192x1024 : FVec Ideal S8192x1024 .f32) bitsLt_bf16_f32 (ix2 s x)
      = o (ix4 (⟨x.val / 64 / 4, by omega⟩ : Fin 4) (⟨x.val / 64 % 4, by omega⟩ : Fin 4) s (⟨x.val % 64, by omega⟩ : Fin 64)) := by
  pointwise []
theorem group_at (l : FVec Ideal S4x4x8192x1 .f32) (g : Fin 2) (s : Fin 8192) (h : Fin 8) :
    transpose S2x8192x8 [0, 2, 1] (shapeCast S2x8x8192 l shapeCasts_S4x4x8192x1_S2x8x8192 : FVec Ideal S2x8x8192 .f32)
      transposes_S2x8x8192_S2x8192x8_0_2_1 (ix3 g s h)
      = l (ix4 (⟨g.val * 2 + h.val / 4, by omega⟩ : Fin 4) (⟨h.val % 4, by omega⟩ : Fin 4) s 0) := by
  pointwise []
theorem scaled_at (s : Fin 8192) (x : Fin 1024) :
    ((truncf .bf16 (mulf q (broadcastInDim S8192x1024 ![] bcast_S_S8192x1024
          (Host.divf (constant S_ .f32 0x3E000000#32) (Host.log (constant S_ .f32 0x40000000#32))))) bitsLt_bf16_f32
        : FVec Ideal S8192x1024 .bf16) (ix2 s x) : EReal)
      = q (ix2 s x) * Ideal.div (Ideal.ofBits .f32 0x3E000000#32) (Ideal.log (Ideal.ofBits .f32 0x40000000#32)) := by
  pointwise []
end

variable (m : (ℓ : Loc nD τ sig) → Buf (Elt Ideal) ℓ) (c : Dev nD)

/-- The four arguments. -/
abbrev argQ : FVec Ideal S8192x1024 .f32 := m ((c : Thread nD τ).loc main_arg0)
abbrev argK : FVec Ideal S8192x256 .f32 := m ((c : Thread nD τ).loc main_arg1)
abbrev argV : FVec Ideal S8192x256 .f32 := m ((c : Thread nD τ).loc main_arg2)
abbrev argP : FVec Ideal S8192x1024 .f32 := m ((c : Thread nD τ).loc main_arg3)

/-- What the call is given, from the arguments. -/
theorem inQ_eq : inQ m c = (truncf .bf16 (mulf (argQ m c) (broadcastInDim S8192x1024 ![] bcast_S_S8192x1024
      (Host.divf (constant S_ .f32 0x3E000000#32) (Host.log (constant S_ .f32 0x40000000#32))))) bitsLt_bf16_f32 : FVec Ideal S8192x1024 .bf16) := by
  show StableHlo.after (hostOps0 (F := Ideal)) (fun b => m (c, b)) (Proc.devRef .tc main_v4) = _
  after_results
theorem inK_eq : inK m c = (truncf .bf16 (argK m c) bitsLt_bf16_f32 : FVec Ideal S8192x256 .bf16) := by
  show StableHlo.after (hostOps0 (F := Ideal)) (fun b => m (c, b)) (Proc.devRef .tc main_v5) = _
  after_results
theorem inV_eq : inV m c = (truncf .bf16 (argV m c) bitsLt_bf16_f32 : FVec Ideal S8192x256 .bf16) := by
  show StableHlo.after (hostOps0 (F := Ideal)) (fun b => m (c, b)) (Proc.devRef .tc main_v6) = _
  after_results
theorem inP_eq : inP m c = (truncf .bf16 (argP m c) bitsLt_bf16_f32 : FVec Ideal S8192x1024 .bf16) := by
  show StableHlo.after (hostOps0 (F := Ideal)) (fun b => m (c, b)) (Proc.devRef .tc main_v38) = _
  after_results
theorem inL_eq : inL m c = transpose S2x8192x8 [0, 2, 1] (shapeCast S2x8x8192 (hLse (argQ m c) (argK m c))
      shapeCasts_S4x4x8192x1_S2x8x8192 : FVec Ideal S2x8x8192 .f32) transposes_S2x8x8192_S2x8192x8_0_2_1 := by
  show StableHlo.after (hostOps0 (F := Ideal)) (fun b => m (c, b)) (Proc.devRef .tc main_v36) = _
  after_results
  rfl
theorem inO_eq : inO m c = (truncf .bf16 (shapeCast S8192x1024 (transpose S8192x16x64 [1, 0, 2]
      (shapeCast S16x8192x64 (hO (argQ m c) (argK m c) (argV m c))
        shapeCasts_S4x4x8192x64_S16x8192x64 : FVec Ideal S16x8192x64 .f32) transposes_S16x8192x64_S8192x16x64_1_0_2)
      shapeCasts_S8192x16x64_S8192x1024 : FVec Ideal S8192x1024 .f32) bitsLt_bf16_f32 : FVec Ideal S8192x1024 .bf16) := by
  show StableHlo.after (hostOps0 (F := Ideal)) (fun b => m (c, b)) (Proc.devRef .tc main_v37) = _
  after_results
  rfl
end Cert.Attn
-- ==== Proof.Reals.lean ====
module
public import proofs.«01_k».proof.Proof.Arrays
/-! The attention's gradient over the real numbers, and the arrays of the call in terms of it. -/
@[expose] public section
set_option maxRecDepth 16384
noncomputable section
namespace Cert.Attn
open Cert.KernelIdeal Cert.KernelIdeal.Gen
open Idealize.ShloMosaic Idealize.ShloMosaic.TcCoe Idealize.ShloMosaic.Tactic

/-- The group of a query head, and its place in the group. -/
abbrev grp (h : Fin 16) : Fin 2 := ⟨h.val / 8, by omega⟩
abbrev plc (h : Fin 16) : Fin 8 := ⟨h.val % 8, by omega⟩

/-- A sum of reals, taken among the extended reals. -/
theorem coe_total {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

theorem coe_dot {ι : Type} (t : Finset ι) (f g : ι → ℝ) :
    ∑ i ∈ t, (f i : EReal) * (g i : EReal) = ((∑ i ∈ t, f i * g i : ℝ) : EReal) := by
  rw [← coe_total]
  exact Finset.sum_congr rfl fun i _ => (EReal.coe_mul _ _).symm

/-- The greatest of finitely many reals, taken from minus infinity, is a real. -/
theorem coe_max {ι : Type} (t : Finset ι) (ht : t.Nonempty) (f : ι → ℝ) :
    ∃ M : ℝ, Finset.fold max (⊥ : EReal) (fun i => (f i : EReal)) t = (M : EReal) := by
  classical
  induction ht using Finset.Nonempty.cons_induction with
  | singleton a => exact ⟨f a, by simp⟩
  | cons a t ha ht ih =>
    obtain ⟨M, hM⟩ := ih
    exact ⟨max (f a) M, by rw [Finset.fold_cons, hM]; exact (EReal.coe_strictMono.monotone.map_max).symm⟩

/-- The constants. -/
theorem eighth : Ideal.ofBits .f32 0x3E000000#32 = (((1 : ℝ) / 8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem lowest : Ideal.ofBits .f32 0xFF800000#32 = (⊥ : EReal) := by
  simp [Ideal.ofBits, Ideal.ieee]

theorem log_pos {x : ℝ} (h : 0 < x) : Ideal.log (x : EReal) = ((Real.log x : ℝ) : EReal) := by
  rw [Ideal.log_coe, if_neg (not_le.mpr h)]

theorem div_pos {x y : ℝ} (h : y ≠ 0) : Ideal.div (x : EReal) (y : EReal) = ((x / y : ℝ) : EReal) := by
  rw [Ideal.div_coe h, ← EReal.coe_mul, mul_one_div]

/-- The exponentials' total is positive. -/
theorem total_pos (x : Fin 8192 → ℝ) (M : ℝ) : 0 < ∑ i, Real.exp (x i - M) :=
  Finset.sum_pos (fun _ _ => Real.exp_pos _) ⟨0, Finset.mem_univ _⟩

/-- The softmax does not change when all scores are shifted. -/
theorem shift (x : Fin 8192 → ℝ) (M : ℝ) (j : Fin 8192) :
    Real.exp (x j - M) / ∑ i, Real.exp (x i - M) = Real.exp (x j) / ∑ i, Real.exp (x i) := by
  simp only [Real.exp_sub]
  rw [← Finset.sum_div, div_div_div_cancel_right₀ (Real.exp_ne_zero M)]

/-- The power of two that the call takes is the softmax. -/
theorem power (x : Fin 8192 → ℝ) (M : ℝ) (j : Fin 8192) :
    Real.rpow 2 (x j / Real.log 2 - (M + Real.log (∑ i, Real.exp (x i - M))) / Real.log 2)
      = Real.exp (x j) / ∑ i, Real.exp (x i) := by
  have h2 : Real.log 2 ≠ 0 := (Real.log_pos (by norm_num)).ne'
  rw [← shift x M j]
  refine (Real.rpow_def_of_pos (by norm_num : (0 : ℝ) < 2) _).trans ?_
  rw [← sub_div, mul_div_cancel₀ _ h2, ← sub_sub, Real.exp_sub, Real.exp_log (total_pos x M)]

section
variable (q : Fin 8192 → Fin 1024 → ℝ) (k v : Fin 8192 → Fin 256 → ℝ) (p : Fin 8192 → Fin 1024 → ℝ)

/-- The scaled scores, the probabilities, and the attention's output. -/
def rS (h : Fin 16) (s j : Fin 8192) : ℝ := (∑ d : Fin 64, q s (cq h d) * k j (ck (kOf h) d)) * (1 / 8)
def rP (h : Fin 16) (s j : Fin 8192) : ℝ := Real.exp (rS q k h s j) / ∑ i, Real.exp (rS q k h s i)
def rO (h : Fin 16) (s : Fin 8192) (d : Fin 64) : ℝ := ∑ j, rP q k h s j * v j (ck (kOf h) d)
/-- The gradient of a probability, and its mean in a row. -/
def rG (h : Fin 16) (s j : Fin 8192) : ℝ := ∑ d : Fin 64, p s (cq h d) * v j (ck (kOf h) d)
def rM (h : Fin 16) (s : Fin 8192) : ℝ := ∑ j, rP q k h s j * rG v p h s j
/-- The gradient of a score before the scale. -/
def rD (h : Fin 16) (s j : Fin 8192) : ℝ := rP q k h s j * (rG v p h s j - rM q k v p h s)
/-- The gradients of the queries, the keys and the values. -/
def rQ (s : Fin 8192) (x : Fin 1024) : ℝ := (∑ j, rD q k v p (hOf x) s j * k j (ck (kOf (hOf x)) (dOf x))) * (1 / 8)
def rK (g : Fin 2) (b : Fin 16) (x : Fin 128) (j : Fin 512) : ℝ :=
  (∑ r : Fin 4, ∑ s, q s (cq (tHead g x r) (lo x)) * rD q k v p (tHead g x r) s (row b j)) * (1 / 8)
def rV (g : Fin 2) (b : Fin 16) (x : Fin 128) (j : Fin 512) : ℝ :=
  ∑ r : Fin 4, ∑ s, p s (cq (tHead g x r) (lo x)) * rP q k (tHead g x r) s (row b j)

/-- A row's product of the output and its gradient is the mean of the probabilities' gradients. -/
theorem dot_mean (h : Fin 16) (s : Fin 8192) : ∑ d : Fin 64, p s (cq h d) * rO q k v h s d = rM q k v p h s := by
  unfold rM rO rG
  simp only [Finset.mul_sum]
  rw [Finset.sum_comm]
  exact Finset.sum_congr rfl fun j _ => Finset.sum_congr rfl fun d _ => by ring

variable (Q : Vec Ideal S8192x1024 .bf16) (K W : Vec Ideal S8192x256 .bf16) (O P : Vec Ideal S8192x1024 .bf16)
  (L : Vec Ideal S2x8192x8 .f32)
  (hQ : ∀ s x, Q (ix2 s x) = ((q s x * (1 / 8 / Real.log 2) : ℝ) : EReal))
  (hK : ∀ j y, K (ix2 j y) = ((k j y : ℝ) : EReal))
  (hW : ∀ j y, W (ix2 j y) = ((v j y : ℝ) : EReal))
  (hP : ∀ s x, P (ix2 s x) = ((p s x : ℝ) : EReal))
  (hO : ∀ s h d, O (ix2 s (cq h d)) = ((rO q k v h s d : ℝ) : EReal))
  (hL : ∀ (h : Fin 16) s, ∃ M : ℝ, L (ix3 (grp h) s (plc h))
    = (((M + Real.log (∑ i, Real.exp (rS q k h s i - M))) / Real.log 2 : ℝ) : EReal))

include hQ hK hL in
theorem aP_real (h : Fin 16) (s j : Fin 8192) : aP Q K L h s j = ((rP q k h s j : ℝ) : EReal) := by
  obtain ⟨M, hM⟩ := hL h s
  unfold aP
  simp only [hQ, hK]
  rw [hM, coe_dot, ← EReal.coe_sub, Ideal.exp2_coe]
  have e : ∑ d : Fin 64, q s (cq h d) * (1 / 8 / Real.log 2) * k j (ck (kOf h) d) = rS q k h s j / Real.log 2 := by
    unfold rS
    rw [Finset.sum_mul, Finset.sum_div]
    exact Finset.sum_congr rfl fun d _ => by ring
  rw [e, power (fun i => rS q k h s i) M j]
  rfl

include hP hO in
theorem aDot_real (h : Fin 16) (s : Fin 8192) : aDot O P h s = ((rM q k v p h s : ℝ) : EReal) := by
  unfold aDot
  simp only [hP, hO]
  rw [coe_dot, dot_mean]

include hP hO hW in
/-- The product of the widened rows is the probability's gradient less the row's mean. -/
theorem wide_real (h : Fin 16) (s j : Fin 8192) :
    ∑ e : Fin 128, aGrad O P h s e * aVal W (kOf h) j e = ((rG v p h s j - rM q k v p h s : ℝ) : EReal) := by
  have hd := aDot_real q k v p O P hP hO h s
  have h0 : ∀ e : Fin 64, aGrad O P h s (Fin.castAdd 64 e) * aVal W (kOf h) j (Fin.castAdd 64 e)
      = ((p s (cq h e) : ℝ) : EReal) * ((v j (ck (kOf h) e) : ℝ) : EReal) := fun e => by
    have he : (Fin.castAdd 64 e).val < 64 := e.isLt
    unfold aGrad aVal
    rw [dif_pos he, dif_pos he]
    exact congrArg₂ (· * ·) (hP _ _) (hW _ _)
  have h1 : ∀ e : Fin 64, aGrad O P h s (Fin.natAdd 64 e) * aVal W (kOf h) j (Fin.natAdd 64 e)
      = (((if e = 0 then -rM q k v p h s else 0) : ℝ) : EReal) := fun e => by
    have he : ¬ (Fin.natAdd 64 e).val < 64 := by simp
    unfold aGrad aVal
    rw [dif_neg he, dif_neg he, hd, mul_one]
    by_cases e0 : e = 0
    · subst e0
      rw [if_pos (show (Fin.natAdd 64 (0 : Fin 64)).val = 64 from rfl), if_pos rfl, zero_sub, ← EReal.coe_neg]
    · have e0' : ¬ (Fin.natAdd 64 e).val = 64 := fun h' => e0 (Fin.ext (by simpa using h'))
      rw [if_neg e0', if_neg e0, ← EReal.coe_sub, sub_self]
      simp
  have hs : ∑ e : Fin 128, aGrad O P h s e * aVal W (kOf h) j e
      = ∑ e : Fin 64, aGrad O P h s (Fin.castAdd 64 e) * aVal W (kOf h) j (Fin.castAdd 64 e)
        + ∑ e : Fin 64, aGrad O P h s (Fin.natAdd 64 e) * aVal W (kOf h) j (Fin.natAdd 64 e) :=
    Fin.sum_univ_add (fun e : Fin (64 + 64) => aGrad O P h s e * aVal W (kOf h) j e)
  rw [hs]
  simp only [h0, h1]
  rw [coe_dot, coe_total, ← EReal.coe_add]
  congr 1
  rw [Finset.sum_ite_eq' Finset.univ (0 : Fin 64) (fun _ => -rM q k v p h s), if_pos (Finset.mem_univ _), ← sub_eq_add_neg]
  rfl

include hQ hK hW hP hO hL in
theorem aD_real (h : Fin 16) (s j : Fin 8192) : aD Q K W O P L h s j = ((rD q k v p h s j : ℝ) : EReal) := by
  unfold aD
  rw [aP_real q k Q K L hQ hK hL, wide_real q k v p W O P hW hP hO, ← EReal.coe_mul]
  rfl

include hQ hK hW hP hO hL in
theorem aQ_real (s : Fin 8192) (x : Fin 1024) : aQ Q K W O P L s x * ((1 / 8 : ℝ) : EReal) = ((rQ q k v p s x : ℝ) : EReal) := by
  unfold aQ
  simp only [aD_real q k v p Q K W O P L hQ hK hW hP hO hL, hK]
  rw [coe_dot, ← EReal.coe_mul]
  rfl

include hQ hK hW hP hO hL in
theorem aK_real (g : Fin 2) (b : Fin 16) (x : Fin 128) (j : Fin 512) :
    aK Q K W O P L g b x j * ((Real.log 2 : ℝ) : EReal) = ((rK q k v p g b x j : ℝ) : EReal) := by
  have h2 : Real.log 2 ≠ 0 := (Real.log_pos (by norm_num)).ne'
  unfold aK
  simp only [aD_real q k v p Q K W O P L hQ hK hW hP hO hL, hQ, coe_dot, coe_total]
  rw [← EReal.coe_mul]
  congr 1
  unfold rK
  simp only [Finset.sum_mul]
  exact Finset.sum_congr rfl fun r _ => Finset.sum_congr rfl fun s _ => by field_simp

include hQ hK hP hL in
theorem aV_real (g : Fin 2) (b : Fin 16) (x : Fin 128) (j : Fin 512) :
    aV Q K P L g b x j = ((rV q k p g b x j : ℝ) : EReal) := by
  unfold aV
  simp only [aP_real q k Q K L hQ hK hL, hP, coe_dot, coe_total]
  rfl
end
end Cert.Attn
-- ==== Proof.Plain.lean ====
module
public import proofs.«01_k».proof.Proof.Reals
public import proofs.«01_k».proof.Proof.Gen.ReferenceIdeal.Run
import Idealize.ShloMosaic.Lib.Pointwise
/-! The reference's stages, entry by entry. -/
@[expose] public section
set_option maxRecDepth 16384
noncomputable section
namespace Cert.Attn.Plain
open Cert.ReferenceIdeal Cert.ReferenceIdeal.Gen
open Idealize.ShloMosaic Idealize.ShloMosaic.TcCoe Idealize.ShloMosaic.Tactic Idealize.ShloMosaic.StableHlo

section
variable (q p : FVec Ideal S8192x1024 .f32) (k v : FVec Ideal S8192x256 .f32)

/-- The columns by heads. -/
def xQ : FVec Ideal S4x4x8192x64 .f32 :=
  shapeCast S4x4x8192x64 (transpose S16x8192x64 [1, 0, 2]
    (shapeCast S8192x16x64 q shapeCasts_S8192x1024_S8192x16x64 : FVec Ideal S8192x16x64 .f32) transposes_S8192x16x64_S16x8192x64_1_0_2)
    shapeCasts_S16x8192x64_S4x4x8192x64
def xK : FVec Ideal S4x8192x64 .f32 :=
  transpose S4x8192x64 [1, 0, 2] (shapeCast S8192x4x64 k shapeCasts_S8192x256_S8192x4x64 : FVec Ideal S8192x4x64 .f32)
    transposes_S8192x4x64_S4x8192x64_1_0_2
/-- The scaled scores, each row's greatest, the exponentials and their sum. -/
def xS : FVec Ideal S4x4x8192x8192 .f32 :=
  mulf (Host.dotGeneral dot_S4x4x8192x64_S4x8192x64_S4x4x8192x8192_3_2_12_1_0_0 none (xQ q) (xK k))
    (broadcastInDim S4x4x8192x8192 ![] bcast_S_S4x4x8192x8192 (constant S_ .f32 0x3E000000#32))
def xM : FVec Ideal S4x4x8192x1 .f32 :=
  broadcastInDim S4x4x8192x1 ![0, 1, 2] bcast_S4x4x8192_S4x4x8192x1_0_1_2
    (maximumf (broadcastInDim S4x4x8192 ![] bcast_S_S4x4x8192 (constant S_ .f32 0xFF800000#32))
      (Host.reduce FloatOps.maximumf (xS q k) (constant S_ .f32 0xFF800000#32) reducesTo_S4x4x8192x8192_S4x4x8192_d3 h_S_))
def xE : FVec Ideal S4x4x8192x8192 .f32 :=
  Host.exp (subf (xS q k) (broadcastInDim S4x4x8192x8192 ![0, 1, 2, 3] bcast_S4x4x8192x1_S4x4x8192x8192_0_1_2_3 (xM q k)))
def xL : FVec Ideal S4x4x8192x1 .f32 :=
  broadcastInDim S4x4x8192x1 ![0, 1, 2] bcast_S4x4x8192_S4x4x8192x1_0_1_2
    (Host.reduceAdd (xE q k) (constant S_ .f32 0x00000000#32) reducesTo_S4x4x8192x8192_S4x4x8192_d3 h_S_)
/-- The gradient of the probabilities. -/
def xG : FVec Ideal S4x4x8192x8192 .f32 :=
  Host.dotGeneral dot_S4x4x8192x64_S4x8192x64_S4x4x8192x8192_3_2_12_1_0_0 none (xQ p) (xK v)
/-- What the softmax's denominator takes of it. -/
def xN (G E : FVec Ideal S4x4x8192x8192 .f32) (L : FVec Ideal S4x4x8192x1 .f32) : FVec Ideal S4x4x8192 .f32 :=
  Host.reduceAdd (Host.negf (shapeCast S4x4x8192x1 (Host.reduceAdd
      (mulf (mulf G (broadcastInDim S4x4x8192x8192 ![0, 1, 2, 3] bcast_S4x4x8192x1_S4x4x8192x8192_0_1_2_3
        (Host.divf (broadcastInDim S4x4x8192x1 ![] bcast_S_S4x4x8192x1 (constant S_ .f32 0x3F800000#32)) (mulf L L)))) E)
      (constant S_ .f32 0x00000000#32) reducesTo_S4x4x8192x8192_S4x4x8192_d3 h_S_ : FVec Ideal S4x4x8192 .f32) shapeCasts_S4x4x8192_S4x4x8192x1))
    (constant S_ .f32 0x00000000#32) reducesTo_S4x4x8192x1_S4x4x8192_d3 h_S_
/-- The gradient of the scores before the scale. -/
def xD (G E : FVec Ideal S4x4x8192x8192 .f32) (L : FVec Ideal S4x4x8192x1 .f32) (N : FVec Ideal S4x4x8192 .f32) : FVec Ideal S4x4x8192x8192 .f32 :=
  mulf (mulf (addf (Host.divf G (broadcastInDim S4x4x8192x8192 ![0, 1, 2, 3] bcast_S4x4x8192x1_S4x4x8192x8192_0_1_2_3 L))
      (broadcastInDim S4x4x8192x8192 ![0, 1, 2] bcast_S4x4x8192_S4x4x8192x8192_0_1_2 N)) E)
    (broadcastInDim S4x4x8192x8192 ![] bcast_S_S4x4x8192x8192 (constant S_ .f32 0x3E000000#32))
/-- The three results. -/
def toQ (D : FVec Ideal S4x4x8192x8192 .f32) : FVec Ideal S8192x1024 .f32 :=
  shapeCast S8192x1024 (transpose S8192x16x64 [1, 0, 2] (shapeCast S16x8192x64
    (Host.dotGeneral dot_S4x4x8192x8192_S4x8192x64_S4x4x8192x64_3_1_12_2_0_0 none D (xK k)) shapeCasts_S4x4x8192x64_S16x8192x64
      : FVec Ideal S16x8192x64 .f32) transposes_S16x8192x64_S8192x16x64_1_0_2) shapeCasts_S8192x16x64_S8192x1024
def tiles (t : FVec Ideal S4x8192x64 .f32) : FVec Ideal S2x16x128x512 .f32 :=
  transpose S2x16x128x512 [2, 0, 3, 1] (shapeCast S16x512x2x128 (shapeCast S8192x256
    (transpose S8192x4x64 [1, 0, 2] t transposes_S4x8192x64_S8192x4x64_1_0_2) shapeCasts_S8192x4x64_S8192x256 : FVec Ideal S8192x256 .f32)
      shapeCasts_S8192x256_S16x512x2x128) transposes_S16x512x2x128_S2x16x128x512_2_0_3_1
def toK (D : FVec Ideal S4x4x8192x8192 .f32) : FVec Ideal S4x8192x64 .f32 :=
  Host.dotGeneral dot_S4x4x8192x8192_S4x4x8192x64_S4x8192x64_12_12_3_3_0_0 none D (xQ q)
def toV (E : FVec Ideal S4x4x8192x8192 .f32) (L : FVec Ideal S4x4x8192x1 .f32) : FVec Ideal S4x8192x64 .f32 :=
  transpose S4x8192x64 [0, 2, 1] (Host.dotGeneral dot_S4x4x8192x64_S4x4x8192x8192_S4x64x8192_12_12_3_3_0_0 none (xQ p)
    (Host.divf E (broadcastInDim S4x4x8192x8192 ![0, 1, 2, 3] bcast_S4x4x8192x1_S4x4x8192x8192_0_1_2_3 L))) transposes_S4x64x8192_S4x8192x64_0_2_1

theorem xS_at (g r : Fin 4) (s j : Fin 8192) :
    xS q k (ix4 g r s j) = (∑ d : Fin 64, q (ix2 s (⟨(g.val * 4 + r.val) * 64 + d.val, by omega⟩ : Fin 1024))
      * k (ix2 j (⟨g.val * 64 + d.val, by omega⟩ : Fin 256))) * Ideal.ofBits .f32 0x3E000000#32 := by
  unfold xS xQ xK
  pointwise []
theorem max_at (R : FVec Ideal S4x4x8192 .f32) (g r : Fin 4) (s : Fin 8192) :
    (broadcastInDim S4x4x8192x1 ![0, 1, 2] bcast_S4x4x8192_S4x4x8192x1_0_1_2
      (maximumf (broadcastInDim S4x4x8192 ![] bcast_S_S4x4x8192 (constant S_ .f32 0xFF800000#32)) R)
        : FVec Ideal S4x4x8192x1 .f32) (ix4 g r s 0)
      = max (Ideal.ofBits .f32 0xFF800000#32) (R (ix3 g r s)) := by
  pointwise []
theorem fold_at (S : FVec Ideal S4x4x8192x8192 .f32) (g r : Fin 4) (s : Fin 8192) :
    (Host.reduce FloatOps.maximumf S (constant S_ .f32 0xFF800000#32) reducesTo_S4x4x8192x8192_S4x4x8192_d3 h_S_
        : FVec Ideal S4x4x8192 .f32) (ix3 g r s)
      = Finset.fold max (Ideal.ofBits .f32 0xFF800000#32) (fun j => S (ix4 g r s j)) Finset.univ := by
  pointwise []
theorem exp_at (S : FVec Ideal S4x4x8192x8192 .f32) (M : FVec Ideal S4x4x8192x1 .f32) (g r : Fin 4) (s j : Fin 8192) :
    Host.exp (subf S (broadcastInDim S4x4x8192x8192 ![0, 1, 2, 3] bcast_S4x4x8192x1_S4x4x8192x8192_0_1_2_3 M)) (ix4 g r s j)
      = Ideal.exp (S (ix4 g r s j) - M (ix4 g r s 0)) := by
  pointwise []
theorem sum_at (S : FVec Ideal S4x4x8192x8192 .f32) (g r : Fin 4) (s : Fin 8192) :
    (broadcastInDim S4x4x8192x1 ![0, 1, 2] bcast_S4x4x8192_S4x4x8192x1_0_1_2
      (Host.reduceAdd S (constant S_ .f32 0x00000000#32) reducesTo_S4x4x8192x8192_S4x4x8192_d3 h_S_)
        : FVec Ideal S4x4x8192x1 .f32) (ix4 g r s 0) = ∑ j : Fin 8192, S (ix4 g r s j) := by
  pointwise []
theorem xG_at (g r : Fin 4) (s j : Fin 8192) :
    xG p v (ix4 g r s j) = ∑ d : Fin 64, p (ix2 s (⟨(g.val * 4 + r.val) * 64 + d.val, by omega⟩ : Fin 1024))
      * v (ix2 j (⟨g.val * 64 + d.val, by omega⟩ : Fin 256)) := by
  unfold xG xQ xK
  pointwise []
theorem xN_at (G E : FVec Ideal S4x4x8192x8192 .f32) (L : FVec Ideal S4x4x8192x1 .f32) (g r : Fin 4) (s : Fin 8192) :
    xN G E L (ix3 g r s) = -∑ j : Fin 8192, G (ix4 g r s j)
      * Ideal.div 1 (L (ix4 g r s 0) * L (ix4 g r s 0)) * E (ix4 g r s j) := by
  unfold xN
  pointwise []
  exact Fin.sum_univ_one _
theorem xD_at (G E : FVec Ideal S4x4x8192x8192 .f32) (L : FVec Ideal S4x4x8192x1 .f32) (N : FVec Ideal S4x4x8192 .f32) (g r : Fin 4) (s j : Fin 8192) :
    xD G E L N (ix4 g r s j) = (Ideal.div (G (ix4 g r s j)) (L (ix4 g r s 0)) + N (ix3 g r s)) * E (ix4 g r s j)
      * Ideal.ofBits .f32 0x3E000000#32 := by
  unfold xD
  pointwise []
theorem toQ_at (D : FVec Ideal S4x4x8192x8192 .f32) (s : Fin 8192) (x : Fin 1024) :
    toQ k D (ix2 s x) = ∑ j : Fin 8192, D (ix4 (⟨x.val / 64 / 4, by omega⟩ : Fin 4) (⟨x.val / 64 % 4, by omega⟩ : Fin 4) s j)
      * k (ix2 j (⟨x.val / 64 / 4 * 64 + x.val % 64, by omega⟩ : Fin 256)) := by
  unfold toQ xK
  pointwise []
theorem tiles_at (t : FVec Ideal S4x8192x64 .f32) (g : Fin 2) (b : Fin 16) (x : Fin 128) (j : Fin 512) :
    tiles t (ix4 g b x j) = t (ix3 (⟨g.val * 2 + x.val / 64, by omega⟩ : Fin 4) (⟨b.val * 512 + j.val, by omega⟩ : Fin 8192)
      (⟨x.val % 64, by omega⟩ : Fin 64)) := by
  unfold tiles
  pointwise []
theorem toK_at (D : FVec Ideal S4x4x8192x8192 .f32) (g : Fin 4) (j : Fin 8192) (d : Fin 64) :
    toK q D (ix3 g j d) = ∑ r : Fin 4, ∑ s : Fin 8192, D (ix4 g r s j)
      * q (ix2 s (⟨(g.val * 4 + r.val) * 64 + d.val, by omega⟩ : Fin 1024)) := by
  unfold toK xQ
  pointwise []
theorem toV_at (E : FVec Ideal S4x4x8192x8192 .f32) (L : FVec Ideal S4x4x8192x1 .f32) (g : Fin 4) (j : Fin 8192) (d : Fin 64) :
    toV p E L (ix3 g j d) = ∑ r : Fin 4, ∑ s : Fin 8192, p (ix2 s (⟨(g.val * 4 + r.val) * 64 + d.val, by omega⟩ : Fin 1024))
      * Ideal.div (E (ix4 g r s j)) (L (ix4 g r s 0)) := by
  unfold toV xQ
  pointwise []
end

/-- The stages together. -/
abbrev allD (q p : FVec Ideal S8192x1024 .f32) (k v : FVec Ideal S8192x256 .f32) : FVec Ideal S4x4x8192x8192 .f32 :=
  xD (xG p v) (xE q k) (xL q k) (xN (xG p v) (xE q k) (xL q k))

variable (m : (ℓ : Loc nD τ sig) → Buf (Elt Ideal) ℓ) (c : Dev nD)
abbrev refQ : FVec Ideal S8192x1024 .f32 := m ((c.tc : Thread nD τ).loc main_arg0)
abbrev refK : FVec Ideal S8192x256 .f32 := m ((c.tc : Thread nD τ).loc main_arg1)
abbrev refV : FVec Ideal S8192x256 .f32 := m ((c.tc : Thread nD τ).loc main_arg2)
abbrev refP : FVec Ideal S8192x1024 .f32 := m ((c.tc : Thread nD τ).loc main_arg3)

/-- The results of the reference are those stages of its arguments. -/
theorem out0_eq : Value.res_out0 m c = toQ (refK m c) (allD (refQ m c) (refP m c) (refK m c) (refV m c)) := rfl
theorem out1_eq : Value.res_out1 m c = tiles (toK (refQ m c) (allD (refQ m c) (refP m c) (refK m c) (refV m c))) := rfl
end Cert.Attn.Plain
-- ==== Proof.PlainReals.lean ====
module
public import proofs.«01_k».proof.Proof.Plain
/-! The reference's results for real arguments. -/
@[expose] public section
set_option maxRecDepth 16384
noncomputable section
namespace Cert.Attn
open Cert.ReferenceIdeal Cert.ReferenceIdeal.Gen
open Idealize.ShloMosaic Idealize.ShloMosaic.TcCoe Idealize.ShloMosaic.Tactic

/-- Head `r` of the four that share key head `g`. -/
abbrev hd4 (g r : Fin 4) : Fin 16 := ⟨4 * g.val + r.val, by omega⟩
theorem cq_hd4 (g r : Fin 4) (d : Fin 64) : (⟨(g.val * 4 + r.val) * 64 + d.val, by omega⟩ : Fin 1024) = cq (hd4 g r) d :=
  Fin.ext (by simp; omega)
theorem ck_hd4 (g r : Fin 4) (d : Fin 64) : (⟨g.val * 64 + d.val, by omega⟩ : Fin 256) = ck (kOf (hd4 g r)) d :=
  Fin.ext (by simp; omega)

/-- The exponentials and their sum, in one row of real scores. -/
theorem row_real (x : Fin 8192 → ℝ) :
    ∃ M : ℝ, Finset.fold max (Ideal.ofBits .f32 0xFF800000#32) (fun j => (x j : EReal)) Finset.univ = (M : EReal) := by
  rw [lowest]
  exact coe_max _ ⟨0, Finset.mem_univ _⟩ x

theorem exp_real (a b : ℝ) : Ideal.exp ((a : EReal) - (b : EReal)) = ((Real.exp (a - b) : ℝ) : EReal) := by
  rw [← EReal.coe_sub, Ideal.exp_coe]

/-- The gradient of a score as the softmax's derivative writes it. -/
theorem grad_score (G E : Fin 8192 → ℝ) (L : ℝ) (hL : L ≠ 0) (j : Fin 8192) :
    (G j / L + -∑ i, G i * (1 / (L * L)) * E i) * E j = E j / L * (G j - ∑ i, E i / L * G i) := by
  have e : ∑ i, E i / L * G i = L * ∑ i, G i * (1 / (L * L)) * E i := by
    rw [Finset.mul_sum]
    exact Finset.sum_congr rfl fun i _ => by field_simp
  rw [e]
  field_simp
  ring

section
variable (q : Fin 8192 → Fin 1024 → ℝ) (k v : Fin 8192 → Fin 256 → ℝ) (p : Fin 8192 → Fin 1024 → ℝ)
  (Q P : FVec Ideal S8192x1024 .f32) (K W : FVec Ideal S8192x256 .f32)
  (hQ : ∀ s x, Q (ix2 s x) = ((q s x : ℝ) : EReal))
  (hK : ∀ j y, K (ix2 j y) = ((k j y : ℝ) : EReal))
  (hW : ∀ j y, W (ix2 j y) = ((v j y : ℝ) : EReal))
  (hP : ∀ s x, P (ix2 s x) = ((p s x : ℝ) : EReal))

include hQ hK in
theorem xS_real (g r : Fin 4) (s j : Fin 8192) : Plain.xS Q K (ix4 g r s j) = ((rS q k (hd4 g r) s j : ℝ) : EReal) := by
  rw [Plain.xS_at]
  simp only [cq_hd4, ck_hd4 g r, hQ, hK]
  rw [coe_dot, eighth, ← EReal.coe_mul]
  rfl

include hQ hK in
theorem soft_real (g r : Fin 4) (s : Fin 8192) : ∃ M : ℝ,
    (∀ j, Plain.xE Q K (ix4 g r s j) = ((Real.exp (rS q k (hd4 g r) s j - M) : ℝ) : EReal))
    ∧ Plain.xL Q K (ix4 g r s 0) = ((∑ j, Real.exp (rS q k (hd4 g r) s j - M) : ℝ) : EReal) := by
  obtain ⟨M, hM⟩ := row_real fun j => rS q k (hd4 g r) s j
  have hM' : Plain.xM Q K (ix4 g r s 0) = (M : EReal) := by
    refine (Plain.max_at _ g r s).trans ?_
    rw [Plain.fold_at]
    simp only [xS_real q k Q K hQ hK]
    rw [hM, lowest]
    exact max_eq_right bot_le
  have hE : ∀ j, Plain.xE Q K (ix4 g r s j) = ((Real.exp (rS q k (hd4 g r) s j - M) : ℝ) : EReal) := fun j => by
    refine (Plain.exp_at _ _ g r s j).trans ?_
    rw [hM', xS_real q k Q K hQ hK, exp_real]
  refine ⟨M, hE, (Plain.sum_at _ g r s).trans ?_⟩
  simp only [hE]
  exact coe_total _ _

include hW hP in
theorem xG_real (g r : Fin 4) (s j : Fin 8192) : Plain.xG P W (ix4 g r s j) = ((rG v p (hd4 g r) s j : ℝ) : EReal) := by
  rw [Plain.xG_at]
  simp only [cq_hd4, ck_hd4 g r, hW, hP]
  rw [coe_dot]
  rfl

include hQ hK hW hP in
theorem allD_real (g r : Fin 4) (s j : Fin 8192) :
    Plain.allD Q P K W (ix4 g r s j) = ((rD q k v p (hd4 g r) s j * (1 / 8) : ℝ) : EReal) := by
  obtain ⟨M, hE, hL⟩ := soft_real q k Q K hQ hK g r s
  have h0 := total_pos (fun i => rS q k (hd4 g r) s i) M
  have h1 : (∑ i, Real.exp (rS q k (hd4 g r) s i - M)) * (∑ i, Real.exp (rS q k (hd4 g r) s i - M)) ≠ 0 := (mul_pos h0 h0).ne'
  refine (Plain.xD_at _ _ _ _ g r s j).trans ?_
  rw [Plain.xN_at, hL]
  simp only [hE, xG_real v p P W hW hP, ← EReal.coe_mul]
  rw [← EReal.coe_one, div_pos h1, div_pos h0.ne']
  simp only [← EReal.coe_mul]
  rw [coe_total, ← EReal.coe_neg, ← EReal.coe_add, eighth, ← EReal.coe_mul, ← EReal.coe_mul]
  congr 2
  refine (grad_score (fun i => rG v p (hd4 g r) s i) (fun i => Real.exp (rS q k (hd4 g r) s i - M)) _ h0.ne' j).trans ?_
  simp only [shift (fun i => rS q k (hd4 g r) s i) M]
  rfl

include hQ hK hW hP in
/-- The queries' gradient. -/
theorem toQ_real (s : Fin 8192) (x : Fin 1024) :
    Plain.toQ K (Plain.allD Q P K W) (ix2 s x) = ((rQ q k v p s x : ℝ) : EReal) := by
  rw [Plain.toQ_at]
  simp only [allD_real q k v p Q P K W hQ hK hW hP, hK]
  rw [coe_dot]
  congr 1
  unfold rQ
  rw [Finset.sum_mul]
  have eh : hd4 (⟨x.val / 64 / 4, by omega⟩ : Fin 4) (⟨x.val / 64 % 4, by omega⟩ : Fin 4) = hOf x := Fin.ext (by simp; omega)
  have ek : (⟨x.val / 64 / 4 * 64 + x.val % 64, by omega⟩ : Fin 256) = ck (kOf (hOf x)) (dOf x) := Fin.ext (by simp; omega)
  rw [eh, ek]
  exact Finset.sum_congr rfl fun j _ => by ring

theorem head_tile (g : Fin 2) (x : Fin 128) (r : Fin 4) :
    hd4 (⟨g.val * 2 + x.val / 64, by omega⟩ : Fin 4) r = tHead g x r := Fin.ext (by simp; omega)
theorem col_tile (g : Fin 2) (x : Fin 128) (r : Fin 4) :
    (⟨((g.val * 2 + x.val / 64) * 4 + r.val) * 64 + x.val % 64, by omega⟩ : Fin 1024) = cq (tHead g x r) (lo x) :=
  Fin.ext (by simp; omega)
theorem row_tile (b : Fin 16) (j : Fin 512) : (⟨b.val * 512 + j.val, by omega⟩ : Fin 8192) = row b j :=
  Fin.ext (by simp; omega)

include hQ hK hW hP in
/-- The keys' gradient. -/
theorem toK_real (g : Fin 2) (b : Fin 16) (x : Fin 128) (j : Fin 512) :
    Plain.tiles (Plain.toK Q (Plain.allD Q P K W)) (ix4 g b x j) = ((rK q k v p g b x j : ℝ) : EReal) := by
  rw [Plain.tiles_at, Plain.toK_at]
  simp only [allD_real q k v p Q P K W hQ hK hW hP, hQ, coe_dot, coe_total, head_tile, col_tile, row_tile]
  congr 1
  unfold rK
  simp only [Finset.sum_mul]
  exact Finset.sum_congr rfl fun r _ => Finset.sum_congr rfl fun s _ => by ring

include hQ hK in
theorem prob_real (g r : Fin 4) (s j : Fin 8192) :
    Ideal.div (Plain.xE Q K (ix4 g r s j)) (Plain.xL Q K (ix4 g r s 0)) = ((rP q k (hd4 g r) s j : ℝ) : EReal) := by
  obtain ⟨M, hE, hL⟩ := soft_real q k Q K hQ hK g r s
  have h0 := total_pos (fun i => rS q k (hd4 g r) s i) M
  rw [hE, hL, div_pos h0.ne', shift (fun i => rS q k (hd4 g r) s i) M]
  rfl

include hQ hK hP in
/-- The values' gradient. -/
theorem toV_real (g : Fin 2) (b : Fin 16) (x : Fin 128) (j : Fin 512) :
    Plain.tiles (Plain.toV P (Plain.xE Q K) (Plain.xL Q K)) (ix4 g b x j) = ((rV q k p g b x j : ℝ) : EReal) := by
  rw [Plain.tiles_at, Plain.toV_at]
  simp only [prob_real q k Q K hQ hK, hP, coe_dot, coe_total, head_tile, col_tile, row_tile]
  rfl
end
end Cert.Attn
-- ==== Proof.HostReals.lean ====
module
public import proofs.«01_k».proof.Proof.Host
public import proofs.«01_k».proof.Proof.PlainReals
/-! What the call is given and what it leaves, for real arguments. -/
@[expose] public section
set_option maxRecDepth 16384
noncomputable section
namespace Cert.Attn
open Cert.KernelIdeal Cert.KernelIdeal.Gen
open Idealize.ShloMosaic Idealize.ShloMosaic.TcCoe Idealize.ShloMosaic.Tactic

section
variable (q : Fin 8192 → Fin 1024 → ℝ) (k v : Fin 8192 → Fin 256 → ℝ) (p : Fin 8192 → Fin 1024 → ℝ)
  (A : FVec Ideal S8192x1024 .f32) (B C : FVec Ideal S8192x256 .f32)
  (hA : ∀ s x, A (ix2 s x) = ((q s x : ℝ) : EReal))
  (hB : ∀ j y, B (ix2 j y) = ((k j y : ℝ) : EReal))
  (hC : ∀ j y, C (ix2 j y) = ((v j y : ℝ) : EReal))

include hA hB in
theorem hS_real (g r : Fin 4) (s j : Fin 8192) : hS A B (ix4 g r s j) = ((rS q k (hd4 g r) s j : ℝ) : EReal) := by
  rw [hS_at]
  simp only [cq_hd4, ck_hd4 g r, hA, hB]
  rw [coe_dot, eighth, ← EReal.coe_mul]
  rfl

include hA hB in
theorem host_real (g r : Fin 4) (s : Fin 8192) : ∃ M : ℝ,
    hM A B (ix4 g r s 0) = (M : EReal)
    ∧ (∀ j, hE A B (ix4 g r s j) = ((Real.exp (rS q k (hd4 g r) s j - M) : ℝ) : EReal))
    ∧ hL A B (ix4 g r s 0) = ((∑ j, Real.exp (rS q k (hd4 g r) s j - M) : ℝ) : EReal) := by
  obtain ⟨M, hM'⟩ := row_real fun j => rS q k (hd4 g r) s j
  have hM1 : hM A B (ix4 g r s 0) = (M : EReal) := by
    rw [hM_at]
    simp only [hS_real q k A B hA hB]
    exact hM'
  have hE1 : ∀ j, hE A B (ix4 g r s j) = ((Real.exp (rS q k (hd4 g r) s j - M) : ℝ) : EReal) := fun j => by
    rw [hE_at, hM1, hS_real q k A B hA hB, exp_real]
  refine ⟨M, hM1, hE1, (hL_at A B g r s).trans ?_⟩
  simp only [hE1]
  exact coe_total _ _

include hA hB hC in
theorem hO_real (g r : Fin 4) (s : Fin 8192) (d : Fin 64) :
    hO A B C (ix4 g r s d) = ((rO q k v (hd4 g r) s d : ℝ) : EReal) := by
  obtain ⟨M, -, hE1, hL1⟩ := host_real q k A B hA hB g r s
  have h0 := total_pos (fun i => rS q k (hd4 g r) s i) M
  rw [hO_at]
  simp only [hE1, hL1, div_pos h0.ne', ck_hd4 g r, hC, coe_dot, shift (fun i => rS q k (hd4 g r) s i) M]
  rfl

include hA hB in
theorem hLse_real (g r : Fin 4) (s : Fin 8192) : ∃ M : ℝ,
    hLse A B (ix4 g r s 0) = (((M + Real.log (∑ i, Real.exp (rS q k (hd4 g r) s i - M))) / Real.log 2 : ℝ) : EReal) := by
  obtain ⟨M, hM1, -, hL1⟩ := host_real q k A B hA hB g r s
  have h0 := total_pos (fun i => rS q k (hd4 g r) s i) M
  have h2 : Real.log 2 ≠ 0 := (Real.log_pos (by norm_num)).ne'
  refine ⟨M, ?_⟩
  rw [hLse_at, hM1, hL1, log_pos h0, two, log_pos (by norm_num), ← EReal.coe_add, div_pos h2]

include hA in
theorem scaled_real (s : Fin 8192) (x : Fin 1024) :
    ((truncf .bf16 (mulf A (broadcastInDim S8192x1024 ![] bcast_S_S8192x1024
          (Host.divf (constant S_ .f32 0x3E000000#32) (Host.log (constant S_ .f32 0x40000000#32))))) bitsLt_bf16_f32
        : FVec Ideal S8192x1024 .bf16) (ix2 s x) : EReal) = ((q s x * (1 / 8 / Real.log 2) : ℝ) : EReal) := by
  have h2 : Real.log 2 ≠ 0 := (Real.log_pos (by norm_num)).ne'
  rw [scaled_at, hA, eighth, two, log_pos (by norm_num), div_pos h2, ← EReal.coe_mul]

theorem hd4_head (h : Fin 16) (g r : Fin 4) (hg : g.val = h.val / 4) (hr : r.val = h.val % 4) : hd4 g r = h :=
  Fin.ext (by simp; omega)
end

section
variable (m : (ℓ : Loc nD τ sig) → Buf (Elt Ideal) ℓ) (c : Dev nD)
  (q : Fin 8192 → Fin 1024 → ℝ) (k v : Fin 8192 → Fin 256 → ℝ) (p : Fin 8192 → Fin 1024 → ℝ)
  (hA : ∀ s x, argQ m c (ix2 s x) = ((q s x : ℝ) : EReal))
  (hB : ∀ j y, argK m c (ix2 j y) = ((k j y : ℝ) : EReal))
  (hC : ∀ j y, argV m c (ix2 j y) = ((v j y : ℝ) : EReal))
  (hD : ∀ s x, argP m c (ix2 s x) = ((p s x : ℝ) : EReal))

include hA in
theorem inQ_real (s : Fin 8192) (x : Fin 1024) : inQ m c (ix2 s x) = ((q s x * (1 / 8 / Real.log 2) : ℝ) : EReal) :=
  (congrArg (fun z => z (ix2 s x)) (inQ_eq m c)).trans (scaled_real q _ hA s x)
include hB in
theorem inK_real (j : Fin 8192) (y : Fin 256) : inK m c (ix2 j y) = ((k j y : ℝ) : EReal) :=
  (congrArg (fun z => z (ix2 j y)) (inK_eq m c)).trans (hB j y)
include hC in
theorem inV_real (j : Fin 8192) (y : Fin 256) : inV m c (ix2 j y) = ((v j y : ℝ) : EReal) :=
  (congrArg (fun z => z (ix2 j y)) (inV_eq m c)).trans (hC j y)
include hD in
theorem inP_real (s : Fin 8192) (x : Fin 1024) : inP m c (ix2 s x) = ((p s x : ℝ) : EReal) :=
  (congrArg (fun z => z (ix2 s x)) (inP_eq m c)).trans (hD s x)
include hA hB hC in
theorem inO_real (s : Fin 8192) (h : Fin 16) (d : Fin 64) : inO m c (ix2 s (cq h d)) = ((rO q k v h s d : ℝ) : EReal) := by
  refine (congrArg (fun z => z (ix2 s (cq h d))) (inO_eq m c)).trans ((flat_at _ s (cq h d)).trans ?_)
  refine (hO_real q k v _ _ _ hA hB hC _ _ s _).trans ?_
  rw [hd4_head h _ _ (by simp; omega) (by simp; omega)]
  exact congrArg (fun z => ((rO q k v h s z : ℝ) : EReal)) (Fin.ext (by simp))
include hA hB in
theorem inL_real (h : Fin 16) (s : Fin 8192) : ∃ M : ℝ,
    inL m c (ix3 (grp h) s (plc h))
      = (((M + Real.log (∑ i, Real.exp (rS q k h s i - M))) / Real.log 2 : ℝ) : EReal) := by
  obtain ⟨M, hM'⟩ := hLse_real q k _ _ hA hB (⟨h.val / 4, by omega⟩ : Fin 4) (⟨h.val % 4, by omega⟩ : Fin 4) s
  rw [hd4_head h _ _ rfl rfl] at hM'
  refine ⟨M, ?_⟩
  refine (congrArg (fun z => z (ix3 (grp h) s (plc h))) (inL_eq m c)).trans ((group_at _ (grp h) s (plc h)).trans (Eq.trans ?_ hM'))
  exact congrArg₂ (fun y z => hLse (argQ m c) (argK m c) (ix4 y z s 0)) (Fin.ext (by simp; omega)) (Fin.ext (by simp))

include hA hB hC hD in
/-- The three results. -/
theorem gradQ_real (s : Fin 8192) (x : Fin 1024) :
    gradQ m c (ix2 s x) * Ideal.ofBits .f32 0x3E000000#32 = ((rQ q k v p s x : ℝ) : EReal) := by
  rw [eighth]
  exact aQ_real q k v p _ _ _ _ _ _ (inQ_real m c q hA) (inK_real m c k hB) (inV_real m c v hC) (inP_real m c p hD)
    (inO_real m c q k v hA hB hC) (inL_real m c q k hA hB) s x
include hA hB hC hD in
theorem tilesK_real (g : Fin 2) (b : Fin 16) (x : Fin 128) (j : Fin 512) :
    tilesK m c (ix4 g b x j) * Ideal.log (Ideal.ofBits .f32 0x40000000#32) = ((rK q k v p g b x j : ℝ) : EReal) := by
  rw [two, log_pos (by norm_num)]
  exact aK_real q k v p _ _ _ _ _ _ (inQ_real m c q hA) (inK_real m c k hB) (inV_real m c v hC) (inP_real m c p hD)
    (inO_real m c q k v hA hB hC) (inL_real m c q k hA hB) g b x j
include hA hB hD in
theorem tilesV_real (g : Fin 2) (b : Fin 16) (x : Fin 128) (j : Fin 512) :
    tilesV m c (ix4 g b x j) = ((rV q k p g b x j : ℝ) : EReal) :=
  aV_real q k p _ _ _ _ (inQ_real m c q hA) (inK_real m c k hB) (inP_real m c p hD) (inL_real m c q k hA hB) g b x j
end
end Cert.Attn
-- ==== Proof.Results.lean ====
module
public import proofs.«01_k».proof.Proof.HostReals
import Idealize.ShloMosaic.Lib.Pointwise
/-! What the program leaves in its result arrays. -/
@[expose] public section
set_option maxRecDepth 16384
noncomputable section
namespace Cert.Attn
open Cert.KernelIdeal Cert.KernelIdeal.Gen
open Idealize.ShloMosaic Idealize.ShloMosaic.TcCoe Idealize.ShloMosaic.Tactic Idealize.ShloMosaic.StableHlo Idealize.SL.Sem

variable (m : (ℓ : Loc nD τ sig) → Buf (Elt Ideal) ℓ) (ρ : Dev nD → PrngReg) (c : Dev nD)

/-- No two of the call's arrays are the same. -/
theorem arrays_differ : Function.Injective (Pipeline.arrRef spec0) := by decide

/-- The memory that the host's last lines find. -/
abbrev left : Valuation τ sig (Elt Ideal) := Pipeline.withArrays spec0 c (V0 m c) fun w => (dats m 0 c).arrAt w cfg0.N

theorem left_6 : left m c (Proc.devRef .tc main_v39_0) = gradQ m c :=
  (Pipeline.withArrays_arr spec0 arrays_differ c (V0 m c) (fun w => (dats m 0 c).arrAt w cfg0.N) 6).trans (final_6 m c)
theorem left_7 : left m c (Proc.devRef .tc main_v39_1) = tilesK m c :=
  (Pipeline.withArrays_arr spec0 arrays_differ c (V0 m c) (fun w => (dats m 0 c).arrAt w cfg0.N) 7).trans (final_7 m c)

/-- The queries' gradient, scaled. -/
def outQ (t : FVec Ideal S8192x1024 .f32) : FVec Ideal S8192x1024 .f32 :=
  mulf t (broadcastInDim S8192x1024 ![] bcast_S_S8192x1024 (constant S_ .f32 0x3E000000#32))
/-- The keys' gradient, scaled. -/
def outK (t : FVec Ideal S2x16x128x512 .f32) : FVec Ideal S2x16x128x512 .f32 :=
  mulf t (broadcastInDim S2x16x128x512 ![] bcast_S_S2x16x128x512 (Host.log (constant S_ .f32 0x40000000#32)))

theorem outQ_at (t : FVec Ideal S8192x1024 .f32) (s : Fin 8192) (x : Fin 1024) :
    outQ t (ix2 s x) = t (ix2 s x) * Ideal.ofBits .f32 0x3E000000#32 := by
  unfold outQ
  pointwise []
theorem outK_at (t : FVec Ideal S2x16x128x512 .f32) (g : Fin 2) (b : Fin 16) (x : Fin 128) (j : Fin 512) :
    outK t (ix4 g b x j) = t (ix4 g b x j) * Ideal.log (Ideal.ofBits .f32 0x40000000#32) := by
  unfold outK
  pointwise []

theorem tail_41 : Pipeline.afterTail₀ cfgs (dats m) 0 (V0 m) [hostOps1] c main_v41 = outQ (gradQ m c) := by
  refine Eq.trans ?_ (congrArg outQ (left_6 m c))
  show StableHlo.after (hostOps1 (F := Ideal)) (left m c) (Proc.devRef .tc main_v41) = _
  generalize left m c = W
  after_results
  rfl
theorem tail_44 : Pipeline.afterTail₀ cfgs (dats m) 0 (V0 m) [hostOps1] c main_v44 = outK (tilesK m c) := by
  refine Eq.trans ?_ (congrArg outK (left_7 m c))
  show StableHlo.after (hostOps1 (F := Ideal)) (left m c) (Proc.devRef .tc main_v44) = _
  generalize left m c = W
  after_results
  rfl

/-- The program runs and leaves its three results and its arguments as follows. -/
theorem program_run : θ_run defs (onTc (τ := τ) (main (F := Ideal))) ⟨m, fun _ => 0, ρ⟩ (fun r => ∀ c : Dev nD,
      r.2.mem ((c.tc : Thread nD τ).loc main_v41) = outQ (gradQ m c)
      ∧ r.2.mem ((c.tc : Thread nD τ).loc main_v44) = outK (tilesK m c)
      ∧ r.2.mem ((c.tc : Thread nD τ).loc main_v39_2) = tilesV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v41 (Pipeline.mem_restRefs_of main_v41 (by decide) (by decide))).trans (tail_41 m c),
      ((h c).2 main_v44 (Pipeline.mem_restRefs_of main_v44 (by decide) (by decide))).trans (tail_44 m c),
      ((h c).1 8).trans (final_8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)
end Cert.Attn
-- ==== Proof.Finite.lean ====
module
public import proofs.«01_k».proof.Proof.HostReals
public import proofs.«01_k».proof.Pre_finite
import Idealize.ShloMosaic.Lib.Pointwise
/-! What the precondition says: every element of an argument is a real. -/
@[expose] public section
set_option maxRecDepth 16384
noncomputable section
namespace Cert.Attn
open Cert.Pre_finite
open Idealize.ShloMosaic Idealize.ShloMosaic.TcCoe Idealize.ShloMosaic.Tactic Idealize.ShloMosaic.StableHlo

theorem pre_facts : Cert.Pre_finite.Facts := ⟨by decide, by decide⟩

theorem highest : Ideal.ofBits .f32 0x7F800000#32 = (⊤ : EReal) := by
  simp [Ideal.ofBits, Ideal.ieee]

/-- An extended real whose absolute value is less than plus infinity is a real. -/
theorem real_of_less (x : EReal) (h : max x (-x) < ⊤) : x = ((x.toReal : ℝ) : EReal) := by
  refine (EReal.coe_toReal (fun e => ?_) (fun e => ?_)).symm
  · subst e; simp at h
  · subst e; simp at h

theorem less_bit (x : EReal) (h : BitVec.ofBool (decide (max x (-x) < Ideal.ofBits .f32 0x7F800000#32)) = 1#1) :
    x = ((x.toReal : ℝ) : EReal) := by
  refine real_of_less x ?_
  rw [highest] at h
  by_contra hn
  rw [decide_eq_false hn] at h
  exact absurd h (by decide)

theorem bits_wide (hb : S_.BroadcastsInDim S8192x1024 (![] : Fin 0 → Fin S8192x1024.rank)) (a : FVec Ideal S8192x1024 .f32)
    (s : Fin 8192) (x : Fin 1024) :
    cmpf .olt (Host.absf a) (broadcastInDim S8192x1024 ![] hb (constant S_ .f32 0x7F800000#32)) (ix2 s x)
      = BitVec.ofBool (decide (FloatOps.absf (a (ix2 s x)) < Ideal.ofBits .f32 0x7F800000#32)) := by
  pointwise []
theorem bits_narrow (hb : S_.BroadcastsInDim S8192x256 (![] : Fin 0 → Fin S8192x256.rank)) (a : FVec Ideal S8192x256 .f32)
    (s : Fin 8192) (x : Fin 256) :
    cmpf .olt (Host.absf a) (broadcastInDim S8192x256 ![] hb (constant S_ .f32 0x7F800000#32)) (ix2 s x)
      = BitVec.ofBool (decide (FloatOps.absf (a (ix2 s x)) < Ideal.ofBits .f32 0x7F800000#32)) := by
  pointwise []

variable [hf : Cert.Pre_finite.Facts] (a p : FVec Ideal S8192x1024 .f32) (b d : FVec Ideal S8192x256 .f32)

/-- The four arguments are real. -/
theorem real_0 (h : (fn (F := Ideal) a b d p).1 = fun _ => 1#1) (s : Fin 8192) (x : Fin 1024) :
    a (ix2 s x) = (((a (ix2 s x) : EReal).toReal : ℝ) : EReal) :=
  less_bit _ ((bits_wide hf.bcast_S_S8192x1024 a s x).symm.trans (congrFun h (ix2 s x)))
theorem real_1 (h : (fn (F := Ideal) a b d p).2.1 = fun _ => 1#1) (s : Fin 8192) (x : Fin 256) :
    b (ix2 s x) = (((b (ix2 s x) : EReal).toReal : ℝ) : EReal) :=
  less_bit _ ((bits_narrow hf.bcast_S_S8192x256 b s x).symm.trans (congrFun h (ix2 s x)))
theorem real_2 (h : (fn (F := Ideal) a b d p).2.2.1 = fun _ => 1#1) (s : Fin 8192) (x : Fin 256) :
    d (ix2 s x) = (((d (ix2 s x) : EReal).toReal : ℝ) : EReal) :=
  less_bit _ ((bits_narrow hf.bcast_S_S8192x256 d s x).symm.trans (congrFun h (ix2 s x)))
theorem real_3 (h : (fn (F := Ideal) a b d p).2.2.2 = fun _ => 1#1) (s : Fin 8192) (x : Fin 1024) :
    p (ix2 s x) = (((p (ix2 s x) : EReal).toReal : ℝ) : EReal) :=
  less_bit _ ((bits_wide hf.bcast_S_S8192x1024 p s x).symm.trans (congrFun h (ix2 s x)))
end Cert.Attn
-- ==== Proof.Agree.lean ====
module
public import proofs.«01_k».proof.Proof.Results
public import proofs.«01_k».proof.Proof.Finite
/-! The program's results and the reference's are the same. -/
@[expose] public section
set_option maxRecDepth 16384
noncomputable section
namespace Cert.Attn
open Idealize.ShloMosaic Idealize.ShloMosaic.TcCoe Idealize.ShloMosaic.Tactic Idealize.SL.Sem

/-- Two arrays of two axes, or of four, that agree at all coordinates are equal. -/
theorem ext2 {a b : Nat} (f g : (⟨2, ![a, b]⟩ : Shape).Idx → EReal) (h : ∀ (i : Fin a) (j : Fin b), f (ix2 i j) = g (ix2 i j)) : f = g := by
  funext y
  have e : y = ix2 (y 0) (y 1) := by funext i; fin_cases i <;> rfl
  rw [e]
  exact h (y 0) (y 1)
theorem ext4 {a b c d : Nat} (f g : (⟨4, ![a, b, c, d]⟩ : Shape).Idx → EReal)
    (h : ∀ (i : Fin a) (j : Fin b) (k : Fin c) (l : Fin d), f (ix4 i j k l) = g (ix4 i j k l)) : f = g := by
  funext y
  have e : y = ix4 (y 0) (y 1) (y 2) (y 3) := by funext i; fin_cases i <;> rfl
  rw [e]
  exact h (y 0) (y 1) (y 2) (y 3)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hq : Plain.refQ m' c = argQ m c) (hk : Plain.refK m' c = argK m c) (hv : Plain.refV m' c = argV m c) (hp : Plain.refP m' c = argP m c)
  (rq : ∀ s x, argQ m c (ix2 s x) = (((argQ m c (ix2 s x) : EReal).toReal : ℝ) : EReal))
  (rk : ∀ s x, argK m c (ix2 s x) = (((argK m c (ix2 s x) : EReal).toReal : ℝ) : EReal))
  (rv : ∀ s x, argV m c (ix2 s x) = (((argV m c (ix2 s x) : EReal).toReal : ℝ) : EReal))
  (rp : ∀ s x, argP m c (ix2 s x) = (((argP m c (ix2 s x) : EReal).toReal : ℝ) : EReal))

include hq hk hv hp rq rk rv rp in
/-- The queries' gradient. -/
theorem agree_0 : Cert.ReferenceIdeal.Value.res_out0 m' c = outQ (gradQ m c) := by
  rw [Plain.out0_eq, hq, hk, hv, hp]
  exact ext2 _ _ fun s x => (toQ_real _ _ _ _ _ _ _ _ rq rk rv rp s x).trans
    ((outQ_at _ s x).trans (gradQ_real m c _ _ _ _ rq rk rv rp s x)).symm

include hq hk hv hp rq rk rv rp in
/-- The keys' gradient. -/
theorem agree_1 : Cert.ReferenceIdeal.Value.res_out1 m' c = outK (tilesK m c) := by
  rw [Plain.out1_eq, hq, hk, hv, hp]
  exact ext4 _ _ fun g b x j => (toK_real _ _ _ _ _ _ _ _ rq rk rv rp g b x j).trans
    ((outK_at _ g b x j).trans (tilesK_real m c _ _ _ _ rq rk rv rp g b x j)).symm

include hq hk hp rq rk rp in
/-- The values' gradient. -/
theorem agree_2 : Plain.tiles (Plain.toV (Plain.refP m' c) (Plain.xE (Plain.refQ m' c) (Plain.refK m' c))
    (Plain.xL (Plain.refQ m' c) (Plain.refK m' c))) = tilesV m c := by
  rw [hq, hk, hp]
  exact ext4 _ _ fun g b x j => (toV_real _ _ _ _ _ _ rq rk rp g b x j).trans (tilesV_real m c _ _ _ rq rk rp g b x j).symm
end Cert.Attn
-- ==== Proof.MlaTrip.lean ====
module
public import proofs.«01_k».proof.Proof.Gen.LatentIdeal.Loops
public import Idealize.ShloMosaic.Lib.WritesUnit
/-! One trip of the latent attention's loop over blocks of 512 keys, as a function.

A trip takes eight blocks of keys. For each block and each of the two heads it forms the probabilities
`2 ^ (q kᵀ − lse)`, their gradient, and adds three products: into the value gradient, into the key gradient and into
the query gradient. Keys have 128 columns a head, values 64. -/
@[expose] public section
set_option maxRecDepth 16384
noncomputable section
namespace Cert.Mla
open Cert.LatentIdeal Cert.LatentIdeal.Gen
open Idealize.ShloMosaic Idealize.ShloMosaic.TcCoe Idealize.ShloMosaic.Tactic
variable {F : FTy → Type} [FloatOps F]

/-- The probabilities of 512 queries against a block of 512 keys. -/
def probs (q : FVec F S512x128 .bf16) (l : FVec F S512x1 .f32) (kj : Vec F S512x128 .bf16) : FVec F S512x512 .f32 :=
  exp2 (subf (matmul dot_S512x128_S512x128_S512x512_1_1_0_0_n_n none q
      (shapeCast S512x128 kj shapeCasts_S512x128_S512x128) (constant S512x512 .f32 0x00000000#32))
    (broadcastTo S512x512 l broadcasts_S512x1_S512x512))

/-- The probabilities as the products take them. -/
def probsB (q : FVec F S512x128 .bf16) (l : FVec F S512x1 .f32) (kj : Vec F S512x128 .bf16) : FVec F S512x512 .bf16 :=
  truncf .bf16 (probs q l kj) bitsLt_bf16_f32

/-- The gradient of the scores: the probabilities times the widened product of the output's gradient and the values. -/
def dscores (q : FVec F S512x128 .bf16) (l : FVec F S512x1 .f32) (d : FVec F S512x128 .bf16)
    (kj : Vec F S512x128 .bf16) (va : Vec F S512x128 .bf16) : FVec F S512x512 .bf16 :=
  truncf .bf16 (mulf (probs q l kj)
    (matmul dot_S512x128_S512x128_S512x512_1_1_0_0_n_n none d va (constant S512x512 .f32 0x00000000#32))) bitsLt_bf16_f32

/-- The query gradient after a step. -/
def addQ (acc : FVec F S512x128 .f32) (b : FVec F S512x512 .bf16) (kj : Vec F S512x128 .bf16) : FVec F S512x128 .f32 :=
  addf acc (matmul dot_S512x512_S512x128_S512x128_1_0_0_1_n_n none b (shapeCast S512x128 kj shapeCasts_S512x128_S512x128)
    (constant S512x128 .f32 0x00000000#32))

/-- The keys, or the widened values, of block `8 k + u`, head 0. -/
abbrev part0 (M : Memref sig .tc .vmem S8192x256 .bf16) (X : BufTy.Contents (Elt F) M.view.ty)
    (k : Fin k0_t1_loop.trips) (u : Fin 8) : Vec F S512x128 .bf16 :=
  View.readAt (Elt F) M.view (Rect.unit (s := S8192x256) (k0_off1 k (BitVec.ofNat 32 u.val)) S512x128.size (k0_off1_inb k u)).toLoadRect X

/-- The keys, or the widened values, of block `8 k + u`, head 1. -/
abbrev part1 (M : Memref sig .tc .vmem S8192x256 .bf16) (X : BufTy.Contents (Elt F) M.view.ty)
    (k : Fin k0_t1_loop.trips) (u : Fin 8) : Vec F S512x128 .bf16 :=
  View.readAt (Elt F) M.view (Rect.unit (s := S8192x256) (k0_off2 k (BitVec.ofNat 32 u.val)) S512x128.size (k0_off2_inb k u)).toLoadRect X

/-- The query gradient of a head after the trip's eight blocks. -/
abbrev eightQ (st : Fin 8 → FVec F S512x128 .f32 → FVec F S512x128 .f32) (a : FVec F S512x128 .f32) : FVec F S512x128 .f32 :=
  st 7 (st 6 (st 5 (st 4 (st 3 (st 2 (st 1 (st 0 a)))))))

/-- What a step stores into the key gradient: what was there plus the product of `a` and `b`. -/
def addToK (a : FVec F S128x512 .bf16) (b : FVec F S512x512 .bf16) (old : Vec F S1x1x128x512 .f32) : FVec F S1x1x128x512 .f32 :=
  shapeCast S1x1x128x512 (addf (shapeCast S128x512 old shapeCasts_S1x1x128x512_S128x512)
    (matmul dot_S128x512_S512x512_S128x512_1_0_0_1_n_n none a b (constant S128x512 .f32 0x00000000#32))) shapeCasts_S128x512_S1x1x128x512

/-- The place of head 0 of block `8 k + u` in the key gradient. -/
abbrev rectK0 (k : Fin k0_t1_loop.trips) (u : Fin 8) : Rect S1x16x256x512 :=
  Rect.unit (s := S1x16x256x512) (k0_off5 k (BitVec.ofNat 32 u.val)) S1x1x128x512.size (k0_off5_inb k u)

/-- The place of head 1 of block `8 k + u` in the key gradient. -/
abbrev rectK1 (k : Fin k0_t1_loop.trips) (u : Fin 8) : Rect S1x16x256x512 :=
  Rect.unit (s := S1x16x256x512) (k0_off6 k (BitVec.ofNat 32 u.val)) S1x1x128x512.size (k0_off6_inb k u)

/-- The two stores of block `8 k + u` into the key gradient: each adds a product to what the trip found there. -/
abbrev storesK (M : Memref sig .tc .vmem S1x16x256x512 .f32) (f : BufTy.Contents (Elt F) M.view.ty)
    (k : Fin k0_t1_loop.trips) (a0 a1 : FVec F S128x512 .bf16) (b0 b1 : FVec F S512x512 .bf16) (u : Fin 8)
    (L : List (View.Piece (Elt F) S1x16x256x512 .f32)) : List (View.Piece (Elt F) S1x16x256x512 .f32) :=
  ⟨rectK1 k u, addToK a1 b1 (View.readAt (Elt F) M.view (rectK1 k u).toLoadRect f)⟩ ::
    ⟨rectK0 k u, addToK a0 b0 (View.readAt (Elt F) M.view (rectK0 k u).toLoadRect f)⟩ :: L

/-- The sixteen stores of a trip into the key gradient; the last comes first in the list. -/
abbrev eightK (st : Fin 8 → List (View.Piece (Elt F) S1x16x256x512 .f32) → List (View.Piece (Elt F) S1x16x256x512 .f32)) :
    List (View.Piece (Elt F) S1x16x256x512 .f32) :=
  st 7 (st 6 (st 5 (st 4 (st 3 (st 2 (st 1 (st 0 [])))))))

/-- What a step stores into the value gradient: what was there plus the product of `a` and `b`. -/
def addToV (a : FVec F S64x512 .bf16) (b : FVec F S512x512 .bf16) (old : Vec F S1x1x64x512 .f32) : FVec F S1x1x64x512 .f32 :=
  shapeCast S1x1x64x512 (addf (shapeCast S64x512 old shapeCasts_S1x1x64x512_S64x512)
    (matmul dot_S64x512_S512x512_S64x512_1_0_0_1_n_n none a b (constant S64x512 .f32 0x00000000#32))) shapeCasts_S64x512_S1x1x64x512

/-- The place of head 0 of block `8 k + u` in the value gradient. -/
abbrev rectV0 (k : Fin k0_t1_loop.trips) (u : Fin 8) : Rect S1x16x128x512 :=
  Rect.unit (s := S1x16x128x512) (k0_off3 k (BitVec.ofNat 32 u.val)) S1x1x64x512.size (k0_off3_inb k u)

/-- The place of head 1 of block `8 k + u` in the value gradient. -/
abbrev rectV1 (k : Fin k0_t1_loop.trips) (u : Fin 8) : Rect S1x16x128x512 :=
  Rect.unit (s := S1x16x128x512) (k0_off4 k (BitVec.ofNat 32 u.val)) S1x1x64x512.size (k0_off4_inb k u)

/-- The two stores of block `8 k + u` into the value gradient: each adds a product to what the trip found there. -/
abbrev storesV (M : Memref sig .tc .vmem S1x16x128x512 .f32) (f : BufTy.Contents (Elt F) M.view.ty)
    (k : Fin k0_t1_loop.trips) (a0 a1 : FVec F S64x512 .bf16) (b0 b1 : FVec F S512x512 .bf16) (u : Fin 8)
    (L : List (View.Piece (Elt F) S1x16x128x512 .f32)) : List (View.Piece (Elt F) S1x16x128x512 .f32) :=
  ⟨rectV1 k u, addToV a1 b1 (View.readAt (Elt F) M.view (rectV1 k u).toLoadRect f)⟩ ::
    ⟨rectV0 k u, addToV a0 b0 (View.readAt (Elt F) M.view (rectV0 k u).toLoadRect f)⟩ :: L

/-- The sixteen stores of a trip into the value gradient; the last comes first in the list. -/
abbrev eightV (st : Fin 8 → List (View.Piece (Elt F) S1x16x128x512 .f32) → List (View.Piece (Elt F) S1x16x128x512 .f32)) :
    List (View.Piece (Elt F) S1x16x128x512 .f32) :=
  st 7 (st 6 (st 5 (st 4 (st 3 (st 2 (st 1 (st 0 [])))))))

section
variable (𝒱 : Variants) (c : Dev nD) (bd : Option 𝒱.V) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x2 .f32) (harg7 : arg7.IsWhole) (arg8 : Memref sig .tc .vmem S512x256 .f32) (harg8 : arg8.IsWhole) (arg9 : Memref sig .tc .vmem S1x16x256x512 .f32) (harg9 : arg9.IsWhole) (arg10 : Memref sig .tc .vmem S1x16x128x512 .f32) (harg10 : arg10.IsWhole) (arg11 : Memref sig .tc .vmem S8192x256 .bf16) (harg11 : arg11.IsWhole) (v30 : FVec F S512x128 .bf16) (v31 : FVec F S128x512 .bf16) (v32 : FVec F S64x512 .bf16) (v49 : FVec F S512x128 .bf16) (v51 : FVec F S512x1 .f32) (v53 : FVec F S512x64 .bf16) (v65 : FVec F S512x128 .bf16) (v66 : FVec F S128x512 .bf16) (v67 : FVec F S64x512 .bf16) (v69 : IVec S512x64 1) (v79 : FVec F S512x64 .f32) (v80 : FVec F S512x1 .f32) (v85 : Vec F S1x512x1 .f32) (X_arg3 : BufTy.Contents (Elt F) arg3.view.ty) (X_arg11 : BufTy.Contents (Elt F) arg11.view.ty) (k : Fin k0_t1_loop.trips) (acc : FVec F S512x128 .f32 × FVec F S512x128 .f32) (f9 : BufTy.Contents (Elt F) arg9.view.ty) (f10 : BufTy.Contents (Elt F) arg10.view.ty)

/-- The trip's stores into the key gradient. -/
theorem trip_dk :
    (trip_k0_t1 (F := F) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 k).2.1 acc f9 f10
      = eightK fun u => storesK arg9 f9 k v31 v66 (dscores v30 v51 v49 (part0 arg3 X_arg3 k u) (part0 arg11 X_arg11 k u)) (dscores v65 (k0_pay2 v85) (k0_pay1 v53 v69 v79 v80) (part1 arg3 X_arg3 k u) (part1 arg11 X_arg11 k u)) u := by
  unfold trip_k0_t1
  rfl

/-- The trip's stores into the value gradient. -/
theorem trip_dv :
    (trip_k0_t1 (F := F) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 k).2.2.1 acc f9 f10
      = eightV fun u => storesV arg10 f10 k v32 v67 (probsB v30 v51 (part0 arg3 X_arg3 k u)) (probsB v65 (k0_pay2 v85) (part1 arg3 X_arg3 k u)) u := by
  unfold trip_k0_t1
  rfl

/-- The query gradients the trip hands on. -/
theorem trip_dq :
    (trip_k0_t1 (F := F) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 k).1 acc f9 f10
      = (eightQ (fun u a => addQ a (dscores v30 v51 v49 (part0 arg3 X_arg3 k u) (part0 arg11 X_arg11 k u)) (part0 arg3 X_arg3 k u)) acc.1,
         eightQ (fun u a => addQ a (dscores v65 (k0_pay2 v85) (k0_pay1 v53 v69 v79 v80) (part1 arg3 X_arg3 k u) (part1 arg11 X_arg11 k u)) (part1 arg3 X_arg3 k u)) acc.2) := by
  unfold trip_k0_t1
  rfl
end

end Cert.Mla
end
-- ==== Proof.MlaTripValue.lean ====
module
public import proofs.«01_k».proof.Proof.MlaTrip
public import proofs.«01_k».proof.Proof.LoopValue
public import Idealize.ShloMosaic.Lib.Pointwise
public import Idealize.ShloMosaic.Lib.Pipeline.ValueKit.Tiles
/-! One trip's steps of the latent attention, read at an index over the extended reals.

A probability is `2 ^ (Σ q k − lse)`, a score's gradient that probability times `Σ d v`; a step adds to each entry of its
block one sum over the 512 rows. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row)

theorem off1 : ∀ (k : Fin k0_t1_loop.trips) (u : Fin 8),
    k0_off1 k (BitVec.ofNat 32 u.val) = ![512 * (8 * k.val + u.val), 0] := by decide +kernel
theorem off2 : ∀ (k : Fin k0_t1_loop.trips) (u : Fin 8),
    k0_off2 k (BitVec.ofNat 32 u.val) = ![512 * (8 * k.val + u.val), 128] := by decide +kernel
theorem off3 : ∀ (k : Fin k0_t1_loop.trips) (u : Fin 8),
    k0_off3 k (BitVec.ofNat 32 u.val) = ![0, 8 * k.val + u.val, 0, 0] := by decide +kernel
theorem off4 : ∀ (k : Fin k0_t1_loop.trips) (u : Fin 8),
    k0_off4 k (BitVec.ofNat 32 u.val) = ![0, 8 * k.val + u.val, 64, 0] := by decide +kernel
theorem off5 : ∀ (k : Fin k0_t1_loop.trips) (u : Fin 8),
    k0_off5 k (BitVec.ofNat 32 u.val) = ![0, 8 * k.val + u.val, 0, 0] := by decide +kernel
theorem off6 : ∀ (k : Fin k0_t1_loop.trips) (u : Fin 8),
    k0_off6 k (BitVec.ofNat 32 u.val) = ![0, 8 * k.val + u.val, 128, 0] := by decide +kernel

theorem trips_two (k : Fin k0_t1_loop.trips) : k.val < 2 := k.isLt

/-- The block a trip's step works on. -/
abbrev blk (k : Fin k0_t1_loop.trips) (u : Fin 8) : Fin 16 :=
  ⟨8 * k.val + u.val, by have := trips_two k; omega⟩

/-- Column `d` of head `hh` in a block of two heads of 128 columns. -/
abbrev kc (hh : Fin 2) (d : Fin 128) : Fin 256 := ⟨128 * hh.val + d.val, by omega⟩
/-- Column `d` of head `hh` in a block of two heads of 64 columns. -/
abbrev vc (hh : Fin 2) (d : Fin 64) : Fin 128 := ⟨64 * hh.val + d.val, by omega⟩

theorem part0_at (M : Memref sig .tc .vmem S8192x256 .bf16) (X : BufTy.Contents (Elt Ideal) M.view.ty)
    (k : Fin k0_t1_loop.trips) (u : Fin 8) (j : Fin 512) (d : Fin 128) :
    part0 M X k u (ix2 j d) = M.view.read (Elt Ideal) X (ix2 (row (blk k u) j) (kc 0 d)) := by
  rw [part0, View.readAt_eq_ld, View.ld_apply]
  congr 1
  funext a
  fin_cases a <;> apply Fin.ext <;> simp [off1]

theorem part1_at (M : Memref sig .tc .vmem S8192x256 .bf16) (X : BufTy.Contents (Elt Ideal) M.view.ty)
    (k : Fin k0_t1_loop.trips) (u : Fin 8) (j : Fin 512) (d : Fin 128) :
    part1 M X k u (ix2 j d) = M.view.read (Elt Ideal) X (ix2 (row (blk k u) j) (kc 1 d)) := by
  rw [part1, View.readAt_eq_ld, View.ld_apply]
  congr 1
  funext a
  fin_cases a <;> apply Fin.ext <;> simp [off2]

theorem probs_at (q : FVec Ideal S512x128 .bf16) (l : FVec Ideal S512x1 .f32) (kj : Vec Ideal S512x128 .bf16)
    (n : Fin 512) (j : Fin 512) :
    probs q l kj (ix2 n j) = Ideal.exp2 ((∑ d : Fin 128, q (ix2 n d) * kj (ix2 j d)) - l (ix2 n 0)) := by
  pointwise [probs]
  rfl

theorem probsB_at (q : FVec Ideal S512x128 .bf16) (l : FVec Ideal S512x1 .f32) (kj : Vec Ideal S512x128 .bf16)
    (n : Fin 512) (j : Fin 512) : probsB q l kj (ix2 n j) = probs q l kj (ix2 n j) := by
  pointwise [probsB]

theorem dscores_at (q : FVec Ideal S512x128 .bf16) (l : FVec Ideal S512x1 .f32) (d : FVec Ideal S512x128 .bf16)
    (kj : Vec Ideal S512x128 .bf16) (va : Vec Ideal S512x128 .bf16) (n : Fin 512) (j : Fin 512) :
    dscores q l d kj va (ix2 n j) = probs q l kj (ix2 n j) * ∑ e : Fin 128, d (ix2 n e) * va (ix2 j e) := by
  pointwise [dscores]

theorem addQ_at (a : FVec Ideal S512x128 .f32) (b : FVec Ideal S512x512 .bf16) (kj : Vec Ideal S512x128 .bf16)
    (n : Fin 512) (d : Fin 128) :
    addQ a b kj (ix2 n d) = a (ix2 n d) + ∑ j : Fin 512, b (ix2 n j) * kj (ix2 j d) := by
  pointwise [addQ]

/-- The column inside its head, of 128. -/
abbrev loK (c : Fin 256) : Fin 128 := ⟨c.val % 128, by omega⟩
/-- The column inside its head, of 64. -/
abbrev loV (c : Fin 128) : Fin 64 := ⟨c.val % 64, by omega⟩

theorem addToK_at (a : FVec Ideal S128x512 .bf16) (b : FVec Ideal S512x512 .bf16) (old : Vec Ideal S1x1x128x512 .f32)
    (d : Fin 128) (j : Fin 512) :
    addToK a b old (ix4 0 0 d j) = old (ix4 0 0 d j) + ∑ n : Fin 512, a (ix2 d n) * b (ix2 n j) := by
  pointwise [addToK]

/-- What one step adds in column `c` of the key gradient (head 0 below 128, head 1 from 128 on). -/
def addedK (a0 a1 : FVec Ideal S128x512 .bf16) (b0 b1 : FVec Ideal S512x512 .bf16) (c : Fin 256) (j : Fin 512) : EReal :=
  if c.val < 128 then ∑ n : Fin 512, a0 (ix2 (loK c) n) * b0 (ix2 n j) else ∑ n : Fin 512, a1 (ix2 (loK c) n) * b1 (ix2 n j)

theorem read_rectK0 (M : Memref sig .tc .vmem S1x16x256x512 .f32) (f : BufTy.Contents (Elt Ideal) M.view.ty)
    (k : Fin k0_t1_loop.trips) (u : Fin 8) (d : Fin 128) (j : Fin 512) :
    View.readAt (Elt Ideal) M.view (rectK0 k u).toLoadRect f (ix4 0 0 d j)
      = M.view.read (Elt Ideal) f (ix4 0 (blk k u) (kc 0 d) j) := by
  rw [View.readAt_eq_ld, View.ld_apply]
  congr 1
  funext a
  fin_cases a <;> apply Fin.ext <;> simp [off5]

theorem read_rectK1 (M : Memref sig .tc .vmem S1x16x256x512 .f32) (f : BufTy.Contents (Elt Ideal) M.view.ty)
    (k : Fin k0_t1_loop.trips) (u : Fin 8) (d : Fin 128) (j : Fin 512) :
    View.readAt (Elt Ideal) M.view (rectK1 k u).toLoadRect f (ix4 0 0 d j)
      = M.view.read (Elt Ideal) f (ix4 0 (blk k u) (kc 1 d) j) := by
  rw [View.readAt_eq_ld, View.ld_apply]
  congr 1
  funext a
  fin_cases a <;> apply Fin.ext <;> simp [off6]

/-- A step's two stores, read back: its own block holds what was there plus the product, every other block is untouched. -/
theorem read_storesK (M : Memref sig .tc .vmem S1x16x256x512 .f32) (f g : BufTy.Contents (Elt Ideal) M.view.ty)
    (k : Fin k0_t1_loop.trips) (a0 a1 : FVec Ideal S128x512 .bf16) (b0 b1 : FVec Ideal S512x512 .bf16) (u : Fin 8)
    (L : List (View.Piece (Elt Ideal) S1x16x256x512 .f32)) (b : Fin 16) (c : Fin 256) (j : Fin 512) :
    M.view.read (Elt Ideal) (M.view.writes (Elt Ideal) g (storesK M f k a0 a1 b0 b1 u L)) (ix4 0 b c j)
      = if b = blk k u then M.view.read (Elt Ideal) f (ix4 0 b c j) + addedK a0 a1 b0 b1 c j
        else M.view.read (Elt Ideal) (M.view.writes (Elt Ideal) g L) (ix4 0 b c j) := by
  by_cases hb : b = blk k u
  · subst hb
    rw [if_pos rfl, addedK]
    by_cases hc : c.val < 128
    · rw [if_pos hc, View.read_writes_cons_unit_of_not_mem M.view g _ _ _ _ (off6 k u) 2 (Or.inl hc),
        View.read_writes_cons_unit_of_mem (size := S1x1x128x512.size) M.view g (k0_off5_inb k u) _ _ _
          (show S1x1x128x512.Idx from ix4 0 0 (loK c) j) (off5 k u), addToK_at, read_rectK0]
      · congr 3
        apply Fin.ext
        show 128 * 0 + c.val % 128 = c.val
        omega
      · intro a
        fin_cases a <;> simp
        omega
    · rw [if_neg hc, View.read_writes_cons_unit_of_mem (size := S1x1x128x512.size) M.view g (k0_off6_inb k u) _ _ _
          (show S1x1x128x512.Idx from ix4 0 0 (loK c) j) (off6 k u), addToK_at, read_rectK1]
      · congr 3
        apply Fin.ext
        show 128 * 1 + c.val % 128 = c.val
        omega
      · intro a
        fin_cases a <;> simp
        omega
  · have hb' : b.val < 8 * k.val + u.val ∨ 8 * k.val + u.val + 1 ≤ b.val := by
      have : b.val ≠ 8 * k.val + u.val := fun h => hb (Fin.ext h)
      omega
    rw [if_neg hb, View.read_writes_cons_unit_of_not_mem M.view g _ _ _ _ (off6 k u) 1 hb',
      View.read_writes_cons_unit_of_not_mem M.view g _ _ _ _ (off5 k u) 1 hb']

/-- A trip's sixteen stores, read back. -/
theorem read_eightK (M : Memref sig .tc .vmem S1x16x256x512 .f32) (f g : BufTy.Contents (Elt Ideal) M.view.ty)
    (k : Fin k0_t1_loop.trips) (a0 a1 : FVec Ideal S128x512 .bf16) (b0 b1 : Fin 8 → FVec Ideal S512x512 .bf16)
    (b : Fin 16) (c : Fin 256) (j : Fin 512) :
    M.view.read (Elt Ideal) (M.view.writes (Elt Ideal) g (eightK fun u => storesK M f k a0 a1 (b0 u) (b1 u) u)) (ix4 0 b c j)
      = if b.val / 8 = k.val then M.view.read (Elt Ideal) f (ix4 0 b c j)
            + addedK a0 a1 (b0 ⟨b.val % 8, by omega⟩) (b1 ⟨b.val % 8, by omega⟩) c j
        else M.view.read (Elt Ideal) g (ix4 0 b c j) := by
  have hne : ∀ u : Fin 8, b.val / 8 ≠ k.val → b ≠ blk k u := fun u h e => h (by
    have : b.val = 8 * k.val + u.val := congrArg Fin.val e
    omega)
  by_cases hk : b.val / 8 = k.val
  · rw [if_pos hk]
    obtain ⟨u, hu⟩ : ∃ u : Fin 8, b.val % 8 = u.val := ⟨⟨b.val % 8, by omega⟩, rfl⟩
    have hb : b = blk k u := Fin.ext (by show b.val = 8 * k.val + u.val; omega)
    have hu' : (⟨b.val % 8, by omega⟩ : Fin 8) = u := Fin.ext hu
    have hiff : ∀ w : Fin 8, b = blk k w ↔ u = w := fun w => by
      rw [hb]
      constructor
      · intro h
        have : 8 * k.val + u.val = 8 * k.val + w.val := congrArg Fin.val h
        exact Fin.ext (by omega)
      · intro h; rw [h]
    rw [hu']
    simp only [read_storesK, hiff]
    clear hiff hu' hb hu
    fin_cases u <;> simp
  · rw [if_neg hk]
    simp only [eightK, read_storesK, if_neg (hne _ hk), View.writes_nil]

theorem addToV_at (a : FVec Ideal S64x512 .bf16) (b : FVec Ideal S512x512 .bf16) (old : Vec Ideal S1x1x64x512 .f32)
    (d : Fin 64) (j : Fin 512) :
    addToV a b old (ix4 0 0 d j) = old (ix4 0 0 d j) + ∑ n : Fin 512, a (ix2 d n) * b (ix2 n j) := by
  pointwise [addToV]

/-- What one step adds in column `c` of the value gradient (head 0 below 64, head 1 from 64 on). -/
def addedV (a0 a1 : FVec Ideal S64x512 .bf16) (b0 b1 : FVec Ideal S512x512 .bf16) (c : Fin 128) (j : Fin 512) : EReal :=
  if c.val < 64 then ∑ n : Fin 512, a0 (ix2 (loV c) n) * b0 (ix2 n j) else ∑ n : Fin 512, a1 (ix2 (loV c) n) * b1 (ix2 n j)

theorem read_rectV0 (M : Memref sig .tc .vmem S1x16x128x512 .f32) (f : BufTy.Contents (Elt Ideal) M.view.ty)
    (k : Fin k0_t1_loop.trips) (u : Fin 8) (d : Fin 64) (j : Fin 512) :
    View.readAt (Elt Ideal) M.view (rectV0 k u).toLoadRect f (ix4 0 0 d j)
      = M.view.read (Elt Ideal) f (ix4 0 (blk k u) (vc 0 d) j) := by
  rw [View.readAt_eq_ld, View.ld_apply]
  congr 1
  funext a
  fin_cases a <;> apply Fin.ext <;> simp [off3]

theorem read_rectV1 (M : Memref sig .tc .vmem S1x16x128x512 .f32) (f : BufTy.Contents (Elt Ideal) M.view.ty)
    (k : Fin k0_t1_loop.trips) (u : Fin 8) (d : Fin 64) (j : Fin 512) :
    View.readAt (Elt Ideal) M.view (rectV1 k u).toLoadRect f (ix4 0 0 d j)
      = M.view.read (Elt Ideal) f (ix4 0 (blk k u) (vc 1 d) j) := by
  rw [View.readAt_eq_ld, View.ld_apply]
  congr 1
  funext a
  fin_cases a <;> apply Fin.ext <;> simp [off4]

/-- A step's two stores, read back: its own block holds what was there plus the product, every other block is untouched. -/
theorem read_storesV (M : Memref sig .tc .vmem S1x16x128x512 .f32) (f g : BufTy.Contents (Elt Ideal) M.view.ty)
    (k : Fin k0_t1_loop.trips) (a0 a1 : FVec Ideal S64x512 .bf16) (b0 b1 : FVec Ideal S512x512 .bf16) (u : Fin 8)
    (L : List (View.Piece (Elt Ideal) S1x16x128x512 .f32)) (b : Fin 16) (c : Fin 128) (j : Fin 512) :
    M.view.read (Elt Ideal) (M.view.writes (Elt Ideal) g (storesV M f k a0 a1 b0 b1 u L)) (ix4 0 b c j)
      = if b = blk k u then M.view.read (Elt Ideal) f (ix4 0 b c j) + addedV a0 a1 b0 b1 c j
        else M.view.read (Elt Ideal) (M.view.writes (Elt Ideal) g L) (ix4 0 b c j) := by
  by_cases hb : b = blk k u
  · subst hb
    rw [if_pos rfl, addedV]
    by_cases hc : c.val < 64
    · rw [if_pos hc, View.read_writes_cons_unit_of_not_mem M.view g _ _ _ _ (off4 k u) 2 (Or.inl hc),
        View.read_writes_cons_unit_of_mem (size := S1x1x64x512.size) M.view g (k0_off3_inb k u) _ _ _
          (show S1x1x64x512.Idx from ix4 0 0 (loV c) j) (off3 k u), addToV_at, read_rectV0]
      · congr 3
        apply Fin.ext
        show 64 * 0 + c.val % 64 = c.val
        omega
      · intro a
        fin_cases a <;> simp
        omega
    · rw [if_neg hc, View.read_writes_cons_unit_of_mem (size := S1x1x64x512.size) M.view g (k0_off4_inb k u) _ _ _
          (show S1x1x64x512.Idx from ix4 0 0 (loV c) j) (off4 k u), addToV_at, read_rectV1]
      · congr 3
        apply Fin.ext
        show 64 * 1 + c.val % 64 = c.val
        omega
      · intro a
        fin_cases a <;> simp
        omega
  · have hb' : b.val < 8 * k.val + u.val ∨ 8 * k.val + u.val + 1 ≤ b.val := by
      have : b.val ≠ 8 * k.val + u.val := fun h => hb (Fin.ext h)
      omega
    rw [if_neg hb, View.read_writes_cons_unit_of_not_mem M.view g _ _ _ _ (off4 k u) 1 hb',
      View.read_writes_cons_unit_of_not_mem M.view g _ _ _ _ (off3 k u) 1 hb']

/-- A trip's sixteen stores, read back. -/
theorem read_eightV (M : Memref sig .tc .vmem S1x16x128x512 .f32) (f g : BufTy.Contents (Elt Ideal) M.view.ty)
    (k : Fin k0_t1_loop.trips) (a0 a1 : FVec Ideal S64x512 .bf16) (b0 b1 : Fin 8 → FVec Ideal S512x512 .bf16)
    (b : Fin 16) (c : Fin 128) (j : Fin 512) :
    M.view.read (Elt Ideal) (M.view.writes (Elt Ideal) g (eightV fun u => storesV M f k a0 a1 (b0 u) (b1 u) u)) (ix4 0 b c j)
      = if b.val / 8 = k.val then M.view.read (Elt Ideal) f (ix4 0 b c j)
            + addedV a0 a1 (b0 ⟨b.val % 8, by omega⟩) (b1 ⟨b.val % 8, by omega⟩) c j
        else M.view.read (Elt Ideal) g (ix4 0 b c j) := by
  have hne : ∀ u : Fin 8, b.val / 8 ≠ k.val → b ≠ blk k u := fun u h e => h (by
    have : b.val = 8 * k.val + u.val := congrArg Fin.val e
    omega)
  by_cases hk : b.val / 8 = k.val
  · rw [if_pos hk]
    obtain ⟨u, hu⟩ : ∃ u : Fin 8, b.val % 8 = u.val := ⟨⟨b.val % 8, by omega⟩, rfl⟩
    have hb : b = blk k u := Fin.ext (by show b.val = 8 * k.val + u.val; omega)
    have hu' : (⟨b.val % 8, by omega⟩ : Fin 8) = u := Fin.ext hu
    have hiff : ∀ w : Fin 8, b = blk k w ↔ u = w := fun w => by
      rw [hb]
      constructor
      · intro h
        have : 8 * k.val + u.val = 8 * k.val + w.val := congrArg Fin.val h
        exact Fin.ext (by omega)
      · intro h; rw [h]
    rw [hu']
    simp only [read_storesV, hiff]
    clear hiff hu' hb hu
    fin_cases u <;> simp
  · rw [if_neg hk]
    simp only [eightV, read_storesV, if_neg (hne _ hk), View.writes_nil]

end Cert.Mla
end
-- ==== Proof.MlaLoopValue.lean ====
module
public import proofs.«01_k».proof.Proof.MlaTripValue
/-! The latent attention's loop, its two trips together, over the extended reals.

The loop adds to each entry of the key and value gradients one sum over the 512 rows, and to each entry of the query
gradients one sum over all 8192 keys. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row sum_rows)

/-- A probability: two to the power of a row's product with a key, less the row's logarithm. -/
def pr (q : FVec Ideal S512x128 .bf16) (l : FVec Ideal S512x1 .f32) (K : Fin 8192 → Fin 128 → EReal) (n : Fin 512)
    (j : Fin 8192) : EReal :=
  Ideal.exp2 ((∑ d : Fin 128, q (ix2 n d) * K j d) - l (ix2 n 0))

/-- The gradient of a score. -/
def dsc (q : FVec Ideal S512x128 .bf16) (l : FVec Ideal S512x1 .f32) (d : FVec Ideal S512x128 .bf16)
    (K : Fin 8192 → Fin 128 → EReal) (VA : Fin 8192 → Fin 128 → EReal) (n : Fin 512) (j : Fin 8192) : EReal :=
  pr q l K n j * ∑ e : Fin 128, d (ix2 n e) * VA j e

/-- A head's columns of a block of two heads: its keys, or its widened values. -/
abbrev hcol (X : Vec Ideal S8192x256 .bf16) (hh : Fin 2) (j : Fin 8192) (d : Fin 128) : EReal := X (ix2 j (kc hh d))

theorem probs_part0 (q : FVec Ideal S512x128 .bf16) (l : FVec Ideal S512x1 .f32)
    (arg3 : Memref sig .tc .vmem S8192x256 .bf16) (X : BufTy.Contents (Elt Ideal) arg3.view.ty)
    (k : Fin k0_t1_loop.trips) (u : Fin 8) (n : Fin 512) (j : Fin 512) :
    probs q l (part0 arg3 X k u) (ix2 n j) = pr q l (hcol (arg3.view.read (Elt Ideal) X) 0) n (row (blk k u) j) := by
  simp only [probs_at, part0_at, pr]

theorem dscores_part0 (q : FVec Ideal S512x128 .bf16) (l : FVec Ideal S512x1 .f32) (d : FVec Ideal S512x128 .bf16)
    (arg3 : Memref sig .tc .vmem S8192x256 .bf16) (X : BufTy.Contents (Elt Ideal) arg3.view.ty)
    (arg11 : Memref sig .tc .vmem S8192x256 .bf16) (Y : BufTy.Contents (Elt Ideal) arg11.view.ty)
    (k : Fin k0_t1_loop.trips) (u : Fin 8) (n : Fin 512) (j : Fin 512) :
    dscores q l d (part0 arg3 X k u) (part0 arg11 Y k u) (ix2 n j)
      = dsc q l d (hcol (arg3.view.read (Elt Ideal) X) 0) (hcol (arg11.view.read (Elt Ideal) Y) 0) n (row (blk k u) j) := by
  simp only [dscores_at, probs_part0, part0_at, dsc]

theorem probs_part1 (q : FVec Ideal S512x128 .bf16) (l : FVec Ideal S512x1 .f32)
    (arg3 : Memref sig .tc .vmem S8192x256 .bf16) (X : BufTy.Contents (Elt Ideal) arg3.view.ty)
    (k : Fin k0_t1_loop.trips) (u : Fin 8) (n : Fin 512) (j : Fin 512) :
    probs q l (part1 arg3 X k u) (ix2 n j) = pr q l (hcol (arg3.view.read (Elt Ideal) X) 1) n (row (blk k u) j) := by
  simp only [probs_at, part1_at, pr]

theorem dscores_part1 (q : FVec Ideal S512x128 .bf16) (l : FVec Ideal S512x1 .f32) (d : FVec Ideal S512x128 .bf16)
    (arg3 : Memref sig .tc .vmem S8192x256 .bf16) (X : BufTy.Contents (Elt Ideal) arg3.view.ty)
    (arg11 : Memref sig .tc .vmem S8192x256 .bf16) (Y : BufTy.Contents (Elt Ideal) arg11.view.ty)
    (k : Fin k0_t1_loop.trips) (u : Fin 8) (n : Fin 512) (j : Fin 512) :
    dscores q l d (part1 arg3 X k u) (part1 arg11 Y k u) (ix2 n j)
      = dsc q l d (hcol (arg3.view.read (Elt Ideal) X) 1) (hcol (arg11.view.read (Elt Ideal) Y) 1) n (row (blk k u) j) := by
  simp only [dscores_at, probs_part1, part1_at, dsc]

/-- The block a row of a gradient belongs to, as a trip and a step. -/
abbrev tripOf (b : Fin 16) : Fin k0_t1_loop.trips := ⟨b.val / 8, show b.val / 8 < 2 by omega⟩
/-- The step of a block inside its trip. -/
abbrev stepOf (b : Fin 16) : Fin 8 := ⟨b.val % 8, by omega⟩

theorem blk_of (b : Fin 16) : blk (tripOf b) (stepOf b) = b :=
  Fin.ext (by show 8 * (b.val / 8) + b.val % 8 = b.val; omega)

/-- Two trips' stores into the key gradient, read back: every block gets its product exactly once. -/
theorem read_twoK (M : Memref sig .tc .vmem S1x16x256x512 .f32) (g : BufTy.Contents (Elt Ideal) M.view.ty)
    (a0 a1 : FVec Ideal S128x512 .bf16) (b0 b1 : Fin k0_t1_loop.trips → Fin 8 → FVec Ideal S512x512 .bf16)
    (k0 k1 : Fin k0_t1_loop.trips) (h0 : k0.val = 0) (h1 : k1.val = 1) (L0 : List (View.Piece (Elt Ideal) S1x16x256x512 .f32))
    (hL0 : L0 = eightK fun u => storesK M g k0 a0 a1 (b0 k0 u) (b1 k0 u) u)
    (b : Fin 16) (c : Fin 256) (j : Fin 512) :
    M.view.read (Elt Ideal) (M.view.writes (Elt Ideal) (M.view.writes (Elt Ideal) g L0)
        (eightK fun u => storesK M (M.view.writes (Elt Ideal) g L0) k1 a0 a1 (b0 k1 u) (b1 k1 u) u)) (ix4 0 b c j)
      = M.view.read (Elt Ideal) g (ix4 0 b c j) + addedK a0 a1 (b0 (tripOf b) (stepOf b)) (b1 (tripOf b) (stepOf b)) c j := by
  rw [read_eightK, hL0, read_eightK, h0, h1]
  by_cases hb : b.val / 8 = 1
  · have : k1 = tripOf b := Fin.ext (by rw [h1]; exact hb.symm)
    rw [if_pos hb, if_neg (by omega), this]
  · have hb0 : b.val / 8 = 0 := by omega
    have : k0 = tripOf b := Fin.ext (by rw [h0]; exact hb0.symm)
    rw [if_neg hb, if_pos hb0, this]

/-- Two trips' stores into the value gradient, read back: every block gets its product exactly once. -/
theorem read_twoV (M : Memref sig .tc .vmem S1x16x128x512 .f32) (g : BufTy.Contents (Elt Ideal) M.view.ty)
    (a0 a1 : FVec Ideal S64x512 .bf16) (b0 b1 : Fin k0_t1_loop.trips → Fin 8 → FVec Ideal S512x512 .bf16)
    (k0 k1 : Fin k0_t1_loop.trips) (h0 : k0.val = 0) (h1 : k1.val = 1) (L0 : List (View.Piece (Elt Ideal) S1x16x128x512 .f32))
    (hL0 : L0 = eightV fun u => storesV M g k0 a0 a1 (b0 k0 u) (b1 k0 u) u)
    (b : Fin 16) (c : Fin 128) (j : Fin 512) :
    M.view.read (Elt Ideal) (M.view.writes (Elt Ideal) (M.view.writes (Elt Ideal) g L0)
        (eightV fun u => storesV M (M.view.writes (Elt Ideal) g L0) k1 a0 a1 (b0 k1 u) (b1 k1 u) u)) (ix4 0 b c j)
      = M.view.read (Elt Ideal) g (ix4 0 b c j) + addedV a0 a1 (b0 (tripOf b) (stepOf b)) (b1 (tripOf b) (stepOf b)) c j := by
  rw [read_eightV, hL0, read_eightV, h0, h1]
  by_cases hb : b.val / 8 = 1
  · have : k1 = tripOf b := Fin.ext (by rw [h1]; exact hb.symm)
    rw [if_pos hb, if_neg (by omega), this]
  · have hb0 : b.val / 8 = 0 := by omega
    have : k0 = tripOf b := Fin.ext (by rw [h0]; exact hb0.symm)
    rw [if_neg hb, if_pos hb0, this]

/-- A trip's eight additions to a query gradient, in one sum. -/
theorem eightQ_at (B : Fin 8 → FVec Ideal S512x512 .bf16) (K : Fin 8 → Vec Ideal S512x128 .bf16)
    (a : FVec Ideal S512x128 .f32) (n : Fin 512) (d : Fin 128) :
    eightQ (fun u a => addQ a (B u) (K u)) a (ix2 n d)
      = a (ix2 n d) + ∑ u : Fin 8, ∑ j : Fin 512, B u (ix2 n j) * K u (ix2 j d) := by
  simp only [eightQ, addQ_at]
  rw [Fin.sum_univ_eight]
  simp only [add_assoc]

/-- A sum over all keys, trip by trip. -/
theorem sum_trips (f : Fin 8192 → EReal) (k0 k1 : Fin k0_t1_loop.trips) (h0 : k0.val = 0) (h1 : k1.val = 1) :
    ∑ j, f j = (∑ u : Fin 8, ∑ j : Fin 512, f (row (blk k0 u) j)) + ∑ u : Fin 8, ∑ j : Fin 512, f (row (blk k1 u) j) := by
  rw [sum_rows, show (∑ b : Fin 16, ∑ j : Fin 512, f (row b j)) = _ from
    Fin.sum_univ_add (a := 8) (b := 8) (fun b : Fin 16 => ∑ j : Fin 512, f (row b j))]
  congr 1 <;> refine Fintype.sum_congr _ _ fun u => Fintype.sum_congr _ _ fun j => congrArg f (Fin.ext ?_)
  · show 512 * u.val + j.val = 512 * (8 * k0.val + u.val) + j.val
    rw [h0]; omega
  · show 512 * (8 + u.val) + j.val = 512 * (8 * k1.val + u.val) + j.val
    rw [h1]

section
variable (𝒱 : Variants) (c : Dev nD) (bd : Option 𝒱.V) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x2 .f32) (harg7 : arg7.IsWhole) (arg8 : Memref sig .tc .vmem S512x256 .f32) (harg8 : arg8.IsWhole) (arg9 : Memref sig .tc .vmem S1x16x256x512 .f32) (harg9 : arg9.IsWhole) (arg10 : Memref sig .tc .vmem S1x16x128x512 .f32) (harg10 : arg10.IsWhole) (arg11 : Memref sig .tc .vmem S8192x256 .bf16) (harg11 : arg11.IsWhole) (v30 : FVec Ideal S512x128 .bf16) (v31 : FVec Ideal S128x512 .bf16) (v32 : FVec Ideal S64x512 .bf16) (v49 : FVec Ideal S512x128 .bf16) (v51 : FVec Ideal S512x1 .f32) (v53 : FVec Ideal S512x64 .bf16) (v65 : FVec Ideal S512x128 .bf16) (v66 : FVec Ideal S128x512 .bf16) (v67 : FVec Ideal S64x512 .bf16) (v69 : IVec S512x64 1) (v79 : FVec Ideal S512x64 .f32) (v80 : FVec Ideal S512x1 .f32) (v85 : Vec Ideal S1x512x1 .f32) (X_arg3 : BufTy.Contents (Elt Ideal) arg3.view.ty) (X_arg11 : BufTy.Contents (Elt Ideal) arg11.view.ty)
  (G9 : BufTy.Contents (Elt Ideal) arg9.view.ty) (G10 : BufTy.Contents (Elt Ideal) arg10.view.ty)
  (init : FVec Ideal S512x128 .f32 × FVec Ideal S512x128 .f32)

/-- The key gradient after the loop. -/
theorem loop_dk (b : Fin 16) (x : Fin 256) (j : Fin 512) :
    arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 2).2.1) (ix4 0 b x j)
      = arg9.view.read (Elt Ideal) G9 (ix4 0 b x j)
        + if x.val < 128 then ∑ n : Fin 512, v31 (ix2 (loK x) n)
              * dsc v30 v51 v49 (hcol (arg3.view.read (Elt Ideal) X_arg3) 0) (hcol (arg11.view.read (Elt Ideal) X_arg11) 0) n (row b j)
          else ∑ n : Fin 512, v66 (ix2 (loK x) n)
              * dsc v65 (k0_pay2 v85) (k0_pay1 v53 v69 v79 v80) (hcol (arg3.view.read (Elt Ideal) X_arg3) 1) (hcol (arg11.view.read (Elt Ideal) X_arg11) 1) n (row b j) := by
  have e1 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 0) = (init, [], []) := by rw [st_k0_t1]
  simp only [Nat.zero_add, Nat.reduceAdd] at e1 e0
  rw [ez] at e0
  rw [e1]
  simp only [View.writes_append, tripL_k0_t1, trip_dk]
  rw [e0]
  simp only [View.writes_append, tripL_k0_t1, trip_dk, View.writes_nil, List.append_nil]
  refine (read_twoK arg9 G9 v31 v66 (fun k u => (dscores v30 v51 v49 (part0 arg3 X_arg3 k u) (part0 arg11 X_arg11 k u))) (fun k u => (dscores v65 (k0_pay2 v85) (k0_pay1 v53 v69 v79 v80) (part1 arg3 X_arg3 k u) (part1 arg11 X_arg11 k u))) ⟨0, _⟩ ⟨1, _⟩ rfl rfl _ rfl b x j).trans ?_
  simp only [addedK, dscores_part0, dscores_part1, blk_of]

/-- The value gradient after the loop. -/
theorem loop_dv (b : Fin 16) (x : Fin 128) (j : Fin 512) :
    arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 2).2.2) (ix4 0 b x j)
      = arg10.view.read (Elt Ideal) G10 (ix4 0 b x j)
        + if x.val < 64 then ∑ n : Fin 512, v32 (ix2 (loV x) n)
              * pr v30 v51 (hcol (arg3.view.read (Elt Ideal) X_arg3) 0) n (row b j)
          else ∑ n : Fin 512, v67 (ix2 (loV x) n)
              * pr v65 (k0_pay2 v85) (hcol (arg3.view.read (Elt Ideal) X_arg3) 1) n (row b j) := by
  have e1 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 0) = (init, [], []) := by rw [st_k0_t1]
  simp only [Nat.zero_add, Nat.reduceAdd] at e1 e0
  rw [ez] at e0
  rw [e1]
  simp only [View.writes_append, tripL_k0_t1, trip_dv]
  rw [e0]
  simp only [View.writes_append, tripL_k0_t1, trip_dv, View.writes_nil, List.append_nil]
  refine (read_twoV arg10 G10 v32 v67 (fun k u => (probsB v30 v51 (part0 arg3 X_arg3 k u))) (fun k u => (probsB v65 (k0_pay2 v85) (part1 arg3 X_arg3 k u))) ⟨0, _⟩ ⟨1, _⟩ rfl rfl _ rfl b x j).trans ?_
  simp only [addedV, probsB_at, probs_part0, probs_part1, blk_of]

/-- The query gradient of head 0 after the loop. -/
theorem loop_dq0 (n : Fin 512) (d : Fin 128) :
    (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 2).1.1 (ix2 n d) = init.1 (ix2 n d)
      + ∑ j : Fin 8192, dsc v30 v51 v49 (hcol (arg3.view.read (Elt Ideal) X_arg3) 0) (hcol (arg11.view.read (Elt Ideal) X_arg11) 0) n j
          * hcol (arg3.view.read (Elt Ideal) X_arg3) 0 j d := by
  have e1 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 0) = (init, [], []) := by rw [st_k0_t1]
  simp only [Nat.zero_add, Nat.reduceAdd] at e1 e0
  rw [ez] at e0
  rw [e1]
  simp only [tripR_k0_t1, trip_dq]
  rw [e0]
  simp only [tripR_k0_t1, trip_dq]
  refine (eightQ_at _ _ _ n d).trans ((congrArg (· + _) (eightQ_at _ _ _ n d)).trans ?_)
  rw [add_assoc, sum_trips _ (⟨0, show 0 < 2 by omega⟩ : Fin k0_t1_loop.trips) ⟨1, show 1 < 2 by omega⟩ rfl rfl]
  simp only [dscores_part0, part0_at]

/-- The query gradient of head 1 after the loop. -/
theorem loop_dq1 (n : Fin 512) (d : Fin 128) :
    (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 2).1.2 (ix2 n d) = init.2 (ix2 n d)
      + ∑ j : Fin 8192, dsc v65 (k0_pay2 v85) (k0_pay1 v53 v69 v79 v80) (hcol (arg3.view.read (Elt Ideal) X_arg3) 1) (hcol (arg11.view.read (Elt Ideal) X_arg11) 1) n j
          * hcol (arg3.view.read (Elt Ideal) X_arg3) 1 j d := by
  have e1 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨1, show 1 < 2 by omega⟩
  have e0 := st_k0_t1_succ (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init ⟨0, show 0 < 2 by omega⟩
  have ez : (st_k0_t1 (F := Ideal) 𝒱 c bd i arg2 harg2 arg3 harg3 arg4 harg4 arg5 harg5 arg6 harg6 arg7 harg7 arg8 harg8 arg9 harg9 arg10 harg10 arg11 harg11 v30 v31 v32 v49 v51 v53 v65 v66 v67 v69 v79 v80 v85 X_arg3 X_arg11 G9 G10 init 0) = (init, [], []) := by rw [st_k0_t1]
  simp only [Nat.zero_add, Nat.reduceAdd] at e1 e0
  rw [ez] at e0
  rw [e1]
  simp only [tripR_k0_t1, trip_dq]
  rw [e0]
  simp only [tripR_k0_t1, trip_dq]
  refine (eightQ_at _ _ _ n d).trans ((congrArg (· + _) (eightQ_at _ _ _ n d)).trans ?_)
  rw [add_assoc, sum_trips _ (⟨0, show 0 < 2 by omega⟩ : Fin k0_t1_loop.trips) ⟨1, show 1 < 2 by omega⟩ rfl rfl]
  simp only [dscores_part1, part1_at]
end

end Cert.Mla
end
-- ==== Proof.MlaPointVectors.lean ====
module
public import proofs.«01_k».proof.Proof.MlaLoopValue
public import proofs.«01_k».proof.Proof.PointVectors
public import proofs.«01_k».proof.Proof.Gen.LatentIdeal.Frame.RunA
public import proofs.«01_k».proof.Proof.Gen.LatentIdeal.Frame.RunB
/-! The vectors a grid point of the latent attention prepares before its loop, read at an index.

A block holds 512 rows of two heads. The output's gradient is widened by two columns with minus the row's `Σ do · o`, in a
leading and a remaining part. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row pick_lane shift_lane)

/-- A row's `Σ do · o`. -/
def rowDot (p o : Vec Ideal S512x128 .bf16) (hh : Fin 2) (n : Fin 512) : EReal :=
  ∑ d : Fin 64, p (ix2 n (vc hh d)) * o (ix2 n (vc hh d))

/-- The widened gradient of the output. -/
def widened (p o : Vec Ideal S512x128 .bf16) (hh : Fin 2) (n : Fin 512) (e : Fin 128) : EReal :=
  if h : e.val < 64 then p (ix2 n (vc hh ⟨e.val, h⟩))
  else if e.val = 64 then 0 - rowDot p o hh n
  else if e.val = 65 then 0 - (rowDot p o hh n - rowDot p o hh n)
  else 0

theorem kc_zero (d : Fin 128) (h : d.val < 256) : (⟨d.val, h⟩ : Fin 256) = kc 0 d := Fin.ext (by simp)
theorem vc_zero (d : Fin 64) (h : d.val < 128) : (⟨d.val, h⟩ : Fin 128) = vc 0 d := Fin.ext (by simp)

section
variable (c : Dev nD) (arg2 : Memref sig .tc .vmem S512x256 .bf16) (harg2 : arg2.IsWhole)
  (arg5 : Memref sig .tc .vmem S512x128 .bf16) (harg5 : arg5.IsWhole)
  (arg6 : Memref sig .tc .vmem S512x128 .bf16) (harg6 : arg6.IsWhole) (arg7 : Memref sig .tc .vmem S1x512x2 .f32) (harg7 : arg7.IsWhole)
  (x0 : Vec Ideal S512x256 .bf16) (x3 x4 : Vec Ideal S512x128 .bf16) (x5 : Vec Ideal S1x512x2 .f32)

/-- The queries of head 0. -/
theorem queries0 (n : Fin 512) (d : Fin 128) : kernelRun0_A.sl.r_4 c arg2 harg2 x0 (ix2 n d) = x0 (ix2 n (kc 0 d)) := by
  unfold kernelRun0_A.sl.r_4
  unfold_payloads
  simp only [View.readAt_eq_ld, harg2.read_unread]
  pointwise []
  try simp only [harg2.read_unread]
  try congr 2
  all_goals try (apply Fin.ext; simp)

/-- The queries of head 0, transposed. -/
theorem queriesT0 (n : Fin 512) (d : Fin 128) : kernelRun0_A.sl.r_5 c arg2 harg2 x0 (ix2 d n) = x0 (ix2 n (kc 0 d)) := by
  unfold kernelRun0_A.sl.r_5
  unfold_payloads
  simp only [View.readAt_eq_ld, harg2.read_unread]
  pointwise []
  try simp only [harg2.read_unread]
  try congr 2
  all_goals try (apply Fin.ext; simp)

/-- The queries of head 1. -/
theorem queries1 (n : Fin 512) (d : Fin 128) : kernelRun0_A.sl.r_11 c arg2 harg2 x0 (ix2 n d) = x0 (ix2 n (kc 1 d)) := by
  unfold kernelRun0_A.sl.r_11
  unfold_payloads
  simp only [View.readAt_eq_ld, harg2.read_unread]
  pointwise []
  try simp only [harg2.read_unread]
  try congr 2
  all_goals try (apply Fin.ext; simp)

/-- The queries of head 1, transposed. -/
theorem queriesT1 (n : Fin 512) (d : Fin 128) : kernelRun0_A.sl.r_12 c arg2 harg2 x0 (ix2 d n) = x0 (ix2 n (kc 1 d)) := by
  unfold kernelRun0_A.sl.r_12 kernelRun0_A.sl.r
  unfold_payloads
  simp only [View.readAt_eq_ld, harg2.read_unread]
  pointwise []
  try simp only [harg2.read_unread]
  try congr 2
  all_goals try (apply Fin.ext; simp)

/-- The output's gradient of head 0, transposed. -/
theorem outsT0 (n : Fin 512) (d : Fin 64) : kernelRun0_A.sl.r_6 c arg6 harg6 x4 (ix2 d n) = x4 (ix2 n (vc 0 d)) := by
  unfold kernelRun0_A.sl.r_6
  unfold_payloads
  simp only [View.readAt_eq_ld, harg6.read_unread]
  pointwise []
  try simp only [harg6.read_unread]
  try congr 2
  all_goals try (apply Fin.ext; simp)

/-- The output's gradient of head 1, transposed. -/
theorem outsT1 (n : Fin 512) (d : Fin 64) : kernelRun0_A.sl.r_13 c arg6 harg6 x4 (ix2 d n) = x4 (ix2 n (vc 1 d)) := by
  unfold kernelRun0_A.sl.r_13 kernelRun0_A.sl.r_1
  unfold_payloads
  simp only [View.readAt_eq_ld, harg6.read_unread]
  pointwise []
  try simp only [harg6.read_unread]
  try congr 2
  all_goals try (apply Fin.ext; simp)

/-- The logarithms of head 0. -/
theorem logs0 (n : Fin 512) : kernelRun0_A.sl.r_9 c arg7 harg7 x5 (ix2 n 0) = x5 (ix3 0 n 0) := by
  unfold kernelRun0_A.sl.r_9
  unfold_payloads
  simp only [View.readAt_eq_ld, harg7.read_unread]
  pointwise []
  try simp only [harg7.read_unread]
  try congr 2
  all_goals try (apply Fin.ext; simp)

/-- The logarithms of head 1. -/
theorem logs1 (n : Fin 512) : k0_pay2 (View.readAt (Elt Ideal) arg7.view (Rect.unit (s := S1x512x2) ![0, 0, 1] S1x512x1.size inb_S1x512x2_S1x512x1_0_0_1).toLoadRect (harg7.unread x5)) (ix2 n 0) = x5 (ix3 0 n 1) := by
  unfold_payloads
  simp only [View.readAt_eq_ld, harg7.read_unread]
  pointwise []
  try simp only [harg7.read_unread]
  try congr 2
  all_goals try (apply Fin.ext; simp)

/-- The output's gradient of head 0. -/
theorem outs0 (n : Fin 512) (d : Fin 64) : kernelRun0_A.sl.r_2 c arg6 harg6 x4 (ix2 n d) = x4 (ix2 n (vc 0 d)) := by
  unfold kernelRun0_A.sl.r_2
  unfold_payloads
  simp only [View.readAt_eq_ld, harg6.read_unread]
  pointwise []
  try simp only [harg6.read_unread]
  try congr 2
  all_goals try (apply Fin.ext; simp)

/-- The output's gradient of head 1. -/
theorem outs1 (n : Fin 512) (d : Fin 64) : kernelRun0_A.sl.r_10 c arg6 harg6 x4 (ix2 n d) = x4 (ix2 n (vc 1 d)) := by
  unfold kernelRun0_A.sl.r_10
  unfold_payloads
  simp only [View.readAt_eq_ld, harg6.read_unread]
  pointwise []
  try simp only [harg6.read_unread]
  try congr 2
  all_goals try (apply Fin.ext; simp)

/-- The lane number. -/
theorem lane_at (n : Fin 512) (d : Fin 64) : kernelRun0_A.sl.v6 (ix2 n d) = BitVec.ofNat 32 d.val := by
  unfold kernelRun0_A.sl.v6
  pointwise []

/-- The remaining part of a row's product, and minus the leading part, head 0. -/
theorem rest0 (n : Fin 512) : kernelRun0_A.sl.r_3 c arg5 harg5 arg6 harg6 x3 x4 (ix2 n 0) = rowDot x4 x3 0 n - rowDot x4 x3 0 n := by
  unfold kernelRun0_A.sl.r_3 rowDot
  unfold_payloads
  simp only [View.readAt_eq_ld, harg5.read_unread, harg6.read_unread]
  pointwise []
  try simp only [harg5.read_unread, harg6.read_unread]
  try simp only [vc_zero]
theorem lead0 (n : Fin 512) : kernelRun0_A.sl.r_7 c arg5 harg5 arg6 harg6 x3 x4 (ix2 n 0) = 0 - rowDot x4 x3 0 n := by
  unfold kernelRun0_A.sl.r_7 rowDot
  unfold_payloads
  simp only [View.readAt_eq_ld, harg5.read_unread, harg6.read_unread]
  pointwise []
  try simp only [harg5.read_unread, harg6.read_unread]
  try simp only [vc_zero]

/-- The second extra column, and the first, head 1. -/
theorem rest1 (n : Fin 512) (d : Fin 64) : kernelRun0_A.sl.r_14 c arg5 harg5 arg6 harg6 x3 x4 (ix2 n d)
    = Scalar.select (IntOp.cmpi CmpIPredicate.eq (BitVec.ofNat 32 d.val) 1#32) (0 - (rowDot x4 x3 1 n - rowDot x4 x3 1 n)) (0 : EReal) := by
  unfold kernelRun0_A.sl.r_14 rowDot
  unfold_payloads
  simp only [View.readAt_eq_ld, harg5.read_unread, harg6.read_unread]
  pointwise []
  try simp only [harg5.read_unread, harg6.read_unread, lane_at]
  rfl
theorem lead1 (n : Fin 512) : kernelRun0_A.sl.r_15 c arg5 harg5 arg6 harg6 x3 x4 (ix2 n 0) = 0 - rowDot x4 x3 1 n := by
  unfold kernelRun0_A.sl.r_15 rowDot
  unfold_payloads
  simp only [View.readAt_eq_ld, harg5.read_unread, harg6.read_unread]
  pointwise []
  try simp only [harg5.read_unread, harg6.read_unread]
  rfl

/-- The widened gradient of head 0. -/
theorem widened0 (n : Fin 512) (e : Fin 128) :
    kernelRun0_A.sl.r_8 (F := Ideal) c arg5 harg5 arg6 harg6 x3 x4 (ix2 n e) = widened x4 x3 0 n e := by
  unfold kernelRun0_A.sl.r_8 k0_pay134 k0_pay131 k0_pay133
  pointwise []
  simp only [outs0, rest0, lead0, lane_at, widened]
  by_cases h : e.val < 64
  · rw [dif_pos h, dif_pos h]
  · rw [dif_neg h, dif_neg h]
    exact (pick_lane _ _ _ (⟨e.val - 64, by omega⟩ : Fin 64)).trans (shift_lane e h _ _)

/-- The widened gradient of head 1. -/
theorem widened1 (n : Fin 512) (e : Fin 128) :
    k0_pay1 (F := Ideal) (kernelRun0_A.sl.r_10 c arg6 harg6 x4) (k0_pay142 kernelRun0_A.sl.v6)
        (kernelRun0_A.sl.r_14 c arg5 harg5 arg6 harg6 x3 x4) (kernelRun0_A.sl.r_15 c arg5 harg5 arg6 harg6 x3 x4) (ix2 n e)
      = widened x4 x3 1 n e := by
  unfold k0_pay1 k0_pay142
  pointwise []
  simp only [outs1, rest1, lead1, lane_at, widened]
  by_cases h : e.val < 64
  · rw [dif_pos h, dif_pos h]
  · rw [dif_neg h, dif_neg h]
    exact (pick_lane _ _ _ (⟨e.val - 64, by omega⟩ : Fin 64)).trans (shift_lane e h _ _)
end

end Cert.Mla
end
-- ==== Proof.MlaPoint.lean ====
module
public import proofs.«01_k».proof.Proof.MlaPointVectors
public import proofs.«01_k».proof.Proof.Gen.LatentIdeal.Frame
/-! What one grid point of the latent attention leaves in the three gradients, in terms of its blocks.

A grid point takes 512 rows of two heads with all their keys. It adds its rows' products to the key and value gradients and
leaves its rows' query gradient. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row)

/-- The head a column belongs to: of the keys, and of the values. -/
abbrev hxK (x : Fin 256) : Fin 2 := ⟨x.val / 128, by omega⟩
abbrev hxV (x : Fin 128) : Fin 2 := ⟨x.val / 64, by omega⟩

/-- The values widened by ones, head by head. -/
def vones (v : Vec Ideal S8192x128 .bf16) (hh : Fin 2) (j : Fin 8192) (e : Fin 128) : EReal :=
  if h : e.val < 64 then v (ix2 j (vc hh ⟨e.val, h⟩)) else 1

/-- A grid point's probability. -/
def pE (x0 : Vec Ideal S512x256 .bf16) (x1 : Vec Ideal S8192x256 .bf16) (x5 : Vec Ideal S1x512x2 .f32) (hh : Fin 2)
    (n : Fin 512) (j : Fin 8192) : EReal :=
  Ideal.exp2 ((∑ d : Fin 128, x0 (ix2 n (kc hh d)) * x1 (ix2 j (kc hh d))) - x5 (ix3 0 n hh))

/-- A grid point's score gradient. -/
def dE (x0 : Vec Ideal S512x256 .bf16) (x1 : Vec Ideal S8192x256 .bf16) (x2 : Vec Ideal S8192x128 .bf16) (x3 x4 : Vec Ideal S512x128 .bf16)
    (x5 : Vec Ideal S1x512x2 .f32) (hh : Fin 2) (n : Fin 512) (j : Fin 8192) : EReal :=
  pE x0 x1 x5 hh n j * ∑ e : Fin 128, widened x4 x3 hh n e * vones x2 hh j e

/-- What a grid point adds to the key gradient. -/
def gK (x0 : Vec Ideal S512x256 .bf16) (x1 : Vec Ideal S8192x256 .bf16) (x2 : Vec Ideal S8192x128 .bf16) (x3 x4 : Vec Ideal S512x128 .bf16)
    (x5 : Vec Ideal S1x512x2 .f32) (b : Fin 16) (x : Fin 256) (j : Fin 512) : EReal :=
  ∑ n : Fin 512, x0 (ix2 n (kc (hxK x) (loK x))) * dE x0 x1 x2 x3 x4 x5 (hxK x) n (row b j)

/-- What a grid point adds to the value gradient. -/
def gV (x0 : Vec Ideal S512x256 .bf16) (x1 : Vec Ideal S8192x256 .bf16) (x4 : Vec Ideal S512x128 .bf16)
    (x5 : Vec Ideal S1x512x2 .f32) (b : Fin 16) (x : Fin 128) (j : Fin 512) : EReal :=
  ∑ n : Fin 512, x4 (ix2 n (vc (hxV x) (loV x))) * pE x0 x1 x5 (hxV x) n (row b j)

/-- A grid point's query gradient. -/
def gQ (x0 : Vec Ideal S512x256 .bf16) (x1 : Vec Ideal S8192x256 .bf16) (x2 : Vec Ideal S8192x128 .bf16) (x3 x4 : Vec Ideal S512x128 .bf16)
    (x5 : Vec Ideal S1x512x2 .f32) (hh : Fin 2) (n : Fin 512) (d : Fin 128) : EReal :=
  ∑ j : Fin 8192, dE x0 x1 x2 x3 x4 x5 hh n j * x1 (ix2 j (kc hh d))

section
variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x2 .f32) (harg7 : arg7.IsWhole) (arg8 : Memref sig .tc .vmem S512x256 .f32) (harg8 : arg8.IsWhole) (arg9 : Memref sig .tc .vmem S1x16x256x512 .f32) (harg9 : arg9.IsWhole) (arg10 : Memref sig .tc .vmem S1x16x128x512 .f32) (harg10 : arg10.IsWhole) (arg11 : Memref sig .tc .vmem S8192x256 .bf16) (harg11 : arg11.IsWhole) (x0 : Vec Ideal S512x256 .bf16) (x1 : Vec Ideal S8192x256 .bf16) (x2 : Vec Ideal S8192x128 .bf16) (x3 x4 : Vec Ideal S512x128 .bf16) (x5 : Vec Ideal S1x512x2 .f32)
  (X11 : BufTy.Contents (Elt Ideal) arg11.view.ty)
  (h0 : ∀ (j : Fin 8192) (e : Fin 128), hcol (arg11.view.read (Elt Ideal) X11) 0 j e = vones x2 0 j e)
  (h1 : ∀ (j : Fin 8192) (e : Fin 128), hcol (arg11.view.read (Elt Ideal) X11) 1 j e = vones x2 1 j e)
  (G9 : BufTy.Contents (Elt Ideal) arg9.view.ty) (G10 : BufTy.Contents (Elt Ideal) arg10.view.ty)
  (init : FVec Ideal S512x128 .f32 × FVec Ideal S512x128 .f32)

/-- The loop of a grid point. -/
abbrev pointLoop := st_k0_t1 (F := Ideal) Variants.none c none i arg2 harg2 arg3 harg3 arg4 harg4 arg5 harg5 arg6 harg6 arg7 harg7 arg8 harg8 arg9 harg9 arg10 harg10 arg11 harg11 (kernelRun0_A.sl.r_4 c arg2 harg2 x0) (kernelRun0_A.sl.r_5 c arg2 harg2 x0) (kernelRun0_A.sl.r_6 c arg6 harg6 x4) (kernelRun0_A.sl.r_8 c arg5 harg5 arg6 harg6 x3 x4) (kernelRun0_A.sl.r_9 c arg7 harg7 x5) (kernelRun0_A.sl.r_10 c arg6 harg6 x4) (kernelRun0_A.sl.r_11 c arg2 harg2 x0) (kernelRun0_A.sl.r_12 c arg2 harg2 x0) (kernelRun0_A.sl.r_13 c arg6 harg6 x4) (k0_pay142 kernelRun0_A.sl.v6) (kernelRun0_A.sl.r_14 c arg5 harg5 arg6 harg6 x3 x4) (kernelRun0_A.sl.r_15 c arg5 harg5 arg6 harg6 x3 x4) (View.readAt (Elt Ideal) arg7.view (Rect.unit (s := S1x512x2) ![0, 0, 1] S1x512x1.size inb_S1x512x2_S1x512x1_0_0_1).toLoadRect (harg7.unread x5)) (harg3.unread x1) X11 G9 G10 init 2

theorem prob0 (n : Fin 512) (j : Fin 8192) : pr (kernelRun0_A.sl.r_4 c arg2 harg2 x0) (kernelRun0_A.sl.r_9 c arg7 harg7 x5) (hcol x1 0) n j = pE x0 x1 x5 0 n j := by
  simp only [pr, pE, queries0, logs0]

theorem prob1 (n : Fin 512) (j : Fin 8192) : pr (kernelRun0_A.sl.r_11 c arg2 harg2 x0) (k0_pay2 (View.readAt (Elt Ideal) arg7.view (Rect.unit (s := S1x512x2) ![0, 0, 1] S1x512x1.size inb_S1x512x2_S1x512x1_0_0_1).toLoadRect (harg7.unread x5))) (hcol x1 1) n j = pE x0 x1 x5 1 n j := by
  simp only [pr, pE, queries1]
  rw [logs1]

include h0 in
theorem score0 (n : Fin 512) (j : Fin 8192) :
    dsc (kernelRun0_A.sl.r_4 c arg2 harg2 x0) (kernelRun0_A.sl.r_9 c arg7 harg7 x5) (kernelRun0_A.sl.r_8 c arg5 harg5 arg6 harg6 x3 x4) (hcol x1 0) (hcol (arg11.view.read (Elt Ideal) X11) 0) n j = dE x0 x1 x2 x3 x4 x5 0 n j := by
  simp only [dsc, dE, widened0, h0]
  rw [prob0]

include h1 in
theorem score1 (n : Fin 512) (j : Fin 8192) :
    dsc (kernelRun0_A.sl.r_11 c arg2 harg2 x0) (k0_pay2 (View.readAt (Elt Ideal) arg7.view (Rect.unit (s := S1x512x2) ![0, 0, 1] S1x512x1.size inb_S1x512x2_S1x512x1_0_0_1).toLoadRect (harg7.unread x5))) (k0_pay1 (kernelRun0_A.sl.r_10 c arg6 harg6 x4) (k0_pay142 kernelRun0_A.sl.v6) (kernelRun0_A.sl.r_14 c arg5 harg5 arg6 harg6 x3 x4) (kernelRun0_A.sl.r_15 c arg5 harg5 arg6 harg6 x3 x4)) (hcol x1 1) (hcol (arg11.view.read (Elt Ideal) X11) 1) n j = dE x0 x1 x2 x3 x4 x5 1 n j := by
  simp only [dsc, dE, widened1, h1]
  rw [prob1]

include h0 h1 in
/-- What the loop adds to the key gradient. -/
theorem point_dk (b : Fin 16) (x : Fin 256) (j : Fin 512) :
    arg9.view.read (Elt Ideal) (arg9.view.writes (Elt Ideal) G9 (pointLoop c i arg2 harg2 arg3 harg3 arg4 harg4 arg5 harg5 arg6 harg6 arg7 harg7 arg8 harg8 arg9 harg9 arg10 harg10 arg11 harg11 x0 x1 x3 x4 x5 X11 G9 G10 init).2.1) (ix4 0 b x j)
      = arg9.view.read (Elt Ideal) G9 (ix4 0 b x j) + gK x0 x1 x2 x3 x4 x5 b x j := by
  refine (loop_dk ..).trans (congrArg (_ + ·) ?_)
  rw [gK]
  by_cases h : x.val < 128
  · have e : hxK x = 0 := Fin.ext (by simp; omega)
    rw [if_pos h, e]
    refine Fintype.sum_congr _ _ fun n => ?_
    rw [queriesT0, harg3.read_unread, score0 (h0 := h0)]
  · have e : hxK x = 1 := Fin.ext (by simp; omega)
    rw [if_neg h, e]
    refine Fintype.sum_congr _ _ fun n => ?_
    rw [queriesT1, harg3.read_unread, score1 (h1 := h1)]

/-- What the loop adds to the value gradient. -/
theorem point_dv (b : Fin 16) (x : Fin 128) (j : Fin 512) :
    arg10.view.read (Elt Ideal) (arg10.view.writes (Elt Ideal) G10 (pointLoop c i arg2 harg2 arg3 harg3 arg4 harg4 arg5 harg5 arg6 harg6 arg7 harg7 arg8 harg8 arg9 harg9 arg10 harg10 arg11 harg11 x0 x1 x3 x4 x5 X11 G9 G10 init).2.2) (ix4 0 b x j)
      = arg10.view.read (Elt Ideal) G10 (ix4 0 b x j) + gV x0 x1 x4 x5 b x j := by
  refine (loop_dv ..).trans (congrArg (_ + ·) ?_)
  rw [gV]
  by_cases h : x.val < 64
  · have e : hxV x = 0 := Fin.ext (by simp; omega)
    rw [if_pos h, e]
    refine Fintype.sum_congr _ _ fun n => ?_
    rw [outsT0, harg3.read_unread, prob0]
  · have e : hxV x = 1 := Fin.ext (by simp; omega)
    rw [if_neg h, e]
    refine Fintype.sum_congr _ _ fun n => ?_
    rw [outsT1, harg3.read_unread, prob1]

include h0 in
/-- The query gradient of head 0 after the loop. -/
theorem point_dq0 (n : Fin 512) (d : Fin 128) :
    (pointLoop c i arg2 harg2 arg3 harg3 arg4 harg4 arg5 harg5 arg6 harg6 arg7 harg7 arg8 harg8 arg9 harg9 arg10 harg10 arg11 harg11 x0 x1 x3 x4 x5 X11 G9 G10 init).1.1 (ix2 n d) = init.1 (ix2 n d) + gQ x0 x1 x2 x3 x4 x5 0 n d := by
  refine (loop_dq0 ..).trans (congrArg (_ + ·) ?_)
  rw [gQ]
  refine Fintype.sum_congr _ _ fun j => ?_
  rw [harg3.read_unread, score0 (h0 := h0)]

include h1 in
/-- The query gradient of head 1 after the loop. -/
theorem point_dq1 (n : Fin 512) (d : Fin 128) :
    (pointLoop c i arg2 harg2 arg3 harg3 arg4 harg4 arg5 harg5 arg6 harg6 arg7 harg7 arg8 harg8 arg9 harg9 arg10 harg10 arg11 harg11 x0 x1 x3 x4 x5 X11 G9 G10 init).1.2 (ix2 n d) = init.2 (ix2 n d) + gQ x0 x1 x2 x3 x4 x5 1 n d := by
  refine (loop_dq1 ..).trans (congrArg (_ + ·) ?_)
  rw [gQ]
  refine Fintype.sum_congr _ _ fun j => ?_
  rw [harg3.read_unread, score1 (h1 := h1)]
end

end Cert.Mla
end
-- ==== Proof.MlaPointOut.lean ====
module
public import proofs.«01_k».proof.Proof.MlaPoint
/-! The blocks that a grid point of the latent attention writes, entry by entry.

The first point of a group starts the key and value gradients at zero and fills the scratch with the values and ones; the
others take both from the point before. -/
@[expose] public section
set_option maxRecDepth 16384
noncomputable section
namespace Cert.Mla
open Cert.LatentIdeal Cert.LatentIdeal.Gen
open Idealize.ShloMosaic Idealize.ShloMosaic.TcCoe Idealize.ShloMosaic.Tactic

/-- Two heads written side by side, read back. -/
theorem read_heads (V : View sig .tc .vmem S512x256 .f32) (f : BufTy.Contents (Elt Ideal) V.ty)
    (w0 w1 : FVec Ideal S512x128 .f32) (n : Fin 512) (h : Fin 2) (d : Fin 128) :
    V.read (Elt Ideal) (V.writes (Elt Ideal) f
      [⟨Rect.unit (s := S512x256) ![0, 128] S512x128.size inb_S512x256_S512x128_0_128, w1⟩,
       ⟨Rect.unit (s := S512x256) ![0, 0] S512x128.size inb_S512x256_S512x128_0_0, w0⟩]) (ix2 n (kc h d))
      = (![w0, w1] h) (ix2 n d) := by
  fin_cases h
  all_goals
    (repeat rw [View.read_writes_cons_unit_of_not_mem V f _ _ _ _ rfl 1 (by first | (simp; done) | (simp; omega))])
    exact View.read_writes_cons_unit_of_mem (size := S512x128.size) V f _ _ _ _ (show S512x128.Idx from ix2 n d) rfl
      (by intro a; fin_cases a <;> simp)

/-- The scratch after it is filled. -/
theorem read_scratch (c : Dev nD) (arg4 : Memref sig .tc .vmem S8192x128 .bf16) (harg4 : arg4.IsWhole)
    (V : View sig .tc .vmem S8192x256 .bf16) (f : BufTy.Contents (Elt Ideal) V.ty) (x2 : Vec Ideal S8192x128 .bf16)
    (hh : Fin 2) (j : Fin 8192) (e : Fin 128) :
    V.read (Elt Ideal) (V.writes (Elt Ideal) f (kernelRun0_A.sl.HS0_4 c arg4 harg4 x2)) (ix2 j (kc hh e))
      = vones x2 hh j e := by
  have one : ∀ (j : Fin 8192) (d : Fin 64), (k0_pay119 (F := Ideal)) (ix2 j d) = 1 := by
    intro j d
    unfold_payloads
    pointwise []
  have one' : ∀ (j : Fin 8192) (d : Fin 64), (k0_pay121 (F := Ideal)) (ix2 j d) = 1 := by
    intro j d
    unfold_payloads
    pointwise []
  have v0 : ∀ (j : Fin 8192) (d : Fin 64), k0_pay118 (View.readAt (Elt Ideal) arg4.view (Rect.unit (s := S8192x128) ![0, 0] S8192x64.size inb_S8192x128_S8192x64_0_0).toLoadRect (harg4.unread x2)) (ix2 j d) = x2 (ix2 j (vc 0 d)) := by
    intro j d
    unfold_payloads
    simp only [View.readAt_eq_ld, harg4.read_unread]
    pointwise []
    first | done | (simp only [vc_zero]; done) | rfl
  have v1 : ∀ (j : Fin 8192) (d : Fin 64), k0_pay120 (View.readAt (Elt Ideal) arg4.view (Rect.unit (s := S8192x128) ![0, 64] S8192x64.size inb_S8192x128_S8192x64_0_64).toLoadRect (harg4.unread x2)) (ix2 j d) = x2 (ix2 j (vc 1 d)) := by
    intro j d
    unfold_payloads
    simp only [View.readAt_eq_ld, harg4.read_unread]
    pointwise []
    first | done | rfl
  show V.read (Elt Ideal) (V.writes (Elt Ideal) f (kernelRun0_A.sl.HS0_4 c arg4 harg4 x2)) (ix2 j (⟨128 * hh.val + e.val, by omega⟩ : Fin 256)) = _
  unfold kernelRun0_A.sl.HS0_4 vones
  by_cases he : e.val < 64
  · rw [dif_pos he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v0 j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v1 j _)
  · rw [dif_neg he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one' j _)

section
variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x2 .f32) (harg7 : arg7.IsWhole) (arg8 : Memref sig .tc .vmem S512x256 .f32) (harg8 : arg8.IsWhole) (arg9 : Memref sig .tc .vmem S1x16x256x512 .f32) (harg9 : arg9.IsWhole) (arg10 : Memref sig .tc .vmem S1x16x128x512 .f32) (harg10 : arg10.IsWhole) (arg11 : Memref sig .tc .vmem S8192x256 .bf16) (harg11 : arg11.IsWhole) (x0 : Vec Ideal S512x256 .bf16) (x1 : Vec Ideal S8192x256 .bf16) (x2 : Vec Ideal S8192x128 .bf16) (x3 : Vec Ideal S512x128 .bf16) (x4 : Vec Ideal S512x128 .bf16) (x5 : Vec Ideal S1x512x2 .f32)

theorem runB_dk (hc0 : ¬cond0_0 i) (hc1 : ¬cond0_1 i) (xo7 : Vec Ideal S1x16x256x512 .f32) (xo8 : Vec Ideal S1x16x128x512 .f32) (xs0 : Vec Ideal S8192x256 .bf16) : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo7 xo8 xs0).2.1 = (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay3 (F := Ideal), k0_pay4 (F := Ideal))).2.1 := by
  unfold kernelRun0_B
  rfl

theorem runB_dv (hc0 : ¬cond0_0 i) (hc1 : ¬cond0_1 i) (xo7 : Vec Ideal S1x16x256x512 .f32) (xo8 : Vec Ideal S1x16x128x512 .f32) (xs0 : Vec Ideal S8192x256 .bf16) : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo7 xo8 xs0).2.2.1 = (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay3 (F := Ideal), k0_pay4 (F := Ideal))).2.2 := by
  unfold kernelRun0_B
  rfl

theorem runA_dk (hc0 : cond0_0 i) (hc1 : cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.1 = (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay3 (F := Ideal), k0_pay4 (F := Ideal))).2.1 ++ kernelRun0_A.sl.H7_1 := by
  unfold kernelRun0_A
  rfl

theorem runA_dv (hc0 : cond0_0 i) (hc1 : cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.2.1 = (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay3 (F := Ideal), k0_pay4 (F := Ideal))).2.2 ++ kernelRun0_A.sl.H8_1 := by
  unfold kernelRun0_A
  rfl

theorem runA_va (hc0 : cond0_0 i) (hc1 : cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.2.2.1 = kernelRun0_A.sl.HS0_4 c arg4 harg4 x2 := by
  unfold kernelRun0_A
  rfl
end

end Cert.Mla
end
-- ==== Proof.MlaPointBlocks.lean ====
module
public import proofs.«01_k».proof.Proof.MlaPointOut
/-! What a grid point of the latent attention leaves in each output block, entry by entry. -/
@[expose] public section
set_option maxRecDepth 16384
noncomputable section
namespace Cert.Mla
open Cert.LatentIdeal Cert.LatentIdeal.Gen
open Idealize.ShloMosaic Idealize.ShloMosaic.TcCoe Idealize.ShloMosaic.Tactic

/-- The gradients start at zero. -/
theorem zero7 (M : Memref sig .tc .vmem S1x16x256x512 .f32) (f : BufTy.Contents (Elt Ideal) M.view.ty) (b : Fin 16) (x : Fin 256) (j : Fin 512) :
    M.view.read (Elt Ideal) (M.view.writes (Elt Ideal) f (kernelRun0_A.sl.H7_1 (F := Ideal))) (ix4 0 b x j) = 0 := by
  refine (View.read_writes_cons_unit_of_mem (size := S1x16x256x512.size) M.view f _ _ _ _ (show S1x16x256x512.Idx from ix4 0 b x j) rfl
    (by intro a; fin_cases a <;> simp)).trans ?_
  unfold_payloads
  pointwise []

theorem zero8 (M : Memref sig .tc .vmem S1x16x128x512 .f32) (f : BufTy.Contents (Elt Ideal) M.view.ty) (b : Fin 16) (x : Fin 128) (j : Fin 512) :
    M.view.read (Elt Ideal) (M.view.writes (Elt Ideal) f (kernelRun0_A.sl.H8_1 (F := Ideal))) (ix4 0 b x j) = 0 := by
  refine (View.read_writes_cons_unit_of_mem (size := S1x16x128x512.size) M.view f _ _ _ _ (show S1x16x128x512.Idx from ix4 0 b x j) rfl
    (by intro a; fin_cases a <;> simp)).trans ?_
  unfold_payloads
  pointwise []

theorem zeroQ0 (n : Fin 512) (d : Fin 128) : (k0_pay3 (F := Ideal)) (ix2 n d) = 0 := by
  unfold_payloads
  pointwise []

theorem zeroQ1 (n : Fin 512) (d : Fin 128) : (k0_pay4 (F := Ideal)) (ix2 n d) = 0 := by
  unfold_payloads
  pointwise []

section
variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x2 .f32) (harg7 : arg7.IsWhole) (arg8 : Memref sig .tc .vmem S512x256 .f32) (harg8 : arg8.IsWhole) (arg9 : Memref sig .tc .vmem S1x16x256x512 .f32) (harg9 : arg9.IsWhole) (arg10 : Memref sig .tc .vmem S1x16x128x512 .f32) (harg10 : arg10.IsWhole) (arg11 : Memref sig .tc .vmem S8192x256 .bf16) (harg11 : arg11.IsWhole) (x0 : Vec Ideal S512x256 .bf16) (x1 : Vec Ideal S8192x256 .bf16) (x2 : Vec Ideal S8192x128 .bf16) (x3 : Vec Ideal S512x128 .bf16) (x4 : Vec Ideal S512x128 .bf16) (x5 : Vec Ideal S1x512x2 .f32)

theorem runB_dq (hc0 : ¬cond0_0 i) (hc1 : ¬cond0_1 i) (xo7 : Vec Ideal S1x16x256x512 .f32) (xo8 : Vec Ideal S1x16x128x512 .f32) (xs0 : Vec Ideal S8192x256 .bf16) :
    (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo7 xo8 xs0).1 = [⟨Rect.unit (s := S512x256) ![0, 128] S512x128.size inb_S512x256_S512x128_0_128, (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay3 (F := Ideal), k0_pay4 (F := Ideal))).1.2⟩,
       ⟨Rect.unit (s := S512x256) ![0, 0] S512x128.size inb_S512x256_S512x128_0_0, (pointLoop c i arg2 harg2 arg3 harg3 arg4 harg4 arg5 harg5 arg6 harg6 arg7 harg7 arg8 harg8 arg9 harg9 arg10 harg10 arg11 harg11 x0 x1 x3 x4 x5 (harg11.unread xs0) (harg9.unread xo7) (harg10.unread xo8) (k0_pay3 (F := Ideal), k0_pay4 (F := Ideal))).1.1⟩] := by
  unfold kernelRun0_B
  rfl

theorem runA_dq (hc0 : cond0_0 i) (hc1 : cond0_1 i) :
    (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).1 = [⟨Rect.unit (s := S512x256) ![0, 128] S512x128.size inb_S512x256_S512x128_0_128, (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay3 (F := Ideal), k0_pay4 (F := Ideal))).1.2⟩,
       ⟨Rect.unit (s := S512x256) ![0, 0] S512x128.size inb_S512x256_S512x128_0_0, (pointLoop c i arg2 harg2 arg3 harg3 arg4 harg4 arg5 harg5 arg6 harg6 arg7 harg7 arg8 harg8 arg9 harg9 arg10 harg10 arg11 harg11 x0 x1 x3 x4 x5 (arg11.view.writes (Elt Ideal) arg11.view.junk (kernelRun0_A.sl.HS0_4 c arg4 harg4 x2)) (arg9.view.writes (Elt Ideal) arg9.view.junk kernelRun0_A.sl.H7_1) (arg10.view.writes (Elt Ideal) arg10.view.junk kernelRun0_A.sl.H8_1) (k0_pay3 (F := Ideal), k0_pay4 (F := Ideal))).1.1⟩] := by
  unfold kernelRun0_A
  rfl

/-- A later point adds to the key gradient. -/
theorem outB_7 (hc0 : ¬cond0_0 i) (hc1 : ¬cond0_1 i) (xo7 : Vec Ideal S1x16x256x512 .f32) (xo8 : Vec Ideal S1x16x128x512 .f32) (xs0 : Vec Ideal S8192x256 .bf16)
    (hs : ∀ (hh : Fin 2) (j : Fin 8192) (e : Fin 128), xs0 (ix2 j (kc hh e)) = vones x2 hh j e)
    (b : Fin 16) (x : Fin 256) (j : Fin 512) :
    out0_B_7 c i arg2 harg2 arg3 harg3 arg4 harg4 arg5 harg5 arg6 harg6 arg7 harg7 arg8 harg8 arg9 harg9 arg10 harg10 arg11 harg11 hc0 hc1 x0 x1 x2 x3 x4 x5 xo7 xo8 xs0 (ix4 0 b x j)
      = xo7 (ix4 0 b x j) + gK x0 x1 x2 x3 x4 x5 b x j := by
  unfold out0_B_7
  rw [runB_dk]
  refine (point_dk (x2 := x2) (h0 := ?_) (h1 := ?_) ..).trans ?_
  · intro j e
    rw [harg11.read_unread, ← hs 0 j e]
  · intro j e
    rw [harg11.read_unread, ← hs 1 j e]
  · rw [harg9.read_unread]

/-- A later point adds to the value gradient. -/
theorem outB_8 (hc0 : ¬cond0_0 i) (hc1 : ¬cond0_1 i) (xo7 : Vec Ideal S1x16x256x512 .f32) (xo8 : Vec Ideal S1x16x128x512 .f32) (xs0 : Vec Ideal S8192x256 .bf16) (b : Fin 16) (x : Fin 128) (j : Fin 512) :
    out0_B_8 c i arg2 harg2 arg3 harg3 arg4 harg4 arg5 harg5 arg6 harg6 arg7 harg7 arg8 harg8 arg9 harg9 arg10 harg10 arg11 harg11 hc0 hc1 x0 x1 x2 x3 x4 x5 xo7 xo8 xs0 (ix4 0 b x j)
      = xo8 (ix4 0 b x j) + gV x0 x1 x4 x5 b x j := by
  unfold out0_B_8
  rw [runB_dv]
  refine (point_dv ..).trans ?_
  rw [harg10.read_unread]

/-- A later point's query gradient. -/
theorem outB_6 (hc0 : ¬cond0_0 i) (hc1 : ¬cond0_1 i) (xo7 : Vec Ideal S1x16x256x512 .f32) (xo8 : Vec Ideal S1x16x128x512 .f32) (xs0 : Vec Ideal S8192x256 .bf16)
    (hs : ∀ (hh : Fin 2) (j : Fin 8192) (e : Fin 128), xs0 (ix2 j (kc hh e)) = vones x2 hh j e)
    (n : Fin 512) (h : Fin 2) (d : Fin 128) :
    out0_B_6 c i arg2 harg2 arg3 harg3 arg4 harg4 arg5 harg5 arg6 harg6 arg7 harg7 arg8 harg8 arg9 harg9 arg10 harg10 arg11 harg11 hc0 hc1 x0 x1 x2 x3 x4 x5 xo7 xo8 xs0 (ix2 n (kc h d))
      = gQ x0 x1 x2 x3 x4 x5 h n d := by
  unfold out0_B_6
  rw [runB_dq, read_heads]
  fin_cases h
  · refine (point_dq0 (x2 := x2) (h0 := ?_) ..).trans ?_
    · intro j e
      rw [harg11.read_unread, ← hs 0 j e]
    · exact (congrArg (· + _) (zeroQ0 n d)).trans (zero_add _)
  · refine (point_dq1 (x2 := x2) (h1 := ?_) ..).trans ?_
    · intro j e
      rw [harg11.read_unread, ← hs 1 j e]
    · exact (congrArg (· + _) (zeroQ1 n d)).trans (zero_add _)

/-- The first point of a group leaves its own products in the key gradient. -/
theorem outA_7 (hc0 : cond0_0 i) (hc1 : cond0_1 i) (b : Fin 16) (x : Fin 256) (j : Fin 512) :
    out0_A_7 c i arg2 harg2 arg3 harg3 arg4 harg4 arg5 harg5 arg6 harg6 arg7 harg7 arg8 harg8 arg9 harg9 arg10 harg10 arg11 harg11 hc0 hc1 x0 x1 x2 x3 x4 x5 (ix4 0 b x j) = gK x0 x1 x2 x3 x4 x5 b x j := by
  unfold out0_A_7
  rw [(View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5)).trans
    (View.read_writes_eq_canon arg9.view arg9.view.junk _ (cover0_A_7 c i arg2 harg2 arg3 harg3 arg4 harg4 arg5 harg5 arg6 harg6 arg7 harg7 arg8 harg8 arg9 harg9 arg10 harg10 arg11 harg11 hc0 hc1 x0 x1 x2 x3 x4 x5)).symm, runA_dk,
    View.writes_append]
  refine (point_dk (x2 := x2) (h0 := ?_) (h1 := ?_) ..).trans ?_
  · intro j e
    exact read_scratch c arg4 harg4 arg11.view arg11.view.junk x2 0 j e
  · intro j e
    exact read_scratch c arg4 harg4 arg11.view arg11.view.junk x2 1 j e
  · rw [zero7, zero_add]

/-- The first point of a group leaves its own products in the value gradient. -/
theorem outA_8 (hc0 : cond0_0 i) (hc1 : cond0_1 i) (b : Fin 16) (x : Fin 128) (j : Fin 512) :
    out0_A_8 c i arg2 harg2 arg3 harg3 arg4 harg4 arg5 harg5 arg6 harg6 arg7 harg7 arg8 harg8 arg9 harg9 arg10 harg10 arg11 harg11 hc0 hc1 x0 x1 x2 x3 x4 x5 (ix4 0 b x j) = gV x0 x1 x4 x5 b x j := by
  unfold out0_A_8
  rw [(View.read_writes_eq_canon _ _ _ (cover0_A_8 c i arg2 harg2 arg3 harg3 arg4 harg4 arg5 harg5 arg6 harg6 arg7 harg7 arg8 harg8 arg9 harg9 arg10 harg10 arg11 harg11 hc0 hc1 x0 x1 x2 x3 x4 x5)).trans
    (View.read_writes_eq_canon arg10.view arg10.view.junk _ (cover0_A_8 c i arg2 harg2 arg3 harg3 arg4 harg4 arg5 harg5 arg6 harg6 arg7 harg7 arg8 harg8 arg9 harg9 arg10 harg10 arg11 harg11 hc0 hc1 x0 x1 x2 x3 x4 x5)).symm, runA_dv,
    View.writes_append]
  refine (point_dv ..).trans ?_
  rw [zero8, zero_add]

/-- The first point's query gradient. -/
theorem outA_6 (hc0 : cond0_0 i) (hc1 : cond0_1 i)
    (n : Fin 512) (h : Fin 2) (d : Fin 128) :
    out0_A_6 c i arg2 harg2 arg3 harg3 arg4 harg4 arg5 harg5 arg6 harg6 arg7 harg7 arg8 harg8 arg9 harg9 arg10 harg10 arg11 harg11 hc0 hc1 x0 x1 x2 x3 x4 x5 (ix2 n (kc h d))
      = gQ x0 x1 x2 x3 x4 x5 h n d := by
  unfold out0_A_6
  rw [runA_dq, read_heads]
  fin_cases h
  · refine (point_dq0 (x2 := x2) (h0 := ?_) ..).trans ?_
    · intro j e
      exact read_scratch c arg4 harg4 arg11.view arg11.view.junk x2 0 j e
    · exact (congrArg (· + _) (zeroQ0 n d)).trans (zero_add _)
  · refine (point_dq1 (x2 := x2) (h1 := ?_) ..).trans ?_
    · intro j e
      exact read_scratch c arg4 harg4 arg11.view arg11.view.junk x2 1 j e
    · exact (congrArg (· + _) (zeroQ1 n d)).trans (zero_add _)

/-- The scratch after a group's first point. -/
theorem soutA (hc0 : cond0_0 i) (hc1 : cond0_1 i) (hh : Fin 2) (j : Fin 8192) (e : Fin 128) :
    sout0_A_0 c i arg2 harg2 arg3 harg3 arg4 harg4 arg5 harg5 arg6 harg6 arg7 harg7 arg8 harg8 arg9 harg9 arg10 harg10 arg11 harg11 hc0 hc1 x0 x1 x2 x3 x4 x5 (ix2 j (kc hh e)) = vones x2 hh j e := by
  unfold sout0_A_0
  rw [runA_va]
  exact read_scratch c arg4 harg4 _ _ x2 hh j e
end

end Cert.Mla
end
-- ==== Proof.MlaBlocks.lean ====
module
public import proofs.«01_k».proof.Proof.MlaPointBlocks
public import Idealize.ShloMosaic.Lib.Pipeline.ValueKit
/-! The blocks of the latent attention's arrays at each grid point.

Point `t` works on group `t / 16` of two heads and on query rows `512 (t % 16)` onwards. -/
@[expose] public section
set_option maxRecDepth 16384
noncomputable section
namespace Cert.Mla
open Cert.LatentIdeal Cert.LatentIdeal.Gen
open Idealize.ShloMosaic Idealize.ShloMosaic.TcCoe Idealize.ShloMosaic.Tactic

theorem points : cfg0.N = 64 := by decide +kernel

/-- The group of a point and its block of query rows. -/
def gOf (t : Fin cfg0.N) : Fin 4 := ⟨t.val / 16, by have := t.isLt; have := points; omega⟩
def iOf (t : Fin cfg0.N) : Fin 16 := ⟨t.val % 16, Nat.mod_lt _ (by decide)⟩

/-- The point of a group and a block of rows. -/
def pt (g : Fin 4) (i : Fin 16) : Fin cfg0.N := ⟨16 * g.val + i.val, by have := points; omega⟩

theorem gOf_pt (g : Fin 4) (i : Fin 16) : gOf (pt g i) = g := Fin.ext (by simp only [gOf, pt]; omega)
theorem iOf_pt (g : Fin 4) (i : Fin 16) : iOf (pt g i) = i := Fin.ext (by simp only [iOf, pt]; omega)

/-- Query row `i'` of block `i`. -/
abbrev qrow (i : Fin 16) (i' : Fin 512) : Fin 8192 := ⟨512 * i.val + i'.val, by omega⟩
/-- Column `x` of a group's 256 query and key columns, and of its 128 value columns. -/
abbrev wcol (g : Fin 4) (x : Fin 256) : Fin 1024 := ⟨256 * g.val + x.val, by omega⟩
abbrev ncol (g : Fin 4) (x : Fin 128) : Fin 512 := ⟨128 * g.val + x.val, by omega⟩

theorem index0 : ∀ t : Fin cfg0.N, win0_0.index t = ![t.val % 16, t.val / 16] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![0, t.val / 16] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val / 16, t.val % 16, 0] := (by decide +kernel : ∀ t : Fin grid0.N, _)
theorem index6 : ∀ t : Fin cfg0.N, win0_6.index t = ![t.val % 16, t.val / 16] := (by decide +kernel : ∀ t : Fin grid0.N, _)
theorem index7 : ∀ t : Fin cfg0.N, win0_7.index t = ![t.val / 16, 0, 0, 0] := (by decide +kernel : ∀ t : Fin grid0.N, _)
theorem index8 : ∀ t : Fin cfg0.N, win0_8.index t = ![t.val / 16, 0, 0, 0] := (by decide +kernel : ∀ t : Fin grid0.N, _)

section
variable (m : (ℓ : Loc nD τ sig) → Buf (Elt Ideal) ℓ) (c : Dev nD) (t : Fin cfg0.N)

theorem block_0 (f : Vec Ideal S8192x1024 .bf16) (i : Fin 512) (x : Fin 256) :
    (((cfg0.win 0).blk t).view.read (Elt Ideal) f : Vec Ideal S512x256 .bf16) (ix2 i x) = f (ix2 (qrow (iOf t) i) (wcol (gOf t) x)) := by
  show f (((cfg0.win 0).blk t).view.emb (ix2 i x)) = _
  refine congrArg _ (funext fun a => Fin.ext ?_)
  have e := index0 t
  fin_cases a
  · show win0_0.index t (0 : Fin 2) * 512 + 1 * i.val = 512 * (t.val % 16) + i.val
    rw [e]; simp; omega
  · show win0_0.index t (1 : Fin 2) * 256 + 1 * x.val = 256 * (t.val / 16) + x.val
    rw [e]; simp; omega

theorem iblk_0 (i : Fin 512) (x : Fin 256) :
    (iblk m c 0 t : Vec Ideal S512x256 .bf16) (ix2 i x)
      = (V m c (Pipeline.arrRef spec0 0) : Vec Ideal S8192x1024 .bf16) (ix2 (qrow (iOf t) i) (wcol (gOf t) x)) :=
  block_0 t _ i x

theorem block_1 (f : Vec Ideal S8192x1024 .bf16) (j : Fin 8192) (x : Fin 256) :
    (((cfg0.win 1).blk t).view.read (Elt Ideal) f : Vec Ideal S8192x256 .bf16) (ix2 j x) = f (ix2 j (wcol (gOf t) x)) := by
  show f (((cfg0.win 1).blk t).view.emb (ix2 j x)) = _
  refine congrArg _ (funext fun a => Fin.ext ?_)
  have e := index1 t
  fin_cases a
  · show win0_1.index t (0 : Fin 2) * 8192 + 1 * j.val = j.val
    rw [e]; simp
  · show win0_1.index t (1 : Fin 2) * 256 + 1 * x.val = 256 * (t.val / 16) + x.val
    rw [e]; simp; omega

theorem iblk_1 (j : Fin 8192) (x : Fin 256) :
    (iblk m c 1 t : Vec Ideal S8192x256 .bf16) (ix2 j x)
      = (V m c (Pipeline.arrRef spec0 1) : Vec Ideal S8192x1024 .bf16) (ix2 j (wcol (gOf t) x)) :=
  block_1 t _ j x

theorem block_2 (f : Vec Ideal S8192x512 .bf16) (j : Fin 8192) (x : Fin 128) :
    (((cfg0.win 2).blk t).view.read (Elt Ideal) f : Vec Ideal S8192x128 .bf16) (ix2 j x) = f (ix2 j (ncol (gOf t) x)) := by
  show f (((cfg0.win 2).blk t).view.emb (ix2 j x)) = _
  refine congrArg _ (funext fun a => Fin.ext ?_)
  have e := index2 t
  fin_cases a
  · show win0_2.index t (0 : Fin 2) * 8192 + 1 * j.val = j.val
    rw [e]; simp
  · show win0_2.index t (1 : Fin 2) * 128 + 1 * x.val = 128 * (t.val / 16) + x.val
    rw [e]; simp; omega

theorem iblk_2 (j : Fin 8192) (x : Fin 128) :
    (iblk m c 2 t : Vec Ideal S8192x128 .bf16) (ix2 j x)
      = (V m c (Pipeline.arrRef spec0 2) : Vec Ideal S8192x512 .bf16) (ix2 j (ncol (gOf t) x)) :=
  block_2 t _ j x

theorem block_3 (f : Vec Ideal S8192x512 .bf16) (i : Fin 512) (x : Fin 128) :
    (((cfg0.win 3).blk t).view.read (Elt Ideal) f : Vec Ideal S512x128 .bf16) (ix2 i x) = f (ix2 (qrow (iOf t) i) (ncol (gOf t) x)) := by
  show f (((cfg0.win 3).blk t).view.emb (ix2 i x)) = _
  refine congrArg _ (funext fun a => Fin.ext ?_)
  have e := index3 t
  fin_cases a
  · show win0_3.index t (0 : Fin 2) * 512 + 1 * i.val = 512 * (t.val % 16) + i.val
    rw [e]; simp; omega
  · show win0_3.index t (1 : Fin 2) * 128 + 1 * x.val = 128 * (t.val / 16) + x.val
    rw [e]; simp; omega

theorem iblk_3 (i : Fin 512) (x : Fin 128) :
    (iblk m c 3 t : Vec Ideal S512x128 .bf16) (ix2 i x)
      = (V m c (Pipeline.arrRef spec0 3) : Vec Ideal S8192x512 .bf16) (ix2 (qrow (iOf t) i) (ncol (gOf t) x)) :=
  block_3 t _ i x

theorem block_4 (f : Vec Ideal S8192x512 .bf16) (i : Fin 512) (x : Fin 128) :
    (((cfg0.win 4).blk t).view.read (Elt Ideal) f : Vec Ideal S512x128 .bf16) (ix2 i x) = f (ix2 (qrow (iOf t) i) (ncol (gOf t) x)) := by
  show f (((cfg0.win 4).blk t).view.emb (ix2 i x)) = _
  refine congrArg _ (funext fun a => Fin.ext ?_)
  have e := index4 t
  fin_cases a
  · show win0_4.index t (0 : Fin 2) * 512 + 1 * i.val = 512 * (t.val % 16) + i.val
    rw [e]; simp; omega
  · show win0_4.index t (1 : Fin 2) * 128 + 1 * x.val = 128 * (t.val / 16) + x.val
    rw [e]; simp; omega

theorem iblk_4 (i : Fin 512) (x : Fin 128) :
    (iblk m c 4 t : Vec Ideal S512x128 .bf16) (ix2 i x)
      = (V m c (Pipeline.arrRef spec0 4) : Vec Ideal S8192x512 .bf16) (ix2 (qrow (iOf t) i) (ncol (gOf t) x)) :=
  block_4 t _ i x

theorem block_5 (f : Vec Ideal S4x8192x2 .f32) (i : Fin 512) (h : Fin 2) :
    (((cfg0.win 5).blk t).view.read (Elt Ideal) f : Vec Ideal S1x512x2 .f32) (ix3 0 i h) = f (ix3 (gOf t) (qrow (iOf t) i) h) := by
  show f (((cfg0.win 5).blk t).view.emb (ix3 0 i h)) = _
  refine congrArg _ (funext fun a => Fin.ext ?_)
  have e := index5 t
  fin_cases a
  · show win0_5.index t (0 : Fin 3) * 1 + 1 * 0 = t.val / 16
    rw [e]; simp
  · show win0_5.index t (1 : Fin 3) * 512 + 1 * i.val = 512 * (t.val % 16) + i.val
    rw [e]; simp; omega
  · show win0_5.index t (2 : Fin 3) * 2 + 1 * h.val = h.val
    rw [e]; simp

theorem iblk_5 (i : Fin 512) (h : Fin 2) :
    (iblk m c 5 t : Vec Ideal S1x512x2 .f32) (ix3 0 i h)
      = (V m c (Pipeline.arrRef spec0 5) : Vec Ideal S4x8192x2 .f32) (ix3 (gOf t) (qrow (iOf t) i) h) :=
  block_5 t _ i h

/-- What the scratch holds while a group is worked on: its values, widened by ones. -/
def held (g : Fin 4) (hh : Fin 2) (j : Fin 8192) (e : Fin 128) : EReal :=
  if h : e.val < 64 then (V m c (Pipeline.arrRef spec0 2) : Vec Ideal S8192x512 .bf16) (ix2 j (ncol g (vc hh ⟨e.val, h⟩))) else 1

theorem vones_block (hh : Fin 2) (j : Fin 8192) (e : Fin 128) :
    vones (iblk m c 2 t) hh j e = held m c (gOf t) hh j e := by
  unfold vones held
  split
  · exact iblk_2 m c t _ _
  · rfl

theorem vones_pt (g : Fin 4) (i : Fin 16) (hh : Fin 2) (j : Fin 8192) (e : Fin 128) :
    vones (iblk m c 2 (pt g i)) hh j e = held m c g hh j e := by
  rw [vones_block, gOf_pt]

/-- What a point adds to the key gradient and to the value gradient. -/
abbrev addK (b : Fin 16) (x : Fin 256) (j : Fin 512) : EReal :=
  gK (iblk m c 0 t) (iblk m c 1 t) (iblk m c 2 t) (iblk m c 3 t) (iblk m c 4 t) (iblk m c 5 t) b x j
abbrev addV (b : Fin 16) (x : Fin 128) (j : Fin 512) : EReal :=
  gV (iblk m c 0 t) (iblk m c 1 t) (iblk m c 4 t) (iblk m c 5 t) b x j

/-- The buffers after a point: the scratch holds the group's widened values, the two gradients the sums over the group's
points so far. -/
def After (g : Fin 4) (i : ℕ) (hi : i < 16) : Prop :=
  (∀ (hh : Fin 2) (j : Fin 8192) (e : Fin 128),
    (outsAt0 m c (pt g ⟨i, hi⟩).val (pt g ⟨i, hi⟩).isLt).2.2.2 (ix2 j (kc hh e)) = held m c g hh j e)
  ∧ (∀ (b : Fin 16) (x : Fin 256) (j : Fin 512),
    (outsAt0 m c (pt g ⟨i, hi⟩).val (pt g ⟨i, hi⟩).isLt).2.1 (ix4 0 b x j)
      = ∑ n : Fin (i + 1), addK m c (pt g ⟨n.val, by omega⟩) b x j)
  ∧ (∀ (b : Fin 16) (x : Fin 128) (j : Fin 512),
    (outsAt0 m c (pt g ⟨i, hi⟩).val (pt g ⟨i, hi⟩).isLt).2.2.1 (ix4 0 b x j)
      = ∑ n : Fin (i + 1), addV m c (pt g ⟨n.val, by omega⟩) b x j)

theorem after_first (g : Fin 4) : After m c g 0 (by decide) := by
  have h0 : (pt g ⟨0, by decide⟩).val % 16 = 0 := by show (16 * g.val + 0) % 16 = 0; omega
  have E := outsAt0_A m c (pt g ⟨0, by decide⟩) h0 h0
  refine ⟨fun hh j e => ?_, fun b x j => ?_, fun b x j => ?_⟩
  · refine (congrArg (fun z => z.2.2.2 (ix2 j (kc hh e))) E).trans ?_
    dsimp only
    rw [soutA]
    exact vones_pt m c g _ hh j e
  · refine (congrArg (fun z => z.2.1 (ix4 0 b x j)) E).trans ?_
    dsimp only
    rw [outA_7]
    exact (Fin.sum_univ_one (fun n : Fin 1 => addK m c (pt g ⟨n.val, by omega⟩) b x j)).symm
  · refine (congrArg (fun z => z.2.2.1 (ix4 0 b x j)) E).trans ?_
    dsimp only
    rw [outA_8]
    exact (Fin.sum_univ_one (fun n : Fin 1 => addV m c (pt g ⟨n.val, by omega⟩) b x j)).symm

theorem after_next (g : Fin 4) (i : ℕ) (hi : i + 1 < 16) (ih : After m c g i (by omega)) : After m c g (i + 1) hi := by
  obtain ⟨hs, h7, h8⟩ := ih
  have h0 : ¬(pt g ⟨i + 1, hi⟩).val % 16 = 0 := by show ¬(16 * g.val + (i + 1)) % 16 = 0; omega
  have E := outsAt0_B m c (pt g ⟨i + 1, hi⟩) h0 h0
  have hs' : ∀ (hh : Fin 2) (j : Fin 8192) (e : Fin 128),
      (outsAt0 m c ((pt g ⟨i + 1, hi⟩).val - 1) (Nat.lt_of_le_of_lt (Nat.sub_le _ _) (pt g ⟨i + 1, hi⟩).isLt)).2.2.2
          (ix2 j (kc hh e))
        = vones (iblk m c 2 (pt g ⟨i + 1, hi⟩)) hh j e := fun hh j e => (hs hh j e).trans (vones_pt m c g _ hh j e).symm
  refine ⟨fun hh j e => ?_, fun b x j => ?_, fun b x j => ?_⟩
  · exact (congrArg (fun z => z.2.2.2 (ix2 j (kc hh e))) E).trans (hs hh j e)
  · refine (congrArg (fun z => z.2.1 (ix4 0 b x j)) E).trans ?_
    dsimp only
    rw [outB_7 (hs := hs')]
    rw [Fin.sum_univ_castSucc]
    exact congrArg (· + _) (h7 b x j)
  · refine (congrArg (fun z => z.2.2.1 (ix4 0 b x j)) E).trans ?_
    dsimp only
    rw [outB_8]
    rw [Fin.sum_univ_castSucc]
    exact congrArg (· + _) (h8 b x j)

theorem after_all (g : Fin 4) : ∀ (i : ℕ) (hi : i < 16), After m c g i hi
  | 0, _ => after_first m c g
  | i + 1, hi => after_next m c g i hi (after_all g i (by omega))

/-- A point's query gradient. -/
theorem query_at (g : Fin 4) (i : Fin 16) (n : Fin 512) (h : Fin 2) (d : Fin 128) :
    (outsAt0 m c (pt g i).val (pt g i).isLt).1 (ix2 n (kc h d))
      = gQ (iblk m c 0 (pt g i)) (iblk m c 1 (pt g i)) (iblk m c 2 (pt g i)) (iblk m c 3 (pt g i)) (iblk m c 4 (pt g i))
          (iblk m c 5 (pt g i)) h n d := by
  obtain ⟨i, hi⟩ := i
  cases i with
  | zero =>
    have h0 : (pt g ⟨0, hi⟩).val % 16 = 0 := by show (16 * g.val + 0) % 16 = 0; omega
    refine (congrArg (fun z => z.1 (ix2 n (kc h d))) (outsAt0_A m c (pt g ⟨0, hi⟩) h0 h0)).trans ?_
    dsimp only
    rw [outA_6]
  | succ i =>
    have h0 : ¬(pt g ⟨i + 1, hi⟩).val % 16 = 0 := by show ¬(16 * g.val + (i + 1)) % 16 = 0; omega
    refine (congrArg (fun z => z.1 (ix2 n (kc h d))) (outsAt0_B m c (pt g ⟨i + 1, hi⟩) h0 h0)).trans ?_
    dsimp only
    rw [outB_6]
    intro hh j e
    exact ((after_all m c g i (by omega)).1 hh j e).trans (vones_pt m c g _ hh j e).symm

end
end Cert.Mla
end
-- ==== Proof.MlaSums.lean ====
module
public import proofs.«01_k».proof.Proof.MlaTripValue
/-! The sums that the latent attention's call takes over its six arrays. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row)

/-- Column `d` of head `h` where a head has 128 columns, and where it has 64. -/
abbrev cq (h : Fin 8) (d : Fin 128) : Fin 1024 := ⟨128 * h.val + d.val, by omega⟩
abbrev cv (h : Fin 8) (d : Fin 64) : Fin 512 := ⟨64 * h.val + d.val, by omega⟩
/-- The head of a query column, and its place in the head. -/
abbrev hOf (x : Fin 1024) : Fin 8 := ⟨x.val / 128, by omega⟩
abbrev dOf (x : Fin 1024) : Fin 128 := ⟨x.val % 128, by omega⟩
/-- The head of a tile column of group `g`: of the keys' tiles, and of the values'. -/
abbrev tHK (g : Fin 4) (x : Fin 256) : Fin 8 := ⟨2 * g.val + x.val / 128, by omega⟩
abbrev tHV (g : Fin 4) (x : Fin 128) : Fin 8 := ⟨2 * g.val + x.val / 64, by omega⟩
/-- The group of a head, and its place in the group. -/
abbrev grp (h : Fin 8) : Fin 4 := ⟨h.val / 2, by omega⟩
abbrev plc (h : Fin 8) : Fin 2 := ⟨h.val % 2, by omega⟩

section
variable (Q K : Vec Ideal S8192x1024 .bf16) (W O P : Vec Ideal S8192x512 .bf16) (L : Vec Ideal S4x8192x2 .f32)

/-- A probability. -/
def aP (h : Fin 8) (s j : Fin 8192) : EReal :=
  Ideal.exp2 ((∑ d : Fin 128, Q (ix2 s (cq h d)) * K (ix2 j (cq h d))) - L (ix3 (grp h) s (plc h)))

/-- A row's product of the output and its gradient. -/
def aDot (h : Fin 8) (s : Fin 8192) : EReal := ∑ d : Fin 64, P (ix2 s (cv h d)) * O (ix2 s (cv h d))

/-- The widened gradient of the output and the widened values. -/
def aGrad (h : Fin 8) (s : Fin 8192) (e : Fin 128) : EReal :=
  if he : e.val < 64 then P (ix2 s (cv h ⟨e.val, he⟩))
  else if e.val = 64 then 0 - aDot O P h s
  else if e.val = 65 then 0 - (aDot O P h s - aDot O P h s)
  else 0
def aVal (h : Fin 8) (j : Fin 8192) (e : Fin 128) : EReal :=
  if he : e.val < 64 then W (ix2 j (cv h ⟨e.val, he⟩)) else 1

/-- A score's gradient. -/
def aD (h : Fin 8) (s j : Fin 8192) : EReal := aP Q K L h s j * ∑ e : Fin 128, aGrad O P h s e * aVal W h j e

/-- The three gradients. -/
def aQ (s : Fin 8192) (x : Fin 1024) : EReal := ∑ j : Fin 8192, aD Q K W O P L (hOf x) s j * K (ix2 j (cq (hOf x) (dOf x)))
def aK (g : Fin 4) (b : Fin 16) (x : Fin 256) (j : Fin 512) : EReal :=
  ∑ s : Fin 8192, Q (ix2 s (cq (tHK g x) (loK x))) * aD Q K W O P L (tHK g x) s (row b j)
def aV (g : Fin 4) (b : Fin 16) (x : Fin 128) (j : Fin 512) : EReal :=
  ∑ s : Fin 8192, P (ix2 s (cv (tHV g x) (loV x))) * aP Q K L (tHV g x) s (row b j)
end

end Cert.Mla
end
-- ==== Proof.MlaArrays.lean ====
module
public import proofs.«01_k».proof.Proof.MlaBlocks
public import proofs.«01_k».proof.Proof.MlaSums
/-! What the latent attention's grid points take, in terms of the arrays that the call is given. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row)

/-- Head `hh` of group `g`. -/
abbrev sHead (g : Fin 4) (hh : Fin 2) : Fin 8 := ⟨2 * g.val + hh.val, by omega⟩

/-- A sum over the points of a group and the rows of a point is a sum over all queries. -/
theorem sum_queries (f : Fin 8192 → EReal) : ∑ i : Fin 16, ∑ n : Fin 512, f (qrow i n) = ∑ s : Fin 8192, f s := by
  rw [← Fintype.sum_prod_type', ← (finProdFinEquiv (m := 16) (n := 512)).sum_comp]
  refine Fintype.sum_congr _ _ fun x => ?_
  congr 1
  apply Fin.ext
  show 512 * x.1.val + x.2.val = x.2.val + 512 * x.1.val
  omega

section
variable (m : (ℓ : Loc nD τ sig) → Buf (Elt Ideal) ℓ) (c : Dev nD)

/-- The six arrays the call is given. -/
abbrev inQ : Vec Ideal S8192x1024 .bf16 := V m c (Pipeline.arrRef spec0 0)
abbrev inK : Vec Ideal S8192x1024 .bf16 := V m c (Pipeline.arrRef spec0 1)
abbrev inV : Vec Ideal S8192x512 .bf16 := V m c (Pipeline.arrRef spec0 2)
abbrev inO : Vec Ideal S8192x512 .bf16 := V m c (Pipeline.arrRef spec0 3)
abbrev inP : Vec Ideal S8192x512 .bf16 := V m c (Pipeline.arrRef spec0 4)
abbrev inL : Vec Ideal S4x8192x2 .f32 := V m c (Pipeline.arrRef spec0 5)

theorem q_pt (g : Fin 4) (i : Fin 16) (hh : Fin 2) (n : Fin 512) (d : Fin 128) :
    (iblk m c 0 (pt g i) : Vec Ideal S512x256 .bf16) (ix2 n (kc hh d)) = inQ m c (ix2 (qrow i n) (cq (sHead g hh) d)) := by
  rw [iblk_0, gOf_pt, iOf_pt]
  exact congrArg (fun z => inQ m c (ix2 (qrow i n) z)) (Fin.ext (by simp; omega))

theorem o_pt (g : Fin 4) (i : Fin 16) (hh : Fin 2) (n : Fin 512) (d : Fin 64) :
    (iblk m c 3 (pt g i) : Vec Ideal S512x128 .bf16) (ix2 n (vc hh d)) = inO m c (ix2 (qrow i n) (cv (sHead g hh) d)) := by
  rw [iblk_3, gOf_pt, iOf_pt]
  exact congrArg (fun z => inO m c (ix2 (qrow i n) z)) (Fin.ext (by simp; omega))

theorem p_pt (g : Fin 4) (i : Fin 16) (hh : Fin 2) (n : Fin 512) (d : Fin 64) :
    (iblk m c 4 (pt g i) : Vec Ideal S512x128 .bf16) (ix2 n (vc hh d)) = inP m c (ix2 (qrow i n) (cv (sHead g hh) d)) := by
  rw [iblk_4, gOf_pt, iOf_pt]
  exact congrArg (fun z => inP m c (ix2 (qrow i n) z)) (Fin.ext (by simp; omega))

theorem k_pt (g : Fin 4) (i : Fin 16) (hh : Fin 2) (j : Fin 8192) (d : Fin 128) :
    (iblk m c 1 (pt g i) : Vec Ideal S8192x256 .bf16) (ix2 j (kc hh d)) = inK m c (ix2 j (cq (sHead g hh) d)) := by
  rw [iblk_1, gOf_pt]
  exact congrArg (fun z => inK m c (ix2 j z)) (Fin.ext (by simp; omega))

theorem l_pt (g : Fin 4) (i : Fin 16) (hh : Fin 2) (n : Fin 512) :
    (iblk m c 5 (pt g i) : Vec Ideal S1x512x2 .f32) (ix3 0 n hh)
      = inL m c (ix3 (grp (sHead g hh)) (qrow i n) (plc (sHead g hh))) := by
  rw [iblk_5, gOf_pt, iOf_pt]
  exact congrArg₂ (fun y z => inL m c (ix3 y (qrow i n) z)) (Fin.ext (by simp; omega)) (Fin.ext (by simp; omega))

theorem held_eq (g : Fin 4) (hh : Fin 2) (j : Fin 8192) (e : Fin 128) :
    held m c g hh j e = aVal (inV m c) (sHead g hh) j e := by
  unfold held aVal
  split
  · exact congrArg (fun z => inV m c (ix2 j z)) (Fin.ext (by simp; omega))
  · rfl

theorem pE_pt (g : Fin 4) (i : Fin 16) (hh : Fin 2) (n : Fin 512) (j : Fin 8192) :
    pE (iblk m c 0 (pt g i)) (iblk m c 1 (pt g i)) (iblk m c 5 (pt g i)) hh n j
      = aP (inQ m c) (inK m c) (inL m c) (sHead g hh) (qrow i n) j := by
  unfold pE aP
  rw [l_pt m c g i hh n]
  simp only [q_pt m c g i hh n, k_pt m c g i hh]

theorem grad_pt (g : Fin 4) (i : Fin 16) (hh : Fin 2) (n : Fin 512) (e : Fin 128) :
    widened (iblk m c 4 (pt g i)) (iblk m c 3 (pt g i)) hh n e
      = aGrad (inO m c) (inP m c) (sHead g hh) (qrow i n) e := by
  have hdot : rowDot (iblk m c 4 (pt g i)) (iblk m c 3 (pt g i)) hh n
      = aDot (inO m c) (inP m c) (sHead g hh) (qrow i n) := by
    unfold rowDot aDot
    exact Fintype.sum_congr _ _ fun d => congrArg₂ (· * ·) (p_pt m c g i hh n d) (o_pt m c g i hh n d)
  unfold widened aGrad
  rw [hdot]
  split
  · exact p_pt m c g i hh n _
  · rfl

theorem dE_pt (g : Fin 4) (i : Fin 16) (hh : Fin 2) (n : Fin 512) (j : Fin 8192) :
    dE (iblk m c 0 (pt g i)) (iblk m c 1 (pt g i)) (iblk m c 2 (pt g i)) (iblk m c 3 (pt g i)) (iblk m c 4 (pt g i))
        (iblk m c 5 (pt g i)) hh n j
      = aD (inQ m c) (inK m c) (inV m c) (inO m c) (inP m c) (inL m c) (sHead g hh) (qrow i n) j := by
  unfold dE aD
  rw [pE_pt]
  refine congrArg (_ * ·) (Fintype.sum_congr _ _ fun e => ?_)
  rw [grad_pt, vones_pt, held_eq m c g hh]

end

end Cert.Mla
end
-- ==== Proof.MlaFinal.lean ====
module
public import proofs.«01_k».proof.Proof.MlaArrays
/-! The latent attention's three arrays after the call. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row)

variable (m : (ℓ : Loc nD τ sig) → Buf (Elt Ideal) ℓ) (c : Dev nD)

/-- The key gradient's tiles after a group's last point. -/
theorem keys_last (g : Fin 4) (b : Fin 16) (x : Fin 256) (j : Fin 512) :
    (outsAt0 m c (pt g 15).val (pt g 15).isLt).2.1 (ix4 0 b x j)
      = aK (inQ m c) (inK m c) (inV m c) (inO m c) (inP m c) (inL m c) g b x j := by
  refine ((after_all m c g 15 (by decide)).2.1 b x j).trans ?_
  unfold aK
  rw [← sum_queries fun s => inQ m c (ix2 s (cq (tHK g x) (loK x)))
    * aD (inQ m c) (inK m c) (inV m c) (inO m c) (inP m c) (inL m c) (tHK g x) s (row b j)]
  refine Fintype.sum_congr _ _ fun i => Fintype.sum_congr _ _ fun n => ?_
  rw [q_pt, dE_pt]

/-- The value gradient's tiles after a group's last point. -/
theorem values_last (g : Fin 4) (b : Fin 16) (x : Fin 128) (j : Fin 512) :
    (outsAt0 m c (pt g 15).val (pt g 15).isLt).2.2.1 (ix4 0 b x j)
      = aV (inQ m c) (inK m c) (inP m c) (inL m c) g b x j := by
  refine ((after_all m c g 15 (by decide)).2.2 b x j).trans ?_
  unfold aV
  rw [← sum_queries fun s => inP m c (ix2 s (cv (tHV g x) (loV x)))
    * aP (inQ m c) (inK m c) (inL m c) (tHV g x) s (row b j)]
  refine Fintype.sum_congr _ _ fun i => Fintype.sum_congr _ _ fun n => ?_
  rw [p_pt, pE_pt]

/-- The query gradient's block after each point. -/
theorem queries_pt (g : Fin 4) (i : Fin 16) (n : Fin 512) (x : Fin 256) :
    (outsAt0 m c (pt g i).val (pt g i).isLt).1 (ix2 n x)
      = aQ (inQ m c) (inK m c) (inV m c) (inO m c) (inP m c) (inL m c) (qrow i n) (wcol g x) := by
  have ex : x = kc (⟨x.val / 128, by omega⟩ : Fin 2) (⟨x.val % 128, by omega⟩ : Fin 128) := Fin.ext (by simp; omega)
  rw [ex, query_at, ← ex]
  unfold gQ aQ
  refine Fintype.sum_congr _ _ fun j => ?_
  rw [dE_pt, k_pt m c g i]
  have e1 : sHead g (⟨x.val / 128, by omega⟩ : Fin 2) = hOf (wcol g x) := Fin.ext (by simp; omega)
  have e3 : (⟨x.val % 128, by omega⟩ : Fin 128) = dOf (wcol g x) := Fin.ext (by simp; omega)
  rw [e1, e3]

theorem pt_of (t : Fin cfg0.N) : t = pt (gOf t) (iOf t) :=
  Fin.ext (by show t.val = 16 * (t.val / 16) + t.val % 16; omega)

/-- What the three output arrays hold, as functions of the index. -/
abbrev tilesK : Vec Ideal S4x16x256x512 .f32 := fun y =>
  aK (inQ m c) (inK m c) (inV m c) (inO m c) (inP m c) (inL m c) (y 0) (y 1) (y 2) (y 3)
abbrev tilesV : Vec Ideal S4x16x128x512 .f32 := fun y =>
  aV (inQ m c) (inK m c) (inP m c) (inL m c) (y 0) (y 1) (y 2) (y 3)
abbrev gradQ : Vec Ideal S8192x1024 .f32 := fun y =>
  aQ (inQ m c) (inK m c) (inV m c) (inO m c) (inP m c) (inL m c) (y 0) (y 1)

theorem tile_7 (f : Vec Ideal S4x16x256x512 .f32) (t : Fin cfg0.N) (b : Fin 16) (x : Fin 256) (j : Fin 512) :
    (((cfg0.win 7).blk t).view.read (Elt Ideal) f : Vec Ideal S1x16x256x512 .f32) (ix4 0 b x j) = f (ix4 (gOf t) b x j) := by
  show f (((cfg0.win 7).blk t).view.emb (ix4 0 b x j)) = _
  refine congrArg _ (funext fun a => Fin.ext ?_)
  have e := index7 t
  fin_cases a
  · show win0_7.index t (0 : Fin 4) * 1 + 1 * 0 = t.val / 16
    rw [e]; simp
  · show win0_7.index t (1 : Fin 4) * 16 + 1 * b.val = b.val
    rw [e]; simp
  · show win0_7.index t (2 : Fin 4) * 256 + 1 * x.val = x.val
    rw [e]; simp
  · show win0_7.index t (3 : Fin 4) * 512 + 1 * j.val = j.val
    rw [e]; simp

theorem tile_8 (f : Vec Ideal S4x16x128x512 .f32) (t : Fin cfg0.N) (b : Fin 16) (x : Fin 128) (j : Fin 512) :
    (((cfg0.win 8).blk t).view.read (Elt Ideal) f : Vec Ideal S1x16x128x512 .f32) (ix4 0 b x j) = f (ix4 (gOf t) b x j) := by
  show f (((cfg0.win 8).blk t).view.emb (ix4 0 b x j)) = _
  refine congrArg _ (funext fun a => Fin.ext ?_)
  have e := index8 t
  fin_cases a
  · show win0_8.index t (0 : Fin 4) * 1 + 1 * 0 = t.val / 16
    rw [e]; simp
  · show win0_8.index t (1 : Fin 4) * 16 + 1 * b.val = b.val
    rw [e]; simp
  · show win0_8.index t (2 : Fin 4) * 128 + 1 * x.val = x.val
    rw [e]; simp
  · show win0_8.index t (3 : Fin 4) * 512 + 1 * j.val = j.val
    rw [e]; simp

theorem tile_6 (f : Vec Ideal S8192x1024 .f32) (t : Fin cfg0.N) (r : Fin 512) (x : Fin 256) :
    (((cfg0.win 6).blk t).view.read (Elt Ideal) f : Vec Ideal S512x256 .f32) (ix2 r x) = f (ix2 (qrow (iOf t) r) (wcol (gOf t) x)) := by
  show f (((cfg0.win 6).blk t).view.emb (ix2 r x)) = _
  refine congrArg _ (funext fun a => Fin.ext ?_)
  have e := index6 t
  fin_cases a
  · show win0_6.index t (0 : Fin 2) * 512 + 1 * r.val = 512 * (t.val % 16) + r.val
    rw [e]; simp; omega
  · show win0_6.index t (1 : Fin 2) * 256 + 1 * x.val = 256 * (t.val / 16) + x.val
    rw [e]; simp; omega

theorem last_pt (t : Fin cfg0.N) (h : t.val % 16 = 15) : t = pt (gOf t) 15 :=
  Fin.ext (by show t.val = 16 * (t.val / 16) + 15; omega)

/-- What a group's last point writes back. -/
theorem back_7 (t : Fin cfg0.N) (ht : (cfg0.win 7).flush t = true) :
    (dats m 0 c).flushed 7 t = ((cfg0.win 7).blk t).view.read (Elt Ideal) (tilesK m c) := by
  have h := (flush0_7 t).mp ht
  funext y
  obtain ⟨b, x, j, rfl⟩ : ∃ b x j, y = (ix4 0 b x j : S1x16x256x512.Idx) :=
    ⟨y 1, y 2, y 3, (eq_ix4 y).trans (congrArg (fun z => ix4 z (y 1) (y 2) (y 3)) (Subsingleton.elim (α := Fin 1) _ _))⟩
  rw [tile_7]
  show (dats m 0 c).after 7 t (ix4 0 b x j) = _
  rw [after0_7]
  have e := last_pt t h
  generalize gOf t = g at e
  subst e
  exact keys_last m c g b x j

theorem back_8 (t : Fin cfg0.N) (ht : (cfg0.win 8).flush t = true) :
    (dats m 0 c).flushed 8 t = ((cfg0.win 8).blk t).view.read (Elt Ideal) (tilesV m c) := by
  have h := (flush0_8 t).mp ht
  funext y
  obtain ⟨b, x, j, rfl⟩ : ∃ b x j, y = (ix4 0 b x j : S1x16x128x512.Idx) :=
    ⟨y 1, y 2, y 3, (eq_ix4 y).trans (congrArg (fun z => ix4 z (y 1) (y 2) (y 3)) (Subsingleton.elim (α := Fin 1) _ _))⟩
  rw [tile_8]
  show (dats m 0 c).after 8 t (ix4 0 b x j) = _
  rw [after0_8]
  have e := last_pt t h
  generalize gOf t = g at e
  subst e
  exact values_last m c g b x j

theorem back_6 (t : Fin cfg0.N) :
    (dats m 0 c).flushed 6 t = ((cfg0.win 6).blk t).view.read (Elt Ideal) (gradQ m c) := by
  funext y
  obtain ⟨r, x, rfl⟩ : ∃ r x, y = (ix2 r x : S512x256.Idx) := ⟨y 0, y 1, eq_ix2 y⟩
  rw [tile_6]
  show (dats m 0 c).after 6 t (ix2 r x) = _
  rw [after0_6]
  have e := pt_of t
  generalize gOf t = g at e
  generalize iOf t = i at e
  subst e
  exact queries_pt m c g i r x

theorem final_7 : (dats m 0 c).arrAt 7 cfg0.N = tilesK m c :=
  (dats m 0 c).arrAt_eq_of_cover 7 (tilesK m c) (fun t ht => back_7 m c t ht)
    (Pipeline.Window.Covers.cover win0_7 (by decide +kernel) (arr_whole0 7))
theorem final_8 : (dats m 0 c).arrAt 8 cfg0.N = tilesV m c :=
  (dats m 0 c).arrAt_eq_of_cover 8 (tilesV m c) (fun t ht => back_8 m c t ht)
    (Pipeline.Window.Covers.cover win0_8 (by decide +kernel) (arr_whole0 8))
theorem final_6 : (dats m 0 c).arrAt 6 cfg0.N = gradQ m c :=
  (dats m 0 c).arrAt_eq_of_cover 6 (gradQ m c) (fun t _ => back_6 m c t)
    (Pipeline.Window.Covers.cover win0_6 (by decide +kernel) (arr_whole0 6))

end Cert.Mla
end
-- ==== Proof.MlaHost.lean ====
module
public import proofs.«01_k».proof.Proof.MlaFinal
import Idealize.ShloMosaic.Lib.Pointwise
/-! The latent attention host's lines before the call: the scores, their softmax, the output and the logarithms, entry by entry. -/
@[expose] public section
set_option maxRecDepth 16384
noncomputable section
namespace Cert.Mla
open Cert.LatentIdeal Cert.LatentIdeal.Gen
open Idealize.ShloMosaic Idealize.ShloMosaic.TcCoe Idealize.ShloMosaic.Tactic Idealize.ShloMosaic.StableHlo

section
variable (q k : Vec Ideal S8192x1024 .f32) (v : Vec Ideal S8192x512 .f32)

/-- The queries and the keys by heads. -/
def hQ : FVec Ideal S8x1x8192x128 .f32 :=
  shapeCast S8x1x8192x128 (transpose S8x8192x128 [1, 0, 2]
    (shapeCast S8192x8x128 q shapeCasts_S8192x1024_S8192x8x128 : FVec Ideal S8192x8x128 .f32) transposes_S8192x8x128_S8x8192x128_1_0_2)
    shapeCasts_S8x8192x128_S8x1x8192x128
def hK : FVec Ideal S8x8192x128 .f32 :=
  transpose S8x8192x128 [1, 0, 2] (shapeCast S8192x8x128 k shapeCasts_S8192x1024_S8192x8x128 : FVec Ideal S8192x8x128 .f32)
    transposes_S8192x8x128_S8x8192x128_1_0_2
def hV : FVec Ideal S8x8192x64 .f32 :=
  transpose S8x8192x64 [1, 0, 2] (shapeCast S8192x8x64 v shapeCasts_S8192x512_S8192x8x64 : FVec Ideal S8192x8x64 .f32)
    transposes_S8192x8x64_S8x8192x64_1_0_2
/-- The scaled scores. -/
def hS : FVec Ideal S8x1x8192x8192 .f32 :=
  mulf (Host.dotGeneral dot_S8x1x8192x128_S8x8192x128_S8x1x8192x8192_3_2_12_1_0_0 none (hQ q) (hK k))
    (broadcastInDim S8x1x8192x8192 ![] bcast_S_S8x1x8192x8192 (constant S_ .f32 0x3DD105EC#32))
/-- Each row's greatest score, the exponentials, and their sum. -/
def hM : FVec Ideal S8x1x8192x1 .f32 :=
  broadcastInDim S8x1x8192x1 ![0, 1, 2] bcast_S8x1x8192_S8x1x8192x1_0_1_2
    (Host.reduce FloatOps.maximumf (hS q k) (constant S_ .f32 0xFF800000#32) reducesTo_S8x1x8192x8192_S8x1x8192_d3 h_S_)
def hE : FVec Ideal S8x1x8192x8192 .f32 :=
  Host.exp (subf (hS q k) (broadcastInDim S8x1x8192x8192 ![0, 1, 2, 3] bcast_S8x1x8192x1_S8x1x8192x8192_0_1_2_3 (hM q k)))
def hL : FVec Ideal S8x1x8192x1 .f32 :=
  broadcastInDim S8x1x8192x1 ![0, 1, 2] bcast_S8x1x8192_S8x1x8192x1_0_1_2
    (Host.reduceAdd (hE q k) (constant S_ .f32 0x00000000#32) reducesTo_S8x1x8192x8192_S8x1x8192_d3 h_S_)
/-- The output. -/
def hO : FVec Ideal S8x1x8192x64 .f32 :=
  Host.dotGeneral dot_S8x1x8192x8192_S8x8192x64_S8x1x8192x64_3_1_12_2_0_0 none
    (Host.divf (hE q k) (broadcastInDim S8x1x8192x8192 ![0, 1, 2, 3] bcast_S8x1x8192x1_S8x1x8192x8192_0_1_2_3 (hL q k))) (hV v)
/-- The logarithm to base 2 of each row's denominator. -/
def hLse : FVec Ideal S8x1x8192x1 .f32 :=
  Host.divf (addf (hM q k) (Host.log (hL q k)))
    (broadcastInDim S8x1x8192x1 ![] bcast_S_S8x1x8192x1 (Host.log (constant S_ .f32 0x40000000#32)))

/-- The stages, entry by entry. -/
theorem hS_at (h : Fin 8) (s j : Fin 8192) :
    hS q k (ix4 h 0 s j) = (∑ d : Fin 128, q (ix2 s (⟨h.val * 128 + d.val, by omega⟩ : Fin 1024))
      * k (ix2 j (⟨h.val * 128 + d.val, by omega⟩ : Fin 1024))) * Ideal.ofBits .f32 0x3DD105EC#32 := by
  unfold hS hQ hK
  pointwise []

theorem max_at (S : FVec Ideal S8x1x8192x8192 .f32) (h : Fin 8) (s : Fin 8192) :
    (broadcastInDim S8x1x8192x1 ![0, 1, 2] bcast_S8x1x8192_S8x1x8192x1_0_1_2
      (Host.reduce FloatOps.maximumf S (constant S_ .f32 0xFF800000#32) reducesTo_S8x1x8192x8192_S8x1x8192_d3 h_S_)
        : FVec Ideal S8x1x8192x1 .f32) (ix4 h 0 s 0)
      = Finset.fold max (Ideal.ofBits .f32 0xFF800000#32) (fun j => S (ix4 h 0 s j)) Finset.univ := by
  pointwise []

theorem hM_at (h : Fin 8) (s : Fin 8192) :
    hM q k (ix4 h 0 s 0) = Finset.fold max (Ideal.ofBits .f32 0xFF800000#32) (fun j => hS q k (ix4 h 0 s j)) Finset.univ :=
  max_at _ h s

theorem exp_at (S : FVec Ideal S8x1x8192x8192 .f32) (M : FVec Ideal S8x1x8192x1 .f32) (h : Fin 8) (s j : Fin 8192) :
    Host.exp (subf S (broadcastInDim S8x1x8192x8192 ![0, 1, 2, 3] bcast_S8x1x8192x1_S8x1x8192x8192_0_1_2_3 M)) (ix4 h 0 s j)
      = Ideal.exp (S (ix4 h 0 s j) - M (ix4 h 0 s 0)) := by
  pointwise []

theorem hE_at (h : Fin 8) (s j : Fin 8192) :
    hE q k (ix4 h 0 s j) = Ideal.exp (hS q k (ix4 h 0 s j) - hM q k (ix4 h 0 s 0)) :=
  exp_at _ _ h s j

theorem sum_at (S : FVec Ideal S8x1x8192x8192 .f32) (h : Fin 8) (s : Fin 8192) :
    (broadcastInDim S8x1x8192x1 ![0, 1, 2] bcast_S8x1x8192_S8x1x8192x1_0_1_2
      (Host.reduceAdd S (constant S_ .f32 0x00000000#32) reducesTo_S8x1x8192x8192_S8x1x8192_d3 h_S_)
        : FVec Ideal S8x1x8192x1 .f32) (ix4 h 0 s 0) = ∑ j : Fin 8192, S (ix4 h 0 s j) := by
  pointwise []

theorem hL_at (h : Fin 8) (s : Fin 8192) : hL q k (ix4 h 0 s 0) = ∑ j : Fin 8192, hE q k (ix4 h 0 s j) :=
  sum_at _ h s

theorem out_at (E : FVec Ideal S8x1x8192x8192 .f32) (L : FVec Ideal S8x1x8192x1 .f32) (h : Fin 8) (s : Fin 8192) (d : Fin 64) :
    Host.dotGeneral dot_S8x1x8192x8192_S8x8192x64_S8x1x8192x64_3_1_12_2_0_0 none
      (Host.divf E (broadcastInDim S8x1x8192x8192 ![0, 1, 2, 3] bcast_S8x1x8192x1_S8x1x8192x8192_0_1_2_3 L)) (hV v) (ix4 h 0 s d)
      = ∑ j : Fin 8192, Ideal.div (E (ix4 h 0 s j)) (L (ix4 h 0 s 0)) * v (ix2 j (⟨h.val * 64 + d.val, by omega⟩ : Fin 512)) := by
  unfold hV
  pointwise []

theorem hO_at (h : Fin 8) (s : Fin 8192) (d : Fin 64) :
    hO q k v (ix4 h 0 s d) = ∑ j : Fin 8192, Ideal.div (hE q k (ix4 h 0 s j)) (hL q k (ix4 h 0 s 0))
      * v (ix2 j (⟨h.val * 64 + d.val, by omega⟩ : Fin 512)) :=
  out_at _ _ _ h s d

theorem lse_at (M L : FVec Ideal S8x1x8192x1 .f32) (h : Fin 8) (s : Fin 8192) :
    Host.divf (addf M (Host.log L)) (broadcastInDim S8x1x8192x1 ![] bcast_S_S8x1x8192x1 (Host.log (constant S_ .f32 0x40000000#32))) (ix4 h 0 s 0)
      = Ideal.div (M (ix4 h 0 s 0) + Ideal.log (L (ix4 h 0 s 0))) (Ideal.log (Ideal.ofBits .f32 0x40000000#32)) := by
  pointwise []

theorem hLse_at (h : Fin 8) (s : Fin 8192) :
    hLse q k (ix4 h 0 s 0)
      = Ideal.div (hM q k (ix4 h 0 s 0) + Ideal.log (hL q k (ix4 h 0 s 0))) (Ideal.log (Ideal.ofBits .f32 0x40000000#32)) :=
  lse_at _ _ h s

/-- The layouts that the call takes the output and the logarithms in. -/
theorem flat_at (o : FVec Ideal S8x1x8192x64 .f32) (s : Fin 8192) (x : Fin 512) :
    truncf .bf16 (shapeCast S8192x512 (transpose S8192x8x64 [1, 0, 2]
      (shapeCast S8x8192x64 o shapeCasts_S8x1x8192x64_S8x8192x64 : FVec Ideal S8x8192x64 .f32) transposes_S8x8192x64_S8192x8x64_1_0_2)
      shapeCasts_S8192x8x64_S8192x512 : FVec Ideal S8192x512 .f32) bitsLt_bf16_f32 (ix2 s x)
      = o (ix4 (⟨x.val / 64, by omega⟩ : Fin 8) 0 s (⟨x.val % 64, by omega⟩ : Fin 64)) := by
  pointwise []
theorem group_at (l : FVec Ideal S8x1x8192x1 .f32) (g : Fin 4) (s : Fin 8192) (h : Fin 2) :
    transpose S4x8192x2 [0, 2, 1] (shapeCast S4x2x8192 l shapeCasts_S8x1x8192x1_S4x2x8192 : FVec Ideal S4x2x8192 .f32)
      transposes_S4x2x8192_S4x8192x2_0_2_1 (ix3 g s h)
      = l (ix4 (⟨g.val * 2 + h.val, by omega⟩ : Fin 8) 0 s 0) := by
  pointwise []
theorem scaled_at (s : Fin 8192) (x : Fin 1024) :
    ((truncf .bf16 (mulf q (broadcastInDim S8192x1024 ![] bcast_S_S8192x1024
          (Host.divf (constant S_ .f32 0x3DD105EC#32) (Host.log (constant S_ .f32 0x40000000#32))))) bitsLt_bf16_f32
        : FVec Ideal S8192x1024 .bf16) (ix2 s x) : EReal)
      = q (ix2 s x) * Ideal.div (Ideal.ofBits .f32 0x3DD105EC#32) (Ideal.log (Ideal.ofBits .f32 0x40000000#32)) := by
  pointwise []
end

variable (m : (ℓ : Loc nD τ sig) → Buf (Elt Ideal) ℓ) (c : Dev nD)

/-- The four arguments. -/
abbrev argQ : FVec Ideal S8192x1024 .f32 := m ((c : Thread nD τ).loc main_arg0)
abbrev argK : FVec Ideal S8192x1024 .f32 := m ((c : Thread nD τ).loc main_arg1)
abbrev argV : FVec Ideal S8192x512 .f32 := m ((c : Thread nD τ).loc main_arg2)
abbrev argP : FVec Ideal S8192x512 .f32 := m ((c : Thread nD τ).loc main_arg3)

/-- What the call is given, from the arguments. -/
theorem inQ_eq : inQ m c = (truncf .bf16 (mulf (argQ m c) (broadcastInDim S8192x1024 ![] bcast_S_S8192x1024
      (Host.divf (constant S_ .f32 0x3DD105EC#32) (Host.log (constant S_ .f32 0x40000000#32))))) bitsLt_bf16_f32 : FVec Ideal S8192x1024 .bf16) := by
  show StableHlo.after (hostOps0 (F := Ideal)) (fun b => m (c, b)) (Proc.devRef .tc main_v4) = _
  after_results
theorem inK_eq : inK m c = (truncf .bf16 (argK m c) bitsLt_bf16_f32 : FVec Ideal S8192x1024 .bf16) := by
  show StableHlo.after (hostOps0 (F := Ideal)) (fun b => m (c, b)) (Proc.devRef .tc main_v5) = _
  after_results
theorem inV_eq : inV m c = (truncf .bf16 (argV m c) bitsLt_bf16_f32 : FVec Ideal S8192x512 .bf16) := by
  show StableHlo.after (hostOps0 (F := Ideal)) (fun b => m (c, b)) (Proc.devRef .tc main_v6) = _
  after_results
theorem inP_eq : inP m c = (truncf .bf16 (argP m c) bitsLt_bf16_f32 : FVec Ideal S8192x512 .bf16) := by
  show StableHlo.after (hostOps0 (F := Ideal)) (fun b => m (c, b)) (Proc.devRef .tc main_v38) = _
  after_results
theorem inL_eq : inL m c = transpose S4x8192x2 [0, 2, 1] (shapeCast S4x2x8192 (hLse (argQ m c) (argK m c))
      shapeCasts_S8x1x8192x1_S4x2x8192 : FVec Ideal S4x2x8192 .f32) transposes_S4x2x8192_S4x8192x2_0_2_1 := by
  show StableHlo.after (hostOps0 (F := Ideal)) (fun b => m (c, b)) (Proc.devRef .tc main_v36) = _
  after_results
  rfl
theorem inO_eq : inO m c = (truncf .bf16 (shapeCast S8192x512 (transpose S8192x8x64 [1, 0, 2]
      (shapeCast S8x8192x64 (hO (argQ m c) (argK m c) (argV m c))
        shapeCasts_S8x1x8192x64_S8x8192x64 : FVec Ideal S8x8192x64 .f32) transposes_S8x8192x64_S8192x8x64_1_0_2)
      shapeCasts_S8192x8x64_S8192x512 : FVec Ideal S8192x512 .f32) bitsLt_bf16_f32 : FVec Ideal S8192x512 .bf16) := by
  show StableHlo.after (hostOps0 (F := Ideal)) (fun b => m (c, b)) (Proc.devRef .tc main_v37) = _
  after_results
  rfl
end Cert.Mla
end
-- ==== Proof.MlaReals.lean ====
module
public import proofs.«01_k».proof.Proof.MlaSums
public import proofs.«01_k».proof.Proof.Reals
/-! The latent attention's gradient over the real numbers, and the call's sums in terms of it. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row coe_total coe_dot total_pos shift power)

/-- The scale of the scores: the real number that the constant `96 ** -0.5` is rounded to. -/
def scl : ℝ := 13698540 / 134217728
theorem scale : Ideal.ofBits .f32 0x3DD105EC#32 = ((scl : ℝ) : EReal) := by
  unfold scl
  simp [Ideal.ofBits, Ideal.ieee, -EReal.coe_mul]; norm_num

section
variable (q k : Fin 8192 → Fin 1024 → ℝ) (v p : Fin 8192 → Fin 512 → ℝ)

/-- The scaled scores, the probabilities, and the attention's output. -/
def rS (h : Fin 8) (s j : Fin 8192) : ℝ := (∑ d : Fin 128, q s (cq h d) * k j (cq h d)) * scl
def rP (h : Fin 8) (s j : Fin 8192) : ℝ := Real.exp (rS q k h s j) / ∑ i, Real.exp (rS q k h s i)
def rO (h : Fin 8) (s : Fin 8192) (d : Fin 64) : ℝ := ∑ j, rP q k h s j * v j (cv h d)
/-- The gradient of a probability, and its mean in a row. -/
def rG (h : Fin 8) (s j : Fin 8192) : ℝ := ∑ d : Fin 64, p s (cv h d) * v j (cv h d)
def rM (h : Fin 8) (s : Fin 8192) : ℝ := ∑ j, rP q k h s j * rG v p h s j
/-- The gradient of a score before the scale. -/
def rD (h : Fin 8) (s j : Fin 8192) : ℝ := rP q k h s j * (rG v p h s j - rM q k v p h s)
/-- The gradients of the queries, the keys and the values. -/
def rQ (s : Fin 8192) (x : Fin 1024) : ℝ := (∑ j, rD q k v p (hOf x) s j * k j (cq (hOf x) (dOf x))) * scl
def rK (g : Fin 4) (b : Fin 16) (x : Fin 256) (j : Fin 512) : ℝ :=
  (∑ s, q s (cq (tHK g x) (loK x)) * rD q k v p (tHK g x) s (row b j)) * scl
def rV (g : Fin 4) (b : Fin 16) (x : Fin 128) (j : Fin 512) : ℝ :=
  ∑ s, p s (cv (tHV g x) (loV x)) * rP q k (tHV g x) s (row b j)

/-- A row's product of the output and its gradient is the mean of the probabilities' gradients. -/
theorem dot_mean (h : Fin 8) (s : Fin 8192) : ∑ d : Fin 64, p s (cv h d) * rO q k v h s d = rM q k v p h s := by
  unfold rM rO rG
  simp only [Finset.mul_sum]
  rw [Finset.sum_comm]
  exact Finset.sum_congr rfl fun j _ => Finset.sum_congr rfl fun d _ => by ring

variable (Q K : Vec Ideal S8192x1024 .bf16) (W O P : Vec Ideal S8192x512 .bf16)
  (L : Vec Ideal S4x8192x2 .f32)
  (hQ : ∀ s x, Q (ix2 s x) = ((q s x * (scl / Real.log 2) : ℝ) : EReal))
  (hK : ∀ j y, K (ix2 j y) = ((k j y : ℝ) : EReal))
  (hW : ∀ j y, W (ix2 j y) = ((v j y : ℝ) : EReal))
  (hP : ∀ s x, P (ix2 s x) = ((p s x : ℝ) : EReal))
  (hO : ∀ s h d, O (ix2 s (cv h d)) = ((rO q k v h s d : ℝ) : EReal))
  (hL : ∀ (h : Fin 8) s, ∃ M : ℝ, L (ix3 (grp h) s (plc h))
    = (((M + Real.log (∑ i, Real.exp (rS q k h s i - M))) / Real.log 2 : ℝ) : EReal))

include hQ hK hL in
theorem aP_real (h : Fin 8) (s j : Fin 8192) : aP Q K L h s j = ((rP q k h s j : ℝ) : EReal) := by
  obtain ⟨M, hM⟩ := hL h s
  unfold aP
  simp only [hQ, hK]
  rw [hM, coe_dot, ← EReal.coe_sub, Ideal.exp2_coe]
  have e : ∑ d : Fin 128, q s (cq h d) * (scl / Real.log 2) * k j (cq h d) = rS q k h s j / Real.log 2 := by
    unfold rS
    rw [Finset.sum_mul, Finset.sum_div]
    exact Finset.sum_congr rfl fun d _ => by ring
  rw [e, power (fun i => rS q k h s i) M j]
  rfl

include hP hO in
theorem aDot_real (h : Fin 8) (s : Fin 8192) : aDot O P h s = ((rM q k v p h s : ℝ) : EReal) := by
  unfold aDot
  simp only [hP, hO]
  rw [coe_dot, dot_mean]

include hP hO hW in
/-- The product of the widened rows is the probability's gradient less the row's mean. -/
theorem wide_real (h : Fin 8) (s j : Fin 8192) :
    ∑ e : Fin 128, aGrad O P h s e * aVal W h j e = ((rG v p h s j - rM q k v p h s : ℝ) : EReal) := by
  have hd := aDot_real q k v p O P hP hO h s
  have h0 : ∀ e : Fin 64, aGrad O P h s (Fin.castAdd 64 e) * aVal W h j (Fin.castAdd 64 e)
      = ((p s (cv h e) : ℝ) : EReal) * ((v j (cv h e) : ℝ) : EReal) := fun e => by
    have he : (Fin.castAdd 64 e).val < 64 := e.isLt
    unfold aGrad aVal
    rw [dif_pos he, dif_pos he]
    exact congrArg₂ (· * ·) (hP _ _) (hW _ _)
  have h1 : ∀ e : Fin 64, aGrad O P h s (Fin.natAdd 64 e) * aVal W h j (Fin.natAdd 64 e)
      = (((if e = 0 then -rM q k v p h s else 0) : ℝ) : EReal) := fun e => by
    have he : ¬ (Fin.natAdd 64 e).val < 64 := by simp
    unfold aGrad aVal
    rw [dif_neg he, dif_neg he, hd, mul_one]
    by_cases e0 : e = 0
    · subst e0
      rw [if_pos (show (Fin.natAdd 64 (0 : Fin 64)).val = 64 from rfl), if_pos rfl, zero_sub, ← EReal.coe_neg]
    · have e0' : ¬ (Fin.natAdd 64 e).val = 64 := fun h' => e0 (Fin.ext (by simpa using h'))
      rw [if_neg e0', if_neg e0, ← EReal.coe_sub, sub_self]
      simp
  have hs : ∑ e : Fin 128, aGrad O P h s e * aVal W h j e
      = ∑ e : Fin 64, aGrad O P h s (Fin.castAdd 64 e) * aVal W h j (Fin.castAdd 64 e)
        + ∑ e : Fin 64, aGrad O P h s (Fin.natAdd 64 e) * aVal W h j (Fin.natAdd 64 e) :=
    Fin.sum_univ_add (fun e : Fin (64 + 64) => aGrad O P h s e * aVal W h j e)
  rw [hs]
  simp only [h0, h1]
  rw [coe_dot, coe_total, ← EReal.coe_add]
  congr 1
  rw [Finset.sum_ite_eq' Finset.univ (0 : Fin 64) (fun _ => -rM q k v p h s), if_pos (Finset.mem_univ _), ← sub_eq_add_neg]
  rfl

include hQ hK hW hP hO hL in
theorem aD_real (h : Fin 8) (s j : Fin 8192) : aD Q K W O P L h s j = ((rD q k v p h s j : ℝ) : EReal) := by
  unfold aD
  rw [aP_real q k Q K L hQ hK hL, wide_real q k v p W O P hW hP hO, ← EReal.coe_mul]
  rfl

include hQ hK hW hP hO hL in
theorem aQ_real (s : Fin 8192) (x : Fin 1024) : aQ Q K W O P L s x * (scl : EReal) = ((rQ q k v p s x : ℝ) : EReal) := by
  unfold aQ
  simp only [aD_real q k v p Q K W O P L hQ hK hW hP hO hL, hK]
  rw [coe_dot, ← EReal.coe_mul]
  rfl

include hQ hK hW hP hO hL in
theorem aK_real (g : Fin 4) (b : Fin 16) (x : Fin 256) (j : Fin 512) :
    aK Q K W O P L g b x j * ((Real.log 2 : ℝ) : EReal) = ((rK q k v p g b x j : ℝ) : EReal) := by
  have h2 : Real.log 2 ≠ 0 := (Real.log_pos (by norm_num)).ne'
  unfold aK
  simp only [aD_real q k v p Q K W O P L hQ hK hW hP hO hL, hQ, coe_dot, coe_total]
  rw [← EReal.coe_mul]
  congr 1
  unfold rK
  simp only [Finset.sum_mul]
  exact Finset.sum_congr rfl fun s _ => by field_simp

include hQ hK hP hL in
theorem aV_real (g : Fin 4) (b : Fin 16) (x : Fin 128) (j : Fin 512) :
    aV Q K P L g b x j = ((rV q k p g b x j : ℝ) : EReal) := by
  unfold aV
  simp only [aP_real q k Q K L hQ hK hL, hP, coe_dot, coe_total]
  rfl
end

end Cert.Mla
end
-- ==== Proof.MlaPlain.lean ====
module
public import proofs.«01_k».proof.Proof.MlaReals
public import proofs.«01_k».proof.Proof.Gen.LatentReferenceIdeal.Run
import Idealize.ShloMosaic.Lib.Pointwise
/-! The latent attention's reference, stage by stage and entry by entry. -/
@[expose] public section
set_option maxRecDepth 16384
noncomputable section
namespace Cert.Mla.Plain
open Cert.LatentReferenceIdeal Cert.LatentReferenceIdeal.Gen
open Idealize.ShloMosaic Idealize.ShloMosaic.TcCoe Idealize.ShloMosaic.Tactic Idealize.ShloMosaic.StableHlo

section
variable (q k : FVec Ideal S8192x1024 .f32) (v p : FVec Ideal S8192x512 .f32)

/-- The columns by heads. -/
def xQ : FVec Ideal S8x1x8192x128 .f32 :=
  shapeCast S8x1x8192x128 (transpose S8x8192x128 [1, 0, 2]
    (shapeCast S8192x8x128 q shapeCasts_S8192x1024_S8192x8x128 : FVec Ideal S8192x8x128 .f32) transposes_S8192x8x128_S8x8192x128_1_0_2)
    shapeCasts_S8x8192x128_S8x1x8192x128
def xK : FVec Ideal S8x8192x128 .f32 :=
  transpose S8x8192x128 [1, 0, 2] (shapeCast S8192x8x128 k shapeCasts_S8192x1024_S8192x8x128 : FVec Ideal S8192x8x128 .f32)
    transposes_S8192x8x128_S8x8192x128_1_0_2
def xP : FVec Ideal S8x1x8192x64 .f32 :=
  shapeCast S8x1x8192x64 (transpose S8x8192x64 [1, 0, 2]
    (shapeCast S8192x8x64 p shapeCasts_S8192x512_S8192x8x64 : FVec Ideal S8192x8x64 .f32) transposes_S8192x8x64_S8x8192x64_1_0_2)
    shapeCasts_S8x8192x64_S8x1x8192x64
def xV : FVec Ideal S8x8192x64 .f32 :=
  transpose S8x8192x64 [1, 0, 2] (shapeCast S8192x8x64 v shapeCasts_S8192x512_S8192x8x64 : FVec Ideal S8192x8x64 .f32)
    transposes_S8192x8x64_S8x8192x64_1_0_2
/-- The scaled scores, each row's greatest, the exponentials and their sum. -/
def xS : FVec Ideal S8x1x8192x8192 .f32 :=
  mulf (Host.dotGeneral dot_S8x1x8192x128_S8x8192x128_S8x1x8192x8192_3_2_12_1_0_0 none (xQ q) (xK k))
    (broadcastInDim S8x1x8192x8192 ![] bcast_S_S8x1x8192x8192 (constant S_ .f32 0x3DD105EC#32))
def xM : FVec Ideal S8x1x8192x1 .f32 :=
  broadcastInDim S8x1x8192x1 ![0, 1, 2] bcast_S8x1x8192_S8x1x8192x1_0_1_2
    (maximumf (broadcastInDim S8x1x8192 ![] bcast_S_S8x1x8192 (constant S_ .f32 0xFF800000#32))
      (Host.reduce FloatOps.maximumf (xS q k) (constant S_ .f32 0xFF800000#32) reducesTo_S8x1x8192x8192_S8x1x8192_d3 h_S_))
def xE : FVec Ideal S8x1x8192x8192 .f32 :=
  Host.exp (subf (xS q k) (broadcastInDim S8x1x8192x8192 ![0, 1, 2, 3] bcast_S8x1x8192x1_S8x1x8192x8192_0_1_2_3 (xM q k)))
def xL : FVec Ideal S8x1x8192x1 .f32 :=
  broadcastInDim S8x1x8192x1 ![0, 1, 2] bcast_S8x1x8192_S8x1x8192x1_0_1_2
    (Host.reduceAdd (xE q k) (constant S_ .f32 0x00000000#32) reducesTo_S8x1x8192x8192_S8x1x8192_d3 h_S_)
/-- The gradient of the probabilities. -/
def xG : FVec Ideal S8x1x8192x8192 .f32 :=
  Host.dotGeneral dot_S8x1x8192x64_S8x8192x64_S8x1x8192x8192_3_2_12_1_0_0 none (xP p) (xV v)
/-- What the softmax's denominator takes of it. -/
def xN (G E : FVec Ideal S8x1x8192x8192 .f32) (L : FVec Ideal S8x1x8192x1 .f32) : FVec Ideal S8x1x8192 .f32 :=
  broadcastInDim S8x1x8192 ![0, 2] bcast_S8x8192_S8x1x8192_0_2
    (Host.reduceAdd (Host.negf (shapeCast S8x1x8192x1 (Host.reduceAdd
      (mulf (mulf G (broadcastInDim S8x1x8192x8192 ![0, 1, 2, 3] bcast_S8x1x8192x1_S8x1x8192x8192_0_1_2_3
        (Host.divf (broadcastInDim S8x1x8192x1 ![] bcast_S_S8x1x8192x1 (constant S_ .f32 0x3F800000#32)) (mulf L L)))) E)
      (constant S_ .f32 0x00000000#32) reducesTo_S8x1x8192x8192_S8x1x8192_d3 h_S_ : FVec Ideal S8x1x8192 .f32) shapeCasts_S8x1x8192_S8x1x8192x1))
    (constant S_ .f32 0x00000000#32) reducesTo_S8x1x8192x1_S8x8192_d1_3 h_S_ : FVec Ideal S8x8192 .f32)
/-- The gradient of the scores before the scale. -/
def xD (G E : FVec Ideal S8x1x8192x8192 .f32) (L : FVec Ideal S8x1x8192x1 .f32) (N : FVec Ideal S8x1x8192 .f32) : FVec Ideal S8x1x8192x8192 .f32 :=
  mulf (mulf (addf (Host.divf G (broadcastInDim S8x1x8192x8192 ![0, 1, 2, 3] bcast_S8x1x8192x1_S8x1x8192x8192_0_1_2_3 L))
      (broadcastInDim S8x1x8192x8192 ![0, 1, 2] bcast_S8x1x8192_S8x1x8192x8192_0_1_2 N)) E)
    (broadcastInDim S8x1x8192x8192 ![] bcast_S_S8x1x8192x8192 (constant S_ .f32 0x3DD105EC#32))
/-- The three results. -/
def toQ (D : FVec Ideal S8x1x8192x8192 .f32) : FVec Ideal S8192x1024 .f32 :=
  shapeCast S8192x1024 (transpose S8192x8x128 [1, 0, 2] (shapeCast S8x8192x128
    (Host.dotGeneral dot_S8x1x8192x8192_S8x8192x128_S8x1x8192x128_3_1_12_2_0_0 none D (xK k)) shapeCasts_S8x1x8192x128_S8x8192x128
      : FVec Ideal S8x8192x128 .f32) transposes_S8x8192x128_S8192x8x128_1_0_2) shapeCasts_S8192x8x128_S8192x1024
def tilesOfK (t : FVec Ideal S8x8192x128 .f32) : FVec Ideal S4x16x256x512 .f32 :=
  transpose S4x16x256x512 [2, 0, 3, 1] (shapeCast S16x512x4x256 (shapeCast S8192x1024
    (transpose S8192x8x128 [1, 0, 2] t transposes_S8x8192x128_S8192x8x128_1_0_2) shapeCasts_S8192x8x128_S8192x1024 : FVec Ideal S8192x1024 .f32)
      shapeCasts_S8192x1024_S16x512x4x256) transposes_S16x512x4x256_S4x16x256x512_2_0_3_1
def tilesOfV (t : FVec Ideal S8x8192x64 .f32) : FVec Ideal S4x16x128x512 .f32 :=
  transpose S4x16x128x512 [2, 0, 3, 1] (shapeCast S16x512x4x128 (shapeCast S8192x512
    (transpose S8192x8x64 [1, 0, 2] t transposes_S8x8192x64_S8192x8x64_1_0_2) shapeCasts_S8192x8x64_S8192x512 : FVec Ideal S8192x512 .f32)
      shapeCasts_S8192x512_S16x512x4x128) transposes_S16x512x4x128_S4x16x128x512_2_0_3_1
def toK (D : FVec Ideal S8x1x8192x8192 .f32) : FVec Ideal S8x8192x128 .f32 :=
  Host.dotGeneral dot_S8x1x8192x8192_S8x1x8192x128_S8x8192x128_12_12_3_3_0_0 none D (xQ q)
def toV (E : FVec Ideal S8x1x8192x8192 .f32) (L : FVec Ideal S8x1x8192x1 .f32) : FVec Ideal S8x8192x64 .f32 :=
  transpose S8x8192x64 [0, 2, 1] (Host.dotGeneral dot_S8x1x8192x64_S8x1x8192x8192_S8x64x8192_12_12_3_3_0_0 none (xP p)
    (Host.divf E (broadcastInDim S8x1x8192x8192 ![0, 1, 2, 3] bcast_S8x1x8192x1_S8x1x8192x8192_0_1_2_3 L))) transposes_S8x64x8192_S8x8192x64_0_2_1

theorem xS_at (h : Fin 8) (s j : Fin 8192) :
    xS q k (ix4 h 0 s j) = (∑ d : Fin 128, q (ix2 s (⟨h.val * 128 + d.val, by omega⟩ : Fin 1024))
      * k (ix2 j (⟨h.val * 128 + d.val, by omega⟩ : Fin 1024))) * Ideal.ofBits .f32 0x3DD105EC#32 := by
  unfold xS xQ xK
  pointwise []
theorem max_at (R : FVec Ideal S8x1x8192 .f32) (h : Fin 8) (s : Fin 8192) :
    (broadcastInDim S8x1x8192x1 ![0, 1, 2] bcast_S8x1x8192_S8x1x8192x1_0_1_2
      (maximumf (broadcastInDim S8x1x8192 ![] bcast_S_S8x1x8192 (constant S_ .f32 0xFF800000#32)) R)
        : FVec Ideal S8x1x8192x1 .f32) (ix4 h 0 s 0)
      = max (Ideal.ofBits .f32 0xFF800000#32) (R (ix3 h 0 s)) := by
  pointwise []
theorem fold_at (S : FVec Ideal S8x1x8192x8192 .f32) (h : Fin 8) (s : Fin 8192) :
    (Host.reduce FloatOps.maximumf S (constant S_ .f32 0xFF800000#32) reducesTo_S8x1x8192x8192_S8x1x8192_d3 h_S_
        : FVec Ideal S8x1x8192 .f32) (ix3 h 0 s)
      = Finset.fold max (Ideal.ofBits .f32 0xFF800000#32) (fun j => S (ix4 h 0 s j)) Finset.univ := by
  pointwise []
theorem exp_at (S : FVec Ideal S8x1x8192x8192 .f32) (M : FVec Ideal S8x1x8192x1 .f32) (h : Fin 8) (s j : Fin 8192) :
    Host.exp (subf S (broadcastInDim S8x1x8192x8192 ![0, 1, 2, 3] bcast_S8x1x8192x1_S8x1x8192x8192_0_1_2_3 M)) (ix4 h 0 s j)
      = Ideal.exp (S (ix4 h 0 s j) - M (ix4 h 0 s 0)) := by
  pointwise []
theorem sum_at (S : FVec Ideal S8x1x8192x8192 .f32) (h : Fin 8) (s : Fin 8192) :
    (broadcastInDim S8x1x8192x1 ![0, 1, 2] bcast_S8x1x8192_S8x1x8192x1_0_1_2
      (Host.reduceAdd S (constant S_ .f32 0x00000000#32) reducesTo_S8x1x8192x8192_S8x1x8192_d3 h_S_)
        : FVec Ideal S8x1x8192x1 .f32) (ix4 h 0 s 0) = ∑ j : Fin 8192, S (ix4 h 0 s j) := by
  pointwise []
theorem xG_at (h : Fin 8) (s j : Fin 8192) :
    xG v p (ix4 h 0 s j) = ∑ d : Fin 64, p (ix2 s (⟨h.val * 64 + d.val, by omega⟩ : Fin 512))
      * v (ix2 j (⟨h.val * 64 + d.val, by omega⟩ : Fin 512)) := by
  unfold xG xP xV
  pointwise []
/-- A sum over two axes of length one. -/
theorem sum_ones (X : FVec Ideal S8x1x8192x1 .f32) (init : EReal) (h : Fin 8) (s : Fin 8192) :
    Ideal.hostReduceAdd reducesTo_S8x1x8192x1_S8x8192_d1_3 X init (ix2 h s) = init + X (ix4 h 0 s 0) := by
  unfold Ideal.hostReduceAdd
  have e : Finset.univ.filter (fun i => reducesTo_S8x1x8192x1_S8x8192_d1_3.drop i = ix2 h s) = {(ix4 h 0 s 0 : S8x1x8192x1.Idx)} := by
    ext i
    simp only [Finset.mem_filter, Finset.mem_univ, true_and, Finset.mem_singleton]
    have v0 : (reducesTo_S8x1x8192x1_S8x8192_d1_3.drop i 0 : Nat) = i 0 := Shape.ReducesTo.drop_apply_val _ i 0
    have v1 : (reducesTo_S8x1x8192x1_S8x8192_d1_3.drop i 1 : Nat) = i 2 := Shape.ReducesTo.drop_apply_val _ i 1
    have u1 : (i 1 : Nat) < 1 := (i 1).isLt
    have u3 : (i 3 : Nat) < 1 := (i 3).isLt
    constructor
    · intro hd
      rw [hd] at v0 v1
      funext a
      apply Fin.ext
      fin_cases a
      · exact v0.symm
      · exact Nat.lt_one_iff.mp u1
      · exact v1.symm
      · exact Nat.lt_one_iff.mp u3
    · intro hi
      subst hi
      funext b
      apply Fin.ext
      fin_cases b
      · exact v0
      · exact v1
  rw [e, Finset.sum_singleton]
theorem xN_at (G E : FVec Ideal S8x1x8192x8192 .f32) (L : FVec Ideal S8x1x8192x1 .f32) (h : Fin 8) (s : Fin 8192) :
    xN G E L (ix3 h 0 s) = -∑ j : Fin 8192, G (ix4 h 0 s j)
      * Ideal.div 1 (L (ix4 h 0 s 0) * L (ix4 h 0 s 0)) * E (ix4 h 0 s j) := by
  unfold xN
  pointwise []
  refine (sum_ones _ _ h s).trans ?_
  pointwise []

theorem xD_at (G E : FVec Ideal S8x1x8192x8192 .f32) (L : FVec Ideal S8x1x8192x1 .f32) (N : FVec Ideal S8x1x8192 .f32) (h : Fin 8) (s j : Fin 8192) :
    xD G E L N (ix4 h 0 s j) = (Ideal.div (G (ix4 h 0 s j)) (L (ix4 h 0 s 0)) + N (ix3 h 0 s)) * E (ix4 h 0 s j)
      * Ideal.ofBits .f32 0x3DD105EC#32 := by
  unfold xD
  pointwise []
theorem toQ_at (D : FVec Ideal S8x1x8192x8192 .f32) (s : Fin 8192) (x : Fin 1024) :
    toQ k D (ix2 s x) = ∑ j : Fin 8192, D (ix4 (⟨x.val / 128, by omega⟩ : Fin 8) 0 s j)
      * k (ix2 j x) := by
  unfold toQ xK
  pointwise []
theorem tilesOfK_at (t : FVec Ideal S8x8192x128 .f32) (g : Fin 4) (b : Fin 16) (x : Fin 256) (j : Fin 512) :
    tilesOfK t (ix4 g b x j) = t (ix3 (⟨g.val * 2 + x.val / 128, by omega⟩ : Fin 8) (⟨b.val * 512 + j.val, by omega⟩ : Fin 8192)
      (⟨x.val % 128, by omega⟩ : Fin 128)) := by
  unfold tilesOfK
  pointwise []
theorem tilesOfV_at (t : FVec Ideal S8x8192x64 .f32) (g : Fin 4) (b : Fin 16) (x : Fin 128) (j : Fin 512) :
    tilesOfV t (ix4 g b x j) = t (ix3 (⟨g.val * 2 + x.val / 64, by omega⟩ : Fin 8) (⟨b.val * 512 + j.val, by omega⟩ : Fin 8192)
      (⟨x.val % 64, by omega⟩ : Fin 64)) := by
  unfold tilesOfV
  pointwise []
theorem toK_at (D : FVec Ideal S8x1x8192x8192 .f32) (h : Fin 8) (j : Fin 8192) (d : Fin 128) :
    toK q D (ix3 h j d) = ∑ r : Fin 1, ∑ s : Fin 8192, D (ix4 h r s j)
      * q (ix2 s (⟨h.val * 128 + d.val, by omega⟩ : Fin 1024)) := by
  unfold toK xQ
  pointwise []
theorem toV_at (E : FVec Ideal S8x1x8192x8192 .f32) (L : FVec Ideal S8x1x8192x1 .f32) (h : Fin 8) (j : Fin 8192) (d : Fin 64) :
    toV p E L (ix3 h j d) = ∑ r : Fin 1, ∑ s : Fin 8192, p (ix2 s (⟨h.val * 64 + d.val, by omega⟩ : Fin 512))
      * Ideal.div (E (ix4 h r s j)) (L (ix4 h 0 s 0)) := by
  unfold toV xP
  pointwise []
end

/-- The stages together. -/
abbrev allD (q k : FVec Ideal S8192x1024 .f32) (v p : FVec Ideal S8192x512 .f32) : FVec Ideal S8x1x8192x8192 .f32 :=
  xD (xG v p) (xE q k) (xL q k) (xN (xG v p) (xE q k) (xL q k))

variable (m : (ℓ : Loc nD τ sig) → Buf (Elt Ideal) ℓ) (c : Dev nD)
abbrev refQ : FVec Ideal S8192x1024 .f32 := m ((c.tc : Thread nD τ).loc main_arg0)
abbrev refK : FVec Ideal S8192x1024 .f32 := m ((c.tc : Thread nD τ).loc main_arg1)
abbrev refV : FVec Ideal S8192x512 .f32 := m ((c.tc : Thread nD τ).loc main_arg2)
abbrev refP : FVec Ideal S8192x512 .f32 := m ((c.tc : Thread nD τ).loc main_arg3)

/-- The results of the reference are those stages of its arguments. -/
theorem out0_eq : Value.res_out0 m c = toQ (refK m c) (allD (refQ m c) (refK m c) (refV m c) (refP m c)) := rfl
theorem out1_eq : Value.res_out1 m c = tilesOfK (toK (refQ m c) (allD (refQ m c) (refK m c) (refV m c) (refP m c))) := rfl
end Cert.Mla.Plain
end
-- ==== Proof.MlaPlainReals.lean ====
module
public import proofs.«01_k».proof.Proof.MlaPlain
public import proofs.«01_k».proof.Proof.PlainReals
/-! The latent attention reference's results for real arguments. -/
@[expose] public section
set_option maxRecDepth 16384
noncomputable section
namespace Cert.Mla
open Cert.LatentReferenceIdeal Cert.LatentReferenceIdeal.Gen
open Idealize.ShloMosaic Idealize.ShloMosaic.TcCoe Idealize.ShloMosaic.Tactic
open Cert.Attn (row coe_total coe_dot total_pos shift power row_real exp_real grad_score coe_max two lowest log_pos div_pos)

/-- Column `d` of head `h`, as the reference counts it. -/
theorem cq_mul (h : Fin 8) (d : Fin 128) : (⟨h.val * 128 + d.val, by omega⟩ : Fin 1024) = cq h d := Fin.ext (by simp; omega)
theorem cv_mul (h : Fin 8) (d : Fin 64) : (⟨h.val * 64 + d.val, by omega⟩ : Fin 512) = cv h d := Fin.ext (by simp; omega)

section
variable (q k : Fin 8192 → Fin 1024 → ℝ) (v p : Fin 8192 → Fin 512 → ℝ)
  (Q K : FVec Ideal S8192x1024 .f32) (W P : FVec Ideal S8192x512 .f32)
  (hQ : ∀ s x, Q (ix2 s x) = ((q s x : ℝ) : EReal))
  (hK : ∀ j y, K (ix2 j y) = ((k j y : ℝ) : EReal))
  (hW : ∀ j y, W (ix2 j y) = ((v j y : ℝ) : EReal))
  (hP : ∀ s x, P (ix2 s x) = ((p s x : ℝ) : EReal))

include hQ hK in
theorem xS_real (h : Fin 8) (s j : Fin 8192) : Plain.xS Q K (ix4 h 0 s j) = ((rS q k h s j : ℝ) : EReal) := by
  rw [Plain.xS_at]
  simp only [cq_mul, hQ, hK]
  rw [coe_dot, scale, ← EReal.coe_mul]
  rfl

include hQ hK in
theorem soft_real (h : Fin 8) (s : Fin 8192) : ∃ M : ℝ,
    (∀ j, Plain.xE Q K (ix4 h 0 s j) = ((Real.exp (rS q k h s j - M) : ℝ) : EReal))
    ∧ Plain.xL Q K (ix4 h 0 s 0) = ((∑ j, Real.exp (rS q k h s j - M) : ℝ) : EReal) := by
  obtain ⟨M, hM⟩ := row_real fun j => rS q k h s j
  have hM' : Plain.xM Q K (ix4 h 0 s 0) = (M : EReal) := by
    refine (Plain.max_at _ h s).trans ?_
    rw [Plain.fold_at]
    simp only [xS_real q k Q K hQ hK]
    rw [hM, lowest]
    exact max_eq_right bot_le
  have hE : ∀ j, Plain.xE Q K (ix4 h 0 s j) = ((Real.exp (rS q k h s j - M) : ℝ) : EReal) := fun j => by
    refine (Plain.exp_at _ _ h s j).trans ?_
    rw [hM', xS_real q k Q K hQ hK, exp_real]
  refine ⟨M, hE, (Plain.sum_at _ h s).trans ?_⟩
  simp only [hE]
  exact coe_total _ _

include hW hP in
theorem xG_real (h : Fin 8) (s j : Fin 8192) : Plain.xG W P (ix4 h 0 s j) = ((rG v p h s j : ℝ) : EReal) := by
  rw [Plain.xG_at]
  simp only [cv_mul, hW, hP]
  rw [coe_dot]
  rfl

include hQ hK hW hP in
theorem allD_real (h : Fin 8) (s j : Fin 8192) :
    Plain.allD Q K W P (ix4 h 0 s j) = ((rD q k v p h s j * (scl) : ℝ) : EReal) := by
  obtain ⟨M, hE, hL⟩ := soft_real q k Q K hQ hK h s
  have h0 := total_pos (fun i => rS q k h s i) M
  have h1 : (∑ i, Real.exp (rS q k h s i - M)) * (∑ i, Real.exp (rS q k h s i - M)) ≠ 0 := (mul_pos h0 h0).ne'
  refine (Plain.xD_at _ _ _ _ h s j).trans ?_
  rw [Plain.xN_at, hL]
  simp only [hE, xG_real v p W P hW hP, ← EReal.coe_mul]
  rw [← EReal.coe_one, div_pos h1, div_pos h0.ne']
  simp only [← EReal.coe_mul]
  rw [coe_total, ← EReal.coe_neg, ← EReal.coe_add, scale, ← EReal.coe_mul, ← EReal.coe_mul]
  congr 2
  refine (grad_score (fun i => rG v p h s i) (fun i => Real.exp (rS q k h s i - M)) _ h0.ne' j).trans ?_
  simp only [shift (fun i => rS q k h s i) M]
  rfl

include hQ hK hW hP in
/-- The queries' gradient. -/
theorem toQ_real (s : Fin 8192) (x : Fin 1024) :
    Plain.toQ K (Plain.allD Q K W P) (ix2 s x) = ((rQ q k v p s x : ℝ) : EReal) := by
  rw [Plain.toQ_at]
  simp only [allD_real q k v p Q K W P hQ hK hW hP, hK]
  rw [coe_dot]
  congr 1
  unfold rQ
  rw [Finset.sum_mul]
  have ek : x = cq (hOf x) (dOf x) := Fin.ext (by simp; omega)
  rw [← ek]
  exact Finset.sum_congr rfl fun j _ => by ring

theorem head_tileK (g : Fin 4) (x : Fin 256) : (⟨g.val * 2 + x.val / 128, by omega⟩ : Fin 8) = tHK g x := Fin.ext (by simp; omega)
theorem head_tileV (g : Fin 4) (x : Fin 128) : (⟨g.val * 2 + x.val / 64, by omega⟩ : Fin 8) = tHV g x := Fin.ext (by simp; omega)
theorem row_tile (b : Fin 16) (j : Fin 512) : (⟨b.val * 512 + j.val, by omega⟩ : Fin 8192) = row b j :=
  Fin.ext (by simp; omega)

include hQ hK hW hP in
/-- The keys' gradient. -/
theorem toK_real (g : Fin 4) (b : Fin 16) (x : Fin 256) (j : Fin 512) :
    Plain.tilesOfK (Plain.toK Q (Plain.allD Q K W P)) (ix4 g b x j) = ((rK q k v p g b x j : ℝ) : EReal) := by
  rw [Plain.tilesOfK_at, Plain.toK_at, Fin.sum_univ_one, head_tileK, row_tile, cq_mul]
  simp only [allD_real q k v p Q K W P hQ hK hW hP, hQ, coe_dot]
  congr 1
  unfold rK
  rw [Finset.sum_mul]
  exact Finset.sum_congr rfl fun s _ => by ring

include hQ hK in
theorem prob_real (h : Fin 8) (s j : Fin 8192) :
    Ideal.div (Plain.xE Q K (ix4 h 0 s j)) (Plain.xL Q K (ix4 h 0 s 0)) = ((rP q k h s j : ℝ) : EReal) := by
  obtain ⟨M, hE, hL⟩ := soft_real q k Q K hQ hK h s
  have h0 := total_pos (fun i => rS q k h s i) M
  rw [hE, hL, div_pos h0.ne', shift (fun i => rS q k h s i) M]
  rfl

include hQ hK hP in
/-- The values' gradient. -/
theorem toV_real (g : Fin 4) (b : Fin 16) (x : Fin 128) (j : Fin 512) :
    Plain.tilesOfV (Plain.toV P (Plain.xE Q K) (Plain.xL Q K)) (ix4 g b x j) = ((rV q k p g b x j : ℝ) : EReal) := by
  rw [Plain.tilesOfV_at, Plain.toV_at, Fin.sum_univ_one, head_tileV, row_tile, cv_mul]
  simp only [prob_real q k Q K hQ hK, hP, coe_dot]
  rfl
end
end Cert.Mla
end
-- ==== Proof.MlaHostReals.lean ====
module
public import proofs.«01_k».proof.Proof.MlaHost
public import proofs.«01_k».proof.Proof.MlaPlainReals
/-! What the latent attention's call is given and what it leaves, for real arguments. -/
@[expose] public section
set_option maxRecDepth 16384
noncomputable section
namespace Cert.Mla
open Cert.LatentIdeal Cert.LatentIdeal.Gen
open Idealize.ShloMosaic Idealize.ShloMosaic.TcCoe Idealize.ShloMosaic.Tactic
open Cert.Attn (row coe_total coe_dot total_pos shift power row_real exp_real grad_score coe_max two lowest log_pos div_pos)

section
variable (q k : Fin 8192 → Fin 1024 → ℝ) (v p : Fin 8192 → Fin 512 → ℝ)
  (A B : FVec Ideal S8192x1024 .f32) (C : FVec Ideal S8192x512 .f32)
  (hA : ∀ s x, A (ix2 s x) = ((q s x : ℝ) : EReal))
  (hB : ∀ j y, B (ix2 j y) = ((k j y : ℝ) : EReal))
  (hC : ∀ j y, C (ix2 j y) = ((v j y : ℝ) : EReal))

include hA hB in
theorem hS_real (h : Fin 8) (s j : Fin 8192) : hS A B (ix4 h 0 s j) = ((rS q k h s j : ℝ) : EReal) := by
  rw [hS_at]
  simp only [cq_mul, hA, hB]
  rw [coe_dot, scale, ← EReal.coe_mul]
  rfl

include hA hB in
theorem host_real (h : Fin 8) (s : Fin 8192) : ∃ M : ℝ,
    hM A B (ix4 h 0 s 0) = (M : EReal)
    ∧ (∀ j, hE A B (ix4 h 0 s j) = ((Real.exp (rS q k h s j - M) : ℝ) : EReal))
    ∧ hL A B (ix4 h 0 s 0) = ((∑ j, Real.exp (rS q k h s j - M) : ℝ) : EReal) := by
  obtain ⟨M, hM'⟩ := row_real fun j => rS q k h s j
  have hM1 : hM A B (ix4 h 0 s 0) = (M : EReal) := by
    rw [hM_at]
    simp only [hS_real q k A B hA hB]
    exact hM'
  have hE1 : ∀ j, hE A B (ix4 h 0 s j) = ((Real.exp (rS q k h s j - M) : ℝ) : EReal) := fun j => by
    rw [hE_at, hM1, hS_real q k A B hA hB, exp_real]
  refine ⟨M, hM1, hE1, (hL_at A B h s).trans ?_⟩
  simp only [hE1]
  exact coe_total _ _

include hA hB hC in
theorem hO_real (h : Fin 8) (s : Fin 8192) (d : Fin 64) :
    hO A B C (ix4 h 0 s d) = ((rO q k v h s d : ℝ) : EReal) := by
  obtain ⟨M, -, hE1, hL1⟩ := host_real q k A B hA hB h s
  have h0 := total_pos (fun i => rS q k h s i) M
  rw [hO_at]
  simp only [hE1, hL1, div_pos h0.ne', cv_mul, hC, coe_dot, shift (fun i => rS q k h s i) M]
  rfl

include hA hB in
theorem hLse_real (h : Fin 8) (s : Fin 8192) : ∃ M : ℝ,
    hLse A B (ix4 h 0 s 0) = (((M + Real.log (∑ i, Real.exp (rS q k h s i - M))) / Real.log 2 : ℝ) : EReal) := by
  obtain ⟨M, hM1, -, hL1⟩ := host_real q k A B hA hB h s
  have h0 := total_pos (fun i => rS q k h s i) M
  have h2 : Real.log 2 ≠ 0 := (Real.log_pos (by norm_num)).ne'
  refine ⟨M, ?_⟩
  rw [hLse_at, hM1, hL1, log_pos h0, two, log_pos (by norm_num), ← EReal.coe_add, div_pos h2]

include hA in
theorem scaled_real (s : Fin 8192) (x : Fin 1024) :
    ((truncf .bf16 (mulf A (broadcastInDim S8192x1024 ![] bcast_S_S8192x1024
          (Host.divf (constant S_ .f32 0x3DD105EC#32) (Host.log (constant S_ .f32 0x40000000#32))))) bitsLt_bf16_f32
        : FVec Ideal S8192x1024 .bf16) (ix2 s x) : EReal) = ((q s x * (scl / Real.log 2) : ℝ) : EReal) := by
  have h2 : Real.log 2 ≠ 0 := (Real.log_pos (by norm_num)).ne'
  rw [scaled_at, hA, scale, two, log_pos (by norm_num), div_pos h2, ← EReal.coe_mul]

end

section
variable (m : (ℓ : Loc nD τ sig) → Buf (Elt Ideal) ℓ) (c : Dev nD)
  (q k : Fin 8192 → Fin 1024 → ℝ) (v p : Fin 8192 → Fin 512 → ℝ)
  (hA : ∀ s x, argQ m c (ix2 s x) = ((q s x : ℝ) : EReal))
  (hB : ∀ j y, argK m c (ix2 j y) = ((k j y : ℝ) : EReal))
  (hC : ∀ j y, argV m c (ix2 j y) = ((v j y : ℝ) : EReal))
  (hD : ∀ s x, argP m c (ix2 s x) = ((p s x : ℝ) : EReal))

include hA in
theorem inQ_real (s : Fin 8192) (x : Fin 1024) : inQ m c (ix2 s x) = ((q s x * (scl / Real.log 2) : ℝ) : EReal) :=
  (congrArg (fun z => z (ix2 s x)) (inQ_eq m c)).trans (scaled_real q _ hA s x)
include hB in
theorem inK_real (j : Fin 8192) (y : Fin 1024) : inK m c (ix2 j y) = ((k j y : ℝ) : EReal) :=
  (congrArg (fun z => z (ix2 j y)) (inK_eq m c)).trans (hB j y)
include hC in
theorem inV_real (j : Fin 8192) (y : Fin 512) : inV m c (ix2 j y) = ((v j y : ℝ) : EReal) :=
  (congrArg (fun z => z (ix2 j y)) (inV_eq m c)).trans (hC j y)
include hD in
theorem inP_real (s : Fin 8192) (x : Fin 512) : inP m c (ix2 s x) = ((p s x : ℝ) : EReal) :=
  (congrArg (fun z => z (ix2 s x)) (inP_eq m c)).trans (hD s x)
include hA hB hC in
theorem inO_real (s : Fin 8192) (h : Fin 8) (d : Fin 64) : inO m c (ix2 s (cv h d)) = ((rO q k v h s d : ℝ) : EReal) := by
  have e1 : (⟨(cv h d).val / 64, by omega⟩ : Fin 8) = h := Fin.ext (by simp; omega)
  have e2 : (⟨(cv h d).val % 64, by omega⟩ : Fin 64) = d := Fin.ext (by simp)
  refine (congrArg (fun z => z (ix2 s (cv h d))) (inO_eq m c)).trans ((flat_at _ s (cv h d)).trans ?_)
  refine (hO_real q k v _ _ _ hA hB hC _ s _).trans ?_
  exact congrArg₂ (fun y z => ((rO q k v y s z : ℝ) : EReal)) e1 e2
include hA hB in
theorem inL_real (h : Fin 8) (s : Fin 8192) : ∃ M : ℝ,
    inL m c (ix3 (grp h) s (plc h))
      = (((M + Real.log (∑ i, Real.exp (rS q k h s i - M))) / Real.log 2 : ℝ) : EReal) := by
  obtain ⟨M, hM'⟩ := hLse_real q k _ _ hA hB h s
  refine ⟨M, ?_⟩
  refine (congrArg (fun z => z (ix3 (grp h) s (plc h))) (inL_eq m c)).trans ((group_at _ (grp h) s (plc h)).trans (Eq.trans ?_ hM'))
  exact congrArg (fun y => hLse (argQ m c) (argK m c) (ix4 y 0 s 0)) (Fin.ext (by simp; omega))

include hA hB hC hD in
/-- The three results. -/
theorem gradQ_real (s : Fin 8192) (x : Fin 1024) :
    gradQ m c (ix2 s x) * Ideal.ofBits .f32 0x3DD105EC#32 = ((rQ q k v p s x : ℝ) : EReal) := by
  rw [scale]
  exact aQ_real q k v p _ _ _ _ _ _ (inQ_real m c q hA) (inK_real m c k hB) (inV_real m c v hC) (inP_real m c p hD)
    (inO_real m c q k v hA hB hC) (inL_real m c q k hA hB) s x
include hA hB hC hD in
theorem tilesK_real (g : Fin 4) (b : Fin 16) (x : Fin 256) (j : Fin 512) :
    tilesK m c (ix4 g b x j) * Ideal.log (Ideal.ofBits .f32 0x40000000#32) = ((rK q k v p g b x j : ℝ) : EReal) := by
  rw [two, log_pos (by norm_num)]
  exact aK_real q k v p _ _ _ _ _ _ (inQ_real m c q hA) (inK_real m c k hB) (inV_real m c v hC) (inP_real m c p hD)
    (inO_real m c q k v hA hB hC) (inL_real m c q k hA hB) g b x j
include hA hB hD in
theorem tilesV_real (g : Fin 4) (b : Fin 16) (x : Fin 128) (j : Fin 512) :
    tilesV m c (ix4 g b x j) = ((rV q k p g b x j : ℝ) : EReal) :=
  aV_real q k p _ _ _ _ (inQ_real m c q hA) (inK_real m c k hB) (inP_real m c p hD) (inL_real m c q k hA hB) g b x j
end
end Cert.Mla
end
-- ==== Proof.MlaResults.lean ====
module
public import proofs.«01_k».proof.Proof.MlaHostReals
import Idealize.ShloMosaic.Lib.Pointwise
/-! What the latent attention's program leaves in its result arrays. -/
@[expose] public section
set_option maxRecDepth 16384
noncomputable section
namespace Cert.Mla
open Cert.LatentIdeal Cert.LatentIdeal.Gen
open Idealize.ShloMosaic Idealize.ShloMosaic.TcCoe Idealize.ShloMosaic.Tactic Idealize.ShloMosaic.StableHlo Idealize.SL.Sem

variable (m : (ℓ : Loc nD τ sig) → Buf (Elt Ideal) ℓ) (ρ : Dev nD → PrngReg) (c : Dev nD)

/-- No two of the call's arrays are the same. -/
theorem arrays_differ : Function.Injective (Pipeline.arrRef spec0) := by decide

/-- The memory that the host's last lines find. -/
abbrev left : Valuation τ sig (Elt Ideal) := Pipeline.withArrays spec0 c (V0 m c) fun w => (dats m 0 c).arrAt w cfg0.N

theorem left_6 : left m c (Proc.devRef .tc main_v39_0) = gradQ m c :=
  (Pipeline.withArrays_arr spec0 arrays_differ c (V0 m c) (fun w => (dats m 0 c).arrAt w cfg0.N) 6).trans (final_6 m c)
theorem left_7 : left m c (Proc.devRef .tc main_v39_1) = tilesK m c :=
  (Pipeline.withArrays_arr spec0 arrays_differ c (V0 m c) (fun w => (dats m 0 c).arrAt w cfg0.N) 7).trans (final_7 m c)

/-- The queries' gradient, scaled. -/
def outQ (t : FVec Ideal S8192x1024 .f32) : FVec Ideal S8192x1024 .f32 :=
  mulf t (broadcastInDim S8192x1024 ![] bcast_S_S8192x1024 (constant S_ .f32 0x3DD105EC#32))
/-- The keys' gradient, scaled. -/
def outK (t : FVec Ideal S4x16x256x512 .f32) : FVec Ideal S4x16x256x512 .f32 :=
  mulf t (broadcastInDim S4x16x256x512 ![] bcast_S_S4x16x256x512 (Host.log (constant S_ .f32 0x40000000#32)))

theorem outQ_at (t : FVec Ideal S8192x1024 .f32) (s : Fin 8192) (x : Fin 1024) :
    outQ t (ix2 s x) = t (ix2 s x) * Ideal.ofBits .f32 0x3DD105EC#32 := by
  unfold outQ
  pointwise []
theorem outK_at (t : FVec Ideal S4x16x256x512 .f32) (g : Fin 4) (b : Fin 16) (x : Fin 256) (j : Fin 512) :
    outK t (ix4 g b x j) = t (ix4 g b x j) * Ideal.log (Ideal.ofBits .f32 0x40000000#32) := by
  unfold outK
  pointwise []

theorem tail_41 : Pipeline.afterTail₀ cfgs (dats m) 0 (V0 m) [hostOps1] c main_v41 = outQ (gradQ m c) := by
  refine Eq.trans ?_ (congrArg outQ (left_6 m c))
  show StableHlo.after (hostOps1 (F := Ideal)) (left m c) (Proc.devRef .tc main_v41) = _
  generalize left m c = W
  after_results
  rfl
theorem tail_44 : Pipeline.afterTail₀ cfgs (dats m) 0 (V0 m) [hostOps1] c main_v44 = outK (tilesK m c) := by
  refine Eq.trans ?_ (congrArg outK (left_7 m c))
  show StableHlo.after (hostOps1 (F := Ideal)) (left m c) (Proc.devRef .tc main_v44) = _
  generalize left m c = W
  after_results
  rfl

/-- The program runs and leaves its three results and its arguments as follows. -/
theorem program_run : θ_run defs (onTc (τ := τ) (main (F := Ideal))) ⟨m, fun _ => 0, ρ⟩ (fun r => ∀ c : Dev nD,
      r.2.mem ((c.tc : Thread nD τ).loc main_v41) = outQ (gradQ m c)
      ∧ r.2.mem ((c.tc : Thread nD τ).loc main_v44) = outK (tilesK m c)
      ∧ r.2.mem ((c.tc : Thread nD τ).loc main_v39_2) = tilesV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v41 (Pipeline.mem_restRefs_of main_v41 (by decide) (by decide))).trans (tail_41 m c),
      ((h c).2 main_v44 (Pipeline.mem_restRefs_of main_v44 (by decide) (by decide))).trans (tail_44 m c),
      ((h c).1 8).trans (final_8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)
end Cert.Mla
end
-- ==== Proof.MlaFinite.lean ====
module
public import proofs.«01_k».proof.Proof.Finite
public import proofs.«01_k».proof.Pre_finite_latent
import Idealize.ShloMosaic.Lib.Pointwise
/-! What the latent attention's precondition says: every element of an argument is a real. -/
@[expose] public section
set_option maxRecDepth 16384
noncomputable section
namespace Cert.Mla
open Cert.Pre_finite_latent
open Idealize.ShloMosaic Idealize.ShloMosaic.TcCoe Idealize.ShloMosaic.Tactic Idealize.ShloMosaic.StableHlo
open Cert.Attn (less_bit)

theorem pre_facts : Cert.Pre_finite_latent.Facts := ⟨by decide, by decide⟩

theorem bits_wide (hb : S_.BroadcastsInDim S8192x1024 (![] : Fin 0 → Fin S8192x1024.rank)) (a : FVec Ideal S8192x1024 .f32)
    (s : Fin 8192) (x : Fin 1024) :
    cmpf .olt (Host.absf a) (broadcastInDim S8192x1024 ![] hb (constant S_ .f32 0x7F800000#32)) (ix2 s x)
      = BitVec.ofBool (decide (FloatOps.absf (a (ix2 s x)) < Ideal.ofBits .f32 0x7F800000#32)) := by
  pointwise []
theorem bits_narrow (hb : S_.BroadcastsInDim S8192x512 (![] : Fin 0 → Fin S8192x512.rank)) (a : FVec Ideal S8192x512 .f32)
    (s : Fin 8192) (x : Fin 512) :
    cmpf .olt (Host.absf a) (broadcastInDim S8192x512 ![] hb (constant S_ .f32 0x7F800000#32)) (ix2 s x)
      = BitVec.ofBool (decide (FloatOps.absf (a (ix2 s x)) < Ideal.ofBits .f32 0x7F800000#32)) := by
  pointwise []

variable [hf : Cert.Pre_finite_latent.Facts] (a b : FVec Ideal S8192x1024 .f32) (d p : FVec Ideal S8192x512 .f32)

/-- The four arguments are real. -/
theorem real_0 (h : (fn (F := Ideal) a b d p).1 = fun _ => 1#1) (s : Fin 8192) (x : Fin 1024) :
    a (ix2 s x) = (((a (ix2 s x) : EReal).toReal : ℝ) : EReal) :=
  less_bit _ ((bits_wide hf.bcast_S_S8192x1024 a s x).symm.trans (congrFun h (ix2 s x)))
theorem real_1 (h : (fn (F := Ideal) a b d p).2.1 = fun _ => 1#1) (s : Fin 8192) (x : Fin 1024) :
    b (ix2 s x) = (((b (ix2 s x) : EReal).toReal : ℝ) : EReal) :=
  less_bit _ ((bits_wide hf.bcast_S_S8192x1024 b s x).symm.trans (congrFun h (ix2 s x)))
theorem real_2 (h : (fn (F := Ideal) a b d p).2.2.1 = fun _ => 1#1) (s : Fin 8192) (x : Fin 512) :
    d (ix2 s x) = (((d (ix2 s x) : EReal).toReal : ℝ) : EReal) :=
  less_bit _ ((bits_narrow hf.bcast_S_S8192x512 d s x).symm.trans (congrFun h (ix2 s x)))
theorem real_3 (h : (fn (F := Ideal) a b d p).2.2.2 = fun _ => 1#1) (s : Fin 8192) (x : Fin 512) :
    p (ix2 s x) = (((p (ix2 s x) : EReal).toReal : ℝ) : EReal) :=
  less_bit _ ((bits_narrow hf.bcast_S_S8192x512 p s x).symm.trans (congrFun h (ix2 s x)))
end Cert.Mla
end
-- ==== Proof.MlaAgree.lean ====
module
public import proofs.«01_k».proof.Proof.MlaResults
public import proofs.«01_k».proof.Proof.MlaFinite
public import proofs.«01_k».proof.Proof.Agree
/-! The latent attention's results and its reference's are the same. -/
@[expose] public section
set_option maxRecDepth 16384
noncomputable section
namespace Cert.Mla
open Idealize.ShloMosaic Idealize.ShloMosaic.TcCoe Idealize.ShloMosaic.Tactic Idealize.SL.Sem
open Cert.Attn (ext2 ext4)

variable (m : (ℓ : Loc Cert.LatentIdeal.nD Cert.LatentIdeal.τ Cert.LatentIdeal.sig) → Buf (Elt Ideal) ℓ)
  (m' : (ℓ : Loc Cert.LatentReferenceIdeal.nD Cert.LatentReferenceIdeal.τ Cert.LatentReferenceIdeal.sig) → Buf (Elt Ideal) ℓ)
  (c : Dev Cert.LatentIdeal.nD)
  (hq : Plain.refQ m' c = argQ m c) (hk : Plain.refK m' c = argK m c) (hv : Plain.refV m' c = argV m c) (hp : Plain.refP m' c = argP m c)
  (rq : ∀ s x, argQ m c (ix2 s x) = (((argQ m c (ix2 s x) : EReal).toReal : ℝ) : EReal))
  (rk : ∀ s x, argK m c (ix2 s x) = (((argK m c (ix2 s x) : EReal).toReal : ℝ) : EReal))
  (rv : ∀ s x, argV m c (ix2 s x) = (((argV m c (ix2 s x) : EReal).toReal : ℝ) : EReal))
  (rp : ∀ s x, argP m c (ix2 s x) = (((argP m c (ix2 s x) : EReal).toReal : ℝ) : EReal))

include hq hk hv hp rq rk rv rp in
/-- The queries' gradient. -/
theorem agree_0 : Cert.LatentReferenceIdeal.Value.res_out0 m' c = outQ (gradQ m c) := by
  rw [Plain.out0_eq, hq, hk, hv, hp]
  exact ext2 _ _ fun s x => (toQ_real _ _ _ _ _ _ _ _ rq rk rv rp s x).trans
    ((outQ_at _ s x).trans (gradQ_real m c _ _ _ _ rq rk rv rp s x)).symm

include hq hk hv hp rq rk rv rp in
/-- The keys' gradient. -/
theorem agree_1 : Cert.LatentReferenceIdeal.Value.res_out1 m' c = outK (tilesK m c) := by
  rw [Plain.out1_eq, hq, hk, hv, hp]
  exact ext4 _ _ fun g b x j => (toK_real _ _ _ _ _ _ _ _ rq rk rv rp g b x j).trans
    ((outK_at _ g b x j).trans (tilesK_real m c _ _ _ _ rq rk rv rp g b x j)).symm

include hq hk hp rq rk rp in
/-- The values' gradient. -/
theorem agree_2 : Plain.tilesOfV (Plain.toV (Plain.refP m' c) (Plain.xE (Plain.refQ m' c) (Plain.refK m' c))
    (Plain.xL (Plain.refQ m' c) (Plain.refK m' c))) = tilesV m c := by
  rw [hq, hk, hp]
  exact ext4 _ _ fun g b x j => (toV_real _ _ _ _ _ _ rq rk rp g b x j).trans (tilesV_real m c _ _ _ rq rk rp g b x j).symm
end Cert.Mla
end
-- ==== Proof.FwdTrip.lean ====
module
public import proofs.«01_k».proof.Proof.Gen.ForwardIdeal.Loops
public import Idealize.ShloMosaic.Lib.WritesUnit
/-! One trip of the forward call's loop over blocks of 512 keys, as a function.

A trip takes four blocks of keys. For each block and each of the two heads it forms the scores, raises the row's number
to the greatest score, and adds the block's weighed values to the sums. Here these steps are named, once for a block and a
head, and the trip's result is shown to be four such steps. -/
@[expose] public section
set_option maxRecDepth 16384
noncomputable section
namespace Cert.Fwd
open Cert.ForwardIdeal Cert.ForwardIdeal.Gen
open Idealize.ShloMosaic Idealize.ShloMosaic.TcCoe Idealize.ShloMosaic.Tactic
variable {F : FTy → Type} [FloatOps F]

/-- The scores of 1024 queries against a block of 512 keys. -/
def scores (q : FVec F S1024x64 .bf16) (kj : Vec F S512x64 .bf16) : FVec F S1024x512 .f32 :=
  matmul dot_S1024x64_S512x64_S1024x512_1_1_0_0_n_n none q (shapeCast S512x64 kj shapeCasts_S512x64_S512x64)
    (constant S1024x512 .f32 0x00000000#32)

/-- Each row's number after a block. -/
def top (m : FVec F S1024x1 .f32) (s : FVec F S1024x512 .f32) : FVec F S1024x1 .f32 :=
  maximumf m (shapeCast S1024x1 (multiReduction .maximumf [1] S1024 s 0xFF800000#32 reduces_S1024x512_S1024 (.inl rfl) rfl)
    shapeCasts_S1024_S1024x1)

/-- The sums after a block. -/
def weighed (m : FVec F S1024x1 .f32) (a : FVec F S1024x128 .f32) (s : FVec F S1024x512 .f32) (va : Vec F S512x128 .bf16) :
    FVec F S1024x128 .f32 :=
  addf (mulf (broadcastTo S1024x128 (exp2 (subf m (top m s))) broadcasts_S1024x1_S1024x128) a)
    (matmul dot_S1024x512_S512x128_S1024x128_1_0_0_1_n_n none
      (truncf .bf16 (exp2 (subf s (broadcastTo S1024x512 (top m s) broadcasts_S1024x1_S1024x512))) bitsLt_bf16_f32) va
      (constant S1024x128 .f32 0x00000000#32))

/-- A block's step. -/
abbrev step (q : FVec F S1024x64 .bf16) (kj : Vec F S512x64 .bf16) (va : Vec F S512x128 .bf16)
    (p : FVec F S1024x1 .f32 × FVec F S1024x128 .f32) : FVec F S1024x1 .f32 × FVec F S1024x128 .f32 :=
  (top p.1 (scores q kj), weighed p.1 p.2 (scores q kj) va)

/-- Four steps. -/
abbrev fourSteps {α : Type} (st : Fin 4 → α → α) (p : α) : α := st 3 (st 2 (st 1 (st 0 p)))

/-- The keys of block `4 k + u`, head 0 and head 1. -/
abbrev key0 (arg3 : Memref sig .tc .vmem S8192x128 .bf16) (X : BufTy.Contents (Elt F) arg3.view.ty)
    (k : Fin k0_t1_loop.trips) (u : Fin 4) : Vec F S512x64 .bf16 :=
  View.readAt (Elt F) arg3.view (Rect.unit (s := S8192x128) (k0_off1 k (BitVec.ofNat 32 u.val)) S512x64.size (k0_off1_inb k u)).toLoadRect X
abbrev key1 (arg3 : Memref sig .tc .vmem S8192x128 .bf16) (X : BufTy.Contents (Elt F) arg3.view.ty)
    (k : Fin k0_t1_loop.trips) (u : Fin 4) : Vec F S512x64 .bf16 :=
  View.readAt (Elt F) arg3.view (Rect.unit (s := S8192x128) (k0_off2 k (BitVec.ofNat 32 u.val)) S512x64.size (k0_off2_inb k u)).toLoadRect X
/-- The widened values of block `4 k + u`, head 0 and head 1. -/
abbrev val0 (arg7 : Memref sig .tc .vmem S8192x256 .bf16) (X : BufTy.Contents (Elt F) arg7.view.ty)
    (k : Fin k0_t1_loop.trips) (u : Fin 4) : Vec F S512x128 .bf16 :=
  View.readAt (Elt F) arg7.view (Rect.unit (s := S8192x256) (k0_off3 k (BitVec.ofNat 32 u.val)) S512x128.size (k0_off3_inb k u)).toLoadRect X
abbrev val1 (arg7 : Memref sig .tc .vmem S8192x256 .bf16) (X : BufTy.Contents (Elt F) arg7.view.ty)
    (k : Fin k0_t1_loop.trips) (u : Fin 4) : Vec F S512x128 .bf16 :=
  View.readAt (Elt F) arg7.view (Rect.unit (s := S8192x256) (k0_off4 k (BitVec.ofNat 32 u.val)) S512x128.size (k0_off4_inb k u)).toLoadRect X

section
variable (𝒱 : Variants) (c : Dev nD) (bd : Option 𝒱.V) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S1x256x8 .f32) (harg6 : arg6.IsWhole) (arg7 : Memref sig .tc .vmem S8192x256 .bf16) (harg7 : arg7.IsWhole) (v3 v5 v7 v9 v12 v14 v16 v18 : Vec F S256x64 .bf16) (X_arg3 : BufTy.Contents (Elt F) arg3.view.ty) (X_arg7 : BufTy.Contents (Elt F) arg7.view.ty) (k : Fin k0_t1_loop.trips) (acc : FVec F S1024x1 .f32 × FVec F S1024x128 .f32 × FVec F S1024x1 .f32 × FVec F S1024x128 .f32)

/-- A trip is four steps of either head. -/
theorem trip_eq :
    (trip_k0_t1 (F := F) 𝒱 c bd i arg2 harg2 arg3 harg3 arg4 harg4 arg5 harg5 arg6 harg6 arg7 harg7 v3 v5 v7 v9 v12 v14 v16 v18 X_arg3 X_arg7 k).1 acc
      = ((fourSteps (fun u => step (k0_pay27 v3 v5 v7 v9) (key0 arg3 X_arg3 k u) (val0 arg7 X_arg7 k u)) (acc.1, acc.2.1)).1,
         (fourSteps (fun u => step (k0_pay27 v3 v5 v7 v9) (key0 arg3 X_arg3 k u) (val0 arg7 X_arg7 k u)) (acc.1, acc.2.1)).2,
         (fourSteps (fun u => step (k0_pay28 v12 v14 v16 v18) (key1 arg3 X_arg3 k u) (val1 arg7 X_arg7 k u)) (acc.2.2.1, acc.2.2.2)).1,
         (fourSteps (fun u => step (k0_pay28 v12 v14 v16 v18) (key1 arg3 X_arg3 k u) (val1 arg7 X_arg7 k u)) (acc.2.2.1, acc.2.2.2)).2) := by
  unfold trip_k0_t1
  rfl
end
end Cert.Fwd
-- ==== Proof.FwdReal.lean ====
module
public import proofs.«01_k».proof.Proof.Reals
/-! The running softmax over the real numbers.

A row goes through its scores block by block. It keeps a number `m` and the sums of `2 ^ (score − m)` times each column
of the values; when `m` grows, the sums so far are scaled down. In the end the quotient of two sums no longer depends on
`m`, nor does `m` plus the logarithm of a sum. -/
@[expose] public section
set_option maxRecDepth 16384
noncomputable section
namespace Cert.Fwd
open Idealize.ShloMosaic Cert.Attn

/-- Entry `j` of block `b`, as an entry of the whole row. -/
abbrev cj (b : ℕ) (j : Fin 512) : Fin 8192 := ⟨(512 * b + j.val) % 8192, Nat.mod_lt _ (by norm_num)⟩

/-- What a row holds after `b` blocks. -/
def Seen (T : Fin 8192 → ℝ) (A : Fin 8192 → Fin 128 → ℝ) (b : ℕ) (m : EReal) (a : Fin 128 → EReal) : Prop :=
  ∃ M : ℝ, m = (M : EReal) ∧ ∀ e, a e = ((∑ c ∈ Finset.range b, ∑ j : Fin 512, Real.rpow 2 (T (cj c j) - M) * A (cj c j) e : ℝ) : EReal)

section
variable (T : Fin 8192 → ℝ) (A : Fin 8192 → Fin 128 → ℝ)

theorem start_real : Ideal.ofBits .f32 0xF149F2CA#32 = ((-(13234890 * 2 ^ 76) : ℝ) : EReal) := by
  simp [Ideal.ofBits, Ideal.ieee, -EReal.coe_mul]

theorem seen_zero (m : EReal) (a : Fin 128 → EReal) (hm : m = Ideal.ofBits .f32 0xF149F2CA#32) (ha : ∀ e, a e = 0) :
    Seen T A 0 m a := by
  refine ⟨_, hm.trans start_real, fun e => ?_⟩
  rw [ha, Finset.range_zero, Finset.sum_empty, EReal.coe_zero]

theorem pow_two_add (x y : ℝ) : Real.rpow 2 (x + y) = Real.rpow 2 x * Real.rpow 2 y := Real.rpow_add (by norm_num) x y

/-- One block more. -/
theorem seen_step (b : ℕ) (m : EReal) (a : Fin 128 → EReal) (h : Seen T A b m a) (s : Fin 512 → EReal) (va : Fin 512 → Fin 128 → EReal)
    (hs : ∀ j, s j = (T (cj b j) : EReal)) (hv : ∀ j e, va j e = (A (cj b j) e : EReal)) (m2 : EReal)
    (h2 : m2 = max m (Finset.fold max (Ideal.ofBits .f32 0xFF800000#32) s Finset.univ)) (a2 : Fin 128 → EReal)
    (ha2 : ∀ e, a2 e = Ideal.exp2 (m - m2) * a e + ∑ j, Ideal.exp2 (s j - m2) * va j e) : Seen T A (b + 1) m2 a2 := by
  obtain ⟨M, rfl, ha⟩ := h
  obtain ⟨N, hN⟩ := coe_max (Finset.univ : Finset (Fin 512)) ⟨0, Finset.mem_univ _⟩ fun j => T (cj b j)
  have e2 : m2 = ((max M N : ℝ) : EReal) := by
    rw [h2, funext hs, lowest, hN]
    exact (EReal.coe_strictMono.monotone.map_max).symm
  refine ⟨max M N, e2, fun e => ?_⟩
  rw [ha2, e2, ha]
  simp only [hs, hv, ← EReal.coe_sub, Ideal.exp2_coe, coe_dot]
  rw [← EReal.coe_mul, ← EReal.coe_add, Finset.sum_range_succ, Finset.mul_sum]
  congr 2
  refine Finset.sum_congr rfl fun c _ => ?_
  rw [Finset.mul_sum]
  refine Finset.sum_congr rfl fun j _ => ?_
  rw [← mul_assoc, ← pow_two_add]
  congr 2
  ring

/-- A sum over sixteen blocks is a sum over the row. -/
theorem sum_blocks (f : Fin 8192 → ℝ) : ∑ c ∈ Finset.range 16, ∑ j : Fin 512, f (cj c j) = ∑ j : Fin 8192, f j := by
  rw [Finset.sum_range, ← Fintype.sum_prod_type', ← (finProdFinEquiv (m := 16) (n := 512)).sum_comp]
  refine Fintype.sum_congr _ _ fun x => ?_
  congr 1
  apply Fin.ext
  show (512 * x.1.val + x.2.val) % 8192 = x.2.val + 512 * x.1.val
  omega

theorem pow_two_div (x M : ℝ) : Real.rpow 2 (x / Real.log 2 - M) = Real.exp (x - M * Real.log 2) := by
  have h2 : Real.log 2 ≠ 0 := (Real.log_pos (by norm_num)).ne'
  refine (Real.rpow_def_of_pos (by norm_num : (0 : ℝ) < 2) _).trans ?_
  congr 1
  field_simp

/-- The number and the sums after the last block. -/
theorem seen_all (x : Fin 8192 → ℝ) (m : EReal) (a : Fin 128 → EReal) (h : Seen (fun j => x j / Real.log 2) A 16 m a) :
    ∃ M : ℝ, m = (M : EReal) ∧ ∀ e, a e = ((∑ j, Real.exp (x j - M * Real.log 2) * A j e : ℝ) : EReal) := by
  obtain ⟨M, hm, ha⟩ := h
  refine ⟨M, hm, fun e => (ha e).trans ?_⟩
  simp only [pow_two_div]
  rw [sum_blocks fun j => Real.exp (x j - M * Real.log 2) * A j e]

/-- The shift drops out of the logarithm of the sum. -/
theorem log_shift (x : Fin 8192 → ℝ) (M : ℝ) : M + Real.log (∑ i, Real.exp (x i - M)) = Real.log (∑ i, Real.exp (x i)) := by
  have h : ∑ i, Real.exp (x i) = Real.exp M * ∑ i, Real.exp (x i - M) := by
    rw [Finset.mul_sum]
    refine Finset.sum_congr rfl fun i _ => ?_
    rw [← Real.exp_add]
    congr 1
    ring
  rw [h, Real.log_mul (Real.exp_ne_zero M) (total_pos x M).ne', Real.log_exp]

variable (x : Fin 8192 → ℝ) (m : EReal) (a : Fin 128 → EReal) (h : Seen (fun j => x j / Real.log 2) A 16 m a)
  (hone : ∀ j, A j 64 = 1)

include h hone in
/-- The quotient is the softmax's mean of the values. -/
theorem seen_quotient (e : Fin 128) :
    Ideal.div (a e) (a 64) = ((∑ j, Real.exp (x j) / (∑ i, Real.exp (x i)) * A j e : ℝ) : EReal) := by
  obtain ⟨M, -, ha⟩ := seen_all A x m a h
  have h0 := total_pos x (M * Real.log 2)
  rw [ha, ha]
  simp only [hone, mul_one]
  rw [div_pos h0.ne', Finset.sum_div]
  congr 1
  refine Finset.sum_congr rfl fun j _ => ?_
  rw [← shift x (M * Real.log 2) j]
  ring

include h hone in
/-- The logarithm to base 2 of the softmax's denominator. -/
theorem seen_log : m + Ideal.div (Ideal.log (a 64)) (Ideal.log (Ideal.ofBits .f32 0x40000000#32))
    = ((Real.log (∑ i, Real.exp (x i)) / Real.log 2 : ℝ) : EReal) := by
  obtain ⟨M, hm, ha⟩ := seen_all A x m a h
  have h0 := total_pos x (M * Real.log 2)
  have h2 : Real.log 2 ≠ 0 := (Real.log_pos (by norm_num)).ne'
  rw [ha, hm]
  simp only [hone, mul_one]
  rw [two, log_pos h0, log_pos (by norm_num), div_pos h2, ← EReal.coe_add, ← log_shift x (M * Real.log 2)]
  congr 1
  field_simp
end
end Cert.Fwd
-- ==== Proof.FwdStep.lean ====
module
public import proofs.«01_k».proof.Proof.FwdTrip
public import proofs.«01_k».proof.Proof.FwdReal
public import Idealize.ShloMosaic.Lib.Pointwise
public import Idealize.ShloMosaic.Lib.Pipeline.ValueKit.Tiles
/-! The forward call's steps, read at an index over the extended reals, and the loop's four trips together. -/
@[expose] public section
set_option maxRecDepth 16384
noncomputable section
namespace Cert.Fwd
open Cert.ForwardIdeal Cert.ForwardIdeal.Gen
open Idealize.ShloMosaic Idealize.ShloMosaic.TcCoe Idealize.ShloMosaic.Tactic

theorem off1 : ∀ (k : Fin k0_t1_loop.trips) (u : Fin 4),
    k0_off1 k (BitVec.ofNat 32 u.val) = ![512 * (4 * k.val + u.val), 0] := by decide +kernel
theorem off2 : ∀ (k : Fin k0_t1_loop.trips) (u : Fin 4),
    k0_off2 k (BitVec.ofNat 32 u.val) = ![512 * (4 * k.val + u.val), 64] := by decide +kernel
theorem off3 : ∀ (k : Fin k0_t1_loop.trips) (u : Fin 4),
    k0_off3 k (BitVec.ofNat 32 u.val) = ![512 * (4 * k.val + u.val), 0] := by decide +kernel
theorem off4 : ∀ (k : Fin k0_t1_loop.trips) (u : Fin 4),
    k0_off4 k (BitVec.ofNat 32 u.val) = ![512 * (4 * k.val + u.val), 128] := by decide +kernel

theorem trips_four (k : Fin k0_t1_loop.trips) : k.val < 4 := k.isLt

theorem cj_val (k : Fin k0_t1_loop.trips) (u : Fin 4) (j : Fin 512) :
    (cj (4 * k.val + u.val) j).val = 512 * (4 * k.val + u.val) + j.val := by
  have := trips_four k
  show (512 * (4 * k.val + u.val) + j.val) % 8192 = _
  omega

theorem key0_at (arg3 : Memref sig .tc .vmem S8192x128 .bf16) (X : BufTy.Contents (Elt Ideal) arg3.view.ty)
    (k : Fin k0_t1_loop.trips) (u : Fin 4) (j : Fin 512) (d : Fin 64) :
    key0 arg3 X k u (ix2 j d) = arg3.view.read (Elt Ideal) X (ix2 (cj (4 * k.val + u.val) j) (⟨d.val, by omega⟩ : Fin 128)) := by
  have h := cj_val k u j
  rw [key0, View.readAt_eq_ld, View.ld_apply]
  congr 1
  funext a
  fin_cases a <;> apply Fin.ext <;> simp [off1] <;> omega

theorem key1_at (arg3 : Memref sig .tc .vmem S8192x128 .bf16) (X : BufTy.Contents (Elt Ideal) arg3.view.ty)
    (k : Fin k0_t1_loop.trips) (u : Fin 4) (j : Fin 512) (d : Fin 64) :
    key1 arg3 X k u (ix2 j d) = arg3.view.read (Elt Ideal) X (ix2 (cj (4 * k.val + u.val) j) (⟨64 + d.val, by omega⟩ : Fin 128)) := by
  have h := cj_val k u j
  rw [key1, View.readAt_eq_ld, View.ld_apply]
  congr 1
  funext a
  fin_cases a <;> apply Fin.ext <;> simp [off2] <;> omega

theorem val0_at (arg7 : Memref sig .tc .vmem S8192x256 .bf16) (X : BufTy.Contents (Elt Ideal) arg7.view.ty)
    (k : Fin k0_t1_loop.trips) (u : Fin 4) (j : Fin 512) (d : Fin 128) :
    val0 arg7 X k u (ix2 j d) = arg7.view.read (Elt Ideal) X (ix2 (cj (4 * k.val + u.val) j) (⟨d.val, by omega⟩ : Fin 256)) := by
  have h := cj_val k u j
  rw [val0, View.readAt_eq_ld, View.ld_apply]
  congr 1
  funext a
  fin_cases a <;> apply Fin.ext <;> simp [off3] <;> omega

theorem val1_at (arg7 : Memref sig .tc .vmem S8192x256 .bf16) (X : BufTy.Contents (Elt Ideal) arg7.view.ty)
    (k : Fin k0_t1_loop.trips) (u : Fin 4) (j : Fin 512) (d : Fin 128) :
    val1 arg7 X k u (ix2 j d) = arg7.view.read (Elt Ideal) X (ix2 (cj (4 * k.val + u.val) j) (⟨128 + d.val, by omega⟩ : Fin 256)) := by
  have h := cj_val k u j
  rw [val1, View.readAt_eq_ld, View.ld_apply]
  congr 1
  funext a
  fin_cases a <;> apply Fin.ext <;> simp [off4] <;> omega

theorem scores_at (q : FVec Ideal S1024x64 .bf16) (kj : Vec Ideal S512x64 .bf16) (n : Fin 1024) (j : Fin 512) :
    scores q kj (ix2 n j) = ∑ d : Fin 64, q (ix2 n d) * kj (ix2 j d) := by
  pointwise [scores]

theorem top_at (m : FVec Ideal S1024x1 .f32) (s : FVec Ideal S1024x512 .f32) (n : Fin 1024) :
    top m s (ix2 n 0) = max (m (ix2 n 0)) (Finset.fold max (Ideal.ofBits .f32 0xFF800000#32) (fun j => s (ix2 n j)) Finset.univ) := by
  pointwise [top]

theorem weighed_aux (m t : FVec Ideal S1024x1 .f32) (a : FVec Ideal S1024x128 .f32) (s : FVec Ideal S1024x512 .f32)
    (va : FVec Ideal S512x128 .bf16) (n : Fin 1024) (e : Fin 128) :
    addf (mulf (broadcastTo S1024x128 (exp2 (subf m t)) broadcasts_S1024x1_S1024x128) a)
      (matmul dot_S1024x512_S512x128_S1024x128_1_0_0_1_n_n none
        (truncf .bf16 (exp2 (subf s (broadcastTo S1024x512 t broadcasts_S1024x1_S1024x512))) bitsLt_bf16_f32) va
        (constant S1024x128 .f32 0x00000000#32)) (ix2 n e)
      = Ideal.exp2 (m (ix2 n 0) - t (ix2 n 0)) * a (ix2 n e) + ∑ j : Fin 512, Ideal.exp2 (s (ix2 n j) - t (ix2 n 0)) * va (ix2 j e) := by
  pointwise []
  rfl

theorem weighed_at (m : FVec Ideal S1024x1 .f32) (a : FVec Ideal S1024x128 .f32) (s : FVec Ideal S1024x512 .f32)
    (va : FVec Ideal S512x128 .bf16) (n : Fin 1024) (e : Fin 128) :
    weighed m a s va (ix2 n e) = Ideal.exp2 (m (ix2 n 0) - top m s (ix2 n 0)) * a (ix2 n e)
      + ∑ j : Fin 512, Ideal.exp2 (s (ix2 n j) - top m s (ix2 n 0)) * va (ix2 j e) :=
  weighed_aux m (top m s) a s va n e

section
variable (T : Fin 8192 → ℝ) (A : Fin 8192 → Fin 128 → ℝ) (n : Fin 1024)

/-- What row `n` of a pair of a number and sums holds after `b` blocks. -/
abbrev RowSeen (b : ℕ) (p : FVec Ideal S1024x1 .f32 × FVec Ideal S1024x128 .f32) : Prop :=
  Seen T A b (p.1 (ix2 n 0)) (fun e => p.2 (ix2 n e))

theorem step_seen (b : ℕ) (q : FVec Ideal S1024x64 .bf16) (kj : Vec Ideal S512x64 .bf16) (va : Vec Ideal S512x128 .bf16)
    (p : FVec Ideal S1024x1 .f32 × FVec Ideal S1024x128 .f32) (h : RowSeen T A n b p)
    (hs : ∀ j : Fin 512, ∑ d : Fin 64, (q (ix2 n d) : EReal) * kj (ix2 j d) = (T (cj b j) : EReal))
    (hv : ∀ (j : Fin 512) (e : Fin 128), (va (ix2 j e) : EReal) = (A (cj b j) e : EReal)) : RowSeen T A n (b + 1) (step q kj va p) :=
  seen_step T A b _ _ h (fun j => scores q kj (ix2 n j)) (fun j e => va (ix2 j e))
    (fun j => (scores_at q kj n j).trans (hs j)) hv _ (top_at p.1 (scores q kj) n) _ (fun e => weighed_at p.1 p.2 (scores q kj) va n e)

theorem four_seen (k : ℕ) (q : FVec Ideal S1024x64 .bf16) (kj : Fin 4 → Vec Ideal S512x64 .bf16) (va : Fin 4 → Vec Ideal S512x128 .bf16)
    (p : FVec Ideal S1024x1 .f32 × FVec Ideal S1024x128 .f32) (h : RowSeen T A n (4 * k) p)
    (hs : ∀ (u : Fin 4) (j : Fin 512), ∑ d : Fin 64, (q (ix2 n d) : EReal) * kj u (ix2 j d) = (T (cj (4 * k + u.val) j) : EReal))
    (hv : ∀ (u : Fin 4) (j : Fin 512) (e : Fin 128), (va u (ix2 j e) : EReal) = (A (cj (4 * k + u.val) j) e : EReal)) :
    RowSeen T A n (4 * (k + 1)) (fourSteps (fun u => step q (kj u) (va u)) p) :=
  step_seen T A n _ q (kj 3) (va 3) _ (step_seen T A n _ q (kj 2) (va 2) _ (step_seen T A n _ q (kj 1) (va 1) _
    (step_seen T A n _ q (kj 0) (va 0) p h (hs 0) (hv 0)) (hs 1) (hv 1)) (hs 2) (hv 2)) (hs 3) (hv 3)
end

section
variable (𝒱 : Variants) (c : Dev nD) (bd : Option 𝒱.V) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S1x256x8 .f32) (harg6 : arg6.IsWhole) (arg7 : Memref sig .tc .vmem S8192x256 .bf16) (harg7 : arg7.IsWhole) (v3 v5 v7 v9 v12 v14 v16 v18 : Vec Ideal S256x64 .bf16) (X3 : BufTy.Contents (Elt Ideal) arg3.view.ty) (X7 : BufTy.Contents (Elt Ideal) arg7.view.ty)
  (init : FVec Ideal S1024x1 .f32 × FVec Ideal S1024x128 .f32 × FVec Ideal S1024x1 .f32 × FVec Ideal S1024x128 .f32)
  (n : Fin 1024) (T0 T1 : Fin 8192 → ℝ) (A0 A1 : Fin 8192 → Fin 128 → ℝ)
  (h0 : RowSeen T0 A0 n 0 (init.1, init.2.1)) (h1 : RowSeen T1 A1 n 0 (init.2.2.1, init.2.2.2))
  (hT0 : ∀ j : Fin 8192, ∑ d : Fin 64, (k0_pay27 v3 v5 v7 v9 (ix2 n d) : EReal) * arg3.view.read (Elt Ideal) X3 (ix2 j (⟨d.val, by omega⟩ : Fin 128)) = (T0 j : EReal))
  (hT1 : ∀ j : Fin 8192, ∑ d : Fin 64, (k0_pay28 v12 v14 v16 v18 (ix2 n d) : EReal) * arg3.view.read (Elt Ideal) X3 (ix2 j (⟨64 + d.val, by omega⟩ : Fin 128)) = (T1 j : EReal))
  (hA0 : ∀ (j : Fin 8192) (e : Fin 128), (arg7.view.read (Elt Ideal) X7 (ix2 j (⟨e.val, by omega⟩ : Fin 256)) : EReal) = (A0 j e : EReal))
  (hA1 : ∀ (j : Fin 8192) (e : Fin 128), (arg7.view.read (Elt Ideal) X7 (ix2 j (⟨128 + e.val, by omega⟩ : Fin 256)) : EReal) = (A1 j e : EReal))

/-- The state before trip `k`. -/
abbrev state (k : ℕ) := st_k0_t1 (F := Ideal) 𝒱 c bd i arg2 harg2 arg3 harg3 arg4 harg4 arg5 harg5 arg6 harg6 arg7 harg7 v3 v5 v7 v9 v12 v14 v16 v18 X3 X7 init k

include h0 h1 hT0 hT1 hA0 hA1 in
/-- A row after `k` trips has seen `4 k` blocks. -/
theorem state_seen (k : ℕ) (hk : k ≤ 4) :
    RowSeen T0 A0 n (4 * k) ((state 𝒱 c bd i arg2 harg2 arg3 harg3 arg4 harg4 arg5 harg5 arg6 harg6 arg7 harg7 v3 v5 v7 v9 v12 v14 v16 v18 X3 X7 init k).1, (state 𝒱 c bd i arg2 harg2 arg3 harg3 arg4 harg4 arg5 harg5 arg6 harg6 arg7 harg7 v3 v5 v7 v9 v12 v14 v16 v18 X3 X7 init k).2.1)
    ∧ RowSeen T1 A1 n (4 * k) ((state 𝒱 c bd i arg2 harg2 arg3 harg3 arg4 harg4 arg5 harg5 arg6 harg6 arg7 harg7 v3 v5 v7 v9 v12 v14 v16 v18 X3 X7 init k).2.2.1, (state 𝒱 c bd i arg2 harg2 arg3 harg3 arg4 harg4 arg5 harg5 arg6 harg6 arg7 harg7 v3 v5 v7 v9 v12 v14 v16 v18 X3 X7 init k).2.2.2) := by
  induction k with
  | zero => exact ⟨h0, h1⟩
  | succ k ih =>
    have ih' := ih (by omega)
    have e := st_k0_t1_succ (F := Ideal) 𝒱 c bd i arg2 harg2 arg3 harg3 arg4 harg4 arg5 harg5 arg6 harg6 arg7 harg7 v3 v5 v7 v9 v12 v14 v16 v18 X3 X7 init (⟨k, hk⟩ : Fin k0_t1_loop.trips)
    have e' := e.trans (trip_eq 𝒱 c bd i arg2 harg2 arg3 harg3 arg4 harg4 arg5 harg5 arg6 harg6 arg7 harg7 v3 v5 v7 v9 v12 v14 v16 v18 X3 X7 (⟨k, hk⟩ : Fin k0_t1_loop.trips) _)
    rw [state, e']
    refine ⟨four_seen T0 A0 n k _ _ _ _ ih'.1 (fun u j => ?_) (fun u j e => ?_), four_seen T1 A1 n k _ _ _ _ ih'.2 (fun u j => ?_) (fun u j e => ?_)⟩
    · simp only [key0_at]; exact hT0 _
    · rw [val0_at]; exact hA0 _ e
    · simp only [key1_at]; exact hT1 _
    · rw [val1_at]; exact hA1 _ e
end
end Cert.Fwd
-- ==== Proof.FwdPoint.lean ====
module
public import proofs.«01_k».proof.Proof.FwdStep
public import proofs.«01_k».proof.Proof.PointBlocks
public import proofs.«01_k».proof.Proof.Gen.ForwardIdeal.Frame
/-! What one grid point of the forward call leaves in its two output blocks, for real scores. -/
@[expose] public section
set_option maxRecDepth 16384
noncomputable section
namespace Cert.Fwd
open Cert.ForwardIdeal Cert.ForwardIdeal.Gen
open Idealize.ShloMosaic Idealize.ShloMosaic.TcCoe Idealize.ShloMosaic.Tactic
open Cert.Attn (ri hd col kc kc_zero kc_one vones kh sr)

/-- The outputs' eight pieces, last first, from the two weighted sums. -/
abbrev outPieces (p q : FVec Ideal S1024x128 .f32) : List (View.Piece (Elt Ideal) S256x512 .bf16) :=
      [⟨Rect.unit (s := S256x512) ![0, 448] S256x64.size inb_S256x512_S256x64_0_448, k0_pay58 q⟩,
       ⟨Rect.unit (s := S256x512) ![0, 384] S256x64.size inb_S256x512_S256x64_0_384, k0_pay56 q⟩,
       ⟨Rect.unit (s := S256x512) ![0, 320] S256x64.size inb_S256x512_S256x64_0_320, k0_pay54 q⟩,
       ⟨Rect.unit (s := S256x512) ![0, 256] S256x64.size inb_S256x512_S256x64_0_256, k0_pay52 q⟩,
       ⟨Rect.unit (s := S256x512) ![0, 192] S256x64.size inb_S256x512_S256x64_0_192, k0_pay46 (k0_pay38 p)⟩,
       ⟨Rect.unit (s := S256x512) ![0, 128] S256x64.size inb_S256x512_S256x64_0_128, k0_pay44 (k0_pay38 p)⟩,
       ⟨Rect.unit (s := S256x512) ![0, 64] S256x64.size inb_S256x512_S256x64_0_64, k0_pay42 (k0_pay38 p)⟩,
       ⟨Rect.unit (s := S256x512) ![0, 0] S256x64.size inb_S256x512_S256x64_0_0, k0_pay40 (k0_pay38 p)⟩]

/-- The logarithms' eight pieces, last first. -/
abbrev logPieces (a b : FVec Ideal S1024x1 .f32) (p q : FVec Ideal S1024x128 .f32) : List (View.Piece (Elt Ideal) S1x256x8 .f32) :=
      [⟨Rect.unit (s := S1x256x8) ![0, 0, 7] S1x256x1.size inb_S1x256x8_S1x256x1_0_0_7, k0_pay1 (k0_pay51 b q)⟩,
       ⟨Rect.unit (s := S1x256x8) ![0, 0, 6] S1x256x1.size inb_S1x256x8_S1x256x1_0_0_6, k0_pay57 b q⟩,
       ⟨Rect.unit (s := S1x256x8) ![0, 0, 5] S1x256x1.size inb_S1x256x8_S1x256x1_0_0_5, k0_pay55 b q⟩,
       ⟨Rect.unit (s := S1x256x8) ![0, 0, 4] S1x256x1.size inb_S1x256x8_S1x256x1_0_0_4, k0_pay53 b q⟩,
       ⟨Rect.unit (s := S1x256x8) ![0, 0, 3] S1x256x1.size inb_S1x256x8_S1x256x1_0_0_3, k0_pay48 (k0_pay47 a (k0_pay37 p))⟩,
       ⟨Rect.unit (s := S1x256x8) ![0, 0, 2] S1x256x1.size inb_S1x256x8_S1x256x1_0_0_2, k0_pay45 a (k0_pay37 p)⟩,
       ⟨Rect.unit (s := S1x256x8) ![0, 0, 1] S1x256x1.size inb_S1x256x8_S1x256x1_0_0_1, k0_pay43 a (k0_pay37 p)⟩,
       ⟨Rect.unit (s := S1x256x8) ![0, 0, 0] S1x256x1.size inb_S1x256x8_S1x256x1_0_0_0, k0_pay41 a (k0_pay37 p)⟩]

/-- Eight heads written side by side, read back. -/
theorem read_heads (V : View sig .tc .vmem S256x512 .bf16) (f : BufTy.Contents (Elt Ideal) V.ty)
    (w0 w1 w2 w3 w4 w5 w6 w7 : FVec Ideal S256x64 .bf16) (i : Fin 256) (h : Fin 8) (d : Fin 64) :
    V.read (Elt Ideal) (V.writes (Elt Ideal) f
      [⟨Rect.unit (s := S256x512) ![0, 448] S256x64.size inb_S256x512_S256x64_0_448, w7⟩,
       ⟨Rect.unit (s := S256x512) ![0, 384] S256x64.size inb_S256x512_S256x64_0_384, w6⟩,
       ⟨Rect.unit (s := S256x512) ![0, 320] S256x64.size inb_S256x512_S256x64_0_320, w5⟩,
       ⟨Rect.unit (s := S256x512) ![0, 256] S256x64.size inb_S256x512_S256x64_0_256, w4⟩,
       ⟨Rect.unit (s := S256x512) ![0, 192] S256x64.size inb_S256x512_S256x64_0_192, w3⟩,
       ⟨Rect.unit (s := S256x512) ![0, 128] S256x64.size inb_S256x512_S256x64_0_128, w2⟩,
       ⟨Rect.unit (s := S256x512) ![0, 64] S256x64.size inb_S256x512_S256x64_0_64, w1⟩,
       ⟨Rect.unit (s := S256x512) ![0, 0] S256x64.size inb_S256x512_S256x64_0_0, w0⟩]) (ix2 i (col h d))
      = (![w0, w1, w2, w3, w4, w5, w6, w7] h) (ix2 i d) := by
  fin_cases h
  all_goals
    (repeat rw [View.read_writes_cons_unit_of_not_mem V f _ _ _ _ rfl 1 (by first | (simp; done) | (simp; omega))])
    exact View.read_writes_cons_unit_of_mem (size := S256x64.size) V f _ _ _ _ (show S256x64.Idx from ix2 i d) rfl
      (by intro a; fin_cases a <;> simp)

/-- Eight columns written side by side, read back. -/
theorem read_cols (V : View sig .tc .vmem S1x256x8 .f32) (f : BufTy.Contents (Elt Ideal) V.ty)
    (w0 w1 w2 w3 w4 w5 w6 w7 : FVec Ideal S1x256x1 .f32) (i : Fin 256) (h : Fin 8) :
    V.read (Elt Ideal) (V.writes (Elt Ideal) f
      [⟨Rect.unit (s := S1x256x8) ![0, 0, 7] S1x256x1.size inb_S1x256x8_S1x256x1_0_0_7, w7⟩,
       ⟨Rect.unit (s := S1x256x8) ![0, 0, 6] S1x256x1.size inb_S1x256x8_S1x256x1_0_0_6, w6⟩,
       ⟨Rect.unit (s := S1x256x8) ![0, 0, 5] S1x256x1.size inb_S1x256x8_S1x256x1_0_0_5, w5⟩,
       ⟨Rect.unit (s := S1x256x8) ![0, 0, 4] S1x256x1.size inb_S1x256x8_S1x256x1_0_0_4, w4⟩,
       ⟨Rect.unit (s := S1x256x8) ![0, 0, 3] S1x256x1.size inb_S1x256x8_S1x256x1_0_0_3, w3⟩,
       ⟨Rect.unit (s := S1x256x8) ![0, 0, 2] S1x256x1.size inb_S1x256x8_S1x256x1_0_0_2, w2⟩,
       ⟨Rect.unit (s := S1x256x8) ![0, 0, 1] S1x256x1.size inb_S1x256x8_S1x256x1_0_0_1, w1⟩,
       ⟨Rect.unit (s := S1x256x8) ![0, 0, 0] S1x256x1.size inb_S1x256x8_S1x256x1_0_0_0, w0⟩]) (ix3 0 i h)
      = (![w0, w1, w2, w3, w4, w5, w6, w7] h) (ix3 0 i 0) := by
  fin_cases h
  all_goals
    (repeat rw [View.read_writes_cons_unit_of_not_mem V f _ _ _ _ rfl 2 (by first | (simp; done) | (simp; omega))])
    exact View.read_writes_cons_unit_of_mem (size := S1x256x1.size) V f _ _ _ _ (show S1x256x1.Idx from ix3 0 i 0) rfl
      (by intro a; fin_cases a <;> simp)

/-- The pieces of the output: a row's sums over its total weight. -/
theorem heads_pay (p q : FVec Ideal S1024x128 .f32) (i : Fin 256) (h : Fin 8) (d : Fin 64) :
    (![k0_pay40 (k0_pay38 p), k0_pay42 (k0_pay38 p), k0_pay44 (k0_pay38 p), k0_pay46 (k0_pay38 p), k0_pay52 q, k0_pay54 q, k0_pay56 q, k0_pay58 q] h) (ix2 i d)
      = Ideal.div ((if h.val < 4 then p else q) (ix2 (sr h i) (⟨d.val, by omega⟩ : Fin 128))) ((if h.val < 4 then p else q) (ix2 (sr h i) 64)) := by
  fin_cases h
  · show (k0_pay40 (k0_pay38 p)) (ix2 i d) = Ideal.div (p _) (p _)
    unfold_payloads
    pointwise []
    first | rfl | exact congrArg (fun z : Fin 1024 => Ideal.div (p (ix2 z (⟨d.val, by omega⟩ : Fin 128))) (p (ix2 z 64))) (Fin.ext (by simp))
  · show (k0_pay42 (k0_pay38 p)) (ix2 i d) = Ideal.div (p _) (p _)
    unfold_payloads
    pointwise []
    first | rfl | exact congrArg (fun z : Fin 1024 => Ideal.div (p (ix2 z (⟨d.val, by omega⟩ : Fin 128))) (p (ix2 z 64))) (Fin.ext (by simp))
  · show (k0_pay44 (k0_pay38 p)) (ix2 i d) = Ideal.div (p _) (p _)
    unfold_payloads
    pointwise []
    first | rfl | exact congrArg (fun z : Fin 1024 => Ideal.div (p (ix2 z (⟨d.val, by omega⟩ : Fin 128))) (p (ix2 z 64))) (Fin.ext (by simp))
  · show (k0_pay46 (k0_pay38 p)) (ix2 i d) = Ideal.div (p _) (p _)
    unfold_payloads
    pointwise []
    first | rfl | exact congrArg (fun z : Fin 1024 => Ideal.div (p (ix2 z (⟨d.val, by omega⟩ : Fin 128))) (p (ix2 z 64))) (Fin.ext (by simp))
  · show (k0_pay52 q) (ix2 i d) = Ideal.div (q _) (q _)
    unfold_payloads
    pointwise []
    first | rfl | exact congrArg (fun z : Fin 1024 => Ideal.div (q (ix2 z (⟨d.val, by omega⟩ : Fin 128))) (q (ix2 z 64))) (Fin.ext (by simp))
  · show (k0_pay54 q) (ix2 i d) = Ideal.div (q _) (q _)
    unfold_payloads
    pointwise []
    first | rfl | exact congrArg (fun z : Fin 1024 => Ideal.div (q (ix2 z (⟨d.val, by omega⟩ : Fin 128))) (q (ix2 z 64))) (Fin.ext (by simp))
  · show (k0_pay56 q) (ix2 i d) = Ideal.div (q _) (q _)
    unfold_payloads
    pointwise []
    first | rfl | exact congrArg (fun z : Fin 1024 => Ideal.div (q (ix2 z (⟨d.val, by omega⟩ : Fin 128))) (q (ix2 z 64))) (Fin.ext (by simp))
  · show (k0_pay58 q) (ix2 i d) = Ideal.div (q _) (q _)
    unfold_payloads
    pointwise []
    first | rfl | exact congrArg (fun z : Fin 1024 => Ideal.div (q (ix2 z (⟨d.val, by omega⟩ : Fin 128))) (q (ix2 z 64))) (Fin.ext (by simp))

/-- The pieces of the logarithms: a row's maximum and the logarithm of its total weight. -/
theorem cols_pay (a b : FVec Ideal S1024x1 .f32) (p q : FVec Ideal S1024x128 .f32) (i : Fin 256) (h : Fin 8) :
    (![k0_pay41 a (k0_pay37 p), k0_pay43 a (k0_pay37 p), k0_pay45 a (k0_pay37 p), k0_pay48 (k0_pay47 a (k0_pay37 p)), k0_pay53 b q, k0_pay55 b q, k0_pay57 b q, k0_pay1 (k0_pay51 b q)] h) (ix3 0 i 0)
      = (if h.val < 4 then a else b) (ix2 (sr h i) 0)
        + Ideal.div (Ideal.log ((if h.val < 4 then p else q) (ix2 (sr h i) 64))) (Ideal.log (Ideal.ofBits .f32 0x40000000#32)) := by
  fin_cases h
  · show (k0_pay41 a (k0_pay37 p)) (ix3 0 i 0) = a _ + Ideal.div (Ideal.log (p _)) _
    unfold_payloads
    pointwise []
    first | rfl | exact congrArg (fun z : Fin 1024 => a (ix2 z 0) + Ideal.div (Ideal.log (p (ix2 z 64))) (Ideal.log (Ideal.ofBits .f32 0x40000000#32))) (Fin.ext (by simp))
  · show (k0_pay43 a (k0_pay37 p)) (ix3 0 i 0) = a _ + Ideal.div (Ideal.log (p _)) _
    unfold_payloads
    pointwise []
    first | rfl | exact congrArg (fun z : Fin 1024 => a (ix2 z 0) + Ideal.div (Ideal.log (p (ix2 z 64))) (Ideal.log (Ideal.ofBits .f32 0x40000000#32))) (Fin.ext (by simp))
  · show (k0_pay45 a (k0_pay37 p)) (ix3 0 i 0) = a _ + Ideal.div (Ideal.log (p _)) _
    unfold_payloads
    pointwise []
    first | rfl | exact congrArg (fun z : Fin 1024 => a (ix2 z 0) + Ideal.div (Ideal.log (p (ix2 z 64))) (Ideal.log (Ideal.ofBits .f32 0x40000000#32))) (Fin.ext (by simp))
  · show (k0_pay48 (k0_pay47 a (k0_pay37 p))) (ix3 0 i 0) = a _ + Ideal.div (Ideal.log (p _)) _
    unfold_payloads
    pointwise []
    first | rfl | exact congrArg (fun z : Fin 1024 => a (ix2 z 0) + Ideal.div (Ideal.log (p (ix2 z 64))) (Ideal.log (Ideal.ofBits .f32 0x40000000#32))) (Fin.ext (by simp))
  · show (k0_pay53 b q) (ix3 0 i 0) = b _ + Ideal.div (Ideal.log (q _)) _
    unfold_payloads
    pointwise []
    first | rfl | exact congrArg (fun z : Fin 1024 => b (ix2 z 0) + Ideal.div (Ideal.log (q (ix2 z 64))) (Ideal.log (Ideal.ofBits .f32 0x40000000#32))) (Fin.ext (by simp))
  · show (k0_pay55 b q) (ix3 0 i 0) = b _ + Ideal.div (Ideal.log (q _)) _
    unfold_payloads
    pointwise []
    first | rfl | exact congrArg (fun z : Fin 1024 => b (ix2 z 0) + Ideal.div (Ideal.log (q (ix2 z 64))) (Ideal.log (Ideal.ofBits .f32 0x40000000#32))) (Fin.ext (by simp))
  · show (k0_pay57 b q) (ix3 0 i 0) = b _ + Ideal.div (Ideal.log (q _)) _
    unfold_payloads
    pointwise []
    first | rfl | exact congrArg (fun z : Fin 1024 => b (ix2 z 0) + Ideal.div (Ideal.log (q (ix2 z 64))) (Ideal.log (Ideal.ofBits .f32 0x40000000#32))) (Fin.ext (by simp))
  · show (k0_pay1 (k0_pay51 b q)) (ix3 0 i 0) = b _ + Ideal.div (Ideal.log (q _)) _
    unfold_payloads
    pointwise []
    first | rfl | exact congrArg (fun z : Fin 1024 => b (ix2 z 0) + Ideal.div (Ideal.log (q (ix2 z 64))) (Ideal.log (Ideal.ofBits .f32 0x40000000#32))) (Fin.ext (by simp))

/-- The scratch after it is filled. -/
theorem read_scratch (c : Dev nD) (arg4 : Memref sig .tc .vmem S8192x128 .bf16) (harg4 : arg4.IsWhole)
    (V : View sig .tc .vmem S8192x256 .bf16) (f : BufTy.Contents (Elt Ideal) V.ty) (x2 : Vec Ideal S8192x128 .bf16)
    (hh : Fin 2) (j : Fin 8192) (e : Fin 128) :
    V.read (Elt Ideal) (V.writes (Elt Ideal) f (kernelRun0_A.sl.HS0_4 c arg4 harg4 x2)) (ix2 j (⟨128 * hh.val + e.val, by omega⟩ : Fin 256))
      = vones x2 hh j e := by
  have one : ∀ (j : Fin 8192) (d : Fin 64), (k0_pay24 (F := Ideal)) (ix2 j d) = 1 := by
    intro j d
    unfold_payloads
    pointwise []
  have one' : ∀ (j : Fin 8192) (d : Fin 64), (k0_pay26 (F := Ideal)) (ix2 j d) = 1 := by
    intro j d
    unfold_payloads
    pointwise []
  have v0 : ∀ (j : Fin 8192) (d : Fin 64), k0_pay23 (View.readAt (Elt Ideal) arg4.view (Rect.unit (s := S8192x128) ![0, 0] S8192x64.size inb_S8192x128_S8192x64_0_0).toLoadRect (harg4.unread x2)) (ix2 j d) = x2 (ix2 j (kc 0 d)) := by
    intro j d
    unfold_payloads
    simp only [View.readAt_eq_ld, harg4.read_unread]
    pointwise []
    try simp only [kc_zero]
  have v1 : ∀ (j : Fin 8192) (d : Fin 64), k0_pay25 (View.readAt (Elt Ideal) arg4.view (Rect.unit (s := S8192x128) ![0, 64] S8192x64.size inb_S8192x128_S8192x64_0_64).toLoadRect (harg4.unread x2)) (ix2 j d) = x2 (ix2 j (kc 1 d)) := by
    intro j d
    unfold_payloads
    simp only [View.readAt_eq_ld, harg4.read_unread]
    pointwise []
    try simp only [kc_one]
  unfold kernelRun0_A.sl.HS0_4 vones
  by_cases he : e.val < 64
  · rw [dif_pos he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v0 j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v1 j _)
  · rw [dif_neg he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one' j _)

theorem start0 (n : Fin 1024) : (k0_pay29 (F := Ideal)) (ix2 n 0) = Ideal.ofBits .f32 0xF149F2CA#32 := by
  unfold_payloads
  pointwise []
theorem start1 (n : Fin 1024) : (k0_pay31 (F := Ideal)) (ix2 n 0) = Ideal.ofBits .f32 0xF149F2CA#32 := by
  unfold_payloads
  pointwise []
theorem empty0 (n : Fin 1024) (e : Fin 128) : (k0_pay30 (F := Ideal)) (ix2 n e) = 0 := by
  unfold_payloads
  pointwise []
theorem empty1 (n : Fin 1024) (e : Fin 128) : (k0_pay32 (F := Ideal)) (ix2 n e) = 0 := by
  unfold_payloads
  pointwise []

section
variable (c : Dev nD) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S1x256x8 .f32) (harg6 : arg6.IsWhole) (arg7 : Memref sig .tc .vmem S8192x256 .bf16) (harg7 : arg7.IsWhole) (x0 : Vec Ideal S256x512 .bf16) (x1 : Vec Ideal S8192x128 .bf16) (x2 : Vec Ideal S8192x128 .bf16)
  (X7 : BufTy.Contents (Elt Ideal) arg7.view.ty)

theorem queries0 (n : Fin 1024) (d : Fin 64) :
    k0_pay27 (View.readAt (Elt Ideal) arg2.view (Rect.unit (s := S256x512) ![0, 0] S256x64.size inb_S256x512_S256x64_0_0).toLoadRect (harg2.unread x0)) (View.readAt (Elt Ideal) arg2.view (Rect.unit (s := S256x512) ![0, 64] S256x64.size inb_S256x512_S256x64_0_64).toLoadRect (harg2.unread x0)) (View.readAt (Elt Ideal) arg2.view (Rect.unit (s := S256x512) ![0, 128] S256x64.size inb_S256x512_S256x64_0_128).toLoadRect (harg2.unread x0)) (View.readAt (Elt Ideal) arg2.view (Rect.unit (s := S256x512) ![0, 192] S256x64.size inb_S256x512_S256x64_0_192).toLoadRect (harg2.unread x0)) (ix2 n d) = x0 (ix2 (ri n) (col (hd 0 n) d)) := by
  unfold_payloads
  simp only [View.readAt_eq_ld, harg2.read_unread]
  pointwise []
  try simp only [harg2.read_unread]
  split_ifs <;> congr 2 <;> apply Fin.ext <;> simp <;> omega

theorem queries1 (n : Fin 1024) (d : Fin 64) :
    k0_pay28 (View.readAt (Elt Ideal) arg2.view (Rect.unit (s := S256x512) ![0, 256] S256x64.size inb_S256x512_S256x64_0_256).toLoadRect (harg2.unread x0)) (View.readAt (Elt Ideal) arg2.view (Rect.unit (s := S256x512) ![0, 320] S256x64.size inb_S256x512_S256x64_0_320).toLoadRect (harg2.unread x0)) (View.readAt (Elt Ideal) arg2.view (Rect.unit (s := S256x512) ![0, 384] S256x64.size inb_S256x512_S256x64_0_384).toLoadRect (harg2.unread x0)) (View.readAt (Elt Ideal) arg2.view (Rect.unit (s := S256x512) ![0, 448] S256x64.size inb_S256x512_S256x64_0_448).toLoadRect (harg2.unread x0)) (ix2 n d) = x0 (ix2 (ri n) (col (hd 1 n) d)) := by
  unfold_payloads
  simp only [View.readAt_eq_ld, harg2.read_unread]
  pointwise []
  try simp only [harg2.read_unread]
  split_ifs <;> congr 2 <;> apply Fin.ext <;> simp <;> omega

/-- The loop of a grid point. -/
abbrev pointLoop : FVec Ideal S1024x1 .f32 × FVec Ideal S1024x128 .f32 × FVec Ideal S1024x1 .f32 × FVec Ideal S1024x128 .f32 :=
  st_k0_t1 (F := Ideal) Variants.none c none i arg2 harg2 arg3 harg3 arg4 harg4 arg5 harg5 arg6 harg6 arg7 harg7 (View.readAt (Elt Ideal) arg2.view (Rect.unit (s := S256x512) ![0, 0] S256x64.size inb_S256x512_S256x64_0_0).toLoadRect (harg2.unread x0)) (View.readAt (Elt Ideal) arg2.view (Rect.unit (s := S256x512) ![0, 64] S256x64.size inb_S256x512_S256x64_0_64).toLoadRect (harg2.unread x0)) (View.readAt (Elt Ideal) arg2.view (Rect.unit (s := S256x512) ![0, 128] S256x64.size inb_S256x512_S256x64_0_128).toLoadRect (harg2.unread x0)) (View.readAt (Elt Ideal) arg2.view (Rect.unit (s := S256x512) ![0, 192] S256x64.size inb_S256x512_S256x64_0_192).toLoadRect (harg2.unread x0)) (View.readAt (Elt Ideal) arg2.view (Rect.unit (s := S256x512) ![0, 256] S256x64.size inb_S256x512_S256x64_0_256).toLoadRect (harg2.unread x0)) (View.readAt (Elt Ideal) arg2.view (Rect.unit (s := S256x512) ![0, 320] S256x64.size inb_S256x512_S256x64_0_320).toLoadRect (harg2.unread x0)) (View.readAt (Elt Ideal) arg2.view (Rect.unit (s := S256x512) ![0, 384] S256x64.size inb_S256x512_S256x64_0_384).toLoadRect (harg2.unread x0)) (View.readAt (Elt Ideal) arg2.view (Rect.unit (s := S256x512) ![0, 448] S256x64.size inb_S256x512_S256x64_0_448).toLoadRect (harg2.unread x0)) (harg3.unread x1) X7
    (k0_pay29 (F := Ideal), k0_pay30 (F := Ideal), k0_pay31 (F := Ideal), k0_pay32 (F := Ideal)) 4

section
variable (x : Fin 2 → Fin 1024 → Fin 8192 → ℝ) (A : Fin 2 → Fin 8192 → Fin 128 → ℝ)
  (hx : ∀ (hh : Fin 2) (n : Fin 1024) (j : Fin 8192),
    ∑ d : Fin 64, (x0 (ix2 (ri n) (col (hd hh n) d)) : EReal) * x1 (ix2 j (kc hh d)) = ((x hh n j / Real.log 2 : ℝ) : EReal))
  (hA : ∀ (hh : Fin 2) (j : Fin 8192) (e : Fin 128),
    (arg7.view.read (Elt Ideal) X7 (ix2 j (⟨128 * hh.val + e.val, by omega⟩ : Fin 256)) : EReal) = (A hh j e : EReal))
  (hone : ∀ (hh : Fin 2) (j : Fin 8192), A hh j 64 = 1)

include hx hA in
/-- Every row has seen all the keys when the loop ends. -/
theorem loop_seen (n : Fin 1024) :
    RowSeen (fun j => x 0 n j / Real.log 2) (A 0) n 16 ((pointLoop c i arg2 harg2 arg3 harg3 arg4 harg4 arg5 harg5 arg6 harg6 arg7 harg7 x0 x1 X7).1, (pointLoop c i arg2 harg2 arg3 harg3 arg4 harg4 arg5 harg5 arg6 harg6 arg7 harg7 x0 x1 X7).2.1)
    ∧ RowSeen (fun j => x 1 n j / Real.log 2) (A 1) n 16 ((pointLoop c i arg2 harg2 arg3 harg3 arg4 harg4 arg5 harg5 arg6 harg6 arg7 harg7 x0 x1 X7).2.2.1, (pointLoop c i arg2 harg2 arg3 harg3 arg4 harg4 arg5 harg5 arg6 harg6 arg7 harg7 x0 x1 X7).2.2.2) := by
  refine state_seen Variants.none c none i arg2 harg2 arg3 harg3 arg4 harg4 arg5 harg5 arg6 harg6 arg7 harg7 (View.readAt (Elt Ideal) arg2.view (Rect.unit (s := S256x512) ![0, 0] S256x64.size inb_S256x512_S256x64_0_0).toLoadRect (harg2.unread x0)) (View.readAt (Elt Ideal) arg2.view (Rect.unit (s := S256x512) ![0, 64] S256x64.size inb_S256x512_S256x64_0_64).toLoadRect (harg2.unread x0)) (View.readAt (Elt Ideal) arg2.view (Rect.unit (s := S256x512) ![0, 128] S256x64.size inb_S256x512_S256x64_0_128).toLoadRect (harg2.unread x0)) (View.readAt (Elt Ideal) arg2.view (Rect.unit (s := S256x512) ![0, 192] S256x64.size inb_S256x512_S256x64_0_192).toLoadRect (harg2.unread x0)) (View.readAt (Elt Ideal) arg2.view (Rect.unit (s := S256x512) ![0, 256] S256x64.size inb_S256x512_S256x64_0_256).toLoadRect (harg2.unread x0)) (View.readAt (Elt Ideal) arg2.view (Rect.unit (s := S256x512) ![0, 320] S256x64.size inb_S256x512_S256x64_0_320).toLoadRect (harg2.unread x0)) (View.readAt (Elt Ideal) arg2.view (Rect.unit (s := S256x512) ![0, 384] S256x64.size inb_S256x512_S256x64_0_384).toLoadRect (harg2.unread x0)) (View.readAt (Elt Ideal) arg2.view (Rect.unit (s := S256x512) ![0, 448] S256x64.size inb_S256x512_S256x64_0_448).toLoadRect (harg2.unread x0)) (harg3.unread x1) X7
    (k0_pay29 (F := Ideal), k0_pay30 (F := Ideal), k0_pay31 (F := Ideal), k0_pay32 (F := Ideal)) n
    (fun j => x 0 n j / Real.log 2) (fun j => x 1 n j / Real.log 2) (A 0) (A 1) ?_ ?_ (fun j => ?_) (fun j => ?_) (fun j e => ?_) (fun j e => ?_) 4 le_rfl
  · exact seen_zero _ _ _ _ (start0 n) (empty0 n)
  · exact seen_zero _ _ _ _ (start1 n) (empty1 n)
  · refine Eq.trans (Fintype.sum_congr _ _ fun d => ?_) (hx 0 n j)
    rw [queries0, harg3.read_unread, kc_zero]
  · refine Eq.trans (Fintype.sum_congr _ _ fun d => ?_) (hx 1 n j)
    rw [queries1, harg3.read_unread, kc_one]
  · refine Eq.trans ?_ (hA 0 j e)
    exact congrArg (fun z => arg7.view.read (Elt Ideal) X7 (ix2 j z)) (Fin.ext (by simp))
  · exact hA 1 j e

include hx hA hone in
/-- A point's output. -/
theorem point_out (V : View sig .tc .vmem S256x512 .bf16) (f : BufTy.Contents (Elt Ideal) V.ty) (r : Fin 256) (h : Fin 8) (d : Fin 64) :
    V.read (Elt Ideal) (V.writes (Elt Ideal) f (outPieces (pointLoop c i arg2 harg2 arg3 harg3 arg4 harg4 arg5 harg5 arg6 harg6 arg7 harg7 x0 x1 X7).2.1 (pointLoop c i arg2 harg2 arg3 harg3 arg4 harg4 arg5 harg5 arg6 harg6 arg7 harg7 x0 x1 X7).2.2.2)) (ix2 r (col h d))
      = ((∑ j, Real.exp (x (kh h) (sr h r) j) / (∑ i, Real.exp (x (kh h) (sr h r) i)) * A (kh h) j (⟨d.val, by omega⟩ : Fin 128) : ℝ) : EReal) := by
  rw [outPieces, read_heads, heads_pay]
  have hs := loop_seen (X7 := X7) (x0 := x0) (x1 := x1) c i arg2 harg2 arg3 harg3 arg4 harg4 arg5 harg5 arg6 harg6 arg7 harg7 (x := x) (A := A) (hx := hx) (hA := hA) (sr h r)
  by_cases hh : h.val < 4
  · have e : kh h = 0 := Fin.ext (by simp; omega)
    rw [if_pos hh, e]
    exact seen_quotient (A 0) (x 0 (sr h r)) _ _ hs.1 (hone 0) _
  · have e : kh h = 1 := Fin.ext (by simp; omega)
    rw [if_neg hh, e]
    exact seen_quotient (A 1) (x 1 (sr h r)) _ _ hs.2 (hone 1) _

include hx hA hone in
/-- A point's logarithms of the rows' total weights. -/
theorem point_log (V : View sig .tc .vmem S1x256x8 .f32) (f : BufTy.Contents (Elt Ideal) V.ty) (r : Fin 256) (h : Fin 8) :
    V.read (Elt Ideal) (V.writes (Elt Ideal) f (logPieces (pointLoop c i arg2 harg2 arg3 harg3 arg4 harg4 arg5 harg5 arg6 harg6 arg7 harg7 x0 x1 X7).1 (pointLoop c i arg2 harg2 arg3 harg3 arg4 harg4 arg5 harg5 arg6 harg6 arg7 harg7 x0 x1 X7).2.2.1 (pointLoop c i arg2 harg2 arg3 harg3 arg4 harg4 arg5 harg5 arg6 harg6 arg7 harg7 x0 x1 X7).2.1 (pointLoop c i arg2 harg2 arg3 harg3 arg4 harg4 arg5 harg5 arg6 harg6 arg7 harg7 x0 x1 X7).2.2.2)) (ix3 0 r h)
      = ((Real.log (∑ i, Real.exp (x (kh h) (sr h r) i)) / Real.log 2 : ℝ) : EReal) := by
  rw [logPieces, read_cols, cols_pay]
  have hs := loop_seen (X7 := X7) (x0 := x0) (x1 := x1) c i arg2 harg2 arg3 harg3 arg4 harg4 arg5 harg5 arg6 harg6 arg7 harg7 (x := x) (A := A) (hx := hx) (hA := hA) (sr h r)
  by_cases hh : h.val < 4
  · have e : kh h = 0 := Fin.ext (by simp; omega)
    rw [if_pos hh, if_pos hh, e]
    exact seen_log (A 0) (x 0 (sr h r)) _ _ hs.1 (hone 0)
  · have e : kh h = 1 := Fin.ext (by simp; omega)
    rw [if_neg hh, if_neg hh, e]
    exact seen_log (A 1) (x 1 (sr h r)) _ _ hs.2 (hone 1)
end
end
end Cert.Fwd
-- ==== Proof.FwdOut.lean ====
module
public import proofs.«01_k».proof.Proof.FwdPoint
/-! What a point of the forward call leaves, in each of its two cases. -/
@[expose] public section
set_option maxRecDepth 16384
noncomputable section
namespace Cert.Fwd
open Cert.ForwardIdeal Cert.ForwardIdeal.Gen
open Idealize.ShloMosaic Idealize.ShloMosaic.TcCoe Idealize.ShloMosaic.Tactic
open Cert.Attn (ri hd col kc kc_zero kc_one vones kh sr)

section
variable (c : Dev nD) (i : grid0.Coords) (arg2 : Memref sig .tc .vmem S256x512 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x512 .bf16) (harg5 : arg5.IsWhole) (arg6 : Memref sig .tc .vmem S1x256x8 .f32) (harg6 : arg6.IsWhole) (arg7 : Memref sig .tc .vmem S8192x256 .bf16) (harg7 : arg7.IsWhole) (x0 : Vec Ideal S256x512 .bf16) (x1 : Vec Ideal S8192x128 .bf16) (x2 : Vec Ideal S8192x128 .bf16)

theorem runA_out (hc0 : cond0_0 i) : (kernelRun0_A (F := Ideal) c i arg2 harg2 arg3 harg3 arg4 harg4 arg5 harg5 arg6 harg6 arg7 harg7 hc0 x0 x1 x2).1 = outPieces (pointLoop c i arg2 harg2 arg3 harg3 arg4 harg4 arg5 harg5 arg6 harg6 arg7 harg7 x0 x1 (arg7.view.writes (Elt Ideal) arg7.view.junk (kernelRun0_A.sl.HS0_4 c arg4 harg4 x2))).2.1 (pointLoop c i arg2 harg2 arg3 harg3 arg4 harg4 arg5 harg5 arg6 harg6 arg7 harg7 x0 x1 (arg7.view.writes (Elt Ideal) arg7.view.junk (kernelRun0_A.sl.HS0_4 c arg4 harg4 x2))).2.2.2 := by
  unfold kernelRun0_A
  rfl

theorem runA_log (hc0 : cond0_0 i) : (kernelRun0_A (F := Ideal) c i arg2 harg2 arg3 harg3 arg4 harg4 arg5 harg5 arg6 harg6 arg7 harg7 hc0 x0 x1 x2).2.1 = logPieces (pointLoop c i arg2 harg2 arg3 harg3 arg4 harg4 arg5 harg5 arg6 harg6 arg7 harg7 x0 x1 (arg7.view.writes (Elt Ideal) arg7.view.junk (kernelRun0_A.sl.HS0_4 c arg4 harg4 x2))).1 (pointLoop c i arg2 harg2 arg3 harg3 arg4 harg4 arg5 harg5 arg6 harg6 arg7 harg7 x0 x1 (arg7.view.writes (Elt Ideal) arg7.view.junk (kernelRun0_A.sl.HS0_4 c arg4 harg4 x2))).2.2.1 (pointLoop c i arg2 harg2 arg3 harg3 arg4 harg4 arg5 harg5 arg6 harg6 arg7 harg7 x0 x1 (arg7.view.writes (Elt Ideal) arg7.view.junk (kernelRun0_A.sl.HS0_4 c arg4 harg4 x2))).2.1 (pointLoop c i arg2 harg2 arg3 harg3 arg4 harg4 arg5 harg5 arg6 harg6 arg7 harg7 x0 x1 (arg7.view.writes (Elt Ideal) arg7.view.junk (kernelRun0_A.sl.HS0_4 c arg4 harg4 x2))).2.2.2 := by
  unfold kernelRun0_A
  rfl

theorem runA_scratch (hc0 : cond0_0 i) : (kernelRun0_A (F := Ideal) c i arg2 harg2 arg3 harg3 arg4 harg4 arg5 harg5 arg6 harg6 arg7 harg7 hc0 x0 x1 x2).2.2.1 = kernelRun0_A.sl.HS0_4 c arg4 harg4 x2 := by
  unfold kernelRun0_A
  rfl

theorem runB_out (hc0 : ¬cond0_0 i) (xs0 : Vec Ideal S8192x256 .bf16) : (kernelRun0_B (F := Ideal) c i arg2 harg2 arg3 harg3 arg4 harg4 arg5 harg5 arg6 harg6 arg7 harg7 hc0 x0 x1 x2 xs0).1 = outPieces (pointLoop c i arg2 harg2 arg3 harg3 arg4 harg4 arg5 harg5 arg6 harg6 arg7 harg7 x0 x1 (harg7.unread xs0)).2.1 (pointLoop c i arg2 harg2 arg3 harg3 arg4 harg4 arg5 harg5 arg6 harg6 arg7 harg7 x0 x1 (harg7.unread xs0)).2.2.2 := by
  unfold kernelRun0_B
  rfl

theorem runB_log (hc0 : ¬cond0_0 i) (xs0 : Vec Ideal S8192x256 .bf16) : (kernelRun0_B (F := Ideal) c i arg2 harg2 arg3 harg3 arg4 harg4 arg5 harg5 arg6 harg6 arg7 harg7 hc0 x0 x1 x2 xs0).2.1 = logPieces (pointLoop c i arg2 harg2 arg3 harg3 arg4 harg4 arg5 harg5 arg6 harg6 arg7 harg7 x0 x1 (harg7.unread xs0)).1 (pointLoop c i arg2 harg2 arg3 harg3 arg4 harg4 arg5 harg5 arg6 harg6 arg7 harg7 x0 x1 (harg7.unread xs0)).2.2.1 (pointLoop c i arg2 harg2 arg3 harg3 arg4 harg4 arg5 harg5 arg6 harg6 arg7 harg7 x0 x1 (harg7.unread xs0)).2.1 (pointLoop c i arg2 harg2 arg3 harg3 arg4 harg4 arg5 harg5 arg6 harg6 arg7 harg7 x0 x1 (harg7.unread xs0)).2.2.2 := by
  unfold kernelRun0_B
  rfl

variable (x : Fin 2 → Fin 1024 → Fin 8192 → ℝ) (A : Fin 2 → Fin 8192 → Fin 128 → ℝ)
  (hx : ∀ (hh : Fin 2) (n : Fin 1024) (j : Fin 8192),
    ∑ d : Fin 64, (x0 (ix2 (ri n) (col (hd hh n) d)) : EReal) * x1 (ix2 j (kc hh d)) = ((x hh n j / Real.log 2 : ℝ) : EReal))
  (hA : ∀ (hh : Fin 2) (j : Fin 8192) (e : Fin 128), vones x2 hh j e = (A hh j e : EReal))
  (hone : ∀ (hh : Fin 2) (j : Fin 8192), A hh j 64 = 1)

include hx hA hone in
/-- A group's first point: the output. -/
theorem outA_3 (hc0 : cond0_0 i) (r : Fin 256) (h : Fin 8) (d : Fin 64) :
    out0_A_3 c i arg2 harg2 arg3 harg3 arg4 harg4 arg5 harg5 arg6 harg6 arg7 harg7 hc0 x0 x1 x2 (ix2 r (col h d))
      = ((∑ j, Real.exp (x (kh h) (sr h r) j) / (∑ i, Real.exp (x (kh h) (sr h r) i)) * A (kh h) j (⟨d.val, by omega⟩ : Fin 128) : ℝ) : EReal) := by
  unfold out0_A_3
  rw [runA_out]
  refine point_out (x := x) (A := A) (hx := hx) (hone := hone) (hA := fun hh j e => ?_) ..
  exact (read_scratch c arg4 harg4 arg7.view arg7.view.junk x2 hh j e).trans (hA hh j e)

include hx hA hone in
/-- A group's first point: the logarithms. -/
theorem outA_4 (hc0 : cond0_0 i) (r : Fin 256) (h : Fin 8) :
    out0_A_4 c i arg2 harg2 arg3 harg3 arg4 harg4 arg5 harg5 arg6 harg6 arg7 harg7 hc0 x0 x1 x2 (ix3 0 r h)
      = ((Real.log (∑ i, Real.exp (x (kh h) (sr h r) i)) / Real.log 2 : ℝ) : EReal) := by
  unfold out0_A_4
  rw [runA_log]
  refine point_log (x := x) (A := A) (hx := hx) (hone := hone) (hA := fun hh j e => ?_) ..
  exact (read_scratch c arg4 harg4 arg7.view arg7.view.junk x2 hh j e).trans (hA hh j e)

include hx hA hone in
/-- A group's later points: the output. -/
theorem outB_3 (hc0 : ¬cond0_0 i) (xs0 : Vec Ideal S8192x256 .bf16)
    (hs : ∀ (hh : Fin 2) (j : Fin 8192) (e : Fin 128), xs0 (ix2 j (⟨128 * hh.val + e.val, by omega⟩ : Fin 256)) = vones x2 hh j e) (r : Fin 256) (h : Fin 8) (d : Fin 64) :
    out0_B_3 c i arg2 harg2 arg3 harg3 arg4 harg4 arg5 harg5 arg6 harg6 arg7 harg7 hc0 x0 x1 x2 xs0 (ix2 r (col h d))
      = ((∑ j, Real.exp (x (kh h) (sr h r) j) / (∑ i, Real.exp (x (kh h) (sr h r) i)) * A (kh h) j (⟨d.val, by omega⟩ : Fin 128) : ℝ) : EReal) := by
  unfold out0_B_3
  rw [runB_out]
  refine point_out (x := x) (A := A) (hx := hx) (hone := hone) (hA := fun hh j e => ?_) ..
  rw [harg7.read_unread]
  exact (hs hh j e).trans (hA hh j e)

include hx hA hone in
/-- A group's later points: the logarithms. -/
theorem outB_4 (hc0 : ¬cond0_0 i) (xs0 : Vec Ideal S8192x256 .bf16)
    (hs : ∀ (hh : Fin 2) (j : Fin 8192) (e : Fin 128), xs0 (ix2 j (⟨128 * hh.val + e.val, by omega⟩ : Fin 256)) = vones x2 hh j e) (r : Fin 256) (h : Fin 8) :
    out0_B_4 c i arg2 harg2 arg3 harg3 arg4 harg4 arg5 harg5 arg6 harg6 arg7 harg7 hc0 x0 x1 x2 xs0 (ix3 0 r h)
      = ((Real.log (∑ i, Real.exp (x (kh h) (sr h r) i)) / Real.log 2 : ℝ) : EReal) := by
  unfold out0_B_4
  rw [runB_log]
  refine point_log (x := x) (A := A) (hx := hx) (hone := hone) (hA := fun hh j e => ?_) ..
  rw [harg7.read_unread]
  exact (hs hh j e).trans (hA hh j e)

/-- The scratch after a group's first point. -/
theorem soutA (hc0 : cond0_0 i) (hh : Fin 2) (j : Fin 8192) (e : Fin 128) :
    sout0_A_0 c i arg2 harg2 arg3 harg3 arg4 harg4 arg5 harg5 arg6 harg6 arg7 harg7 hc0 x0 x1 x2 (ix2 j (⟨128 * hh.val + e.val, by omega⟩ : Fin 256)) = vones x2 hh j e := by
  unfold sout0_A_0
  rw [runA_scratch]
  exact read_scratch c arg4 harg4 _ _ x2 hh j e
end
end Cert.Fwd
-- ==== Proof.FwdHost.lean ====
module
public import proofs.«01_k».proof.Proof.HostReals
public import proofs.«01_k».proof.Proof.Gen.ForwardIdeal.Frame
/-! What the forward call is given, for real arguments. -/
@[expose] public section
set_option maxRecDepth 16384
noncomputable section
namespace Cert.Fwd
open Cert.ForwardIdeal Cert.ForwardIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The arguments, and the arrays of the call. -/
abbrev argQ : Vec Ideal S8192x1024 .f32 := m ((c : Thread nD τ).loc main_arg0)
abbrev argK : Vec Ideal S8192x256 .f32 := m ((c : Thread nD τ).loc main_arg1)
abbrev argV : Vec Ideal S8192x256 .f32 := m ((c : Thread nD τ).loc main_arg2)
abbrev inQ : Vec Ideal S8192x1024 .bf16 := V m c (Pipeline.arrRef spec0 0)
abbrev inK : Vec Ideal S8192x256 .bf16 := V m c (Pipeline.arrRef spec0 1)
abbrev inV : Vec Ideal S8192x256 .bf16 := V m c (Pipeline.arrRef spec0 2)

theorem inQ_eq : inQ m c = (truncf .bf16 (mulf (argQ m c : FVec Ideal S8192x1024 .f32) (broadcastInDim S8192x1024 ![] bcast_S_S8192x1024
      (Host.divf (constant S_ .f32 0x3E000000#32) (Host.log (constant S_ .f32 0x40000000#32))))) bitsLt_bf16_f32 : FVec Ideal S8192x1024 .bf16) := by
  show StableHlo.after (hostOps0 (F := Ideal)) (fun b => m (c, b)) (Proc.devRef .tc main_v4) = _
  after_results
theorem inK_eq : inK m c = (truncf .bf16 (argK m c : FVec Ideal S8192x256 .f32) bitsLt_bf16_f32 : FVec Ideal S8192x256 .bf16) := by
  show StableHlo.after (hostOps0 (F := Ideal)) (fun b => m (c, b)) (Proc.devRef .tc main_v5) = _
  after_results
theorem inV_eq : inV m c = (truncf .bf16 (argV m c : FVec Ideal S8192x256 .f32) bitsLt_bf16_f32 : FVec Ideal S8192x256 .bf16) := by
  show StableHlo.after (hostOps0 (F := Ideal)) (fun b => m (c, b)) (Proc.devRef .tc main_v6) = _
  after_results

variable (q : Fin 8192 → Fin 1024 → ℝ) (k v : Fin 8192 → Fin 256 → ℝ)
  (hQ : ∀ s x, argQ m c (ix2 s x) = ((q s x : ℝ) : EReal))
  (hK : ∀ j y, argK m c (ix2 j y) = ((k j y : ℝ) : EReal))
  (hW : ∀ j y, argV m c (ix2 j y) = ((v j y : ℝ) : EReal))

include hQ in
theorem inQ_real (s : Fin 8192) (x : Fin 1024) : inQ m c (ix2 s x) = ((q s x * (1 / 8 / Real.log 2) : ℝ) : EReal) :=
  (congrArg (fun z => z (ix2 s x)) (inQ_eq m c)).trans (Cert.Attn.scaled_real q _ hQ s x)
include hK in
theorem inK_real (j : Fin 8192) (y : Fin 256) : inK m c (ix2 j y) = ((k j y : ℝ) : EReal) :=
  (congrArg (fun z => z (ix2 j y)) (inK_eq m c)).trans (hK j y)
include hW in
theorem inV_real (j : Fin 8192) (y : Fin 256) : inV m c (ix2 j y) = ((v j y : ℝ) : EReal) :=
  (congrArg (fun z => z (ix2 j y)) (inV_eq m c)).trans (hW j y)
end Cert.Fwd
-- ==== Proof.FwdBlocks.lean ====
module
public import proofs.«01_k».proof.Proof.FwdOut
public import proofs.«01_k».proof.Proof.FwdHost
public import Idealize.ShloMosaic.Lib.Pipeline.ValueKit
/-! The forward call's blocks at each grid point, and what the two result arrays hold, for real arguments.

Point `t` works on group `t / 32` of eight query heads (two key heads) and on query rows `256 (t % 32)` onwards. -/
@[expose] public section
set_option maxRecDepth 16384
noncomputable section
namespace Cert.Fwd
open Cert.ForwardIdeal Cert.ForwardIdeal.Gen
open Idealize.ShloMosaic Idealize.ShloMosaic.TcCoe Idealize.ShloMosaic.Tactic
open Cert.Attn (ri hd col kc vones kh sr qrow qcol kcol cq ck kOf hOf dOf grp plc sHead rS rP rO coe_dot)

theorem points : cfg0.N = 64 := by decide +kernel

/-- The group of a point and its block of query rows. -/
def gOf (t : Fin cfg0.N) : Fin 2 := ⟨t.val / 32, by have := t.isLt; have := points; omega⟩
def iOf (t : Fin cfg0.N) : Fin 32 := ⟨t.val % 32, Nat.mod_lt _ (by decide)⟩

/-- The point of a group and a block of rows. -/
def pt (g : Fin 2) (i : Fin 32) : Fin cfg0.N := ⟨32 * g.val + i.val, by have := points; omega⟩

theorem gOf_pt (g : Fin 2) (i : Fin 32) : gOf (pt g i) = g := Fin.ext (by simp only [gOf, pt]; omega)
theorem iOf_pt (g : Fin 2) (i : Fin 32) : iOf (pt g i) = i := Fin.ext (by simp only [iOf, pt]; omega)

theorem pt_of (t : Fin cfg0.N) : t = pt (gOf t) (iOf t) :=
  Fin.ext (by show t.val = 32 * (t.val / 32) + t.val % 32; omega)

theorem index0 : ∀ t : Fin cfg0.N, win0_0.index t = ![t.val % 32, t.val / 32] := (by decide +kernel : ∀ t : Fin grid0.N, _)
theorem index1 : ∀ t : Fin cfg0.N, win0_1.index t = ![0, t.val / 32] := (by decide +kernel : ∀ t : Fin grid0.N, _)
theorem index2 : ∀ t : Fin cfg0.N, win0_2.index t = ![0, t.val / 32] := (by decide +kernel : ∀ t : Fin grid0.N, _)
theorem index3 : ∀ t : Fin cfg0.N, win0_3.index t = ![t.val % 32, t.val / 32] := (by decide +kernel : ∀ t : Fin grid0.N, _)
theorem index4 : ∀ t : Fin cfg0.N, win0_4.index t = ![t.val / 32, t.val % 32, 0] := (by decide +kernel : ∀ t : Fin grid0.N, _)

section
variable (m : (ℓ : Loc nD τ sig) → Buf (Elt Ideal) ℓ) (c : Dev nD) (t : Fin cfg0.N)

theorem block_0 (f : Vec Ideal S8192x1024 .bf16) (i : Fin 256) (x : Fin 512) :
    (((cfg0.win 0).blk t).view.read (Elt Ideal) f : Vec Ideal S256x512 .bf16) (ix2 i x) = f (ix2 (qrow (iOf t) i) (qcol (gOf t) x)) := by
  show f (((cfg0.win 0).blk t).view.emb (ix2 i x)) = _
  refine congrArg _ (funext fun a => Fin.ext ?_)
  have e := index0 t
  fin_cases a
  · show win0_0.index t (0 : Fin 2) * 256 + 1 * i.val = 256 * (t.val % 32) + i.val
    rw [e]; simp; omega
  · show win0_0.index t (1 : Fin 2) * 512 + 1 * x.val = 512 * (t.val / 32) + x.val
    rw [e]; simp; omega

theorem iblk_0 (i : Fin 256) (x : Fin 512) :
    (iblk m c 0 t : Vec Ideal S256x512 .bf16) (ix2 i x)
      = (V m c (Pipeline.arrRef spec0 0) : Vec Ideal S8192x1024 .bf16) (ix2 (qrow (iOf t) i) (qcol (gOf t) x)) :=
  block_0 t _ i x

theorem block_1 (f : Vec Ideal S8192x256 .bf16) (j : Fin 8192) (x : Fin 128) :
    (((cfg0.win 1).blk t).view.read (Elt Ideal) f : Vec Ideal S8192x128 .bf16) (ix2 j x) = f (ix2 j (kcol (gOf t) x)) := by
  show f (((cfg0.win 1).blk t).view.emb (ix2 j x)) = _
  refine congrArg _ (funext fun a => Fin.ext ?_)
  have e := index1 t
  fin_cases a
  · show win0_1.index t (0 : Fin 2) * 8192 + 1 * j.val = j.val
    rw [e]; simp
  · show win0_1.index t (1 : Fin 2) * 128 + 1 * x.val = 128 * (t.val / 32) + x.val
    rw [e]; simp; omega

theorem iblk_1 (j : Fin 8192) (x : Fin 128) :
    (iblk m c 1 t : Vec Ideal S8192x128 .bf16) (ix2 j x)
      = (V m c (Pipeline.arrRef spec0 1) : Vec Ideal S8192x256 .bf16) (ix2 j (kcol (gOf t) x)) :=
  block_1 t _ j x

theorem block_2 (f : Vec Ideal S8192x256 .bf16) (j : Fin 8192) (x : Fin 128) :
    (((cfg0.win 2).blk t).view.read (Elt Ideal) f : Vec Ideal S8192x128 .bf16) (ix2 j x) = f (ix2 j (kcol (gOf t) x)) := by
  show f (((cfg0.win 2).blk t).view.emb (ix2 j x)) = _
  refine congrArg _ (funext fun a => Fin.ext ?_)
  have e := index2 t
  fin_cases a
  · show win0_2.index t (0 : Fin 2) * 8192 + 1 * j.val = j.val
    rw [e]; simp
  · show win0_2.index t (1 : Fin 2) * 128 + 1 * x.val = 128 * (t.val / 32) + x.val
    rw [e]; simp; omega

theorem iblk_2 (j : Fin 8192) (x : Fin 128) :
    (iblk m c 2 t : Vec Ideal S8192x128 .bf16) (ix2 j x)
      = (V m c (Pipeline.arrRef spec0 2) : Vec Ideal S8192x256 .bf16) (ix2 j (kcol (gOf t) x)) :=
  block_2 t _ j x

/-- What the scratch holds while a group is worked on: its values, widened by ones. -/
def held (g hh : Fin 2) (j : Fin 8192) (e : Fin 128) : EReal :=
  if h : e.val < 64 then inV m c (ix2 j (kcol g (kc hh ⟨e.val, h⟩))) else 1

theorem vones_block (hh : Fin 2) (j : Fin 8192) (e : Fin 128) :
    vones (iblk m c 2 t) hh j e = held m c (gOf t) hh j e := by
  unfold vones held
  split
  · exact iblk_2 m c t _ _
  · rfl

theorem vones_pt (g : Fin 2) (i : Fin 32) (hh : Fin 2) (j : Fin 8192) (e : Fin 128) :
    vones (iblk m c 2 (pt g i)) hh j e = held m c g hh j e := by
  rw [vones_block, gOf_pt]

/-- The scratch after each point. -/
theorem scratch_first (g hh : Fin 2) (j : Fin 8192) (e : Fin 128) :
    (outsAt0 m c (pt g ⟨0, by decide⟩).val (pt g ⟨0, by decide⟩).isLt).2.2 (ix2 j (⟨128 * hh.val + e.val, by omega⟩ : Fin 256)) = held m c g hh j e := by
  have h0 : (pt g ⟨0, by decide⟩).val % 32 = 0 := by show (32 * g.val + 0) % 32 = 0; omega
  refine (congrArg (fun z => z.2.2 (ix2 j (⟨128 * hh.val + e.val, by omega⟩ : Fin 256))) (outsAt0_A m c (pt g ⟨0, by decide⟩) h0)).trans ?_
  dsimp only
  rw [soutA]
  exact vones_pt m c g _ hh j e

theorem scratch_all (g hh : Fin 2) (j : Fin 8192) (e : Fin 128) : ∀ (i : ℕ) (hi : i < 32),
    (outsAt0 m c (pt g ⟨i, hi⟩).val (pt g ⟨i, hi⟩).isLt).2.2 (ix2 j (⟨128 * hh.val + e.val, by omega⟩ : Fin 256)) = held m c g hh j e
  | 0, _ => scratch_first m c g hh j e
  | i + 1, hi => by
    have h0 : ¬(pt g ⟨i + 1, hi⟩).val % 32 = 0 := by show ¬(32 * g.val + (i + 1)) % 32 = 0; omega
    exact (congrArg (fun z => z.2.2 (ix2 j (⟨128 * hh.val + e.val, by omega⟩ : Fin 256))) (outsAt0_B m c (pt g ⟨i + 1, hi⟩) h0)).trans
      (scratch_all g hh j e i (by omega))
end

section
variable (m : (ℓ : Loc nD τ sig) → Buf (Elt Ideal) ℓ) (c : Dev nD)
  (q : Fin 8192 → Fin 1024 → ℝ) (k v : Fin 8192 → Fin 256 → ℝ)
  (hQ : ∀ s x, argQ m c (ix2 s x) = ((q s x : ℝ) : EReal))
  (hK : ∀ j y, argK m c (ix2 j y) = ((k j y : ℝ) : EReal))
  (hW : ∀ j y, argV m c (ix2 j y) = ((v j y : ℝ) : EReal))

/-- A point's scores, and its values widened by ones. -/
def scr (g : Fin 2) (i : Fin 32) (hh : Fin 2) (n : Fin 1024) (j : Fin 8192) : ℝ := rS q k (sHead g hh n) (qrow i (ri n)) j
def wid (g hh : Fin 2) (j : Fin 8192) (e : Fin 128) : ℝ :=
  if h : e.val < 64 then v j (ck (⟨2 * g.val + hh.val, by omega⟩ : Fin 4) ⟨e.val, h⟩) else 1

theorem wid_one (g hh : Fin 2) (j : Fin 8192) : wid v g hh j 64 = 1 := dif_neg (by decide)

/-- A point's blocks of queries and of keys. -/
abbrev bQ (t : Fin cfg0.N) : Vec Ideal S256x512 .bf16 := iblk m c 0 t
abbrev bK (t : Fin cfg0.N) : Vec Ideal S8192x128 .bf16 := iblk m c 1 t

include hQ hK in
theorem scr_pt (g : Fin 2) (i : Fin 32) (hh : Fin 2) (n : Fin 1024) (j : Fin 8192) :
    ∑ d : Fin 64, (bQ m c (pt g i) (ix2 (ri n) (col (hd hh n) d)) : EReal) * bK m c (pt g i) (ix2 j (kc hh d))
      = ((scr q k g i hh n j / Real.log 2 : ℝ) : EReal) := by
  have e : ∑ d : Fin 64, q (qrow i (ri n)) (cq (sHead g hh n) d) * (1 / 8 / Real.log 2) * k j (ck (kOf (sHead g hh n)) d)
      = scr q k g i hh n j / Real.log 2 := by
    unfold scr rS
    rw [Finset.sum_mul, Finset.sum_div]
    exact Finset.sum_congr rfl fun d _ => by ring
  rw [← e, ← coe_dot]
  refine Fintype.sum_congr _ _ fun d => ?_
  refine congrArg₂ (fun a b : EReal => a * b) ((iblk_0 m c (pt g i) _ _).trans ?_) ((iblk_1 m c (pt g i) _ _).trans ?_)
  · rw [gOf_pt, iOf_pt]
    refine Eq.trans ?_ (inQ_real m c q hQ (qrow i (ri n)) (cq (sHead g hh n) d))
    exact congrArg (fun z => inQ m c (ix2 (qrow i (ri n)) z)) (Fin.ext (by simp; omega))
  · rw [gOf_pt]
    refine Eq.trans ?_ (inK_real m c k hK j (ck (kOf (sHead g hh n)) d))
    exact congrArg (fun z => inK m c (ix2 j z)) (Fin.ext (by simp; omega))

include hW in
theorem held_real (g hh : Fin 2) (j : Fin 8192) (e : Fin 128) : held m c g hh j e = ((wid v g hh j e : ℝ) : EReal) := by
  unfold held wid
  split
  · refine Eq.trans ?_ (inV_real m c v hW j _)
    exact congrArg (fun z => inV m c (ix2 j z)) (Fin.ext (by simp; omega))
  · rfl

/-- Query head `h` of the eight of group `g`. -/
abbrev gh (g : Fin 2) (h : Fin 8) : Fin 16 := ⟨8 * g.val + h.val, by omega⟩

theorem head_eq (g : Fin 2) (h : Fin 8) (r : Fin 256) : sHead g (kh h) (sr h r) = gh g h := Fin.ext (by simp; omega)
theorem row_eq (h : Fin 8) (r : Fin 256) : ri (sr h r) = r := Fin.ext (by simp)

theorem mix_eq (g : Fin 2) (i : Fin 32) (h : Fin 8) (r : Fin 256) (d : Fin 64) :
    ∑ j, Real.exp (scr q k g i (kh h) (sr h r) j) / (∑ i', Real.exp (scr q k g i (kh h) (sr h r) i'))
        * wid v g (kh h) j (⟨d.val, by omega⟩ : Fin 128) = rO q k v (gh g h) (qrow i r) d := by
  unfold scr rO rP
  rw [head_eq, row_eq]
  refine Finset.sum_congr rfl fun j _ => congrArg₂ (fun a b : ℝ => a * b) rfl ?_
  unfold wid
  rw [dif_pos d.isLt]
  exact congrArg (v j) (Fin.ext (by simp; omega))

theorem tot_eq (g : Fin 2) (i : Fin 32) (h : Fin 8) (r : Fin 256) :
    Real.log (∑ i', Real.exp (scr q k g i (kh h) (sr h r) i')) / Real.log 2
      = Real.log (∑ i', Real.exp (rS q k (gh g h) (qrow i r) i')) / Real.log 2 := by
  unfold scr
  rw [head_eq, row_eq]

include hQ hK hW in
/-- A point's two blocks. -/
theorem block_out (g : Fin 2) (i : Fin 32) (r : Fin 256) (h : Fin 8) (d : Fin 64) :
    (outsAt0 m c (pt g i).val (pt g i).isLt).1 (ix2 r (col h d)) = ((rO q k v (gh g h) (qrow i r) d : ℝ) : EReal) := by
  have hA : ∀ (hh : Fin 2) (j : Fin 8192) (e : Fin 128), vones (iblk m c 2 (pt g i)) hh j e = ((wid v g hh j e : ℝ) : EReal) :=
    fun hh j e => (vones_pt m c g i hh j e).trans (held_real m c v hW g hh j e)
  have hx := scr_pt m c q k hQ hK g i
  rw [← mix_eq q k v g i h r d]
  obtain ⟨i, hi⟩ := i
  cases i with
  | zero =>
    have h0 : (pt g ⟨0, hi⟩).val % 32 = 0 := by show (32 * g.val + 0) % 32 = 0; omega
    refine (congrArg (fun z => z.1 (ix2 r (col h d))) (outsAt0_A m c (pt g ⟨0, hi⟩) h0)).trans ?_
    dsimp only
    exact outA_3 (x := scr q k g ⟨0, hi⟩) (A := wid v g) (hx := hx) (hA := hA) (hone := wid_one v g) ..
  | succ i =>
    have h0 : ¬(pt g ⟨i + 1, hi⟩).val % 32 = 0 := by show ¬(32 * g.val + (i + 1)) % 32 = 0; omega
    refine (congrArg (fun z => z.1 (ix2 r (col h d))) (outsAt0_B m c (pt g ⟨i + 1, hi⟩) h0)).trans ?_
    dsimp only
    exact outB_3 (x := scr q k g ⟨i + 1, hi⟩) (A := wid v g) (hx := hx) (hA := hA) (hone := wid_one v g)
      (hs := fun hh j e => (scratch_all m c g hh j e i (by omega)).trans (vones_pt m c g _ hh j e).symm) ..

include hQ hK hW in
theorem block_log (g : Fin 2) (i : Fin 32) (r : Fin 256) (h : Fin 8) :
    (outsAt0 m c (pt g i).val (pt g i).isLt).2.1 (ix3 0 r h)
      = ((Real.log (∑ i', Real.exp (rS q k (gh g h) (qrow i r) i')) / Real.log 2 : ℝ) : EReal) := by
  have hA : ∀ (hh : Fin 2) (j : Fin 8192) (e : Fin 128), vones (iblk m c 2 (pt g i)) hh j e = ((wid v g hh j e : ℝ) : EReal) :=
    fun hh j e => (vones_pt m c g i hh j e).trans (held_real m c v hW g hh j e)
  have hx := scr_pt m c q k hQ hK g i
  rw [← tot_eq q k g i h r]
  obtain ⟨i, hi⟩ := i
  cases i with
  | zero =>
    have h0 : (pt g ⟨0, hi⟩).val % 32 = 0 := by show (32 * g.val + 0) % 32 = 0; omega
    refine (congrArg (fun z => z.2.1 (ix3 0 r h)) (outsAt0_A m c (pt g ⟨0, hi⟩) h0)).trans ?_
    dsimp only
    exact outA_4 (x := scr q k g ⟨0, hi⟩) (A := wid v g) (hx := hx) (hA := hA) (hone := wid_one v g) ..
  | succ i =>
    have h0 : ¬(pt g ⟨i + 1, hi⟩).val % 32 = 0 := by show ¬(32 * g.val + (i + 1)) % 32 = 0; omega
    refine (congrArg (fun z => z.2.1 (ix3 0 r h)) (outsAt0_B m c (pt g ⟨i + 1, hi⟩) h0)).trans ?_
    dsimp only
    exact outB_4 (x := scr q k g ⟨i + 1, hi⟩) (A := wid v g) (hx := hx) (hA := hA) (hone := wid_one v g)
      (hs := fun hh j e => (scratch_all m c g hh j e i (by omega)).trans (vones_pt m c g _ hh j e).symm) ..

/-- What the two result arrays hold, as functions of the index. -/
abbrev allO : Vec Ideal S8192x1024 .bf16 := fun y => ((rO q k v (hOf (y 1)) (y 0) (dOf (y 1)) : ℝ) : EReal)
abbrev allL : Vec Ideal S2x8192x8 .f32 := fun y =>
  ((Real.log (∑ i', Real.exp (rS q k (gh (y 0) (y 2)) (y 1) i')) / Real.log 2 : ℝ) : EReal)

theorem tile_3 (f : Vec Ideal S8192x1024 .bf16) (t : Fin cfg0.N) (r : Fin 256) (x : Fin 512) :
    (((cfg0.win 3).blk t).view.read (Elt Ideal) f : Vec Ideal S256x512 .bf16) (ix2 r x) = f (ix2 (qrow (iOf t) r) (qcol (gOf t) x)) := by
  show f (((cfg0.win 3).blk t).view.emb (ix2 r x)) = _
  refine congrArg _ (funext fun a => Fin.ext ?_)
  have e := index3 t
  fin_cases a
  · show win0_3.index t (0 : Fin 2) * 256 + 1 * r.val = 256 * (t.val % 32) + r.val
    rw [e]; simp; omega
  · show win0_3.index t (1 : Fin 2) * 512 + 1 * x.val = 512 * (t.val / 32) + x.val
    rw [e]; simp; omega

theorem tile_4 (f : Vec Ideal S2x8192x8 .f32) (t : Fin cfg0.N) (r : Fin 256) (h : Fin 8) :
    (((cfg0.win 4).blk t).view.read (Elt Ideal) f : Vec Ideal S1x256x8 .f32) (ix3 0 r h) = f (ix3 (gOf t) (qrow (iOf t) r) h) := by
  show f (((cfg0.win 4).blk t).view.emb (ix3 0 r h)) = _
  refine congrArg _ (funext fun a => Fin.ext ?_)
  have e := index4 t
  fin_cases a
  · show win0_4.index t (0 : Fin 3) * 1 + 1 * 0 = t.val / 32
    rw [e]; simp
  · show win0_4.index t (1 : Fin 3) * 256 + 1 * r.val = 256 * (t.val % 32) + r.val
    rw [e]; simp; omega
  · show win0_4.index t (2 : Fin 3) * 8 + 1 * h.val = h.val
    rw [e]; simp

include hQ hK hW in
theorem back_3 (t : Fin cfg0.N) : (dats m 0 c).flushed 3 t = ((cfg0.win 3).blk t).view.read (Elt Ideal) (allO q k v) := by
  funext y
  obtain ⟨r, x, rfl⟩ : ∃ r x, y = (ix2 r x : S256x512.Idx) := ⟨y 0, y 1, eq_ix2 y⟩
  rw [tile_3]
  show (dats m 0 c).after 3 t (ix2 r x) = _
  rw [after0_3]
  have e := pt_of t
  generalize gOf t = g at e
  generalize iOf t = i at e
  subst e
  have ex : x = col (⟨x.val / 64, by omega⟩ : Fin 8) (⟨x.val % 64, by omega⟩ : Fin 64) := Fin.ext (by simp; omega)
  refine (congrArg (fun z => (outsAt0 m c (pt g i).val (pt g i).isLt).1 (ix2 r z)) ex).trans ((block_out m c q k v hQ hK hW g i r _ _).trans ?_)
  exact congrArg₂ (fun a b => ((rO q k v a (qrow i r) b : ℝ) : EReal)) (Fin.ext (by simp; omega)) (Fin.ext (by simp; omega))

include hQ hK hW in
theorem back_4 (t : Fin cfg0.N) : (dats m 0 c).flushed 4 t = ((cfg0.win 4).blk t).view.read (Elt Ideal) (allL q k) := by
  funext y
  obtain ⟨r, h, rfl⟩ : ∃ r h, y = (ix3 0 r h : S1x256x8.Idx) :=
    ⟨y 1, y 2, by funext a; fin_cases a; · exact Subsingleton.elim (α := Fin 1) _ _
                  · rfl
                  · rfl⟩
  rw [tile_4]
  show (dats m 0 c).after 4 t (ix3 0 r h) = _
  rw [after0_4]
  have e := pt_of t
  generalize gOf t = g at e
  generalize iOf t = i at e
  subst e
  exact block_log m c q k v hQ hK hW g i r h

include hQ hK hW in
theorem final_3 : (dats m 0 c).arrAt 3 cfg0.N = allO q k v :=
  (dats m 0 c).arrAt_eq_of_cover 3 (allO q k v) (fun t _ => back_3 m c q k v hQ hK hW t)
    (Pipeline.Window.Covers.cover win0_3 (by decide +kernel) (arr_whole0 3))
include hQ hK hW in
theorem final_4 : (dats m 0 c).arrAt 4 cfg0.N = allL q k :=
  (dats m 0 c).arrAt_eq_of_cover 4 (allL q k) (fun t _ => back_4 m c q k v hQ hK hW t)
    (Pipeline.Window.Covers.cover win0_4 (by decide +kernel) (arr_whole0 4))
end
end Cert.Fwd
-- ==== Proof.FwdRef.lean ====
module
public import proofs.«01_k».proof.Proof.HostReals
public import proofs.«01_k».proof.Proof.FwdReal
public import proofs.«01_k».proof.Proof.Gen.ForwardReferenceIdeal.Run
import Idealize.ShloMosaic.Lib.Pointwise
/-! The forward call's reference: the attention's output and the logarithms of its denominators, for real arguments. -/
@[expose] public section
set_option maxRecDepth 16384
noncomputable section
namespace Cert.Fwd
open Cert.ForwardReferenceIdeal Cert.ForwardReferenceIdeal.Gen
open Idealize.ShloMosaic Idealize.ShloMosaic.TcCoe Idealize.ShloMosaic.Tactic Idealize.ShloMosaic.StableHlo Idealize.SL.Sem
open Cert.Attn

section
variable (Q : FVec Ideal S8192x1024 .f32) (K W : FVec Ideal S8192x256 .f32)

/-- The attention's output by heads. -/
def mixed (E : FVec Ideal S4x4x8192x8192 .f32) (L : FVec Ideal S4x4x8192x1 .f32) : FVec Ideal S4x4x8192x64 .f32 :=
  Host.dotGeneral dot_S4x4x8192x8192_S4x8192x64_S4x4x8192x64_3_1_12_2_0_0 none
    (Host.divf E (broadcastInDim S4x4x8192x8192 ![0, 1, 2, 3] bcast_S4x4x8192x1_S4x4x8192x8192_0_1_2_3 L))
    (transpose S4x8192x64 [1, 0, 2] (shapeCast S8192x4x64 W shapeCasts_S8192x256_S8192x4x64 : FVec Ideal S8192x4x64 .f32)
      transposes_S8192x4x64_S4x8192x64_1_0_2)
/-- Its layout in the result. -/
def flat (o : FVec Ideal S4x4x8192x64 .f32) : FVec Ideal S8192x1024 .bf16 :=
  truncf .bf16 (shapeCast S8192x1024 (transpose S8192x16x64 [1, 0, 2]
    (shapeCast S16x8192x64 o shapeCasts_S4x4x8192x64_S16x8192x64 : FVec Ideal S16x8192x64 .f32) transposes_S16x8192x64_S8192x16x64_1_0_2)
    shapeCasts_S8192x16x64_S8192x1024 : FVec Ideal S8192x1024 .f32) bitsLt_bf16_f32
/-- The layout of the logarithms. -/
def grouped (l : FVec Ideal S4x4x8192x1 .f32) : FVec Ideal S2x8192x8 .f32 :=
  transpose S2x8192x8 [0, 2, 1] (shapeCast S2x8x8192 l shapeCasts_S4x4x8192x1_S2x8x8192 : FVec Ideal S2x8x8192 .f32)
    transposes_S2x8x8192_S2x8192x8_0_2_1

theorem mixed_at (E : FVec Ideal S4x4x8192x8192 .f32) (L : FVec Ideal S4x4x8192x1 .f32) (g r : Fin 4) (s : Fin 8192) (d : Fin 64) :
    mixed W E L (ix4 g r s d) = ∑ j : Fin 8192, Ideal.div (E (ix4 g r s j)) (L (ix4 g r s 0)) * W (ix2 j (⟨g.val * 64 + d.val, by omega⟩ : Fin 256)) := by
  unfold mixed
  pointwise []
theorem flat_at (o : FVec Ideal S4x4x8192x64 .f32) (s : Fin 8192) (x : Fin 1024) :
    flat o (ix2 s x) = o (ix4 (⟨x.val / 64 / 4, by omega⟩ : Fin 4) (⟨x.val / 64 % 4, by omega⟩ : Fin 4) s (⟨x.val % 64, by omega⟩ : Fin 64)) := by
  unfold flat
  pointwise []
theorem grouped_at (l : FVec Ideal S4x4x8192x1 .f32) (g : Fin 2) (s : Fin 8192) (h : Fin 8) :
    grouped l (ix3 g s h) = l (ix4 (⟨g.val * 2 + h.val / 4, by omega⟩ : Fin 4) (⟨h.val % 4, by omega⟩ : Fin 4) s 0) := by
  unfold grouped
  pointwise []

/-- The two results, from the arguments. -/
def refO : FVec Ideal S8192x1024 .bf16 := flat (mixed W (Plain.xE Q K) (Plain.xL Q K))
def refL : FVec Ideal S2x8192x8 .f32 := grouped (hLse Q K)

variable (q : Fin 8192 → Fin 1024 → ℝ) (k v : Fin 8192 → Fin 256 → ℝ)
  (hQ : ∀ s x, Q (ix2 s x) = ((q s x : ℝ) : EReal))
  (hK : ∀ j y, K (ix2 j y) = ((k j y : ℝ) : EReal))
  (hW : ∀ j y, W (ix2 j y) = ((v j y : ℝ) : EReal))

include hQ hK hW in
theorem refO_real (s : Fin 8192) (h : Fin 16) (d : Fin 64) : refO Q K W (ix2 s (cq h d)) = ((rO q k v h s d : ℝ) : EReal) := by
  unfold refO
  rw [flat_at, mixed_at]
  simp only [prob_real q k Q K hQ hK, hW, coe_dot]
  congr 1
  rw [hd4_head h _ _ (by simp; omega) (by simp; omega)]
  refine Finset.sum_congr rfl fun j _ => ?_
  exact congrArg (fun z => rP q k h s j * v j z) (Fin.ext (by simp; omega))

include hQ hK in
theorem refL_real (h : Fin 16) (s : Fin 8192) :
    refL Q K (ix3 (grp h) s (plc h)) = ((Real.log (∑ i, Real.exp (rS q k h s i)) / Real.log 2 : ℝ) : EReal) := by
  obtain ⟨M, hM'⟩ := hLse_real q k _ _ hQ hK (⟨h.val / 4, by omega⟩ : Fin 4) (⟨h.val % 4, by omega⟩ : Fin 4) s
  rw [hd4_head h _ _ rfl rfl, log_shift (fun i => rS q k h s i) M] at hM'
  unfold refL
  refine (grouped_at _ (grp h) s (plc h)).trans (Eq.trans ?_ hM')
  exact congrArg₂ (fun y z => hLse Q K (ix4 y z s 0)) (Fin.ext (by simp; omega)) (Fin.ext (by simp))
end

/-- The reference runs and leaves these two results. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = refO (m ((c.tc : Thread nD τ).loc main_arg0)) (m ((c.tc : Thread nD τ).loc main_arg1)) (m ((c.tc : Thread nD τ).loc main_arg2))
      ∧ r.2.mem ((c.tc : Thread nD τ).loc main_v39) = refL (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ForwardReferenceIdeal.Value.run (F := Ideal) m ρ
end Cert.Fwd
-- ==== Proof.FwdFinite.lean ====
module
public import proofs.«01_k».proof.Proof.Finite
public import proofs.«01_k».proof.Pre_finite_forward
import Idealize.ShloMosaic.Lib.Pointwise
/-! What the forward call's precondition says: every element of an argument is a real. -/
@[expose] public section
set_option maxRecDepth 16384
noncomputable section
namespace Cert.Fwd
open Cert.Pre_finite_forward
open Idealize.ShloMosaic Idealize.ShloMosaic.TcCoe Idealize.ShloMosaic.Tactic Idealize.ShloMosaic.StableHlo
open Cert.Attn (less_bit bits_wide bits_narrow)

theorem pre_facts : Cert.Pre_finite_forward.Facts := ⟨by decide, by decide⟩

variable [hf : Cert.Pre_finite_forward.Facts] (a : FVec Ideal S8192x1024 .f32) (b d : FVec Ideal S8192x256 .f32)

/-- The three arguments are real. -/
theorem real_0 (h : (fn (F := Ideal) a b d).1 = fun _ => 1#1) (s : Fin 8192) (x : Fin 1024) :
    a (ix2 s x) = (((a (ix2 s x) : EReal).toReal : ℝ) : EReal) :=
  less_bit _ ((bits_wide hf.bcast_S_S8192x1024 a s x).symm.trans (congrFun h (ix2 s x)))
theorem real_1 (h : (fn (F := Ideal) a b d).2.1 = fun _ => 1#1) (s : Fin 8192) (x : Fin 256) :
    b (ix2 s x) = (((b (ix2 s x) : EReal).toReal : ℝ) : EReal) :=
  less_bit _ ((bits_narrow hf.bcast_S_S8192x256 b s x).symm.trans (congrFun h (ix2 s x)))
theorem real_2 (h : (fn (F := Ideal) a b d).2.2 = fun _ => 1#1) (s : Fin 8192) (x : Fin 256) :
    d (ix2 s x) = (((d (ix2 s x) : EReal).toReal : ℝ) : EReal) :=
  less_bit _ ((bits_narrow hf.bcast_S_S8192x256 d s x).symm.trans (congrFun h (ix2 s x)))
end Cert.Fwd
-- ==== Proof.FwdAgree.lean ====
module
public import proofs.«01_k».proof.Proof.FwdBlocks
public import proofs.«01_k».proof.Proof.FwdRef
public import proofs.«01_k».proof.Proof.FwdFinite
public import proofs.«01_k».proof.Proof.Agree
/-! What the forward program leaves, and that its reference leaves the same. -/
@[expose] public section
set_option maxRecDepth 16384
noncomputable section
namespace Cert.Fwd
open Idealize.ShloMosaic Idealize.ShloMosaic.TcCoe Idealize.ShloMosaic.Tactic Idealize.SL.Sem
open Cert.Attn (ext2 cq hOf dOf grp plc rS rO)

/-- Two arrays of three axes that agree at all coordinates are equal. -/
theorem ext3 {a b c : Nat} (f g : (⟨3, ![a, b, c]⟩ : Shape).Idx → EReal)
    (h : ∀ (i : Fin a) (j : Fin b) (k : Fin c), f (ix3 i j k) = g (ix3 i j k)) : f = g := by
  funext y
  have e : y = ix3 (y 0) (y 1) (y 2) := by funext i; fin_cases i <;> rfl
  rw [e]
  exact h (y 0) (y 1) (y 2)

section
open Cert.ForwardIdeal Cert.ForwardIdeal.Gen
variable (m : (ℓ : Loc nD τ sig) → Buf (Elt Ideal) ℓ) (ρ : Dev nD → PrngReg)

/-- The real numbers that the arguments are. -/
abbrev qOf (c : Dev nD) (s : Fin 8192) (x : Fin 1024) : ℝ := (argQ m c (ix2 s x) : EReal).toReal
abbrev kkOf (c : Dev nD) (j : Fin 8192) (y : Fin 256) : ℝ := (argK m c (ix2 j y) : EReal).toReal
abbrev vOf (c : Dev nD) (j : Fin 8192) (y : Fin 256) : ℝ := (argV m c (ix2 j y) : EReal).toReal

/-- The two results. -/
abbrev resO (c : Dev nD) : Vec Ideal S8192x1024 .bf16 := allO (qOf m c) (kkOf m c) (vOf m c)
abbrev resL (c : Dev nD) : Vec Ideal S2x8192x8 .f32 := allL (qOf m c) (kkOf m c)

/-- The program runs and leaves its two results and its arguments as follows. -/
theorem program_run
    (hQ : ∀ c s x, argQ m c (ix2 s x) = ((qOf m c s x : ℝ) : EReal))
    (hK : ∀ c j y, argK m c (ix2 j y) = ((kkOf m c j y : ℝ) : EReal))
    (hW : ∀ c j y, argV m c (ix2 j y) = ((vOf m c j y : ℝ) : EReal)) :
    θ_run defs (onTc (τ := τ) (main (F := Ideal))) ⟨m, fun _ => 0, ρ⟩ (fun r => ∀ c : Dev nD,
      r.2.mem ((c.tc : Thread nD τ).loc main_v7_0) = resO m c
      ∧ r.2.mem ((c.tc : Thread nD τ).loc main_v7_1) = resL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).1 3).trans (final_3 m c _ _ _ (hQ c) (hK c) (hW c)),
      ((h.1 c).1 4).trans (final_4 m c _ _ _ (hQ c) (hK c) (hW c)), h.2 c⟩)
    (θ_run_and (run_main m ρ) (unchanged m ρ))

variable (c : Dev nD)
  (hQ : ∀ s x, argQ m c (ix2 s x) = ((qOf m c s x : ℝ) : EReal))
  (hK : ∀ j y, argK m c (ix2 j y) = ((kkOf m c j y : ℝ) : EReal))
  (hW : ∀ j y, argV m c (ix2 j y) = ((vOf m c j y : ℝ) : EReal))

include hQ hK hW in
/-- The outputs agree. -/
theorem agree_0 : refO (argQ m c) (argK m c) (argV m c) = resO m c :=
  ext2 _ _ fun s x => by
    have ex : x = cq (hOf x) (dOf x) := Fin.ext (by simp; omega)
    exact (congrArg (fun z => refO (argQ m c) (argK m c) (argV m c) (ix2 s z)) ex).trans
      (refO_real _ _ _ _ _ _ hQ hK hW s (hOf x) (dOf x))

include hQ hK in
/-- The logarithms agree. -/
theorem agree_1 : refL (argQ m c) (argK m c) = resL m c :=
  ext3 _ _ fun g s h => by
    have eg : g = grp (gh g h) := Fin.ext (by simp; omega)
    have eh : h = plc (gh g h) := Fin.ext (by simp; omega)
    exact (congrArg₂ (fun y z => refL (argQ m c) (argK m c) (ix3 y s z)) eg eh).trans
      (refL_real _ _ _ _ hQ hK (gh g h) s)
end
end Cert.Fwd
-- ==== Proof.LfwTrip.lean ====
module
public import proofs.«01_k».proof.Proof.Gen.LatentForwardIdeal.Loops
public import Idealize.ShloMosaic.Lib.WritesUnit
/-! One trip of the latent attention's forward call's loop over blocks of 512 keys, as a function.

A trip takes four blocks of keys. For each block and each of the two heads it forms the scores, raises the row's number
to the greatest score, and adds the block's weighed values to the sums. Here these steps are named, once for a block and a
head, and the trip's result is shown to be four such steps. -/
@[expose] public section
set_option maxRecDepth 16384
noncomputable section
namespace Cert.Lfw
open Cert.LatentForwardIdeal Cert.LatentForwardIdeal.Gen
open Idealize.ShloMosaic Idealize.ShloMosaic.TcCoe Idealize.ShloMosaic.Tactic
variable {F : FTy → Type} [FloatOps F]

/-- The scores of 1024 queries against a block of 512 keys. -/
def scores (q : FVec F S1024x128 .bf16) (kj : Vec F S512x128 .bf16) : FVec F S1024x512 .f32 :=
  matmul dot_S1024x128_S512x128_S1024x512_1_1_0_0_n_n none q (shapeCast S512x128 kj shapeCasts_S512x128_S512x128)
    (constant S1024x512 .f32 0x00000000#32)

/-- Each row's number after a block. -/
def top (m : FVec F S1024x1 .f32) (s : FVec F S1024x512 .f32) : FVec F S1024x1 .f32 :=
  maximumf m (shapeCast S1024x1 (multiReduction .maximumf [1] S1024 s 0xFF800000#32 reduces_S1024x512_S1024 (.inl rfl) rfl)
    shapeCasts_S1024_S1024x1)

/-- The sums after a block. -/
def weighed (m : FVec F S1024x1 .f32) (a : FVec F S1024x128 .f32) (s : FVec F S1024x512 .f32) (va : Vec F S512x128 .bf16) :
    FVec F S1024x128 .f32 :=
  addf (mulf (broadcastTo S1024x128 (exp2 (subf m (top m s))) broadcasts_S1024x1_S1024x128) a)
    (matmul dot_S1024x512_S512x128_S1024x128_1_0_0_1_n_n none
      (truncf .bf16 (exp2 (subf s (broadcastTo S1024x512 (top m s) broadcasts_S1024x1_S1024x512))) bitsLt_bf16_f32) va
      (constant S1024x128 .f32 0x00000000#32))

/-- A block's step. -/
abbrev step (q : FVec F S1024x128 .bf16) (kj : Vec F S512x128 .bf16) (va : Vec F S512x128 .bf16)
    (p : FVec F S1024x1 .f32 × FVec F S1024x128 .f32) : FVec F S1024x1 .f32 × FVec F S1024x128 .f32 :=
  (top p.1 (scores q kj), weighed p.1 p.2 (scores q kj) va)

/-- Four steps. -/
abbrev fourSteps {α : Type} (st : Fin 4 → α → α) (p : α) : α := st 3 (st 2 (st 1 (st 0 p)))

/-- The keys of block `4 k + u`, head 0 and head 1. -/
abbrev key0 (arg3 : Memref sig .tc .vmem S8192x256 .bf16) (X : BufTy.Contents (Elt F) arg3.view.ty)
    (k : Fin k0_t1_loop.trips) (u : Fin 4) : Vec F S512x128 .bf16 :=
  View.readAt (Elt F) arg3.view (Rect.unit (s := S8192x256) (k0_off1 k (BitVec.ofNat 32 u.val)) S512x128.size (k0_off1_inb k u)).toLoadRect X
abbrev key1 (arg3 : Memref sig .tc .vmem S8192x256 .bf16) (X : BufTy.Contents (Elt F) arg3.view.ty)
    (k : Fin k0_t1_loop.trips) (u : Fin 4) : Vec F S512x128 .bf16 :=
  View.readAt (Elt F) arg3.view (Rect.unit (s := S8192x256) (k0_off2 k (BitVec.ofNat 32 u.val)) S512x128.size (k0_off2_inb k u)).toLoadRect X
/-- The widened values of block `4 k + u`, head 0 and head 1. -/
abbrev val0 (arg7 : Memref sig .tc .vmem S8192x256 .bf16) (X : BufTy.Contents (Elt F) arg7.view.ty)
    (k : Fin k0_t1_loop.trips) (u : Fin 4) : Vec F S512x128 .bf16 :=
  View.readAt (Elt F) arg7.view (Rect.unit (s := S8192x256) (k0_off1 k (BitVec.ofNat 32 u.val)) S512x128.size (k0_off1_inb k u)).toLoadRect X
abbrev val1 (arg7 : Memref sig .tc .vmem S8192x256 .bf16) (X : BufTy.Contents (Elt F) arg7.view.ty)
    (k : Fin k0_t1_loop.trips) (u : Fin 4) : Vec F S512x128 .bf16 :=
  View.readAt (Elt F) arg7.view (Rect.unit (s := S8192x256) (k0_off2 k (BitVec.ofNat 32 u.val)) S512x128.size (k0_off2_inb k u)).toLoadRect X

section
variable (𝒱 : Variants) (c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S8192x256 .bf16) (harg7 : arg7.IsWhole) (v3 v5 : Vec F S1024x128 .bf16) (X_arg3 : BufTy.Contents (Elt F) arg3.view.ty) (X_arg7 : BufTy.Contents (Elt F) arg7.view.ty) (k : Fin k0_t1_loop.trips) (acc : FVec F S1024x1 .f32 × FVec F S1024x128 .f32 × FVec F S1024x1 .f32 × FVec F S1024x128 .f32)

/-- A trip is four steps of either head. -/
theorem trip_eq :
    (trip_k0_t1 (F := F) 𝒱 c bd i arg2 harg2 arg3 harg3 arg4 harg4 arg5 harg5 arg6 harg6 arg7 harg7 v3 v5 X_arg3 X_arg7 k).1 acc
      = ((fourSteps (fun u => step (k0_pay28 v3) (key0 arg3 X_arg3 k u) (val0 arg7 X_arg7 k u)) (acc.1, acc.2.1)).1,
         (fourSteps (fun u => step (k0_pay28 v3) (key0 arg3 X_arg3 k u) (val0 arg7 X_arg7 k u)) (acc.1, acc.2.1)).2,
         (fourSteps (fun u => step (k0_pay29 v5) (key1 arg3 X_arg3 k u) (val1 arg7 X_arg7 k u)) (acc.2.2.1, acc.2.2.2)).1,
         (fourSteps (fun u => step (k0_pay29 v5) (key1 arg3 X_arg3 k u) (val1 arg7 X_arg7 k u)) (acc.2.2.1, acc.2.2.2)).2) := by
  unfold trip_k0_t1
  rfl
end
end Cert.Lfw
-- ==== Proof.LfwStep.lean ====
module
public import proofs.«01_k».proof.Proof.LfwTrip
public import proofs.«01_k».proof.Proof.FwdReal
public import Idealize.ShloMosaic.Lib.Pointwise
public import Idealize.ShloMosaic.Lib.Pipeline.ValueKit.Tiles
/-! The latent attention's forward call's steps, read at an index over the extended reals, and the loop's four trips together. -/
@[expose] public section
set_option maxRecDepth 16384
noncomputable section
namespace Cert.Lfw
open Cert.LatentForwardIdeal Cert.LatentForwardIdeal.Gen
open Idealize.ShloMosaic Idealize.ShloMosaic.TcCoe Idealize.ShloMosaic.Tactic
open Cert.Fwd (cj Seen seen_step)

theorem off1 : ∀ (k : Fin k0_t1_loop.trips) (u : Fin 4),
    k0_off1 k (BitVec.ofNat 32 u.val) = ![512 * (4 * k.val + u.val), 0] := by decide +kernel
theorem off2 : ∀ (k : Fin k0_t1_loop.trips) (u : Fin 4),
    k0_off2 k (BitVec.ofNat 32 u.val) = ![512 * (4 * k.val + u.val), 128] := by decide +kernel
theorem trips_four (k : Fin k0_t1_loop.trips) : k.val < 4 := k.isLt

theorem cj_val (k : Fin k0_t1_loop.trips) (u : Fin 4) (j : Fin 512) :
    (cj (4 * k.val + u.val) j).val = 512 * (4 * k.val + u.val) + j.val := by
  have := trips_four k
  show (512 * (4 * k.val + u.val) + j.val) % 8192 = _
  omega

theorem key0_at (arg3 : Memref sig .tc .vmem S8192x256 .bf16) (X : BufTy.Contents (Elt Ideal) arg3.view.ty)
    (k : Fin k0_t1_loop.trips) (u : Fin 4) (j : Fin 512) (d : Fin 128) :
    key0 arg3 X k u (ix2 j d) = arg3.view.read (Elt Ideal) X (ix2 (cj (4 * k.val + u.val) j) (⟨d.val, by omega⟩ : Fin 256)) := by
  have h := cj_val k u j
  rw [key0, View.readAt_eq_ld, View.ld_apply]
  congr 1
  funext a
  fin_cases a <;> apply Fin.ext <;> simp [off1] <;> omega

theorem key1_at (arg3 : Memref sig .tc .vmem S8192x256 .bf16) (X : BufTy.Contents (Elt Ideal) arg3.view.ty)
    (k : Fin k0_t1_loop.trips) (u : Fin 4) (j : Fin 512) (d : Fin 128) :
    key1 arg3 X k u (ix2 j d) = arg3.view.read (Elt Ideal) X (ix2 (cj (4 * k.val + u.val) j) (⟨128 + d.val, by omega⟩ : Fin 256)) := by
  have h := cj_val k u j
  rw [key1, View.readAt_eq_ld, View.ld_apply]
  congr 1
  funext a
  fin_cases a <;> apply Fin.ext <;> simp [off2] <;> omega

theorem val0_at (arg7 : Memref sig .tc .vmem S8192x256 .bf16) (X : BufTy.Contents (Elt Ideal) arg7.view.ty)
    (k : Fin k0_t1_loop.trips) (u : Fin 4) (j : Fin 512) (d : Fin 128) :
    val0 arg7 X k u (ix2 j d) = arg7.view.read (Elt Ideal) X (ix2 (cj (4 * k.val + u.val) j) (⟨d.val, by omega⟩ : Fin 256)) := by
  have h := cj_val k u j
  rw [val0, View.readAt_eq_ld, View.ld_apply]
  congr 1
  funext a
  fin_cases a <;> apply Fin.ext <;> simp [off1] <;> omega

theorem val1_at (arg7 : Memref sig .tc .vmem S8192x256 .bf16) (X : BufTy.Contents (Elt Ideal) arg7.view.ty)
    (k : Fin k0_t1_loop.trips) (u : Fin 4) (j : Fin 512) (d : Fin 128) :
    val1 arg7 X k u (ix2 j d) = arg7.view.read (Elt Ideal) X (ix2 (cj (4 * k.val + u.val) j) (⟨128 + d.val, by omega⟩ : Fin 256)) := by
  have h := cj_val k u j
  rw [val1, View.readAt_eq_ld, View.ld_apply]
  congr 1
  funext a
  fin_cases a <;> apply Fin.ext <;> simp [off2] <;> omega

theorem scores_at (q : FVec Ideal S1024x128 .bf16) (kj : Vec Ideal S512x128 .bf16) (n : Fin 1024) (j : Fin 512) :
    scores q kj (ix2 n j) = ∑ d : Fin 128, q (ix2 n d) * kj (ix2 j d) := by
  pointwise [scores]

theorem top_at (m : FVec Ideal S1024x1 .f32) (s : FVec Ideal S1024x512 .f32) (n : Fin 1024) :
    top m s (ix2 n 0) = max (m (ix2 n 0)) (Finset.fold max (Ideal.ofBits .f32 0xFF800000#32) (fun j => s (ix2 n j)) Finset.univ) := by
  pointwise [top]

theorem weighed_aux (m t : FVec Ideal S1024x1 .f32) (a : FVec Ideal S1024x128 .f32) (s : FVec Ideal S1024x512 .f32)
    (va : FVec Ideal S512x128 .bf16) (n : Fin 1024) (e : Fin 128) :
    addf (mulf (broadcastTo S1024x128 (exp2 (subf m t)) broadcasts_S1024x1_S1024x128) a)
      (matmul dot_S1024x512_S512x128_S1024x128_1_0_0_1_n_n none
        (truncf .bf16 (exp2 (subf s (broadcastTo S1024x512 t broadcasts_S1024x1_S1024x512))) bitsLt_bf16_f32) va
        (constant S1024x128 .f32 0x00000000#32)) (ix2 n e)
      = Ideal.exp2 (m (ix2 n 0) - t (ix2 n 0)) * a (ix2 n e) + ∑ j : Fin 512, Ideal.exp2 (s (ix2 n j) - t (ix2 n 0)) * va (ix2 j e) := by
  pointwise []
  rfl

theorem weighed_at (m : FVec Ideal S1024x1 .f32) (a : FVec Ideal S1024x128 .f32) (s : FVec Ideal S1024x512 .f32)
    (va : FVec Ideal S512x128 .bf16) (n : Fin 1024) (e : Fin 128) :
    weighed m a s va (ix2 n e) = Ideal.exp2 (m (ix2 n 0) - top m s (ix2 n 0)) * a (ix2 n e)
      + ∑ j : Fin 512, Ideal.exp2 (s (ix2 n j) - top m s (ix2 n 0)) * va (ix2 j e) :=
  weighed_aux m (top m s) a s va n e

section
variable (T : Fin 8192 → ℝ) (A : Fin 8192 → Fin 128 → ℝ) (n : Fin 1024)

/-- What row `n` of a pair of a number and sums holds after `b` blocks. -/
abbrev RowSeen (b : ℕ) (p : FVec Ideal S1024x1 .f32 × FVec Ideal S1024x128 .f32) : Prop :=
  Seen T A b (p.1 (ix2 n 0)) (fun e => p.2 (ix2 n e))

theorem step_seen (b : ℕ) (q : FVec Ideal S1024x128 .bf16) (kj : Vec Ideal S512x128 .bf16) (va : Vec Ideal S512x128 .bf16)
    (p : FVec Ideal S1024x1 .f32 × FVec Ideal S1024x128 .f32) (h : RowSeen T A n b p)
    (hs : ∀ j : Fin 512, ∑ d : Fin 128, (q (ix2 n d) : EReal) * kj (ix2 j d) = (T (cj b j) : EReal))
    (hv : ∀ (j : Fin 512) (e : Fin 128), (va (ix2 j e) : EReal) = (A (cj b j) e : EReal)) : RowSeen T A n (b + 1) (step q kj va p) :=
  seen_step T A b _ _ h (fun j => scores q kj (ix2 n j)) (fun j e => va (ix2 j e))
    (fun j => (scores_at q kj n j).trans (hs j)) hv _ (top_at p.1 (scores q kj) n) _ (fun e => weighed_at p.1 p.2 (scores q kj) va n e)

theorem four_seen (k : ℕ) (q : FVec Ideal S1024x128 .bf16) (kj : Fin 4 → Vec Ideal S512x128 .bf16) (va : Fin 4 → Vec Ideal S512x128 .bf16)
    (p : FVec Ideal S1024x1 .f32 × FVec Ideal S1024x128 .f32) (h : RowSeen T A n (4 * k) p)
    (hs : ∀ (u : Fin 4) (j : Fin 512), ∑ d : Fin 128, (q (ix2 n d) : EReal) * kj u (ix2 j d) = (T (cj (4 * k + u.val) j) : EReal))
    (hv : ∀ (u : Fin 4) (j : Fin 512) (e : Fin 128), (va u (ix2 j e) : EReal) = (A (cj (4 * k + u.val) j) e : EReal)) :
    RowSeen T A n (4 * (k + 1)) (fourSteps (fun u => step q (kj u) (va u)) p) :=
  step_seen T A n _ q (kj 3) (va 3) _ (step_seen T A n _ q (kj 2) (va 2) _ (step_seen T A n _ q (kj 1) (va 1) _
    (step_seen T A n _ q (kj 0) (va 0) p h (hs 0) (hv 0)) (hs 1) (hv 1)) (hs 2) (hv 2)) (hs 3) (hv 3)
end

section
variable (𝒱 : Variants) (c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S8192x256 .bf16) (harg7 : arg7.IsWhole) (v3 v5 : Vec Ideal S1024x128 .bf16) (X3 : BufTy.Contents (Elt Ideal) arg3.view.ty) (X7 : BufTy.Contents (Elt Ideal) arg7.view.ty)
  (init : FVec Ideal S1024x1 .f32 × FVec Ideal S1024x128 .f32 × FVec Ideal S1024x1 .f32 × FVec Ideal S1024x128 .f32)
  (n : Fin 1024) (T0 T1 : Fin 8192 → ℝ) (A0 A1 : Fin 8192 → Fin 128 → ℝ)
  (h0 : RowSeen T0 A0 n 0 (init.1, init.2.1)) (h1 : RowSeen T1 A1 n 0 (init.2.2.1, init.2.2.2))
  (hT0 : ∀ j : Fin 8192, ∑ d : Fin 128, (k0_pay28 v3 (ix2 n d) : EReal) * arg3.view.read (Elt Ideal) X3 (ix2 j (⟨d.val, by omega⟩ : Fin 256)) = (T0 j : EReal))
  (hT1 : ∀ j : Fin 8192, ∑ d : Fin 128, (k0_pay29 v5 (ix2 n d) : EReal) * arg3.view.read (Elt Ideal) X3 (ix2 j (⟨128 + d.val, by omega⟩ : Fin 256)) = (T1 j : EReal))
  (hA0 : ∀ (j : Fin 8192) (e : Fin 128), (arg7.view.read (Elt Ideal) X7 (ix2 j (⟨e.val, by omega⟩ : Fin 256)) : EReal) = (A0 j e : EReal))
  (hA1 : ∀ (j : Fin 8192) (e : Fin 128), (arg7.view.read (Elt Ideal) X7 (ix2 j (⟨128 + e.val, by omega⟩ : Fin 256)) : EReal) = (A1 j e : EReal))

/-- The state before trip `k`. -/
abbrev state (k : ℕ) := st_k0_t1 (F := Ideal) 𝒱 c bd i arg2 harg2 arg3 harg3 arg4 harg4 arg5 harg5 arg6 harg6 arg7 harg7 v3 v5 X3 X7 init k

include h0 h1 hT0 hT1 hA0 hA1 in
/-- A row after `k` trips has seen `4 k` blocks. -/
theorem state_seen (k : ℕ) (hk : k ≤ 4) :
    RowSeen T0 A0 n (4 * k) ((state 𝒱 c bd i arg2 harg2 arg3 harg3 arg4 harg4 arg5 harg5 arg6 harg6 arg7 harg7 v3 v5 X3 X7 init k).1, (state 𝒱 c bd i arg2 harg2 arg3 harg3 arg4 harg4 arg5 harg5 arg6 harg6 arg7 harg7 v3 v5 X3 X7 init k).2.1)
    ∧ RowSeen T1 A1 n (4 * k) ((state 𝒱 c bd i arg2 harg2 arg3 harg3 arg4 harg4 arg5 harg5 arg6 harg6 arg7 harg7 v3 v5 X3 X7 init k).2.2.1, (state 𝒱 c bd i arg2 harg2 arg3 harg3 arg4 harg4 arg5 harg5 arg6 harg6 arg7 harg7 v3 v5 X3 X7 init k).2.2.2) := by
  induction k with
  | zero => exact ⟨h0, h1⟩
  | succ k ih =>
    have ih' := ih (by omega)
    have e := st_k0_t1_succ (F := Ideal) 𝒱 c bd i arg2 harg2 arg3 harg3 arg4 harg4 arg5 harg5 arg6 harg6 arg7 harg7 v3 v5 X3 X7 init (⟨k, hk⟩ : Fin k0_t1_loop.trips)
    have e' := e.trans (trip_eq 𝒱 c bd i arg2 harg2 arg3 harg3 arg4 harg4 arg5 harg5 arg6 harg6 arg7 harg7 v3 v5 X3 X7 (⟨k, hk⟩ : Fin k0_t1_loop.trips) _)
    rw [state, e']
    refine ⟨four_seen T0 A0 n k _ _ _ _ ih'.1 (fun u j => ?_) (fun u j e => ?_), four_seen T1 A1 n k _ _ _ _ ih'.2 (fun u j => ?_) (fun u j e => ?_)⟩
    · simp only [key0_at]; exact hT0 _
    · rw [val0_at]; exact hA0 _ e
    · simp only [key1_at]; exact hT1 _
    · rw [val1_at]; exact hA1 _ e
end
end Cert.Lfw
-- ==== Proof.LfwPoint.lean ====
module
public import proofs.«01_k».proof.Proof.LfwStep
public import proofs.«01_k».proof.Proof.MlaPoint
public import proofs.«01_k».proof.Proof.Gen.LatentForwardIdeal.Frame
/-! What one grid point of the latent attention's forward call leaves in its two output blocks, for real scores. -/
@[expose] public section
set_option maxRecDepth 16384
noncomputable section
namespace Cert.Lfw
open Cert.LatentForwardIdeal Cert.LatentForwardIdeal.Gen
open Idealize.ShloMosaic Idealize.ShloMosaic.TcCoe Idealize.ShloMosaic.Tactic
open Cert.Mla (kc vc vones)
open Cert.Fwd (seen_zero seen_quotient seen_log)

/-- Column `d` of either head, as a number. -/
theorem kc_zero (d : Fin 128) (h : d.val < 256) : (⟨d.val, h⟩ : Fin 256) = kc 0 d := Fin.ext (by simp)
theorem kc_one (d : Fin 128) (h : 128 + d.val < 256) : (⟨128 + d.val, h⟩ : Fin 256) = kc 1 d := Fin.ext (by simp)
theorem vc_zero (d : Fin 64) (h : d.val < 128) : (⟨d.val, h⟩ : Fin 128) = vc 0 d := Fin.ext (by simp)
theorem vc_one (d : Fin 64) (h : 64 + d.val < 128) : (⟨64 + d.val, h⟩ : Fin 128) = vc 1 d := Fin.ext (by simp)

/-- The outputs' two pieces, last first, from the two weighted sums. -/
abbrev outPieces (p q : FVec Ideal S1024x128 .f32) : List (View.Piece (Elt Ideal) S1024x128 .bf16) :=
      [⟨Rect.unit (s := S1024x128) ![0, 64] S1024x64.size inb_S1024x128_S1024x64_0_64, k0_pay1 (k0_pay42 q)⟩,
       ⟨Rect.unit (s := S1024x128) ![0, 0] S1024x64.size inb_S1024x128_S1024x64_0_0, k0_pay39 p⟩]

/-- The logarithms' two pieces, last first. -/
abbrev logPieces (a b : FVec Ideal S1024x1 .f32) (p q : FVec Ideal S1024x128 .f32) : List (View.Piece (Elt Ideal) S1x1024x2 .f32) :=
      [⟨Rect.unit (s := S1x1024x2) ![0, 0, 1] S1x1024x1.size inb_S1x1024x2_S1x1024x1_0_0_1, k0_pay2 b (k0_pay43 q) (k0_pay44 (F := Ideal))⟩,
       ⟨Rect.unit (s := S1x1024x2) ![0, 0, 0] S1x1024x1.size inb_S1x1024x2_S1x1024x1_0_0_0, k0_pay40 a p⟩]

/-- Two heads written side by side, read back. -/
theorem read_heads (V : View sig .tc .vmem S1024x128 .bf16) (f : BufTy.Contents (Elt Ideal) V.ty)
    (w0 w1 : FVec Ideal S1024x64 .bf16) (i : Fin 1024) (h : Fin 2) (d : Fin 64) :
    V.read (Elt Ideal) (V.writes (Elt Ideal) f
      [⟨Rect.unit (s := S1024x128) ![0, 64] S1024x64.size inb_S1024x128_S1024x64_0_64, w1⟩,
       ⟨Rect.unit (s := S1024x128) ![0, 0] S1024x64.size inb_S1024x128_S1024x64_0_0, w0⟩]) (ix2 i (vc h d))
      = (![w0, w1] h) (ix2 i d) := by
  fin_cases h
  all_goals
    (repeat rw [View.read_writes_cons_unit_of_not_mem V f _ _ _ _ rfl 1 (by first | (simp; done) | (simp; omega))])
    exact View.read_writes_cons_unit_of_mem (size := S1024x64.size) V f _ _ _ _ (show S1024x64.Idx from ix2 i d) rfl
      (by intro a; fin_cases a <;> simp)

/-- Two columns written side by side, read back. -/
theorem read_cols (V : View sig .tc .vmem S1x1024x2 .f32) (f : BufTy.Contents (Elt Ideal) V.ty)
    (w0 w1 : FVec Ideal S1x1024x1 .f32) (i : Fin 1024) (h : Fin 2) :
    V.read (Elt Ideal) (V.writes (Elt Ideal) f
      [⟨Rect.unit (s := S1x1024x2) ![0, 0, 1] S1x1024x1.size inb_S1x1024x2_S1x1024x1_0_0_1, w1⟩,
       ⟨Rect.unit (s := S1x1024x2) ![0, 0, 0] S1x1024x1.size inb_S1x1024x2_S1x1024x1_0_0_0, w0⟩]) (ix3 0 i h)
      = (![w0, w1] h) (ix3 0 i 0) := by
  fin_cases h
  all_goals
    (repeat rw [View.read_writes_cons_unit_of_not_mem V f _ _ _ _ rfl 2 (by first | (simp; done) | (simp; omega))])
    exact View.read_writes_cons_unit_of_mem (size := S1x1024x1.size) V f _ _ _ _ (show S1x1024x1.Idx from ix3 0 i 0) rfl
      (by intro a; fin_cases a <;> simp)

/-- The pieces of the output: a row's sums over its total weight. -/
theorem heads_pay (p q : FVec Ideal S1024x128 .f32) (i : Fin 1024) (h : Fin 2) (d : Fin 64) :
    (![k0_pay39 p, k0_pay1 (k0_pay42 q)] h) (ix2 i d)
      = Ideal.div ((if h.val < 1 then p else q) (ix2 i (⟨d.val, by omega⟩ : Fin 128))) ((if h.val < 1 then p else q) (ix2 i 64)) := by
  fin_cases h
  · show (k0_pay39 p) (ix2 i d) = Ideal.div (p _) (p _)
    unfold_payloads
    pointwise []
    all_goals rfl
  · show (k0_pay1 (k0_pay42 q)) (ix2 i d) = Ideal.div (q _) (q _)
    unfold_payloads
    pointwise []
    all_goals rfl

/-- The pieces of the logarithms: a row's maximum and the logarithm of its total weight. -/
theorem cols_pay (a b : FVec Ideal S1024x1 .f32) (p q : FVec Ideal S1024x128 .f32) (i : Fin 1024) (h : Fin 2) :
    (![k0_pay40 a p, k0_pay2 b (k0_pay43 q) (k0_pay44 (F := Ideal))] h) (ix3 0 i 0)
      = (if h.val < 1 then a else b) (ix2 i 0)
        + Ideal.div (Ideal.log ((if h.val < 1 then p else q) (ix2 i 64))) (Ideal.log (Ideal.ofBits .f32 0x40000000#32)) := by
  fin_cases h
  · show (k0_pay40 a p) (ix3 0 i 0) = a _ + Ideal.div (Ideal.log (p _)) _
    unfold_payloads
    pointwise []
    all_goals rfl
  · show (k0_pay2 b (k0_pay43 q) (k0_pay44 (F := Ideal))) (ix3 0 i 0) = b _ + Ideal.div (Ideal.log (q _)) _
    unfold_payloads
    pointwise []
    all_goals rfl

/-- The scratch after it is filled. -/
theorem read_scratch (c : Dev nD) (arg4 : Memref sig .tc .vmem S8192x128 .bf16) (harg4 : arg4.IsWhole)
    (V : View sig .tc .vmem S8192x256 .bf16) (f : BufTy.Contents (Elt Ideal) V.ty) (x2 : Vec Ideal S8192x128 .bf16)
    (hh : Fin 2) (j : Fin 8192) (e : Fin 128) :
    V.read (Elt Ideal) (V.writes (Elt Ideal) f (kernelRun0_A.sl.HS0_4 c arg4 harg4 x2)) (ix2 j (⟨128 * hh.val + e.val, by omega⟩ : Fin 256))
      = vones x2 hh j e := by
  have one : ∀ (j : Fin 8192) (d : Fin 64), (k0_pay25 (F := Ideal)) (ix2 j d) = 1 := by
    intro j d
    unfold_payloads
    pointwise []
  have one' : ∀ (j : Fin 8192) (d : Fin 64), (k0_pay27 (F := Ideal)) (ix2 j d) = 1 := by
    intro j d
    unfold_payloads
    pointwise []
  have v0 : ∀ (j : Fin 8192) (d : Fin 64), k0_pay24 (View.readAt (Elt Ideal) arg4.view (Rect.unit (s := S8192x128) ![0, 0] S8192x64.size inb_S8192x128_S8192x64_0_0).toLoadRect (harg4.unread x2)) (ix2 j d) = x2 (ix2 j (vc 0 d)) := by
    intro j d
    unfold_payloads
    simp only [View.readAt_eq_ld, harg4.read_unread]
    pointwise []
    try simp only [vc_zero]
  have v1 : ∀ (j : Fin 8192) (d : Fin 64), k0_pay26 (View.readAt (Elt Ideal) arg4.view (Rect.unit (s := S8192x128) ![0, 64] S8192x64.size inb_S8192x128_S8192x64_0_64).toLoadRect (harg4.unread x2)) (ix2 j d) = x2 (ix2 j (vc 1 d)) := by
    intro j d
    unfold_payloads
    simp only [View.readAt_eq_ld, harg4.read_unread]
    pointwise []
    try simp only [vc_one]
  unfold kernelRun0_A.sl.HS0_4 vones
  by_cases he : e.val < 64
  · rw [dif_pos he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v0 j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val, he⟩) rfl
        (by intro a; fin_cases a <;> simp)).trans (v1 j _)
  · rw [dif_neg he]
    fin_cases hh
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one j _)
    · (repeat rw [View.read_writes_cons_unit_of_not_mem V f _ _ _ _ rfl 1 (by first | (simp; done) | (simp; omega))])
      exact (View.read_writes_cons_unit_of_mem (size := S8192x64.size) V f _ _ _ _ (show S8192x64.Idx from ix2 j ⟨e.val - 64, by omega⟩) rfl
        (by intro a; fin_cases a <;> simp; omega)).trans (one' j _)

theorem start0 (n : Fin 1024) : (k0_pay30 (F := Ideal)) (ix2 n 0) = Ideal.ofBits .f32 0xF149F2CA#32 := by
  unfold_payloads
  pointwise []
theorem start1 (n : Fin 1024) : (k0_pay32 (F := Ideal)) (ix2 n 0) = Ideal.ofBits .f32 0xF149F2CA#32 := by
  unfold_payloads
  pointwise []
theorem empty0 (n : Fin 1024) (e : Fin 128) : (k0_pay31 (F := Ideal)) (ix2 n e) = 0 := by
  unfold_payloads
  pointwise []
theorem empty1 (n : Fin 1024) (e : Fin 128) : (k0_pay33 (F := Ideal)) (ix2 n e) = 0 := by
  unfold_payloads
  pointwise []

section
variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S8192x256 .bf16) (harg7 : arg7.IsWhole) (x0 : Vec Ideal S1024x256 .bf16) (x1 : Vec Ideal S8192x256 .bf16) (x2 : Vec Ideal S8192x128 .bf16)
  (X7 : BufTy.Contents (Elt Ideal) arg7.view.ty)

theorem queries0 (n : Fin 1024) (d : Fin 128) :
    k0_pay28 (View.readAt (Elt Ideal) arg2.view (Rect.unit (s := S1024x256) ![0, 0] S1024x128.size inb_S1024x256_S1024x128_0_0).toLoadRect (harg2.unread x0)) (ix2 n d) = x0 (ix2 n (kc 0 d)) := by
  unfold_payloads
  simp only [View.readAt_eq_ld, harg2.read_unread]
  pointwise []
  all_goals simp only [kc_zero]

theorem queries1 (n : Fin 1024) (d : Fin 128) :
    k0_pay29 (View.readAt (Elt Ideal) arg2.view (Rect.unit (s := S1024x256) ![0, 128] S1024x128.size inb_S1024x256_S1024x128_0_128).toLoadRect (harg2.unread x0)) (ix2 n d) = x0 (ix2 n (kc 1 d)) := by
  unfold_payloads
  simp only [View.readAt_eq_ld, harg2.read_unread]
  pointwise []
  all_goals simp only [kc_one]

/-- The loop of a grid point. -/
abbrev pointLoop : FVec Ideal S1024x1 .f32 × FVec Ideal S1024x128 .f32 × FVec Ideal S1024x1 .f32 × FVec Ideal S1024x128 .f32 :=
  st_k0_t1 (F := Ideal) Variants.none c none i arg2 harg2 arg3 harg3 arg4 harg4 arg5 harg5 arg6 harg6 arg7 harg7 (View.readAt (Elt Ideal) arg2.view (Rect.unit (s := S1024x256) ![0, 0] S1024x128.size inb_S1024x256_S1024x128_0_0).toLoadRect (harg2.unread x0)) (View.readAt (Elt Ideal) arg2.view (Rect.unit (s := S1024x256) ![0, 128] S1024x128.size inb_S1024x256_S1024x128_0_128).toLoadRect (harg2.unread x0)) (harg3.unread x1) X7
    (k0_pay30 (F := Ideal), k0_pay31 (F := Ideal), k0_pay32 (F := Ideal), k0_pay33 (F := Ideal)) 4

section
variable (x : Fin 2 → Fin 1024 → Fin 8192 → ℝ) (A : Fin 2 → Fin 8192 → Fin 128 → ℝ)
  (hx : ∀ (hh : Fin 2) (n : Fin 1024) (j : Fin 8192),
    ∑ d : Fin 128, (x0 (ix2 n (kc hh d)) : EReal) * x1 (ix2 j (kc hh d)) = ((x hh n j / Real.log 2 : ℝ) : EReal))
  (hA : ∀ (hh : Fin 2) (j : Fin 8192) (e : Fin 128),
    (arg7.view.read (Elt Ideal) X7 (ix2 j (⟨128 * hh.val + e.val, by omega⟩ : Fin 256)) : EReal) = (A hh j e : EReal))
  (hone : ∀ (hh : Fin 2) (j : Fin 8192), A hh j 64 = 1)

include hx hA in
/-- Every row has seen all the keys when the loop ends. -/
theorem loop_seen (n : Fin 1024) :
    RowSeen (fun j => x 0 n j / Real.log 2) (A 0) n 16 ((pointLoop c i arg2 harg2 arg3 harg3 arg4 harg4 arg5 harg5 arg6 harg6 arg7 harg7 x0 x1 X7).1, (pointLoop c i arg2 harg2 arg3 harg3 arg4 harg4 arg5 harg5 arg6 harg6 arg7 harg7 x0 x1 X7).2.1)
    ∧ RowSeen (fun j => x 1 n j / Real.log 2) (A 1) n 16 ((pointLoop c i arg2 harg2 arg3 harg3 arg4 harg4 arg5 harg5 arg6 harg6 arg7 harg7 x0 x1 X7).2.2.1, (pointLoop c i arg2 harg2 arg3 harg3 arg4 harg4 arg5 harg5 arg6 harg6 arg7 harg7 x0 x1 X7).2.2.2) := by
  refine state_seen Variants.none c none i arg2 harg2 arg3 harg3 arg4 harg4 arg5 harg5 arg6 harg6 arg7 harg7 (View.readAt (Elt Ideal) arg2.view (Rect.unit (s := S1024x256) ![0, 0] S1024x128.size inb_S1024x256_S1024x128_0_0).toLoadRect (harg2.unread x0)) (View.readAt (Elt Ideal) arg2.view (Rect.unit (s := S1024x256) ![0, 128] S1024x128.size inb_S1024x256_S1024x128_0_128).toLoadRect (harg2.unread x0)) (harg3.unread x1) X7
    (k0_pay30 (F := Ideal), k0_pay31 (F := Ideal), k0_pay32 (F := Ideal), k0_pay33 (F := Ideal)) n
    (fun j => x 0 n j / Real.log 2) (fun j => x 1 n j / Real.log 2) (A 0) (A 1) ?_ ?_ (fun j => ?_) (fun j => ?_) (fun j e => ?_) (fun j e => ?_) 4 le_rfl
  · exact seen_zero _ _ _ _ (start0 n) (empty0 n)
  · exact seen_zero _ _ _ _ (start1 n) (empty1 n)
  · refine Eq.trans (Fintype.sum_congr _ _ fun d => ?_) (hx 0 n j)
    rw [queries0, harg3.read_unread, kc_zero]
  · refine Eq.trans (Fintype.sum_congr _ _ fun d => ?_) (hx 1 n j)
    rw [queries1, harg3.read_unread, kc_one]
  · refine Eq.trans ?_ (hA 0 j e)
    exact congrArg (fun z => arg7.view.read (Elt Ideal) X7 (ix2 j z)) (Fin.ext (by simp))
  · exact hA 1 j e

include hx hA hone in
/-- A point's output. -/
theorem point_out (V : View sig .tc .vmem S1024x128 .bf16) (f : BufTy.Contents (Elt Ideal) V.ty) (r : Fin 1024) (h : Fin 2) (d : Fin 64) :
    V.read (Elt Ideal) (V.writes (Elt Ideal) f (outPieces (pointLoop c i arg2 harg2 arg3 harg3 arg4 harg4 arg5 harg5 arg6 harg6 arg7 harg7 x0 x1 X7).2.1 (pointLoop c i arg2 harg2 arg3 harg3 arg4 harg4 arg5 harg5 arg6 harg6 arg7 harg7 x0 x1 X7).2.2.2)) (ix2 r (vc h d))
      = ((∑ j, Real.exp (x h r j) / (∑ i, Real.exp (x h r i)) * A h j (⟨d.val, by omega⟩ : Fin 128) : ℝ) : EReal) := by
  rw [outPieces, read_heads, heads_pay]
  have hs := loop_seen (X7 := X7) (x0 := x0) (x1 := x1) c i arg2 harg2 arg3 harg3 arg4 harg4 arg5 harg5 arg6 harg6 arg7 harg7 (x := x) (A := A) (hx := hx) (hA := hA) r
  by_cases hh : h.val < 1
  · have e : h = 0 := Fin.ext (by simp; omega)
    rw [if_pos hh, e]
    exact seen_quotient (A 0) (x 0 r) _ _ hs.1 (hone 0) _
  · have e : h = 1 := Fin.ext (by simp; omega)
    rw [if_neg hh, e]
    exact seen_quotient (A 1) (x 1 r) _ _ hs.2 (hone 1) _

include hx hA hone in
/-- A point's logarithms of the rows' total weights. -/
theorem point_log (V : View sig .tc .vmem S1x1024x2 .f32) (f : BufTy.Contents (Elt Ideal) V.ty) (r : Fin 1024) (h : Fin 2) :
    V.read (Elt Ideal) (V.writes (Elt Ideal) f (logPieces (pointLoop c i arg2 harg2 arg3 harg3 arg4 harg4 arg5 harg5 arg6 harg6 arg7 harg7 x0 x1 X7).1 (pointLoop c i arg2 harg2 arg3 harg3 arg4 harg4 arg5 harg5 arg6 harg6 arg7 harg7 x0 x1 X7).2.2.1 (pointLoop c i arg2 harg2 arg3 harg3 arg4 harg4 arg5 harg5 arg6 harg6 arg7 harg7 x0 x1 X7).2.1 (pointLoop c i arg2 harg2 arg3 harg3 arg4 harg4 arg5 harg5 arg6 harg6 arg7 harg7 x0 x1 X7).2.2.2)) (ix3 0 r h)
      = ((Real.log (∑ i, Real.exp (x h r i)) / Real.log 2 : ℝ) : EReal) := by
  rw [logPieces, read_cols, cols_pay]
  have hs := loop_seen (X7 := X7) (x0 := x0) (x1 := x1) c i arg2 harg2 arg3 harg3 arg4 harg4 arg5 harg5 arg6 harg6 arg7 harg7 (x := x) (A := A) (hx := hx) (hA := hA) r
  by_cases hh : h.val < 1
  · have e : h = 0 := Fin.ext (by simp; omega)
    rw [if_pos hh, if_pos hh, e]
    exact seen_log (A 0) (x 0 r) _ _ hs.1 (hone 0)
  · have e : h = 1 := Fin.ext (by simp; omega)
    rw [if_neg hh, if_neg hh, e]
    exact seen_log (A 1) (x 1 r) _ _ hs.2 (hone 1)
end
end
end Cert.Lfw
-- ==== Proof.LfwOut.lean ====
module
public import proofs.«01_k».proof.Proof.LfwPoint
/-! What a point of the latent attention's forward call leaves, in each of its two cases. -/
@[expose] public section
set_option maxRecDepth 16384
noncomputable section
namespace Cert.Lfw
open Cert.LatentForwardIdeal Cert.LatentForwardIdeal.Gen
open Idealize.ShloMosaic Idealize.ShloMosaic.TcCoe Idealize.ShloMosaic.Tactic
open Cert.Mla (kc vc vones)

section
variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S8192x256 .bf16) (harg7 : arg7.IsWhole) (x0 : Vec Ideal S1024x256 .bf16) (x1 : Vec Ideal S8192x256 .bf16) (x2 : Vec Ideal S8192x128 .bf16)

theorem runA_out (hc0 : cond0_0 i) : (kernelRun0_A (F := Ideal) c i arg2 harg2 arg3 harg3 arg4 harg4 arg5 harg5 arg6 harg6 arg7 harg7 hc0 x0 x1 x2).1 = outPieces (pointLoop c i arg2 harg2 arg3 harg3 arg4 harg4 arg5 harg5 arg6 harg6 arg7 harg7 x0 x1 (arg7.view.writes (Elt Ideal) arg7.view.junk (kernelRun0_A.sl.HS0_4 c arg4 harg4 x2))).2.1 (pointLoop c i arg2 harg2 arg3 harg3 arg4 harg4 arg5 harg5 arg6 harg6 arg7 harg7 x0 x1 (arg7.view.writes (Elt Ideal) arg7.view.junk (kernelRun0_A.sl.HS0_4 c arg4 harg4 x2))).2.2.2 := by
  unfold kernelRun0_A
  rfl

theorem runA_log (hc0 : cond0_0 i) : (kernelRun0_A (F := Ideal) c i arg2 harg2 arg3 harg3 arg4 harg4 arg5 harg5 arg6 harg6 arg7 harg7 hc0 x0 x1 x2).2.1 = logPieces (pointLoop c i arg2 harg2 arg3 harg3 arg4 harg4 arg5 harg5 arg6 harg6 arg7 harg7 x0 x1 (arg7.view.writes (Elt Ideal) arg7.view.junk (kernelRun0_A.sl.HS0_4 c arg4 harg4 x2))).1 (pointLoop c i arg2 harg2 arg3 harg3 arg4 harg4 arg5 harg5 arg6 harg6 arg7 harg7 x0 x1 (arg7.view.writes (Elt Ideal) arg7.view.junk (kernelRun0_A.sl.HS0_4 c arg4 harg4 x2))).2.2.1 (pointLoop c i arg2 harg2 arg3 harg3 arg4 harg4 arg5 harg5 arg6 harg6 arg7 harg7 x0 x1 (arg7.view.writes (Elt Ideal) arg7.view.junk (kernelRun0_A.sl.HS0_4 c arg4 harg4 x2))).2.1 (pointLoop c i arg2 harg2 arg3 harg3 arg4 harg4 arg5 harg5 arg6 harg6 arg7 harg7 x0 x1 (arg7.view.writes (Elt Ideal) arg7.view.junk (kernelRun0_A.sl.HS0_4 c arg4 harg4 x2))).2.2.2 := by
  unfold kernelRun0_A
  rfl

theorem runA_scratch (hc0 : cond0_0 i) : (kernelRun0_A (F := Ideal) c i arg2 harg2 arg3 harg3 arg4 harg4 arg5 harg5 arg6 harg6 arg7 harg7 hc0 x0 x1 x2).2.2.1 = kernelRun0_A.sl.HS0_4 c arg4 harg4 x2 := by
  unfold kernelRun0_A
  rfl

theorem runB_out (hc0 : ¬cond0_0 i) (xs0 : Vec Ideal S8192x256 .bf16) : (kernelRun0_B (F := Ideal) c i arg2 harg2 arg3 harg3 arg4 harg4 arg5 harg5 arg6 harg6 arg7 harg7 hc0 x0 x1 x2 xs0).1 = outPieces (pointLoop c i arg2 harg2 arg3 harg3 arg4 harg4 arg5 harg5 arg6 harg6 arg7 harg7 x0 x1 (harg7.unread xs0)).2.1 (pointLoop c i arg2 harg2 arg3 harg3 arg4 harg4 arg5 harg5 arg6 harg6 arg7 harg7 x0 x1 (harg7.unread xs0)).2.2.2 := by
  unfold kernelRun0_B
  rfl

theorem runB_log (hc0 : ¬cond0_0 i) (xs0 : Vec Ideal S8192x256 .bf16) : (kernelRun0_B (F := Ideal) c i arg2 harg2 arg3 harg3 arg4 harg4 arg5 harg5 arg6 harg6 arg7 harg7 hc0 x0 x1 x2 xs0).2.1 = logPieces (pointLoop c i arg2 harg2 arg3 harg3 arg4 harg4 arg5 harg5 arg6 harg6 arg7 harg7 x0 x1 (harg7.unread xs0)).1 (pointLoop c i arg2 harg2 arg3 harg3 arg4 harg4 arg5 harg5 arg6 harg6 arg7 harg7 x0 x1 (harg7.unread xs0)).2.2.1 (pointLoop c i arg2 harg2 arg3 harg3 arg4 harg4 arg5 harg5 arg6 harg6 arg7 harg7 x0 x1 (harg7.unread xs0)).2.1 (pointLoop c i arg2 harg2 arg3 harg3 arg4 harg4 arg5 harg5 arg6 harg6 arg7 harg7 x0 x1 (harg7.unread xs0)).2.2.2 := by
  unfold kernelRun0_B
  rfl

variable (x : Fin 2 → Fin 1024 → Fin 8192 → ℝ) (A : Fin 2 → Fin 8192 → Fin 128 → ℝ)
  (hx : ∀ (hh : Fin 2) (n : Fin 1024) (j : Fin 8192),
    ∑ d : Fin 128, (x0 (ix2 n (kc hh d)) : EReal) * x1 (ix2 j (kc hh d)) = ((x hh n j / Real.log 2 : ℝ) : EReal))
  (hA : ∀ (hh : Fin 2) (j : Fin 8192) (e : Fin 128), vones x2 hh j e = (A hh j e : EReal))
  (hone : ∀ (hh : Fin 2) (j : Fin 8192), A hh j 64 = 1)

include hx hA hone in
/-- A group's first point: the output. -/
theorem outA_3 (hc0 : cond0_0 i) (r : Fin 1024) (h : Fin 2) (d : Fin 64) :
    out0_A_3 c i arg2 harg2 arg3 harg3 arg4 harg4 arg5 harg5 arg6 harg6 arg7 harg7 hc0 x0 x1 x2 (ix2 r (vc h d))
      = ((∑ j, Real.exp (x h r j) / (∑ i, Real.exp (x h r i)) * A h j (⟨d.val, by omega⟩ : Fin 128) : ℝ) : EReal) := by
  unfold out0_A_3
  rw [runA_out]
  refine point_out (x := x) (A := A) (hx := hx) (hone := hone) (hA := fun hh j e => ?_) ..
  exact (read_scratch c arg4 harg4 arg7.view arg7.view.junk x2 hh j e).trans (hA hh j e)

include hx hA hone in
/-- A group's first point: the logarithms. -/
theorem outA_4 (hc0 : cond0_0 i) (r : Fin 1024) (h : Fin 2) :
    out0_A_4 c i arg2 harg2 arg3 harg3 arg4 harg4 arg5 harg5 arg6 harg6 arg7 harg7 hc0 x0 x1 x2 (ix3 0 r h)
      = ((Real.log (∑ i, Real.exp (x h r i)) / Real.log 2 : ℝ) : EReal) := by
  unfold out0_A_4
  rw [runA_log]
  refine point_log (x := x) (A := A) (hx := hx) (hone := hone) (hA := fun hh j e => ?_) ..
  exact (read_scratch c arg4 harg4 arg7.view arg7.view.junk x2 hh j e).trans (hA hh j e)

include hx hA hone in
/-- A group's later points: the output. -/
theorem outB_3 (hc0 : ¬cond0_0 i) (xs0 : Vec Ideal S8192x256 .bf16)
    (hs : ∀ (hh : Fin 2) (j : Fin 8192) (e : Fin 128), xs0 (ix2 j (⟨128 * hh.val + e.val, by omega⟩ : Fin 256)) = vones x2 hh j e) (r : Fin 1024) (h : Fin 2) (d : Fin 64) :
    out0_B_3 c i arg2 harg2 arg3 harg3 arg4 harg4 arg5 harg5 arg6 harg6 arg7 harg7 hc0 x0 x1 x2 xs0 (ix2 r (vc h d))
      = ((∑ j, Real.exp (x h r j) / (∑ i, Real.exp (x h r i)) * A h j (⟨d.val, by omega⟩ : Fin 128) : ℝ) : EReal) := by
  unfold out0_B_3
  rw [runB_out]
  refine point_out (x := x) (A := A) (hx := hx) (hone := hone) (hA := fun hh j e => ?_) ..
  rw [harg7.read_unread]
  exact (hs hh j e).trans (hA hh j e)

include hx hA hone in
/-- A group's later points: the logarithms. -/
theorem outB_4 (hc0 : ¬cond0_0 i) (xs0 : Vec Ideal S8192x256 .bf16)
    (hs : ∀ (hh : Fin 2) (j : Fin 8192) (e : Fin 128), xs0 (ix2 j (⟨128 * hh.val + e.val, by omega⟩ : Fin 256)) = vones x2 hh j e) (r : Fin 1024) (h : Fin 2) :
    out0_B_4 c i arg2 harg2 arg3 harg3 arg4 harg4 arg5 harg5 arg6 harg6 arg7 harg7 hc0 x0 x1 x2 xs0 (ix3 0 r h)
      = ((Real.log (∑ i, Real.exp (x h r i)) / Real.log 2 : ℝ) : EReal) := by
  unfold out0_B_4
  rw [runB_log]
  refine point_log (x := x) (A := A) (hx := hx) (hone := hone) (hA := fun hh j e => ?_) ..
  rw [harg7.read_unread]
  exact (hs hh j e).trans (hA hh j e)

/-- The scratch after a group's first point. -/
theorem soutA (hc0 : cond0_0 i) (hh : Fin 2) (j : Fin 8192) (e : Fin 128) :
    sout0_A_0 c i arg2 harg2 arg3 harg3 arg4 harg4 arg5 harg5 arg6 harg6 arg7 harg7 hc0 x0 x1 x2 (ix2 j (⟨128 * hh.val + e.val, by omega⟩ : Fin 256)) = vones x2 hh j e := by
  unfold sout0_A_0
  rw [runA_scratch]
  exact read_scratch c arg4 harg4 _ _ x2 hh j e
end
end Cert.Lfw
-- ==== Proof.LfwHost.lean ====
module
public import proofs.«01_k».proof.Proof.MlaHostReals
public import proofs.«01_k».proof.Proof.Gen.LatentForwardIdeal.Frame
/-! What the latent attention's forward call is given, for real arguments. -/
@[expose] public section
set_option maxRecDepth 16384
noncomputable section
namespace Cert.Lfw
open Cert.LatentForwardIdeal Cert.LatentForwardIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The arguments, and the arrays of the call. -/
abbrev argQ : Vec Ideal S8192x1024 .f32 := m ((c : Thread nD τ).loc main_arg0)
abbrev argK : Vec Ideal S8192x1024 .f32 := m ((c : Thread nD τ).loc main_arg1)
abbrev argV : Vec Ideal S8192x512 .f32 := m ((c : Thread nD τ).loc main_arg2)
abbrev inQ : Vec Ideal S8192x1024 .bf16 := V m c (Pipeline.arrRef spec0 0)
abbrev inK : Vec Ideal S8192x1024 .bf16 := V m c (Pipeline.arrRef spec0 1)
abbrev inV : Vec Ideal S8192x512 .bf16 := V m c (Pipeline.arrRef spec0 2)

theorem inQ_eq : inQ m c = (truncf .bf16 (mulf (argQ m c : FVec Ideal S8192x1024 .f32) (broadcastInDim S8192x1024 ![] bcast_S_S8192x1024
      (Host.divf (constant S_ .f32 0x3DD105EC#32) (Host.log (constant S_ .f32 0x40000000#32))))) bitsLt_bf16_f32 : FVec Ideal S8192x1024 .bf16) := by
  show StableHlo.after (hostOps0 (F := Ideal)) (fun b => m (c, b)) (Proc.devRef .tc main_v4) = _
  after_results
theorem inK_eq : inK m c = (truncf .bf16 (argK m c : FVec Ideal S8192x1024 .f32) bitsLt_bf16_f32 : FVec Ideal S8192x1024 .bf16) := by
  show StableHlo.after (hostOps0 (F := Ideal)) (fun b => m (c, b)) (Proc.devRef .tc main_v5) = _
  after_results
theorem inV_eq : inV m c = (truncf .bf16 (argV m c : FVec Ideal S8192x512 .f32) bitsLt_bf16_f32 : FVec Ideal S8192x512 .bf16) := by
  show StableHlo.after (hostOps0 (F := Ideal)) (fun b => m (c, b)) (Proc.devRef .tc main_v6) = _
  after_results

variable (q k : Fin 8192 → Fin 1024 → ℝ) (v : Fin 8192 → Fin 512 → ℝ)
  (hQ : ∀ s x, argQ m c (ix2 s x) = ((q s x : ℝ) : EReal))
  (hK : ∀ j y, argK m c (ix2 j y) = ((k j y : ℝ) : EReal))
  (hW : ∀ j y, argV m c (ix2 j y) = ((v j y : ℝ) : EReal))

include hQ in
theorem inQ_real (s : Fin 8192) (x : Fin 1024) : inQ m c (ix2 s x) = ((q s x * (Cert.Mla.scl / Real.log 2) : ℝ) : EReal) :=
  (congrArg (fun z => z (ix2 s x)) (inQ_eq m c)).trans (Cert.Mla.scaled_real q _ hQ s x)
include hK in
theorem inK_real (j : Fin 8192) (y : Fin 1024) : inK m c (ix2 j y) = ((k j y : ℝ) : EReal) :=
  (congrArg (fun z => z (ix2 j y)) (inK_eq m c)).trans (hK j y)
include hW in
theorem inV_real (j : Fin 8192) (y : Fin 512) : inV m c (ix2 j y) = ((v j y : ℝ) : EReal) :=
  (congrArg (fun z => z (ix2 j y)) (inV_eq m c)).trans (hW j y)
end Cert.Lfw
-- ==== Proof.LfwBlocks.lean ====
module
public import proofs.«01_k».proof.Proof.LfwOut
public import proofs.«01_k».proof.Proof.LfwHost
public import Idealize.ShloMosaic.Lib.Pipeline.ValueKit
/-! The latent attention's forward call's blocks at each grid point, and what the two result arrays hold, for real arguments.

Point `t` works on group `t / 8` of two heads and on query rows `1024 (t % 8)` onwards. -/
@[expose] public section
set_option maxRecDepth 16384
noncomputable section
namespace Cert.Lfw
open Cert.LatentForwardIdeal Cert.LatentForwardIdeal.Gen
open Idealize.ShloMosaic Idealize.ShloMosaic.TcCoe Idealize.ShloMosaic.Tactic
open Cert.Mla (kc vc vones wcol ncol cq cv grp plc sHead rS rP rO scl)
open Cert.Attn (coe_dot)

theorem points : cfg0.N = 32 := by decide +kernel

/-- The group of a point and its block of query rows. -/
def gOf (t : Fin cfg0.N) : Fin 4 := ⟨t.val / 8, by have := t.isLt; have := points; omega⟩
def iOf (t : Fin cfg0.N) : Fin 8 := ⟨t.val % 8, Nat.mod_lt _ (by decide)⟩

/-- The point of a group and a block of rows. -/
def pt (g : Fin 4) (i : Fin 8) : Fin cfg0.N := ⟨8 * g.val + i.val, by have := points; omega⟩

theorem gOf_pt (g : Fin 4) (i : Fin 8) : gOf (pt g i) = g := Fin.ext (by simp only [gOf, pt]; omega)
theorem iOf_pt (g : Fin 4) (i : Fin 8) : iOf (pt g i) = i := Fin.ext (by simp only [iOf, pt]; omega)

theorem pt_of (t : Fin cfg0.N) : t = pt (gOf t) (iOf t) :=
  Fin.ext (by show t.val = 8 * (t.val / 8) + t.val % 8; omega)

/-- Row `n` of a block of 1024 query rows. -/
abbrev qrow (i : Fin 8) (n : Fin 1024) : Fin 8192 := ⟨1024 * i.val + n.val, by omega⟩

theorem index0 : ∀ t : Fin cfg0.N, win0_0.index t = ![t.val % 8, t.val / 8] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![0, t.val / 8] := (by decide +kernel : ∀ t : Fin grid0.N, _)
theorem index3 : ∀ t : Fin cfg0.N, win0_3.index t = ![t.val % 8, t.val / 8] := (by decide +kernel : ∀ t : Fin grid0.N, _)
theorem index4 : ∀ t : Fin cfg0.N, win0_4.index t = ![t.val / 8, t.val % 8, 0] := (by decide +kernel : ∀ t : Fin grid0.N, _)

section
variable (m : (ℓ : Loc nD τ sig) → Buf (Elt Ideal) ℓ) (c : Dev nD) (t : Fin cfg0.N)

theorem block_0 (f : Vec Ideal S8192x1024 .bf16) (i : Fin 1024) (x : Fin 256) :
    (((cfg0.win 0).blk t).view.read (Elt Ideal) f : Vec Ideal S1024x256 .bf16) (ix2 i x) = f (ix2 (qrow (iOf t) i) (wcol (gOf t) x)) := by
  show f (((cfg0.win 0).blk t).view.emb (ix2 i x)) = _
  refine congrArg _ (funext fun a => Fin.ext ?_)
  have e := index0 t
  fin_cases a
  · show win0_0.index t (0 : Fin 2) * 1024 + 1 * i.val = 1024 * (t.val % 8) + i.val
    rw [e]; simp; omega
  · show win0_0.index t (1 : Fin 2) * 256 + 1 * x.val = 256 * (t.val / 8) + x.val
    rw [e]; simp; omega

theorem iblk_0 (i : Fin 1024) (x : Fin 256) :
    (iblk m c 0 t : Vec Ideal S1024x256 .bf16) (ix2 i x)
      = (V m c (Pipeline.arrRef spec0 0) : Vec Ideal S8192x1024 .bf16) (ix2 (qrow (iOf t) i) (wcol (gOf t) x)) :=
  block_0 t _ i x

theorem block_1 (f : Vec Ideal S8192x1024 .bf16) (j : Fin 8192) (x : Fin 256) :
    (((cfg0.win 1).blk t).view.read (Elt Ideal) f : Vec Ideal S8192x256 .bf16) (ix2 j x) = f (ix2 j (wcol (gOf t) x)) := by
  show f (((cfg0.win 1).blk t).view.emb (ix2 j x)) = _
  refine congrArg _ (funext fun a => Fin.ext ?_)
  have e := index1 t
  fin_cases a
  · show win0_1.index t (0 : Fin 2) * 8192 + 1 * j.val = j.val
    rw [e]; simp
  · show win0_1.index t (1 : Fin 2) * 256 + 1 * x.val = 256 * (t.val / 8) + x.val
    rw [e]; simp; omega

theorem iblk_1 (j : Fin 8192) (x : Fin 256) :
    (iblk m c 1 t : Vec Ideal S8192x256 .bf16) (ix2 j x)
      = (V m c (Pipeline.arrRef spec0 1) : Vec Ideal S8192x1024 .bf16) (ix2 j (wcol (gOf t) x)) :=
  block_1 t _ j x

theorem block_2 (f : Vec Ideal S8192x512 .bf16) (j : Fin 8192) (x : Fin 128) :
    (((cfg0.win 2).blk t).view.read (Elt Ideal) f : Vec Ideal S8192x128 .bf16) (ix2 j x) = f (ix2 j (ncol (gOf t) x)) := by
  show f (((cfg0.win 2).blk t).view.emb (ix2 j x)) = _
  refine congrArg _ (funext fun a => Fin.ext ?_)
  have e := index2 t
  fin_cases a
  · show win0_2.index t (0 : Fin 2) * 8192 + 1 * j.val = j.val
    rw [e]; simp
  · show win0_2.index t (1 : Fin 2) * 128 + 1 * x.val = 128 * (t.val / 8) + x.val
    rw [e]; simp; omega

theorem iblk_2 (j : Fin 8192) (x : Fin 128) :
    (iblk m c 2 t : Vec Ideal S8192x128 .bf16) (ix2 j x)
      = (V m c (Pipeline.arrRef spec0 2) : Vec Ideal S8192x512 .bf16) (ix2 j (ncol (gOf t) x)) :=
  block_2 t _ j x

/-- What the scratch holds while a group is worked on: its values, widened by ones. -/
def held (g : Fin 4) (hh : Fin 2) (j : Fin 8192) (e : Fin 128) : EReal :=
  if h : e.val < 64 then inV m c (ix2 j (ncol g (vc hh ⟨e.val, h⟩))) else 1

theorem vones_block (hh : Fin 2) (j : Fin 8192) (e : Fin 128) :
    vones (iblk m c 2 t) hh j e = held m c (gOf t) hh j e := by
  unfold vones held
  split
  · exact iblk_2 m c t _ _
  · rfl

theorem vones_pt (g : Fin 4) (i : Fin 8) (hh : Fin 2) (j : Fin 8192) (e : Fin 128) :
    vones (iblk m c 2 (pt g i)) hh j e = held m c g hh j e := by
  rw [vones_block, gOf_pt]

/-- The scratch after each point. -/
theorem scratch_first (g : Fin 4) (hh : Fin 2) (j : Fin 8192) (e : Fin 128) :
    (outsAt0 m c (pt g ⟨0, by decide⟩).val (pt g ⟨0, by decide⟩).isLt).2.2 (ix2 j (⟨128 * hh.val + e.val, by omega⟩ : Fin 256)) = held m c g hh j e := by
  have h0 : (pt g ⟨0, by decide⟩).val % 8 = 0 := by show (8 * g.val + 0) % 8 = 0; omega
  refine (congrArg (fun z => z.2.2 (ix2 j (⟨128 * hh.val + e.val, by omega⟩ : Fin 256))) (outsAt0_A m c (pt g ⟨0, by decide⟩) h0)).trans ?_
  dsimp only
  rw [soutA]
  exact vones_pt m c g _ hh j e

theorem scratch_all (g : Fin 4) (hh : Fin 2) (j : Fin 8192) (e : Fin 128) : ∀ (i : ℕ) (hi : i < 8),
    (outsAt0 m c (pt g ⟨i, hi⟩).val (pt g ⟨i, hi⟩).isLt).2.2 (ix2 j (⟨128 * hh.val + e.val, by omega⟩ : Fin 256)) = held m c g hh j e
  | 0, _ => scratch_first m c g hh j e
  | i + 1, hi => by
    have h0 : ¬(pt g ⟨i + 1, hi⟩).val % 8 = 0 := by show ¬(8 * g.val + (i + 1)) % 8 = 0; omega
    exact (congrArg (fun z => z.2.2 (ix2 j (⟨128 * hh.val + e.val, by omega⟩ : Fin 256))) (outsAt0_B m c (pt g ⟨i + 1, hi⟩) h0)).trans
      (scratch_all g hh j e i (by omega))
end

section
variable (m : (ℓ : Loc nD τ sig) → Buf (Elt Ideal) ℓ) (c : Dev nD)
  (q k : Fin 8192 → Fin 1024 → ℝ) (v : Fin 8192 → Fin 512 → ℝ)
  (hQ : ∀ s x, argQ m c (ix2 s x) = ((q s x : ℝ) : EReal))
  (hK : ∀ j y, argK m c (ix2 j y) = ((k j y : ℝ) : EReal))
  (hW : ∀ j y, argV m c (ix2 j y) = ((v j y : ℝ) : EReal))

/-- A point's scores, and its values widened by ones. -/
def scr (g : Fin 4) (i : Fin 8) (hh : Fin 2) (n : Fin 1024) (j : Fin 8192) : ℝ := rS q k (sHead g hh) (qrow i n) j
def wid (g : Fin 4) (hh : Fin 2) (j : Fin 8192) (e : Fin 128) : ℝ :=
  if h : e.val < 64 then v j (cv (sHead g hh) ⟨e.val, h⟩) else 1

theorem wid_one (g : Fin 4) (hh : Fin 2) (j : Fin 8192) : wid v g hh j 64 = 1 := dif_neg (by decide)

/-- A point's blocks of queries and of keys. -/
abbrev bQ (t : Fin cfg0.N) : Vec Ideal S1024x256 .bf16 := iblk m c 0 t
abbrev bK (t : Fin cfg0.N) : Vec Ideal S8192x256 .bf16 := iblk m c 1 t

include hQ hK in
theorem scr_pt (g : Fin 4) (i : Fin 8) (hh : Fin 2) (n : Fin 1024) (j : Fin 8192) :
    ∑ d : Fin 128, (bQ m c (pt g i) (ix2 n (kc hh d)) : EReal) * bK m c (pt g i) (ix2 j (kc hh d))
      = ((scr q k g i hh n j / Real.log 2 : ℝ) : EReal) := by
  have e : ∑ d : Fin 128, q (qrow i n) (cq (sHead g hh) d) * (scl / Real.log 2) * k j (cq (sHead g hh) d)
      = scr q k g i hh n j / Real.log 2 := by
    unfold scr rS
    rw [Finset.sum_mul, Finset.sum_div]
    exact Finset.sum_congr rfl fun d _ => by ring
  rw [← e, ← coe_dot]
  refine Fintype.sum_congr _ _ fun d => ?_
  refine congrArg₂ (fun a b : EReal => a * b) ((iblk_0 m c (pt g i) _ _).trans ?_) ((iblk_1 m c (pt g i) _ _).trans ?_)
  · rw [gOf_pt, iOf_pt]
    refine Eq.trans ?_ (inQ_real m c q hQ (qrow i n) (cq (sHead g hh) d))
    exact congrArg (fun z => inQ m c (ix2 (qrow i n) z)) (Fin.ext (by simp; omega))
  · rw [gOf_pt]
    refine Eq.trans ?_ (inK_real m c k hK j (cq (sHead g hh) d))
    exact congrArg (fun z => inK m c (ix2 j z)) (Fin.ext (by simp; omega))

include hW in
theorem held_real (g : Fin 4) (hh : Fin 2) (j : Fin 8192) (e : Fin 128) : held m c g hh j e = ((wid v g hh j e : ℝ) : EReal) := by
  unfold held wid
  split
  · refine Eq.trans ?_ (inV_real m c v hW j _)
    exact congrArg (fun z => inV m c (ix2 j z)) (Fin.ext (by simp; omega))
  · rfl

theorem mix_eq (g : Fin 4) (i : Fin 8) (h : Fin 2) (r : Fin 1024) (d : Fin 64) :
    ∑ j, Real.exp (scr q k g i h r j) / (∑ i', Real.exp (scr q k g i h r i'))
        * wid v g h j (⟨d.val, by omega⟩ : Fin 128) = rO q k v (sHead g h) (qrow i r) d := by
  unfold scr rO rP
  refine Finset.sum_congr rfl fun j _ => congrArg₂ (fun a b : ℝ => a * b) rfl ?_
  unfold wid
  rw [dif_pos d.isLt]

include hQ hK hW in
/-- A point's two blocks. -/
theorem block_out (g : Fin 4) (i : Fin 8) (r : Fin 1024) (h : Fin 2) (d : Fin 64) :
    (outsAt0 m c (pt g i).val (pt g i).isLt).1 (ix2 r (vc h d)) = ((rO q k v (sHead g h) (qrow i r) d : ℝ) : EReal) := by
  have hA : ∀ (hh : Fin 2) (j : Fin 8192) (e : Fin 128), vones (iblk m c 2 (pt g i)) hh j e = ((wid v g hh j e : ℝ) : EReal) :=
    fun hh j e => (vones_pt m c g i hh j e).trans (held_real m c v hW g hh j e)
  have hx := scr_pt m c q k hQ hK g i
  rw [← mix_eq q k v g i h r d]
  obtain ⟨i, hi⟩ := i
  cases i with
  | zero =>
    have h0 : (pt g ⟨0, hi⟩).val % 8 = 0 := by show (8 * g.val + 0) % 8 = 0; omega
    refine (congrArg (fun z => z.1 (ix2 r (vc h d))) (outsAt0_A m c (pt g ⟨0, hi⟩) h0)).trans ?_
    dsimp only
    exact outA_3 (x := scr q k g ⟨0, hi⟩) (A := wid v g) (hx := hx) (hA := hA) (hone := wid_one v g) ..
  | succ i =>
    have h0 : ¬(pt g ⟨i + 1, hi⟩).val % 8 = 0 := by show ¬(8 * g.val + (i + 1)) % 8 = 0; omega
    refine (congrArg (fun z => z.1 (ix2 r (vc h d))) (outsAt0_B m c (pt g ⟨i + 1, hi⟩) h0)).trans ?_
    dsimp only
    exact outB_3 (x := scr q k g ⟨i + 1, hi⟩) (A := wid v g) (hx := hx) (hA := hA) (hone := wid_one v g)
      (hs := fun hh j e => (scratch_all m c g hh j e i (by omega)).trans (vones_pt m c g _ hh j e).symm) ..

include hQ hK hW in
theorem block_log (g : Fin 4) (i : Fin 8) (r : Fin 1024) (h : Fin 2) :
    (outsAt0 m c (pt g i).val (pt g i).isLt).2.1 (ix3 0 r h)
      = ((Real.log (∑ i', Real.exp (rS q k (sHead g h) (qrow i r) i')) / Real.log 2 : ℝ) : EReal) := by
  have hA : ∀ (hh : Fin 2) (j : Fin 8192) (e : Fin 128), vones (iblk m c 2 (pt g i)) hh j e = ((wid v g hh j e : ℝ) : EReal) :=
    fun hh j e => (vones_pt m c g i hh j e).trans (held_real m c v hW g hh j e)
  have hx := scr_pt m c q k hQ hK g i
  obtain ⟨i, hi⟩ := i
  cases i with
  | zero =>
    have h0 : (pt g ⟨0, hi⟩).val % 8 = 0 := by show (8 * g.val + 0) % 8 = 0; omega
    refine (congrArg (fun z => z.2.1 (ix3 0 r h)) (outsAt0_A m c (pt g ⟨0, hi⟩) h0)).trans ?_
    dsimp only
    exact outA_4 (x := scr q k g ⟨0, hi⟩) (A := wid v g) (hx := hx) (hA := hA) (hone := wid_one v g) ..
  | succ i =>
    have h0 : ¬(pt g ⟨i + 1, hi⟩).val % 8 = 0 := by show ¬(8 * g.val + (i + 1)) % 8 = 0; omega
    refine (congrArg (fun z => z.2.1 (ix3 0 r h)) (outsAt0_B m c (pt g ⟨i + 1, hi⟩) h0)).trans ?_
    dsimp only
    exact outB_4 (x := scr q k g ⟨i + 1, hi⟩) (A := wid v g) (hx := hx) (hA := hA) (hone := wid_one v g)
      (hs := fun hh j e => (scratch_all m c g hh j e i (by omega)).trans (vones_pt m c g _ hh j e).symm) ..

/-- The head and the place of a column of the output. -/
abbrev hVal (x : Fin 512) : Fin 8 := ⟨x.val / 64, by omega⟩
abbrev dVal (x : Fin 512) : Fin 64 := ⟨x.val % 64, by omega⟩

/-- What the two result arrays hold, as functions of the index. -/
abbrev allO : Vec Ideal S8192x512 .bf16 := fun y => ((rO q k v (hVal (y 1)) (y 0) (dVal (y 1)) : ℝ) : EReal)
abbrev allL : Vec Ideal S4x8192x2 .f32 := fun y =>
  ((Real.log (∑ i', Real.exp (rS q k (sHead (y 0) (y 2)) (y 1) i')) / Real.log 2 : ℝ) : EReal)

theorem tile_3 (f : Vec Ideal S8192x512 .bf16) (t : Fin cfg0.N) (r : Fin 1024) (x : Fin 128) :
    (((cfg0.win 3).blk t).view.read (Elt Ideal) f : Vec Ideal S1024x128 .bf16) (ix2 r x) = f (ix2 (qrow (iOf t) r) (ncol (gOf t) x)) := by
  show f (((cfg0.win 3).blk t).view.emb (ix2 r x)) = _
  refine congrArg _ (funext fun a => Fin.ext ?_)
  have e := index3 t
  fin_cases a
  · show win0_3.index t (0 : Fin 2) * 1024 + 1 * r.val = 1024 * (t.val % 8) + r.val
    rw [e]; simp; omega
  · show win0_3.index t (1 : Fin 2) * 128 + 1 * x.val = 128 * (t.val / 8) + x.val
    rw [e]; simp; omega

theorem tile_4 (f : Vec Ideal S4x8192x2 .f32) (t : Fin cfg0.N) (r : Fin 1024) (h : Fin 2) :
    (((cfg0.win 4).blk t).view.read (Elt Ideal) f : Vec Ideal S1x1024x2 .f32) (ix3 0 r h) = f (ix3 (gOf t) (qrow (iOf t) r) h) := by
  show f (((cfg0.win 4).blk t).view.emb (ix3 0 r h)) = _
  refine congrArg _ (funext fun a => Fin.ext ?_)
  have e := index4 t
  fin_cases a
  · show win0_4.index t (0 : Fin 3) * 1 + 1 * 0 = t.val / 8
    rw [e]; simp
  · show win0_4.index t (1 : Fin 3) * 1024 + 1 * r.val = 1024 * (t.val % 8) + r.val
    rw [e]; simp; omega
  · show win0_4.index t (2 : Fin 3) * 2 + 1 * h.val = h.val
    rw [e]; simp

include hQ hK hW in
theorem back_3 (t : Fin cfg0.N) : (dats m 0 c).flushed 3 t = ((cfg0.win 3).blk t).view.read (Elt Ideal) (allO q k v) := by
  funext y
  obtain ⟨r, x, rfl⟩ : ∃ r x, y = (ix2 r x : S1024x128.Idx) := ⟨y 0, y 1, eq_ix2 y⟩
  rw [tile_3]
  show (dats m 0 c).after 3 t (ix2 r x) = _
  rw [after0_3]
  have e := pt_of t
  generalize gOf t = g at e
  generalize iOf t = i at e
  subst e
  have ex : x = vc (⟨x.val / 64, by omega⟩ : Fin 2) (⟨x.val % 64, by omega⟩ : Fin 64) := Fin.ext (by simp; omega)
  refine (congrArg (fun z => (outsAt0 m c (pt g i).val (pt g i).isLt).1 (ix2 r z)) ex).trans ((block_out m c q k v hQ hK hW g i r _ _).trans ?_)
  exact congrArg₂ (fun a b => ((rO q k v a (qrow i r) b : ℝ) : EReal)) (Fin.ext (by simp; omega)) (Fin.ext (by simp; omega))

include hQ hK hW in
theorem back_4 (t : Fin cfg0.N) : (dats m 0 c).flushed 4 t = ((cfg0.win 4).blk t).view.read (Elt Ideal) (allL q k) := by
  funext y
  obtain ⟨r, h, rfl⟩ : ∃ r h, y = (ix3 0 r h : S1x1024x2.Idx) :=
    ⟨y 1, y 2, by funext a; fin_cases a; · exact Subsingleton.elim (α := Fin 1) _ _
                  · rfl
                  · rfl⟩
  rw [tile_4]
  show (dats m 0 c).after 4 t (ix3 0 r h) = _
  rw [after0_4]
  have e := pt_of t
  generalize gOf t = g at e
  generalize iOf t = i at e
  subst e
  exact block_log m c q k v hQ hK hW g i r h

include hQ hK hW in
theorem final_3 : (dats m 0 c).arrAt 3 cfg0.N = allO q k v :=
  (dats m 0 c).arrAt_eq_of_cover 3 (allO q k v) (fun t _ => back_3 m c q k v hQ hK hW t)
    (Pipeline.Window.Covers.cover win0_3 (by decide +kernel) (arr_whole0 3))
include hQ hK hW in
theorem final_4 : (dats m 0 c).arrAt 4 cfg0.N = allL q k :=
  (dats m 0 c).arrAt_eq_of_cover 4 (allL q k) (fun t _ => back_4 m c q k v hQ hK hW t)
    (Pipeline.Window.Covers.cover win0_4 (by decide +kernel) (arr_whole0 4))
end
end Cert.Lfw
-- ==== Proof.LfwRef.lean ====
module
public import proofs.«01_k».proof.Proof.MlaHostReals
public import proofs.«01_k».proof.Proof.FwdReal
public import proofs.«01_k».proof.Proof.Gen.LatentForwardReferenceIdeal.Run
import Idealize.ShloMosaic.Lib.Pointwise
/-! The latent attention's forward call's reference: the attention's output and the logarithms of its denominators, for real arguments. -/
@[expose] public section
set_option maxRecDepth 16384
noncomputable section
namespace Cert.Lfw
open Cert.LatentForwardReferenceIdeal Cert.LatentForwardReferenceIdeal.Gen
open Idealize.ShloMosaic Idealize.ShloMosaic.TcCoe Idealize.ShloMosaic.Tactic Idealize.ShloMosaic.StableHlo Idealize.SL.Sem
open Cert.Mla
open Cert.Attn (coe_dot)
open Cert.Fwd (log_shift)

section
variable (Q K : FVec Ideal S8192x1024 .f32) (W : FVec Ideal S8192x512 .f32)

/-- The attention's output by heads. -/
def mixed (E : FVec Ideal S8x1x8192x8192 .f32) (L : FVec Ideal S8x1x8192x1 .f32) : FVec Ideal S8x1x8192x64 .f32 :=
  Host.dotGeneral dot_S8x1x8192x8192_S8x8192x64_S8x1x8192x64_3_1_12_2_0_0 none
    (Host.divf E (broadcastInDim S8x1x8192x8192 ![0, 1, 2, 3] bcast_S8x1x8192x1_S8x1x8192x8192_0_1_2_3 L))
    (transpose S8x8192x64 [1, 0, 2] (shapeCast S8192x8x64 W shapeCasts_S8192x512_S8192x8x64 : FVec Ideal S8192x8x64 .f32)
      transposes_S8192x8x64_S8x8192x64_1_0_2)
/-- Its layout in the result. -/
def flat (o : FVec Ideal S8x1x8192x64 .f32) : FVec Ideal S8192x512 .bf16 :=
  truncf .bf16 (shapeCast S8192x512 (transpose S8192x8x64 [1, 0, 2]
    (shapeCast S8x8192x64 o shapeCasts_S8x1x8192x64_S8x8192x64 : FVec Ideal S8x8192x64 .f32) transposes_S8x8192x64_S8192x8x64_1_0_2)
    shapeCasts_S8192x8x64_S8192x512 : FVec Ideal S8192x512 .f32) bitsLt_bf16_f32
/-- The layout of the logarithms. -/
def grouped (l : FVec Ideal S8x1x8192x1 .f32) : FVec Ideal S4x8192x2 .f32 :=
  transpose S4x8192x2 [0, 2, 1] (shapeCast S4x2x8192 l shapeCasts_S8x1x8192x1_S4x2x8192 : FVec Ideal S4x2x8192 .f32)
    transposes_S4x2x8192_S4x8192x2_0_2_1

theorem mixed_at (E : FVec Ideal S8x1x8192x8192 .f32) (L : FVec Ideal S8x1x8192x1 .f32) (h : Fin 8) (s : Fin 8192) (d : Fin 64) :
    mixed W E L (ix4 h 0 s d) = ∑ j : Fin 8192, Ideal.div (E (ix4 h 0 s j)) (L (ix4 h 0 s 0)) * W (ix2 j (⟨h.val * 64 + d.val, by omega⟩ : Fin 512)) := by
  unfold mixed
  pointwise []
theorem flat_at (o : FVec Ideal S8x1x8192x64 .f32) (s : Fin 8192) (x : Fin 512) :
    flat o (ix2 s x) = o (ix4 (⟨x.val / 64, by omega⟩ : Fin 8) 0 s (⟨x.val % 64, by omega⟩ : Fin 64)) := by
  unfold flat
  pointwise []
theorem grouped_at (l : FVec Ideal S8x1x8192x1 .f32) (g : Fin 4) (s : Fin 8192) (h : Fin 2) :
    grouped l (ix3 g s h) = l (ix4 (⟨g.val * 2 + h.val, by omega⟩ : Fin 8) 0 s 0) := by
  unfold grouped
  pointwise []

/-- The two results, from the arguments. -/
def refO : FVec Ideal S8192x512 .bf16 := flat (mixed W (Plain.xE Q K) (Plain.xL Q K))
def refL : FVec Ideal S4x8192x2 .f32 := grouped (hLse Q K)

variable (q k : Fin 8192 → Fin 1024 → ℝ) (v : Fin 8192 → Fin 512 → ℝ)
  (hQ : ∀ s x, Q (ix2 s x) = ((q s x : ℝ) : EReal))
  (hK : ∀ j y, K (ix2 j y) = ((k j y : ℝ) : EReal))
  (hW : ∀ j y, W (ix2 j y) = ((v j y : ℝ) : EReal))

include hQ hK hW in
theorem refO_real (s : Fin 8192) (h : Fin 8) (d : Fin 64) : refO Q K W (ix2 s (cv h d)) = ((rO q k v h s d : ℝ) : EReal) := by
  have eh : (⟨(cv h d).val / 64, by omega⟩ : Fin 8) = h := Fin.ext (by simp; omega)
  have ed : (⟨(cv h d).val % 64, by omega⟩ : Fin 64) = d := Fin.ext (by simp)
  have e : mixed W (Plain.xE Q K) (Plain.xL Q K) (ix4 h 0 s d) = ((rO q k v h s d : ℝ) : EReal) := by
    rw [mixed_at]
    simp only [prob_real q k Q K hQ hK, cv_mul, hW, coe_dot]
    rfl
  unfold refO
  refine (flat_at _ s (cv h d)).trans (Eq.trans ?_ e)
  exact congrArg₂ (fun y z => mixed W (Plain.xE Q K) (Plain.xL Q K) (ix4 y 0 s z)) eh ed

include hQ hK in
theorem refL_real (h : Fin 8) (s : Fin 8192) :
    refL Q K (ix3 (grp h) s (plc h)) = ((Real.log (∑ i, Real.exp (rS q k h s i)) / Real.log 2 : ℝ) : EReal) := by
  obtain ⟨M, hM'⟩ := hLse_real q k _ _ hQ hK h s
  rw [log_shift (fun i => rS q k h s i) M] at hM'
  unfold refL
  refine (grouped_at _ (grp h) s (plc h)).trans (Eq.trans ?_ hM')
  exact congrArg (fun y => hLse Q K (ix4 y 0 s 0)) (Fin.ext (by simp; omega))
end

/-- The reference runs and leaves these two results. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = refO (m ((c.tc : Thread nD τ).loc main_arg0)) (m ((c.tc : Thread nD τ).loc main_arg1)) (m ((c.tc : Thread nD τ).loc main_arg2))
      ∧ r.2.mem ((c.tc : Thread nD τ).loc main_v39) = refL (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.LatentForwardReferenceIdeal.Value.run (F := Ideal) m ρ
end Cert.Lfw
-- ==== Proof.LfwFinite.lean ====
module
public import proofs.«01_k».proof.Proof.MlaFinite
public import proofs.«01_k».proof.Pre_finite_latent_forward
import Idealize.ShloMosaic.Lib.Pointwise
/-! What the latent attention's forward call's precondition says: every element of an argument is a real. -/
@[expose] public section
set_option maxRecDepth 16384
noncomputable section
namespace Cert.Lfw
open Cert.Pre_finite_latent_forward
open Idealize.ShloMosaic Idealize.ShloMosaic.TcCoe Idealize.ShloMosaic.Tactic Idealize.ShloMosaic.StableHlo
open Cert.Attn (less_bit)
open Cert.Mla (bits_wide bits_narrow)

theorem pre_facts : Cert.Pre_finite_latent_forward.Facts := ⟨by decide, by decide⟩

variable [hf : Cert.Pre_finite_latent_forward.Facts] (a b : FVec Ideal S8192x1024 .f32) (d : FVec Ideal S8192x512 .f32)

/-- The three arguments are real. -/
theorem real_0 (h : (fn (F := Ideal) a b d).1 = fun _ => 1#1) (s : Fin 8192) (x : Fin 1024) :
    a (ix2 s x) = (((a (ix2 s x) : EReal).toReal : ℝ) : EReal) :=
  less_bit _ ((bits_wide hf.bcast_S_S8192x1024 a s x).symm.trans (congrFun h (ix2 s x)))
theorem real_1 (h : (fn (F := Ideal) a b d).2.1 = fun _ => 1#1) (s : Fin 8192) (x : Fin 1024) :
    b (ix2 s x) = (((b (ix2 s x) : EReal).toReal : ℝ) : EReal) :=
  less_bit _ ((bits_wide hf.bcast_S_S8192x1024 b s x).symm.trans (congrFun h (ix2 s x)))
theorem real_2 (h : (fn (F := Ideal) a b d).2.2 = fun _ => 1#1) (s : Fin 8192) (x : Fin 512) :
    d (ix2 s x) = (((d (ix2 s x) : EReal).toReal : ℝ) : EReal) :=
  less_bit _ ((bits_narrow hf.bcast_S_S8192x512 d s x).symm.trans (congrFun h (ix2 s x)))
end Cert.Lfw
-- ==== Proof.LfwAgree.lean ====
module
public import proofs.«01_k».proof.Proof.FwdAgree
public import proofs.«01_k».proof.Proof.LfwBlocks
public import proofs.«01_k».proof.Proof.LfwRef
public import proofs.«01_k».proof.Proof.LfwFinite
public import proofs.«01_k».proof.Proof.MlaAgree
/-! What the latent attention's forward program leaves, and that its reference leaves the same. -/
@[expose] public section
set_option maxRecDepth 16384
noncomputable section
namespace Cert.Lfw
open Idealize.ShloMosaic Idealize.ShloMosaic.TcCoe Idealize.ShloMosaic.Tactic Idealize.SL.Sem
open Cert.Attn (ext2)
open Cert.Mla (cv grp plc sHead rS rO)
open Cert.Fwd (ext3)

section
open Cert.LatentForwardIdeal Cert.LatentForwardIdeal.Gen
variable (m : (ℓ : Loc nD τ sig) → Buf (Elt Ideal) ℓ) (ρ : Dev nD → PrngReg)

/-- The real numbers that the arguments are. -/
abbrev qOf (c : Dev nD) (s : Fin 8192) (x : Fin 1024) : ℝ := (argQ m c (ix2 s x) : EReal).toReal
abbrev kkOf (c : Dev nD) (j : Fin 8192) (y : Fin 1024) : ℝ := (argK m c (ix2 j y) : EReal).toReal
abbrev vOf (c : Dev nD) (j : Fin 8192) (y : Fin 512) : ℝ := (argV m c (ix2 j y) : EReal).toReal

/-- The two results. -/
abbrev resO (c : Dev nD) : Vec Ideal S8192x512 .bf16 := allO (qOf m c) (kkOf m c) (vOf m c)
abbrev resL (c : Dev nD) : Vec Ideal S4x8192x2 .f32 := allL (qOf m c) (kkOf m c)

/-- The program runs and leaves its two results and its arguments as follows. -/
theorem program_run
    (hQ : ∀ c s x, argQ m c (ix2 s x) = ((qOf m c s x : ℝ) : EReal))
    (hK : ∀ c j y, argK m c (ix2 j y) = ((kkOf m c j y : ℝ) : EReal))
    (hW : ∀ c j y, argV m c (ix2 j y) = ((vOf m c j y : ℝ) : EReal)) :
    θ_run defs (onTc (τ := τ) (main (F := Ideal))) ⟨m, fun _ => 0, ρ⟩ (fun r => ∀ c : Dev nD,
      r.2.mem ((c.tc : Thread nD τ).loc main_v7_0) = resO m c
      ∧ r.2.mem ((c.tc : Thread nD τ).loc main_v7_1) = resL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).1 3).trans (final_3 m c _ _ _ (hQ c) (hK c) (hW c)),
      ((h.1 c).1 4).trans (final_4 m c _ _ _ (hQ c) (hK c) (hW c)), h.2 c⟩)
    (θ_run_and (run_main m ρ) (unchanged m ρ))

variable (c : Dev nD)
  (hQ : ∀ s x, argQ m c (ix2 s x) = ((qOf m c s x : ℝ) : EReal))
  (hK : ∀ j y, argK m c (ix2 j y) = ((kkOf m c j y : ℝ) : EReal))
  (hW : ∀ j y, argV m c (ix2 j y) = ((vOf m c j y : ℝ) : EReal))

include hQ hK hW in
/-- The outputs agree. -/
theorem agree_0 : refO (argQ m c) (argK m c) (argV m c) = resO m c :=
  ext2 _ _ fun s x => by
    have ex : x = cv (hVal x) (dVal x) := Fin.ext (by simp; omega)
    exact (congrArg (fun z => refO (argQ m c) (argK m c) (argV m c) (ix2 s z)) ex).trans
      (refO_real _ _ _ _ _ _ hQ hK hW s (hVal x) (dVal x))

include hQ hK in
/-- The logarithms agree. -/
theorem agree_1 : refL (argQ m c) (argK m c) = resL m c :=
  ext3 _ _ fun g s h => by
    have eg : g = grp (sHead g h) := Fin.ext (by simp; omega)
    have eh : h = plc (sHead g h) := Fin.ext (by simp; omega)
    exact (congrArg₂ (fun y z => refL (argQ m c) (argK m c) (ix3 y s z)) eg eh).trans
      (refL_real _ _ _ _ hQ hK (sHead g h) s)
end
end Cert.Lfw
-- ==== Proof.lean ====
/- For each of the four calls: the three frames, the (empty) list of rewrites, and the equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Latent
public import proofs.«01_k».proof.Proof.Gen.Latent.Skeleton
public import proofs.«01_k».proof.Proof.Gen.Latent.Loops
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Loops
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentReferenceIdeal
public import proofs.«01_k».proof.Proof.Gen.LatentReferenceIdeal.Run
public import proofs.«01_k».proof.Proof.Gen.Forward
public import proofs.«01_k».proof.Proof.Gen.Forward.Skeleton
public import proofs.«01_k».proof.Proof.Gen.Forward.Loops
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Loops
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardReferenceIdeal
public import proofs.«01_k».proof.Proof.Gen.ForwardReferenceIdeal.Run
public import proofs.«01_k».proof.Proof.Gen.LatentForward
public import proofs.«01_k».proof.Proof.Gen.LatentForward.Skeleton
public import proofs.«01_k».proof.Proof.Gen.LatentForward.Loops
public import proofs.«01_k».proof.Proof.Gen.LatentForward.Launch
public import proofs.«01_k».proof.Proof.Gen.LatentForward.Points
public import proofs.«01_k».proof.Proof.Gen.LatentForward.Frame
public import proofs.«01_k».proof.Proof.Gen.LatentForwardIdeal
public import proofs.«01_k».proof.Proof.Gen.LatentForwardIdeal.Skeleton
public import proofs.«01_k».proof.Proof.Gen.LatentForwardIdeal.Loops
public import proofs.«01_k».proof.Proof.Gen.LatentForwardIdeal.Launch
public import proofs.«01_k».proof.Proof.Gen.LatentForwardIdeal.Points
public import proofs.«01_k».proof.Proof.Gen.LatentForwardIdeal.Frame
public import proofs.«01_k».proof.Proof.Gen.LatentForwardReferenceIdeal
public import proofs.«01_k».proof.Proof.Gen.LatentForwardReferenceIdeal.Run
public import proofs.«01_k».proof.Proof.Agree
public import proofs.«01_k».proof.Proof.MlaAgree
public import proofs.«01_k».proof.Proof.FwdAgree
public import proofs.«01_k».proof.Proof.LfwAgree
public import Idealize.ShloMosaic.Adequacy
public import Idealize.ShloMosaic.Init

@[expose] public section

noncomputable section

namespace Cert.Proof

open Idealize.ShloMosaic Idealize.ShloMosaic.TcCoe Idealize.SL.Sem Cert.Attn

/-- The reference runs, its arguments stay, and no counter is left standing. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3))
        ∧ r.2.sem = fun _ => 0) :=
  (θ_run _ _ _).mono (fun r h => ⟨fun c => (h c).2.2.2, sem_eq_zero_of_no_sems (by decide) r.2⟩)
    (Cert.ReferenceIdeal.Value.run (F := Ideal) m g)

/-- The kernel's results are the reference's. -/
theorem results_equal : @Cert.algebraic_KernelIdeal_ReferenceIdeal_pre_finite Cert.KernelIdeal.Gen.facts Cert.ReferenceIdeal.Gen.facts pre_facts := by
  letI := pre_facts
  intro m g m' g' hpre hargs
  refine ⟨fun c => outQ (gradQ m c), fun c => outK (tilesK m c), fun c => tilesV m c, program_run m g, ?_⟩
  refine (θ_run _ _ _).mono (fun r h c => ?_) (Cert.ReferenceIdeal.Value.run (F := Ideal) m' g')
  obtain ⟨a0, a1, a2, a3⟩ := hargs c
  obtain ⟨p0, p1, p2, p3⟩ := hpre c
  have r0 := real_0 _ _ _ _ p0
  have r1 := real_1 _ _ _ _ p1
  have r2 := real_2 _ _ _ _ p2
  have r3 := real_3 _ _ _ _ p3
  exact ⟨(h c).1.trans (agree_0 m m' c a0 a1 a2 a3 r0 r1 r2 r3), (h c).2.1.trans (agree_1 m m' c a0 a1 a2 a3 r0 r1 r2 r3),
    (h c).2.2.1.trans (agree_2 m m' c a0 a1 a3 r0 r1 r3), (h c).2.2.2⟩

/-- The latent attention's reference runs, its arguments stay, and no counter is left standing. -/
theorem frame_latent_reference (m : (ℓ : Loc Cert.LatentReferenceIdeal.nD Cert.LatentReferenceIdeal.τ Cert.LatentReferenceIdeal.sig) → Buf (Elt Ideal) ℓ)
    (g : Dev Cert.LatentReferenceIdeal.nD → PrngReg) :
    θ_run (Cert.LatentReferenceIdeal.defs (F := Ideal)) (onTc (τ := Cert.LatentReferenceIdeal.τ) (Cert.LatentReferenceIdeal.main (F := Ideal)))
      ⟨m, fun _ => 0, g⟩ (fun r => (∀ c : Dev Cert.LatentReferenceIdeal.nD,
        r.2.mem ((c.tc : Thread _ _).loc Cert.LatentReferenceIdeal.main_arg0) = m ((c.tc : Thread _ _).loc Cert.LatentReferenceIdeal.main_arg0)
        ∧ r.2.mem ((c.tc : Thread _ _).loc Cert.LatentReferenceIdeal.main_arg1) = m ((c.tc : Thread _ _).loc Cert.LatentReferenceIdeal.main_arg1)
        ∧ r.2.mem ((c.tc : Thread _ _).loc Cert.LatentReferenceIdeal.main_arg2) = m ((c.tc : Thread _ _).loc Cert.LatentReferenceIdeal.main_arg2)
        ∧ r.2.mem ((c.tc : Thread _ _).loc Cert.LatentReferenceIdeal.main_arg3) = m ((c.tc : Thread _ _).loc Cert.LatentReferenceIdeal.main_arg3))
        ∧ r.2.sem = fun _ => 0) :=
  (θ_run _ _ _).mono (fun r h => ⟨fun c => (h c).2.2.2, sem_eq_zero_of_no_sems (by decide) r.2⟩)
    (Cert.LatentReferenceIdeal.Value.run (F := Ideal) m g)

/-- The latent attention's results are its reference's. -/
theorem latent_results_equal : @Cert.algebraic_LatentIdeal_LatentReferenceIdeal_pre_finite_latent Cert.LatentIdeal.Gen.facts Cert.LatentReferenceIdeal.Gen.facts Cert.Mla.pre_facts := by
  letI := Cert.Mla.pre_facts
  intro m g m' g' hpre hargs
  refine ⟨fun c => Cert.Mla.outQ (Cert.Mla.gradQ m c), fun c => Cert.Mla.outK (Cert.Mla.tilesK m c), fun c => Cert.Mla.tilesV m c, Cert.Mla.program_run m g, ?_⟩
  refine (θ_run _ _ _).mono (fun r h c => ?_) (Cert.LatentReferenceIdeal.Value.run (F := Ideal) m' g')
  obtain ⟨a0, a1, a2, a3⟩ := hargs c
  obtain ⟨p0, p1, p2, p3⟩ := hpre c
  have r0 := Cert.Mla.real_0 _ _ _ _ p0
  have r1 := Cert.Mla.real_1 _ _ _ _ p1
  have r2 := Cert.Mla.real_2 _ _ _ _ p2
  have r3 := Cert.Mla.real_3 _ _ _ _ p3
  exact ⟨(h c).1.trans (Cert.Mla.agree_0 m m' c a0 a1 a2 a3 r0 r1 r2 r3), (h c).2.1.trans (Cert.Mla.agree_1 m m' c a0 a1 a2 a3 r0 r1 r2 r3),
    (h c).2.2.1.trans (Cert.Mla.agree_2 m m' c a0 a1 a3 r0 r1 r3), (h c).2.2.2⟩

/-- The forward call's reference runs, its arguments stay, and no counter is left standing. -/
theorem frame_forward_reference (m : (ℓ : Loc Cert.ForwardReferenceIdeal.nD Cert.ForwardReferenceIdeal.τ Cert.ForwardReferenceIdeal.sig) → Buf (Elt Ideal) ℓ)
    (g : Dev Cert.ForwardReferenceIdeal.nD → PrngReg) :
    θ_run (Cert.ForwardReferenceIdeal.defs (F := Ideal)) (onTc (τ := Cert.ForwardReferenceIdeal.τ) (Cert.ForwardReferenceIdeal.main (F := Ideal)))
      ⟨m, fun _ => 0, g⟩ (fun r => (∀ c : Dev Cert.ForwardReferenceIdeal.nD,
        r.2.mem ((c.tc : Thread _ _).loc Cert.ForwardReferenceIdeal.main_arg0) = m ((c.tc : Thread _ _).loc Cert.ForwardReferenceIdeal.main_arg0)
        ∧ r.2.mem ((c.tc : Thread _ _).loc Cert.ForwardReferenceIdeal.main_arg1) = m ((c.tc : Thread _ _).loc Cert.ForwardReferenceIdeal.main_arg1)
        ∧ r.2.mem ((c.tc : Thread _ _).loc Cert.ForwardReferenceIdeal.main_arg2) = m ((c.tc : Thread _ _).loc Cert.ForwardReferenceIdeal.main_arg2))
        ∧ r.2.sem = fun _ => 0) :=
  (θ_run _ _ _).mono (fun r h => ⟨fun c => (h c).2.2, sem_eq_zero_of_no_sems (by decide) r.2⟩)
    (Cert.ForwardReferenceIdeal.Value.run (F := Ideal) m g)

/-- The forward call's results are its reference's. -/
theorem forward_results_equal : @Cert.algebraic_ForwardIdeal_ForwardReferenceIdeal_pre_finite_forward Cert.ForwardIdeal.Gen.facts Cert.ForwardReferenceIdeal.Gen.facts Cert.Fwd.pre_facts := by
  letI := Cert.Fwd.pre_facts
  intro m g m' g' hpre hargs
  have r0 := fun c => Cert.Fwd.real_0 _ _ _ (hpre c).1
  have r1 := fun c => Cert.Fwd.real_1 _ _ _ (hpre c).2.1
  have r2 := fun c => Cert.Fwd.real_2 _ _ _ (hpre c).2.2
  refine ⟨fun c => Cert.Fwd.resO m c, fun c => Cert.Fwd.resL m c, Cert.Fwd.program_run m g r0 r1 r2, ?_⟩
  refine (θ_run _ _ _).mono (fun r h c => ?_) (Cert.Fwd.ref_run m' g')
  obtain ⟨a0, a1, a2⟩ := hargs c
  refine ⟨(h c).1.trans (Eq.trans ?_ (Cert.Fwd.agree_0 m c (r0 c) (r1 c) (r2 c))),
    (h c).2.1.trans (Eq.trans ?_ (Cert.Fwd.agree_1 m c (r0 c) (r1 c))), (h c).2.2⟩
  · rw [a0, a1, a2]
  · rw [a0, a1]

/-- The latent attention's forward call's reference runs, its arguments stay, and no counter is left standing. -/
theorem frame_latent_forward_reference (m : (ℓ : Loc Cert.LatentForwardReferenceIdeal.nD Cert.LatentForwardReferenceIdeal.τ Cert.LatentForwardReferenceIdeal.sig) → Buf (Elt Ideal) ℓ)
    (g : Dev Cert.LatentForwardReferenceIdeal.nD → PrngReg) :
    θ_run (Cert.LatentForwardReferenceIdeal.defs (F := Ideal)) (onTc (τ := Cert.LatentForwardReferenceIdeal.τ) (Cert.LatentForwardReferenceIdeal.main (F := Ideal)))
      ⟨m, fun _ => 0, g⟩ (fun r => (∀ c : Dev Cert.LatentForwardReferenceIdeal.nD,
        r.2.mem ((c.tc : Thread _ _).loc Cert.LatentForwardReferenceIdeal.main_arg0) = m ((c.tc : Thread _ _).loc Cert.LatentForwardReferenceIdeal.main_arg0)
        ∧ r.2.mem ((c.tc : Thread _ _).loc Cert.LatentForwardReferenceIdeal.main_arg1) = m ((c.tc : Thread _ _).loc Cert.LatentForwardReferenceIdeal.main_arg1)
        ∧ r.2.mem ((c.tc : Thread _ _).loc Cert.LatentForwardReferenceIdeal.main_arg2) = m ((c.tc : Thread _ _).loc Cert.LatentForwardReferenceIdeal.main_arg2))
        ∧ r.2.sem = fun _ => 0) :=
  (θ_run _ _ _).mono (fun r h => ⟨fun c => (h c).2.2, sem_eq_zero_of_no_sems (by decide) r.2⟩)
    (Cert.LatentForwardReferenceIdeal.Value.run (F := Ideal) m g)

/-- The latent attention's forward call's results are its reference's. -/
theorem latent_forward_results_equal : @Cert.algebraic_LatentForwardIdeal_LatentForwardReferenceIdeal_pre_finite_latent_forward Cert.LatentForwardIdeal.Gen.facts Cert.LatentForwardReferenceIdeal.Gen.facts Cert.Lfw.pre_facts := by
  letI := Cert.Lfw.pre_facts
  intro m g m' g' hpre hargs
  have r0 := fun c => Cert.Lfw.real_0 _ _ _ (hpre c).1
  have r1 := fun c => Cert.Lfw.real_1 _ _ _ (hpre c).2.1
  have r2 := fun c => Cert.Lfw.real_2 _ _ _ (hpre c).2.2
  refine ⟨fun c => Cert.Lfw.resO m c, fun c => Cert.Lfw.resL m c, Cert.Lfw.program_run m g r0 r1 r2, ?_⟩
  refine (θ_run _ _ _).mono (fun r h c => ?_) (Cert.Lfw.ref_run m' g')
  obtain ⟨a0, a1, a2⟩ := hargs c
  refine ⟨(h c).1.trans (Eq.trans ?_ (Cert.Lfw.agree_0 m c (r0 c) (r1 c) (r2 c))),
    (h c).2.1.trans (Eq.trans ?_ (Cert.Lfw.agree_1 m c (r0 c) (r1 c))), (h c).2.2⟩
  · rw [a0, a1, a2]
  · rw [a0, a1]

theorem claim : Cert.Claim :=
  ⟨Cert.Kernel.Gen.facts, Cert.KernelIdeal.Gen.facts, Cert.ReferenceIdeal.Gen.facts,
    Cert.Latent.Gen.facts, Cert.LatentIdeal.Gen.facts, Cert.LatentReferenceIdeal.Gen.facts,
    Cert.Forward.Gen.facts, Cert.ForwardIdeal.Gen.facts, Cert.ForwardReferenceIdeal.Gen.facts,
    Cert.LatentForward.Gen.facts, Cert.LatentForwardIdeal.Gen.facts, Cert.LatentForwardReferenceIdeal.Gen.facts,
    pre_facts, Cert.Mla.pre_facts, Cert.Fwd.pre_facts, Cert.Lfw.pre_facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Latent.Gen.frame m g, fun m g _ => Cert.LatentIdeal.Gen.frame m g, fun m g _ => Cert.LatentIdeal.Gen.frame m g,
    fun m g _ => frame_latent_reference m g, fun m g _ => frame_latent_reference m g,
    fun m g _ => Cert.Forward.Gen.frame m g, fun m g _ => Cert.ForwardIdeal.Gen.frame m g, fun m g _ => Cert.ForwardIdeal.Gen.frame m g,
    fun m g _ => frame_forward_reference m g, fun m g _ => frame_forward_reference m g,
    fun m g _ => Cert.LatentForward.Gen.frame m g, fun m g _ => Cert.LatentForwardIdeal.Gen.frame m g, fun m g _ => Cert.LatentForwardIdeal.Gen.frame m g,
    fun m g _ => frame_latent_forward_reference m g, fun m g _ => frame_latent_forward_reference m g,
    trivial, results_equal, trivial, latent_results_equal, trivial, forward_results_equal,
    trivial, latent_forward_results_equal⟩

end Cert.Proof

end
